-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 128]⟩ ⟨2, ![4096, 512]⟩ (Layout.meshBlock [2, 4, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 4096]⟩ ⟨2, ![512, 4096]⟩ (Layout.meshBlock [2, 4, 4] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 4096]⟩ ⟨2, ![512, 4096]⟩ (Layout.meshBlock [2, 4, 4] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x4096 : Shape := ⟨3, ![4, 256, 4096]⟩
abbrev S4096x128 : Shape := ⟨2, ![4096, 128]⟩
abbrev S128x4096 : Shape := ⟨2, ![128, 4096]⟩
abbrev S4096x4096 : Shape := ⟨2, ![4096, 4096]⟩
abbrev S4096x2048 : Shape := ⟨2, ![4096, 2048]⟩
abbrev S4096x64 : Shape := ⟨2, ![4096, 64]⟩
abbrev S_ : Shape := ⟨0, ![]⟩
abbrev S1024x4096 : Shape := ⟨2, ![1024, 4096]⟩
abbrev S1 : Shape := ⟨1, ![1]⟩
abbrev S1024x128 : Shape := ⟨2, ![1024, 128]⟩
abbrev S512x512 : Shape := ⟨2, ![512, 512]⟩
abbrev S512x128 : Shape := ⟨2, ![512, 128]⟩
abbrev S128x256 : Shape := ⟨2, ![128, 256]⟩
abbrev S4x1024x128 : Shape := ⟨3, ![4, 1024, 128]⟩
abbrev S4x128x256 : Shape := ⟨3, ![4, 128, 256]⟩
abbrev S3x3 : Shape := ⟨2, ![3, 3]⟩
abbrev S1x1024x128 : Shape := ⟨3, ![1, 1024, 128]⟩
abbrev S1x128x256 : Shape := ⟨3, ![1, 128, 256]⟩
abbrev S1x1 : Shape := ⟨2, ![1, 1]⟩
abbrev S1024x4x128 : Shape := ⟨3, ![1024, 4, 128]⟩
abbrev S1024x512 : Shape := ⟨2, ![1024, 512]⟩
abbrev S512x256 : Shape := ⟨2, ![512, 256]⟩
abbrev S1024x256 : Shape := ⟨2, ![1024, 256]⟩
abbrev S1024x64 : Shape := ⟨2, ![1024, 64]⟩
abbrev S512x64 : Shape := ⟨2, ![512, 64]⟩
abbrev S256x256 : Shape := ⟨2, ![256, 256]⟩
abbrev S256x128 : Shape := ⟨2, ![256, 128]⟩
abbrev S256x64 : Shape := ⟨2, ![256, 64]⟩
abbrev S256 : Shape := ⟨1, ![256]⟩
abbrev S256x1 : Shape := ⟨2, ![256, 1]⟩
abbrev S4x1024x256 : Shape := ⟨3, ![4, 1024, 256]⟩
abbrev S3 : Shape := ⟨1, ![3]⟩
abbrev S1x1024x256 : Shape := ⟨3, ![1, 1024, 256]⟩
abbrev S1024x4x256 : Shape := ⟨3, ![1024, 4, 256]⟩
abbrev S1024x1024 : Shape := ⟨2, ![1024, 1024]⟩
abbrev S4x1024x1024 : Shape := ⟨3, ![4, 1024, 1024]⟩
abbrev S4 : Shape := ⟨1, ![4]⟩
abbrev S1x1024x1024 : Shape := ⟨3, ![1, 1024, 1024]⟩
abbrev S256x4096 : Shape := ⟨2, ![256, 4096]⟩

abbrev nBuf : Space → Nat
  | .hbm => 303
  | .vmem => 64
  | .smem => 6
  | _ => 0

abbrev hbmTy0_0 (i : Nat) : BufTy := match i % 128 with
  | 0 => ⟨S4x256x4096, .f32⟩
  | 1 => ⟨S4096x128, .f32⟩
  | 2 => ⟨S128x4096, .f32⟩
  | 3 => ⟨S128x4096, .f32⟩
  | 4 => ⟨S4096x4096, .f32⟩
  | 5 => ⟨S4096x2048, .f32⟩
  | 6 => ⟨S4096x64, .f32⟩
  | 7 => ⟨S4096x4096, .f32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S1024x4096, .f32⟩
  | 21 => ⟨S_, .i32⟩
  | 22 => ⟨S1, .i32⟩
  | 23 => ⟨S1024x128, .f32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S128x256, .f32⟩
  | 36 => ⟨S128x256, .bf16⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S128x256, .f32⟩
  | 49 => ⟨S128x256, .bf16⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i1⟩
  | 63 => ⟨S_, .i32⟩
  | 64 => ⟨S_, .i1⟩
  | 65 => ⟨S_, .i1⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S128x256, .f32⟩
  | 81 => ⟨S128x256, .bf16⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i1⟩
  | 93 => ⟨S_, .i32⟩
  | 94 => ⟨S_, .i1⟩
  | 95 => ⟨S_, .i32⟩
  | 96 => ⟨S_, .i1⟩
  | 97 => ⟨S_, .i1⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S128x256, .f32⟩
  | 113 => ⟨S128x256, .bf16⟩
  | 114 => ⟨S_, .i32⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i1⟩
  | 125 => ⟨S_, .i32⟩
  | 126 => ⟨S_, .i1⟩
  | 127 => ⟨S_, .i32⟩
  | _ => ⟨S4x256x4096, .f32⟩

abbrev hbmTy0_1 (i : Nat) : BufTy := match i % 128 with
  | 0 => ⟨S_, .i1⟩
  | 1 => ⟨S_, .i1⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S128x256, .f32⟩
  | 17 => ⟨S128x256, .bf16⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i1⟩
  | 31 => ⟨S_, .i32⟩
  | 32 => ⟨S_, .i1⟩
  | 33 => ⟨S_, .i1⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S128x256, .f32⟩
  | 49 => ⟨S128x256, .bf16⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i1⟩
  | 63 => ⟨S_, .i32⟩
  | 64 => ⟨S_, .i1⟩
  | 65 => ⟨S_, .i1⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S128x256, .f32⟩
  | 81 => ⟨S128x256, .bf16⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i1⟩
  | 93 => ⟨S_, .i32⟩
  | 94 => ⟨S_, .i1⟩
  | 95 => ⟨S_, .i32⟩
  | 96 => ⟨S_, .i1⟩
  | 97 => ⟨S_, .i1⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S128x256, .f32⟩
  | 113 => ⟨S128x256, .bf16⟩
  | 114 => ⟨S1024x128, .bf16⟩
  | 115 => ⟨S4x1024x128, .bf16⟩
  | 116 => ⟨S4x128x256, .bf16⟩
  | 117 => ⟨S4x128x256, .bf16⟩
  | 118 => ⟨S1024x4x128, .bf16⟩
  | 119 => ⟨S1024x512, .bf16⟩
  | 120 => ⟨S512x256, .bf16⟩
  | 121 => ⟨S512x256, .bf16⟩
  | 122 => ⟨S_, .i32⟩
  | 123 => ⟨S1, .i32⟩
  | 124 => ⟨S1024x256, .f32⟩
  | 125 => ⟨S_, .i32⟩
  | 126 => ⟨S1, .i32⟩
  | 127 => ⟨S1024x256, .f32⟩
  | _ => ⟨S4x256x4096, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i1⟩
  | 14 => ⟨S_, .i1⟩
  | 15 => ⟨S_, .i32⟩
  | 16 => ⟨S_, .i32⟩
  | 17 => ⟨S_, .i32⟩
  | 18 => ⟨S1024x256, .f32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i1⟩
  | 33 => ⟨S_, .i1⟩
  | 34 => ⟨S_, .i32⟩
  | 35 => ⟨S_, .i32⟩
  | 36 => ⟨S_, .i32⟩
  | 37 => ⟨S1024x128, .f32⟩
  | 38 => ⟨S_, .i32⟩
  | 39 => ⟨S1, .i32⟩
  | 40 => ⟨S1024x64, .f32⟩
  | 41 => ⟨S1024x256, .bf16⟩
  | 42 => ⟨S4x1024x256, .bf16⟩
  | 43 => ⟨S1024x4x256, .bf16⟩
  | 44 => ⟨S1024x1024, .bf16⟩
  | 45 => ⟨S1024x4096, .f32⟩
  | 46 => ⟨S4x256x4096, .f32⟩
  | _ => ⟨S4x256x4096, .f32⟩

abbrev hbmTy (i : Nat) : BufTy := match i / 128 with
  | 0 => hbmTy0_0 i
  | 1 => hbmTy0_1 i
  | 2 => hbmTy0_2 i
  | _ => ⟨S4x256x4096, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1024x128, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S128x256, .bf16⟩
  | .local _ .vmem, ⟨15, _⟩ => ⟨S4x1024x128, .bf16⟩
  | .local _ .vmem, ⟨16, _⟩ => ⟨S4x128x256, .bf16⟩
  | .local _ .vmem, ⟨17, _⟩ => ⟨S4x128x256, .bf16⟩
  | .local _ .vmem, ⟨18, _⟩ => ⟨S512x512, .bf16⟩
  | .local _ .vmem, ⟨19, _⟩ => ⟨S512x512, .bf16⟩
  | .local _ .vmem, ⟨20, _⟩ => ⟨S512x256, .bf16⟩
  | .local _ .vmem, ⟨21, _⟩ => ⟨S512x256, .f32⟩
  | .local _ .vmem, ⟨22, _⟩ => ⟨S512x256, .f32⟩
  | .local _ .vmem, ⟨23, _⟩ => ⟨S512x512, .bf16⟩
  | .local _ .vmem, ⟨24, _⟩ => ⟨S512x512, .bf16⟩
  | .local _ .vmem, ⟨25, _⟩ => ⟨S512x256, .bf16⟩
  | .local _ .vmem, ⟨26, _⟩ => ⟨S512x256, .f32⟩
  | .local _ .vmem, ⟨27, _⟩ => ⟨S512x256, .f32⟩
  | .local _ .vmem, ⟨28, _⟩ => ⟨S512x512, .f32⟩
  | .local _ .vmem, ⟨29, _⟩ => ⟨S512x512, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | .local _ .vmem, ⟨34, _⟩ => ⟨S512x512, .f32⟩
  | .local _ .vmem, ⟨35, _⟩ => ⟨S512x512, .f32⟩
  | .local _ .vmem, ⟨36, _⟩ => ⟨S512x128, .f32⟩
  | .local _ .vmem, ⟨37, _⟩ => ⟨S512x128, .f32⟩
  | .local _ .vmem, ⟨38, _⟩ => ⟨S512x128, .f32⟩
  | .local _ .vmem, ⟨39, _⟩ => ⟨S512x128, .f32⟩
  | .local _ .vmem, ⟨40, _⟩ => ⟨S512x512, .f32⟩
  | .local _ .vmem, ⟨41, _⟩ => ⟨S512x512, .f32⟩
  | .local _ .vmem, ⟨42, _⟩ => ⟨S512x64, .f32⟩
  | .local _ .vmem, ⟨43, _⟩ => ⟨S512x64, .f32⟩
  | .local _ .vmem, ⟨44, _⟩ => ⟨S512x64, .f32⟩
  | .local _ .vmem, ⟨45, _⟩ => ⟨S512x64, .f32⟩
  | .local _ .vmem, ⟨46, _⟩ => ⟨S256x256, .f32⟩
  | .local _ .vmem, ⟨47, _⟩ => ⟨S256x256, .f32⟩
  | .local _ .vmem, ⟨48, _⟩ => ⟨S256x256, .f32⟩
  | .local _ .vmem, ⟨49, _⟩ => ⟨S256x256, .f32⟩
  | .local _ .vmem, ⟨50, _⟩ => ⟨S256x256, .f32⟩
  | .local _ .vmem, ⟨51, _⟩ => ⟨S256x256, .f32⟩
  | .local _ .vmem, ⟨52, _⟩ => ⟨S256x128, .f32⟩
  | .local _ .vmem, ⟨53, _⟩ => ⟨S256x128, .f32⟩
  | .local _ .vmem, ⟨54, _⟩ => ⟨S256x64, .f32⟩
  | .local _ .vmem, ⟨55, _⟩ => ⟨S256x64, .f32⟩
  | .local _ .vmem, ⟨56, _⟩ => ⟨S256x256, .bf16⟩
  | .local _ .vmem, ⟨57, _⟩ => ⟨S256x256, .bf16⟩
  | .local _ .vmem, ⟨58, _⟩ => ⟨S1024x256, .bf16⟩
  | .local _ .vmem, ⟨59, _⟩ => ⟨S4x1024x256, .bf16⟩
  | .local _ .vmem, ⟨60, _⟩ => ⟨S1024x1024, .bf16⟩
  | .local _ .vmem, ⟨61, _⟩ => ⟨S1024x4096, .f32⟩
  | .local _ .vmem, ⟨62, _⟩ => ⟨S4x1024x1024, .bf16⟩
  | .local _ .vmem, ⟨63, _⟩ => ⟨S1024x4096, .f32⟩
  | .local _ .smem, ⟨0, _⟩ => ⟨S1, .i32⟩
  | .local _ .smem, ⟨1, _⟩ => ⟨S1, .i32⟩
  | .local _ .smem, ⟨2, _⟩ => ⟨S1, .i32⟩
  | .local _ .smem, ⟨3, _⟩ => ⟨S1, .i32⟩
  | .local _ .smem, ⟨4, _⟩ => ⟨S1, .i32⟩
  | .local _ .smem, ⟨5, _⟩ => ⟨S1, .i32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 3 → Bool
  | ⟨0, _⟩ => false
  | ⟨1, _⟩ => false
  | ⟨2, _⟩ => false
  | _ => false

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  (ofTc nBuf bufTy 3 96 bufScoped semScoped dmaSemScoped tileCredit tileCredit_eq_zero tileCredit_pos).withBarriers [(0, 0), (1, 2), (2, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_c_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_c_5 : Ref sig .tc := ⟨.hbm, 26, rfl⟩
abbrev main_v14 : Ref sig .tc := ⟨.hbm, 27, rfl⟩
abbrev main_v15 : Ref sig .tc := ⟨.hbm, 28, rfl⟩
abbrev main_c_6 : Ref sig .tc := ⟨.hbm, 29, rfl⟩
abbrev main_v16 : Ref sig .tc := ⟨.hbm, 30, rfl⟩
abbrev main_c_7 : Ref sig .tc := ⟨.hbm, 31, rfl⟩
abbrev main_v17 : Ref sig .tc := ⟨.hbm, 32, rfl⟩
abbrev main_v18 : Ref sig .tc := ⟨.hbm, 33, rfl⟩
abbrev main_c_8 : Ref sig .tc := ⟨.hbm, 34, rfl⟩
abbrev main_v19 : Ref sig .tc := ⟨.hbm, 35, rfl⟩
abbrev main_v20 : Ref sig .tc := ⟨.hbm, 36, rfl⟩
abbrev main_c_9 : Ref sig .tc := ⟨.hbm, 37, rfl⟩
abbrev main_v21 : Ref sig .tc := ⟨.hbm, 38, rfl⟩
abbrev main_c_10 : Ref sig .tc := ⟨.hbm, 39, rfl⟩
abbrev main_v22 : Ref sig .tc := ⟨.hbm, 40, rfl⟩
abbrev main_v23 : Ref sig .tc := ⟨.hbm, 41, rfl⟩
abbrev main_c_11 : Ref sig .tc := ⟨.hbm, 42, rfl⟩
abbrev main_v24 : Ref sig .tc := ⟨.hbm, 43, rfl⟩
abbrev main_c_12 : Ref sig .tc := ⟨.hbm, 44, rfl⟩
abbrev main_v25 : Ref sig .tc := ⟨.hbm, 45, rfl⟩
abbrev main_v26 : Ref sig .tc := ⟨.hbm, 46, rfl⟩
abbrev main_c_13 : Ref sig .tc := ⟨.hbm, 47, rfl⟩
abbrev main_v27 : Ref sig .tc := ⟨.hbm, 48, rfl⟩
abbrev main_v28 : Ref sig .tc := ⟨.hbm, 49, rfl⟩
abbrev main_c_14 : Ref sig .tc := ⟨.hbm, 50, rfl⟩
abbrev main_v29 : Ref sig .tc := ⟨.hbm, 51, rfl⟩
abbrev main_c_15 : Ref sig .tc := ⟨.hbm, 52, rfl⟩
abbrev main_call0_v0 : Ref sig .tc := ⟨.hbm, 53, rfl⟩
abbrev main_call0_c : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_c_1 : Ref sig .tc := ⟨.hbm, 59, rfl⟩
abbrev main_call0_v4 : Ref sig .tc := ⟨.hbm, 60, rfl⟩
abbrev main_call0_c_2 : Ref sig .tc := ⟨.hbm, 61, rfl⟩
abbrev main_call0_v5 : Ref sig .tc := ⟨.hbm, 62, rfl⟩
abbrev main_call0_c_3 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_v30 : Ref sig .tc := ⟨.hbm, 68, rfl⟩
abbrev main_c_16 : Ref sig .tc := ⟨.hbm, 69, rfl⟩
abbrev main_v31 : Ref sig .tc := ⟨.hbm, 70, rfl⟩
abbrev main_c_17 : Ref sig .tc := ⟨.hbm, 71, rfl⟩
abbrev main_v32 : Ref sig .tc := ⟨.hbm, 72, rfl⟩
abbrev main_v33 : Ref sig .tc := ⟨.hbm, 73, rfl⟩
abbrev main_c_18 : Ref sig .tc := ⟨.hbm, 74, rfl⟩
abbrev main_v34 : Ref sig .tc := ⟨.hbm, 75, rfl⟩
abbrev main_c_19 : Ref sig .tc := ⟨.hbm, 76, rfl⟩
abbrev main_v35 : Ref sig .tc := ⟨.hbm, 77, rfl⟩
abbrev main_v36 : Ref sig .tc := ⟨.hbm, 78, rfl⟩
abbrev main_c_20 : Ref sig .tc := ⟨.hbm, 79, rfl⟩
abbrev main_v37 : Ref sig .tc := ⟨.hbm, 80, rfl⟩
abbrev main_v38 : Ref sig .tc := ⟨.hbm, 81, rfl⟩
abbrev main_c_21 : Ref sig .tc := ⟨.hbm, 82, rfl⟩
abbrev main_v39 : Ref sig .tc := ⟨.hbm, 83, rfl⟩
abbrev main_c_22 : Ref sig .tc := ⟨.hbm, 84, rfl⟩
abbrev main_call1_v0 : Ref sig .tc := ⟨.hbm, 85, rfl⟩
abbrev main_call1_c : Ref sig .tc := ⟨.hbm, 86, rfl⟩
abbrev main_call1_v1 : Ref sig .tc := ⟨.hbm, 87, rfl⟩
abbrev main_call1_c_0 : Ref sig .tc := ⟨.hbm, 88, rfl⟩
abbrev main_call1_v2 : Ref sig .tc := ⟨.hbm, 89, rfl⟩
abbrev main_call1_v3 : Ref sig .tc := ⟨.hbm, 90, rfl⟩
abbrev main_call1_c_1 : Ref sig .tc := ⟨.hbm, 91, rfl⟩
abbrev main_call1_v4 : Ref sig .tc := ⟨.hbm, 92, rfl⟩
abbrev main_call1_c_2 : Ref sig .tc := ⟨.hbm, 93, rfl⟩
abbrev main_call1_v5 : Ref sig .tc := ⟨.hbm, 94, rfl⟩
abbrev main_call1_c_3 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_v9 : Ref sig .tc := ⟨.hbm, 99, rfl⟩
abbrev main_v40 : Ref sig .tc := ⟨.hbm, 100, rfl⟩
abbrev main_c_23 : Ref sig .tc := ⟨.hbm, 101, rfl⟩
abbrev main_v41 : Ref sig .tc := ⟨.hbm, 102, rfl⟩
abbrev main_c_24 : Ref sig .tc := ⟨.hbm, 103, rfl⟩
abbrev main_v42 : Ref sig .tc := ⟨.hbm, 104, rfl⟩
abbrev main_v43 : Ref sig .tc := ⟨.hbm, 105, rfl⟩
abbrev main_c_25 : Ref sig .tc := ⟨.hbm, 106, rfl⟩
abbrev main_v44 : Ref sig .tc := ⟨.hbm, 107, rfl⟩
abbrev main_c_26 : Ref sig .tc := ⟨.hbm, 108, rfl⟩
abbrev main_v45 : Ref sig .tc := ⟨.hbm, 109, rfl⟩
abbrev main_v46 : Ref sig .tc := ⟨.hbm, 110, rfl⟩
abbrev main_c_27 : Ref sig .tc := ⟨.hbm, 111, rfl⟩
abbrev main_v47 : Ref sig .tc := ⟨.hbm, 112, rfl⟩
abbrev main_v48 : Ref sig .tc := ⟨.hbm, 113, rfl⟩
abbrev main_c_28 : Ref sig .tc := ⟨.hbm, 114, rfl⟩
abbrev main_v49 : Ref sig .tc := ⟨.hbm, 115, rfl⟩
abbrev main_c_29 : Ref sig .tc := ⟨.hbm, 116, rfl⟩
abbrev main_call2_v0 : Ref sig .tc := ⟨.hbm, 117, rfl⟩
abbrev main_call2_c : Ref sig .tc := ⟨.hbm, 118, rfl⟩
abbrev main_call2_v1 : Ref sig .tc := ⟨.hbm, 119, rfl⟩
abbrev main_call2_c_0 : Ref sig .tc := ⟨.hbm, 120, rfl⟩
abbrev main_call2_v2 : Ref sig .tc := ⟨.hbm, 121, rfl⟩
abbrev main_call2_v3 : Ref sig .tc := ⟨.hbm, 122, rfl⟩
abbrev main_call2_c_1 : Ref sig .tc := ⟨.hbm, 123, rfl⟩
abbrev main_call2_v4 : Ref sig .tc := ⟨.hbm, 124, rfl⟩
abbrev main_call2_c_2 : Ref sig .tc := ⟨.hbm, 125, rfl⟩
abbrev main_call2_v5 : Ref sig .tc := ⟨.hbm, 126, rfl⟩
abbrev main_call2_c_3 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_v50 : Ref sig .tc := ⟨.hbm, 132, rfl⟩
abbrev main_c_30 : Ref sig .tc := ⟨.hbm, 133, rfl⟩
abbrev main_v51 : Ref sig .tc := ⟨.hbm, 134, rfl⟩
abbrev main_c_31 : Ref sig .tc := ⟨.hbm, 135, rfl⟩
abbrev main_v52 : Ref sig .tc := ⟨.hbm, 136, rfl⟩
abbrev main_v53 : Ref sig .tc := ⟨.hbm, 137, rfl⟩
abbrev main_c_32 : Ref sig .tc := ⟨.hbm, 138, rfl⟩
abbrev main_v54 : Ref sig .tc := ⟨.hbm, 139, rfl⟩
abbrev main_c_33 : Ref sig .tc := ⟨.hbm, 140, rfl⟩
abbrev main_v55 : Ref sig .tc := ⟨.hbm, 141, rfl⟩
abbrev main_v56 : Ref sig .tc := ⟨.hbm, 142, rfl⟩
abbrev main_c_34 : Ref sig .tc := ⟨.hbm, 143, rfl⟩
abbrev main_v57 : Ref sig .tc := ⟨.hbm, 144, rfl⟩
abbrev main_v58 : Ref sig .tc := ⟨.hbm, 145, rfl⟩
abbrev main_c_35 : Ref sig .tc := ⟨.hbm, 146, rfl⟩
abbrev main_v59 : Ref sig .tc := ⟨.hbm, 147, rfl⟩
abbrev main_c_36 : Ref sig .tc := ⟨.hbm, 148, rfl⟩
abbrev main_call3_v0 : Ref sig .tc := ⟨.hbm, 149, rfl⟩
abbrev main_call3_c : Ref sig .tc := ⟨.hbm, 150, rfl⟩
abbrev main_call3_v1 : Ref sig .tc := ⟨.hbm, 151, rfl⟩
abbrev main_call3_c_0 : Ref sig .tc := ⟨.hbm, 152, rfl⟩
abbrev main_call3_v2 : Ref sig .tc := ⟨.hbm, 153, rfl⟩
abbrev main_call3_v3 : Ref sig .tc := ⟨.hbm, 154, rfl⟩
abbrev main_call3_c_1 : Ref sig .tc := ⟨.hbm, 155, rfl⟩
abbrev main_call3_v4 : Ref sig .tc := ⟨.hbm, 156, rfl⟩
abbrev main_call3_c_2 : Ref sig .tc := ⟨.hbm, 157, rfl⟩
abbrev main_call3_v5 : Ref sig .tc := ⟨.hbm, 158, rfl⟩
abbrev main_call3_c_3 : Ref sig .tc := ⟨.hbm, 159, rfl⟩
abbrev main_call3_v6 : Ref sig .tc := ⟨.hbm, 160, rfl⟩
abbrev main_call3_v7 : Ref sig .tc := ⟨.hbm, 161, rfl⟩
abbrev main_call3_v8 : Ref sig .tc := ⟨.hbm, 162, rfl⟩
abbrev main_call3_v9 : Ref sig .tc := ⟨.hbm, 163, rfl⟩
abbrev main_v60 : Ref sig .tc := ⟨.hbm, 164, rfl⟩
abbrev main_c_37 : Ref sig .tc := ⟨.hbm, 165, rfl⟩
abbrev main_v61 : Ref sig .tc := ⟨.hbm, 166, rfl⟩
abbrev main_c_38 : Ref sig .tc := ⟨.hbm, 167, rfl⟩
abbrev main_v62 : Ref sig .tc := ⟨.hbm, 168, rfl⟩
abbrev main_v63 : Ref sig .tc := ⟨.hbm, 169, rfl⟩
abbrev main_c_39 : Ref sig .tc := ⟨.hbm, 170, rfl⟩
abbrev main_v64 : Ref sig .tc := ⟨.hbm, 171, rfl⟩
abbrev main_c_40 : Ref sig .tc := ⟨.hbm, 172, rfl⟩
abbrev main_v65 : Ref sig .tc := ⟨.hbm, 173, rfl⟩
abbrev main_v66 : Ref sig .tc := ⟨.hbm, 174, rfl⟩
abbrev main_c_41 : Ref sig .tc := ⟨.hbm, 175, rfl⟩
abbrev main_v67 : Ref sig .tc := ⟨.hbm, 176, rfl⟩
abbrev main_v68 : Ref sig .tc := ⟨.hbm, 177, rfl⟩
abbrev main_c_42 : Ref sig .tc := ⟨.hbm, 178, rfl⟩
abbrev main_v69 : Ref sig .tc := ⟨.hbm, 179, rfl⟩
abbrev main_c_43 : Ref sig .tc := ⟨.hbm, 180, rfl⟩
abbrev main_call4_v0 : Ref sig .tc := ⟨.hbm, 181, rfl⟩
abbrev main_call4_c : Ref sig .tc := ⟨.hbm, 182, rfl⟩
abbrev main_call4_v1 : Ref sig .tc := ⟨.hbm, 183, rfl⟩
abbrev main_call4_c_0 : Ref sig .tc := ⟨.hbm, 184, rfl⟩
abbrev main_call4_v2 : Ref sig .tc := ⟨.hbm, 185, rfl⟩
abbrev main_call4_v3 : Ref sig .tc := ⟨.hbm, 186, rfl⟩
abbrev main_call4_c_1 : Ref sig .tc := ⟨.hbm, 187, rfl⟩
abbrev main_call4_v4 : Ref sig .tc := ⟨.hbm, 188, rfl⟩
abbrev main_call4_c_2 : Ref sig .tc := ⟨.hbm, 189, rfl⟩
abbrev main_call4_v5 : Ref sig .tc := ⟨.hbm, 190, rfl⟩
abbrev main_call4_c_3 : Ref sig .tc := ⟨.hbm, 191, rfl⟩
abbrev main_call4_v6 : Ref sig .tc := ⟨.hbm, 192, rfl⟩
abbrev main_call4_v7 : Ref sig .tc := ⟨.hbm, 193, rfl⟩
abbrev main_call4_v8 : Ref sig .tc := ⟨.hbm, 194, rfl⟩
abbrev main_call4_v9 : Ref sig .tc := ⟨.hbm, 195, rfl⟩
abbrev main_v70 : Ref sig .tc := ⟨.hbm, 196, rfl⟩
abbrev main_c_44 : Ref sig .tc := ⟨.hbm, 197, rfl⟩
abbrev main_v71 : Ref sig .tc := ⟨.hbm, 198, rfl⟩
abbrev main_c_45 : Ref sig .tc := ⟨.hbm, 199, rfl⟩
abbrev main_v72 : Ref sig .tc := ⟨.hbm, 200, rfl⟩
abbrev main_v73 : Ref sig .tc := ⟨.hbm, 201, rfl⟩
abbrev main_c_46 : Ref sig .tc := ⟨.hbm, 202, rfl⟩
abbrev main_v74 : Ref sig .tc := ⟨.hbm, 203, rfl⟩
abbrev main_c_47 : Ref sig .tc := ⟨.hbm, 204, rfl⟩
abbrev main_v75 : Ref sig .tc := ⟨.hbm, 205, rfl⟩
abbrev main_v76 : Ref sig .tc := ⟨.hbm, 206, rfl⟩
abbrev main_c_48 : Ref sig .tc := ⟨.hbm, 207, rfl⟩
abbrev main_v77 : Ref sig .tc := ⟨.hbm, 208, rfl⟩
abbrev main_v78 : Ref sig .tc := ⟨.hbm, 209, rfl⟩
abbrev main_c_49 : Ref sig .tc := ⟨.hbm, 210, rfl⟩
abbrev main_v79 : Ref sig .tc := ⟨.hbm, 211, rfl⟩
abbrev main_c_50 : Ref sig .tc := ⟨.hbm, 212, rfl⟩
abbrev main_call5_v0 : Ref sig .tc := ⟨.hbm, 213, rfl⟩
abbrev main_call5_c : Ref sig .tc := ⟨.hbm, 214, rfl⟩
abbrev main_call5_v1 : Ref sig .tc := ⟨.hbm, 215, rfl⟩
abbrev main_call5_c_0 : Ref sig .tc := ⟨.hbm, 216, rfl⟩
abbrev main_call5_v2 : Ref sig .tc := ⟨.hbm, 217, rfl⟩
abbrev main_call5_v3 : Ref sig .tc := ⟨.hbm, 218, rfl⟩
abbrev main_call5_c_1 : Ref sig .tc := ⟨.hbm, 219, rfl⟩
abbrev main_call5_v4 : Ref sig .tc := ⟨.hbm, 220, rfl⟩
abbrev main_call5_c_2 : Ref sig .tc := ⟨.hbm, 221, rfl⟩
abbrev main_call5_v5 : Ref sig .tc := ⟨.hbm, 222, rfl⟩
abbrev main_call5_c_3 : Ref sig .tc := ⟨.hbm, 223, rfl⟩
abbrev main_call5_v6 : Ref sig .tc := ⟨.hbm, 224, rfl⟩
abbrev main_call5_v7 : Ref sig .tc := ⟨.hbm, 225, rfl⟩
abbrev main_call5_v8 : Ref sig .tc := ⟨.hbm, 226, rfl⟩
abbrev main_call5_v9 : Ref sig .tc := ⟨.hbm, 227, rfl⟩
abbrev main_v80 : Ref sig .tc := ⟨.hbm, 228, rfl⟩
abbrev main_c_51 : Ref sig .tc := ⟨.hbm, 229, rfl⟩
abbrev main_v81 : Ref sig .tc := ⟨.hbm, 230, rfl⟩
abbrev main_c_52 : Ref sig .tc := ⟨.hbm, 231, rfl⟩
abbrev main_v82 : Ref sig .tc := ⟨.hbm, 232, rfl⟩
abbrev main_v83 : Ref sig .tc := ⟨.hbm, 233, rfl⟩
abbrev main_c_53 : Ref sig .tc := ⟨.hbm, 234, rfl⟩
abbrev main_v84 : Ref sig .tc := ⟨.hbm, 235, rfl⟩
abbrev main_c_54 : Ref sig .tc := ⟨.hbm, 236, rfl⟩
abbrev main_v85 : Ref sig .tc := ⟨.hbm, 237, rfl⟩
abbrev main_v86 : Ref sig .tc := ⟨.hbm, 238, rfl⟩
abbrev main_c_55 : Ref sig .tc := ⟨.hbm, 239, rfl⟩
abbrev main_v87 : Ref sig .tc := ⟨.hbm, 240, rfl⟩
abbrev main_v88 : Ref sig .tc := ⟨.hbm, 241, rfl⟩
abbrev main_v89 : Ref sig .tc := ⟨.hbm, 242, rfl⟩
abbrev main_v90_0 : Ref sig .tc := ⟨.hbm, 243, rfl⟩
abbrev main_v90_1 : Ref sig .tc := ⟨.hbm, 244, rfl⟩
abbrev main_v90_2 : Ref sig .tc := ⟨.hbm, 245, rfl⟩
abbrev main_v91 : Ref sig .tc := ⟨.hbm, 246, rfl⟩
abbrev main_v92 : Ref sig .tc := ⟨.hbm, 247, rfl⟩
abbrev main_v93 : Ref sig .tc := ⟨.hbm, 248, rfl⟩
abbrev main_v94 : Ref sig .tc := ⟨.hbm, 249, rfl⟩
abbrev main_c_56 : Ref sig .tc := ⟨.hbm, 250, rfl⟩
abbrev main_v95 : Ref sig .tc := ⟨.hbm, 251, rfl⟩
abbrev main_v97 : Ref sig .tc := ⟨.hbm, 252, rfl⟩
abbrev main_c_57 : Ref sig .tc := ⟨.hbm, 253, rfl⟩
abbrev main_v98 : Ref sig .tc := ⟨.hbm, 254, rfl⟩
abbrev main_v100 : Ref sig .tc := ⟨.hbm, 255, rfl⟩
abbrev main_c_58 : Ref sig .tc := ⟨.hbm, 256, rfl⟩
abbrev main_v101 : Ref sig .tc := ⟨.hbm, 257, rfl⟩
abbrev main_c_59 : Ref sig .tc := ⟨.hbm, 258, rfl⟩
abbrev main_v102 : Ref sig .tc := ⟨.hbm, 259, rfl⟩
abbrev main_v103 : Ref sig .tc := ⟨.hbm, 260, rfl⟩
abbrev main_c_60 : Ref sig .tc := ⟨.hbm, 261, rfl⟩
abbrev main_call6_v0 : Ref sig .tc := ⟨.hbm, 262, rfl⟩
abbrev main_call6_v1 : Ref sig .tc := ⟨.hbm, 263, rfl⟩
abbrev main_call6_v2 : Ref sig .tc := ⟨.hbm, 264, rfl⟩
abbrev main_call6_v3 : Ref sig .tc := ⟨.hbm, 265, rfl⟩
abbrev main_call6_v4 : Ref sig .tc := ⟨.hbm, 266, rfl⟩
abbrev main_call6_v5 : Ref sig .tc := ⟨.hbm, 267, rfl⟩
abbrev main_call6_c : Ref sig .tc := ⟨.hbm, 268, rfl⟩
abbrev main_call6_v6 : Ref sig .tc := ⟨.hbm, 269, rfl⟩
abbrev main_call6_v7 : Ref sig .tc := ⟨.hbm, 270, rfl⟩
abbrev main_call6_c_0 : Ref sig .tc := ⟨.hbm, 271, rfl⟩
abbrev main_call6_v8 : Ref sig .tc := ⟨.hbm, 272, rfl⟩
abbrev main_v104 : Ref sig .tc := ⟨.hbm, 273, rfl⟩
abbrev main_v106 : Ref sig .tc := ⟨.hbm, 274, rfl⟩
abbrev main_c_61 : Ref sig .tc := ⟨.hbm, 275, rfl⟩
abbrev main_v107 : Ref sig .tc := ⟨.hbm, 276, rfl⟩
abbrev main_c_62 : Ref sig .tc := ⟨.hbm, 277, rfl⟩
abbrev main_v108 : Ref sig .tc := ⟨.hbm, 278, rfl⟩
abbrev main_v109 : Ref sig .tc := ⟨.hbm, 279, rfl⟩
abbrev main_c_63 : Ref sig .tc := ⟨.hbm, 280, rfl⟩
abbrev main_call7_v0 : Ref sig .tc := ⟨.hbm, 281, rfl⟩
abbrev main_call7_v1 : Ref sig .tc := ⟨.hbm, 282, rfl⟩
abbrev main_call7_v2 : Ref sig .tc := ⟨.hbm, 283, rfl⟩
abbrev main_call7_v3 : Ref sig .tc := ⟨.hbm, 284, rfl⟩
abbrev main_call7_v4 : Ref sig .tc := ⟨.hbm, 285, rfl⟩
abbrev main_call7_v5 : Ref sig .tc := ⟨.hbm, 286, rfl⟩
abbrev main_call7_c : Ref sig .tc := ⟨.hbm, 287, rfl⟩
abbrev main_call7_v6 : Ref sig .tc := ⟨.hbm, 288, rfl⟩
abbrev main_call7_v7 : Ref sig .tc := ⟨.hbm, 289, rfl⟩
abbrev main_call7_c_0 : Ref sig .tc := ⟨.hbm, 290, rfl⟩
abbrev main_call7_v8 : Ref sig .tc := ⟨.hbm, 291, rfl⟩
abbrev main_v110 : Ref sig .tc := ⟨.hbm, 292, rfl⟩
abbrev main_v112 : Ref sig .tc := ⟨.hbm, 293, rfl⟩
abbrev main_c_64 : Ref sig .tc := ⟨.hbm, 294, rfl⟩
abbrev main_v113 : Ref sig .tc := ⟨.hbm, 295, rfl⟩
abbrev main_v115 : Ref sig .tc := ⟨.hbm, 296, rfl⟩
abbrev main_v116 : Ref sig .tc := ⟨.hbm, 297, rfl⟩
abbrev main_v117 : Ref sig .tc := ⟨.hbm, 298, rfl⟩
abbrev main_v118 : Ref sig .tc := ⟨.hbm, 299, rfl⟩
abbrev main_v119 : Ref sig .tc := ⟨.hbm, 300, rfl⟩
abbrev main_v120 : Ref sig .tc := ⟨.hbm, 301, rfl⟩
abbrev main_v121 : Ref sig .tc := ⟨.hbm, 302, rfl⟩
abbrev main_v11 : Ref sig .tc := ⟨.smem, 0, rfl⟩
abbrev main_v96 : Ref sig .tc := ⟨.smem, 1, rfl⟩
abbrev main_v99 : Ref sig .tc := ⟨.smem, 2, rfl⟩
abbrev main_v105 : Ref sig .tc := ⟨.smem, 3, rfl⟩
abbrev main_v111 : Ref sig .tc := ⟨.smem, 4, rfl⟩
abbrev main_v114 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc7_stg3_0 : Ref sig .tc := ⟨.vmem, 52, rfl⟩
abbrev cc7_stg3_1 : Ref sig .tc := ⟨.vmem, 53, rfl⟩
abbrev cc7_stg4_0 : Ref sig .tc := ⟨.vmem, 54, rfl⟩
abbrev cc7_stg4_1 : Ref sig .tc := ⟨.vmem, 55, rfl⟩
abbrev cc7_stg5_0 : Ref sig .tc := ⟨.vmem, 56, rfl⟩
abbrev cc7_stg5_1 : Ref sig .tc := ⟨.vmem, 57, rfl⟩
abbrev cc8_stg0_0 : Ref sig .tc := ⟨.vmem, 58, rfl⟩
abbrev cc8_stg1_0 : Ref sig .tc := ⟨.vmem, 59, rfl⟩
abbrev cc9_stg0_0 : Ref sig .tc := ⟨.vmem, 60, rfl⟩
abbrev cc9_stg1_0 : Ref sig .tc := ⟨.vmem, 61, rfl⟩
abbrev cc9_scratch0 : Ref sig .tc := ⟨.vmem, 62, rfl⟩
abbrev cc9_scratch1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc2_sem0_0 : DmaSem sig := 36
abbrev cc2_sem0_1 : DmaSem sig := 37
abbrev cc2_sem1_0 : DmaSem sig := 38
abbrev cc2_sem2_0 : DmaSem sig := 39
abbrev cc2_sem2_1 : DmaSem sig := 40
abbrev cc3_sem0_0 : DmaSem sig := 41
abbrev cc3_sem0_1 : DmaSem sig := 42
abbrev cc3_sem1_0 : DmaSem sig := 43
abbrev cc3_sem2_0 : DmaSem sig := 44
abbrev cc3_sem2_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem2_1 : DmaSem sig := 57
abbrev cc6_sem0_0 : DmaSem sig := 58
abbrev cc6_sem0_1 : DmaSem sig := 59
abbrev cc6_sem1_0 : DmaSem sig := 60
abbrev cc6_sem1_1 : DmaSem sig := 61
abbrev cc6_sem2_0 : DmaSem sig := 62
abbrev cc6_sem2_1 : DmaSem sig := 63
abbrev cc7_sem0_0 : DmaSem sig := 64
abbrev cc7_sem0_1 : DmaSem sig := 65
abbrev cc7_sem1_0 : DmaSem sig := 66
abbrev cc7_sem1_1 : DmaSem sig := 67
abbrev cc7_sem2_0 : DmaSem sig := 68
abbrev cc7_sem2_1 : DmaSem sig := 69
abbrev cc7_sem3_0 : DmaSem sig := 70
abbrev cc7_sem3_1 : DmaSem sig := 71
abbrev cc7_sem4_0 : DmaSem sig := 72
abbrev cc7_sem4_1 : DmaSem sig := 73
abbrev cc7_sem5_0 : DmaSem sig := 74
abbrev cc7_sem5_1 : DmaSem sig := 75
abbrev cc8_sem0_0 : DmaSem sig := 76
abbrev cc8_sem1_0 : DmaSem sig := 77
abbrev cc9_sem0_0 : DmaSem sig := 84
abbrev cc9_sem1_0 : DmaSem sig := 85
abbrev barrier0 : Sem sig := 0
abbrev barrier2 : Sem sig := 1
abbrev barrier1 : Sem sig := 2

abbrev nD : Nat := 32
abbrev τ : Topo := Topo.v7x

variable {F : FTy → Type} [FloatOps F]

abbrev grid0 : Pipeline.Grid := ⟨3, ![2, 1, 8], ![false, false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 32 := Scalar.addi v0 arg1
  let c0_i32 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := .none

def k1_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k1_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k1_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k1_dev4 (d0 : Dev nD) : Nat :=
  let c0_i32_64 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_63 : BitVec 32 := 16#32
  let v87 : BitVec 32 := Scalar.muli v2 c16_i32_63
  let v88 : BitVec 32 := Scalar.addi c0_i32_64 v87
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_65 : BitVec 32 := 4#32
  let v89 : BitVec 32 := Scalar.muli v5 c4_i32_65
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v76 : BitVec 32 := Scalar.addi v8 c1_i32_51
  let c4_i32_52 : BitVec 32 := 4#32
  let c0_i32_53 : BitVec 32 := 0#32
  let v77 : BitVec 1 := Scalar.cmpi .eq c4_i32_52 c0_i32_53
  let c1_i32_54 : BitVec 32 := 1#32
  let v78 : BitVec 32 := Scalar.select v77 c1_i32_54 c4_i32_52
  let v79 : BitVec 32 := Scalar.remsi v76 v78
  let c0_i32_56 : BitVec 32 := 0#32
  let v81 : BitVec 1 := Scalar.cmpi .slt v79 c0_i32_56
  let c0_i32_57 : BitVec 32 := 0#32
  let v82 : BitVec 1 := Scalar.cmpi .slt v78 c0_i32_57
  let v83 : BitVec 1 := Scalar.xori v81 v82
  let c0_i32_55 : BitVec 32 := 0#32
  let v80 : BitVec 1 := Scalar.cmpi .ne v79 c0_i32_55
  let v84 : BitVec 1 := Scalar.andi v83 v80
  let v85 : BitVec 32 := Scalar.addi v79 v78
  let v86 : BitVec 32 := Scalar.select v84 v85 v79
  let c1_i32_66 : BitVec 32 := 1#32
  let v91 : BitVec 32 := Scalar.muli v86 c1_i32_66
  let v92 : BitVec 32 := Scalar.addi v90 v91
  v92.toNat
def k1_dev5 (d0 : Dev nD) : Nat :=
  let c0_i32_75 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_74 : BitVec 32 := 16#32
  let v99 : BitVec 32 := Scalar.muli v2 c16_i32_74
  let v100 : BitVec 32 := Scalar.addi c0_i32_75 v99
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_76 : BitVec 32 := 4#32
  let v101 : BitVec 32 := Scalar.muli v5 c4_i32_76
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v76 : BitVec 32 := Scalar.addi v8 c1_i32_51
  let c4_i32_52 : BitVec 32 := 4#32
  let c0_i32_53 : BitVec 32 := 0#32
  let v77 : BitVec 1 := Scalar.cmpi .eq c4_i32_52 c0_i32_53
  let c1_i32_54 : BitVec 32 := 1#32
  let v78 : BitVec 32 := Scalar.select v77 c1_i32_54 c4_i32_52
  let v79 : BitVec 32 := Scalar.remsi v76 v78
  let c0_i32_56 : BitVec 32 := 0#32
  let v81 : BitVec 1 := Scalar.cmpi .slt v79 c0_i32_56
  let c0_i32_57 : BitVec 32 := 0#32
  let v82 : BitVec 1 := Scalar.cmpi .slt v78 c0_i32_57
  let v83 : BitVec 1 := Scalar.xori v81 v82
  let c0_i32_55 : BitVec 32 := 0#32
  let v80 : BitVec 1 := Scalar.cmpi .ne v79 c0_i32_55
  let v84 : BitVec 1 := Scalar.andi v83 v80
  let v85 : BitVec 32 := Scalar.addi v79 v78
  let v86 : BitVec 32 := Scalar.select v84 v85 v79
  let c1_i32_77 : BitVec 32 := 1#32
  let v103 : BitVec 32 := Scalar.muli v86 c1_i32_77
  let v104 : BitVec 32 := Scalar.addi v102 v103
  v104.toNat
def k1_dev6 (d0 : Dev nD) : Nat :=
  let c0_i32_86 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_85 : BitVec 32 := 16#32
  let v111 : BitVec 32 := Scalar.muli v2 c16_i32_85
  let v112 : BitVec 32 := Scalar.addi c0_i32_86 v111
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_87 : BitVec 32 := 4#32
  let v113 : BitVec 32 := Scalar.muli v5 c4_i32_87
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v76 : BitVec 32 := Scalar.addi v8 c1_i32_51
  let c4_i32_52 : BitVec 32 := 4#32
  let c0_i32_53 : BitVec 32 := 0#32
  let v77 : BitVec 1 := Scalar.cmpi .eq c4_i32_52 c0_i32_53
  let c1_i32_54 : BitVec 32 := 1#32
  let v78 : BitVec 32 := Scalar.select v77 c1_i32_54 c4_i32_52
  let v79 : BitVec 32 := Scalar.remsi v76 v78
  let c0_i32_56 : BitVec 32 := 0#32
  let v81 : BitVec 1 := Scalar.cmpi .slt v79 c0_i32_56
  let c0_i32_57 : BitVec 32 := 0#32
  let v82 : BitVec 1 := Scalar.cmpi .slt v78 c0_i32_57
  let v83 : BitVec 1 := Scalar.xori v81 v82
  let c0_i32_55 : BitVec 32 := 0#32
  let v80 : BitVec 1 := Scalar.cmpi .ne v79 c0_i32_55
  let v84 : BitVec 1 := Scalar.andi v83 v80
  let v85 : BitVec 32 := Scalar.addi v79 v78
  let v86 : BitVec 32 := Scalar.select v84 v85 v79
  let c1_i32_88 : BitVec 32 := 1#32
  let v115 : BitVec 32 := Scalar.muli v86 c1_i32_88
  let v116 : BitVec 32 := Scalar.addi v114 v115
  v116.toNat
def k1_dev7 (d0 : Dev nD) : Nat :=
  let c0_i32_104 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_103 : BitVec 32 := 16#32
  let v134 : BitVec 32 := Scalar.muli v2 c16_i32_103
  let v135 : BitVec 32 := Scalar.addi c0_i32_104 v134
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_105 : BitVec 32 := 4#32
  let v136 : BitVec 32 := Scalar.muli v5 c4_i32_105
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_91 : BitVec 32 := 2#32
  let v123 : BitVec 32 := Scalar.addi v8 c2_i32_91
  let c4_i32_92 : BitVec 32 := 4#32
  let c0_i32_93 : BitVec 32 := 0#32
  let v124 : BitVec 1 := Scalar.cmpi .eq c4_i32_92 c0_i32_93
  let c1_i32_94 : BitVec 32 := 1#32
  let v125 : BitVec 32 := Scalar.select v124 c1_i32_94 c4_i32_92
  let v126 : BitVec 32 := Scalar.remsi v123 v125
  let c0_i32_96 : BitVec 32 := 0#32
  let v128 : BitVec 1 := Scalar.cmpi .slt v126 c0_i32_96
  let c0_i32_97 : BitVec 32 := 0#32
  let v129 : BitVec 1 := Scalar.cmpi .slt v125 c0_i32_97
  let v130 : BitVec 1 := Scalar.xori v128 v129
  let c0_i32_95 : BitVec 32 := 0#32
  let v127 : BitVec 1 := Scalar.cmpi .ne v126 c0_i32_95
  let v131 : BitVec 1 := Scalar.andi v130 v127
  let v132 : BitVec 32 := Scalar.addi v126 v125
  let v133 : BitVec 32 := Scalar.select v131 v132 v126
  let c1_i32_106 : BitVec 32 := 1#32
  let v138 : BitVec 32 := Scalar.muli v133 c1_i32_106
  let v139 : BitVec 32 := Scalar.addi v137 v138
  v139.toNat
def k1_dev8 (d0 : Dev nD) : Nat :=
  let c0_i32_115 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_114 : BitVec 32 := 16#32
  let v146 : BitVec 32 := Scalar.muli v2 c16_i32_114
  let v147 : BitVec 32 := Scalar.addi c0_i32_115 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_116 : BitVec 32 := 4#32
  let v148 : BitVec 32 := Scalar.muli v5 c4_i32_116
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_91 : BitVec 32 := 2#32
  let v123 : BitVec 32 := Scalar.addi v8 c2_i32_91
  let c4_i32_92 : BitVec 32 := 4#32
  let c0_i32_93 : BitVec 32 := 0#32
  let v124 : BitVec 1 := Scalar.cmpi .eq c4_i32_92 c0_i32_93
  let c1_i32_94 : BitVec 32 := 1#32
  let v125 : BitVec 32 := Scalar.select v124 c1_i32_94 c4_i32_92
  let v126 : BitVec 32 := Scalar.remsi v123 v125
  let c0_i32_96 : BitVec 32 := 0#32
  let v128 : BitVec 1 := Scalar.cmpi .slt v126 c0_i32_96
  let c0_i32_97 : BitVec 32 := 0#32
  let v129 : BitVec 1 := Scalar.cmpi .slt v125 c0_i32_97
  let v130 : BitVec 1 := Scalar.xori v128 v129
  let c0_i32_95 : BitVec 32 := 0#32
  let v127 : BitVec 1 := Scalar.cmpi .ne v126 c0_i32_95
  let v131 : BitVec 1 := Scalar.andi v130 v127
  let v132 : BitVec 32 := Scalar.addi v126 v125
  let v133 : BitVec 32 := Scalar.select v131 v132 v126
  let c1_i32_117 : BitVec 32 := 1#32
  let v150 : BitVec 32 := Scalar.muli v133 c1_i32_117
  let v151 : BitVec 32 := Scalar.addi v149 v150
  v151.toNat
def k1_dev9 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v158 : BitVec 32 := Scalar.muli v2 c16_i32_125
  let v159 : BitVec 32 := Scalar.addi c0_i32_126 v158
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_127 : BitVec 32 := 4#32
  let v160 : BitVec 32 := Scalar.muli v5 c4_i32_127
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_91 : BitVec 32 := 2#32
  let v123 : BitVec 32 := Scalar.addi v8 c2_i32_91
  let c4_i32_92 : BitVec 32 := 4#32
  let c0_i32_93 : BitVec 32 := 0#32
  let v124 : BitVec 1 := Scalar.cmpi .eq c4_i32_92 c0_i32_93
  let c1_i32_94 : BitVec 32 := 1#32
  let v125 : BitVec 32 := Scalar.select v124 c1_i32_94 c4_i32_92
  let v126 : BitVec 32 := Scalar.remsi v123 v125
  let c0_i32_96 : BitVec 32 := 0#32
  let v128 : BitVec 1 := Scalar.cmpi .slt v126 c0_i32_96
  let c0_i32_97 : BitVec 32 := 0#32
  let v129 : BitVec 1 := Scalar.cmpi .slt v125 c0_i32_97
  let v130 : BitVec 1 := Scalar.xori v128 v129
  let c0_i32_95 : BitVec 32 := 0#32
  let v127 : BitVec 1 := Scalar.cmpi .ne v126 c0_i32_95
  let v131 : BitVec 1 := Scalar.andi v130 v127
  let v132 : BitVec 32 := Scalar.addi v126 v125
  let v133 : BitVec 32 := Scalar.select v131 v132 v126
  let c1_i32_128 : BitVec 32 := 1#32
  let v162 : BitVec 32 := Scalar.muli v133 c1_i32_128
  let v163 : BitVec 32 := Scalar.addi v161 v162
  v163.toNat
def k1_dev10 (d0 : Dev nD) : Nat :=
  let c0_i32_144 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_143 : BitVec 32 := 16#32
  let v181 : BitVec 32 := Scalar.muli v2 c16_i32_143
  let v182 : BitVec 32 := Scalar.addi c0_i32_144 v181
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_145 : BitVec 32 := 4#32
  let v183 : BitVec 32 := Scalar.muli v5 c4_i32_145
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_131 : BitVec 32 := 3#32
  let v170 : BitVec 32 := Scalar.addi v8 c3_i32_131
  let c4_i32_132 : BitVec 32 := 4#32
  let c0_i32_133 : BitVec 32 := 0#32
  let v171 : BitVec 1 := Scalar.cmpi .eq c4_i32_132 c0_i32_133
  let c1_i32_134 : BitVec 32 := 1#32
  let v172 : BitVec 32 := Scalar.select v171 c1_i32_134 c4_i32_132
  let v173 : BitVec 32 := Scalar.remsi v170 v172
  let c0_i32_136 : BitVec 32 := 0#32
  let v175 : BitVec 1 := Scalar.cmpi .slt v173 c0_i32_136
  let c0_i32_137 : BitVec 32 := 0#32
  let v176 : BitVec 1 := Scalar.cmpi .slt v172 c0_i32_137
  let v177 : BitVec 1 := Scalar.xori v175 v176
  let c0_i32_135 : BitVec 32 := 0#32
  let v174 : BitVec 1 := Scalar.cmpi .ne v173 c0_i32_135
  let v178 : BitVec 1 := Scalar.andi v177 v174
  let v179 : BitVec 32 := Scalar.addi v173 v172
  let v180 : BitVec 32 := Scalar.select v178 v179 v173
  let c1_i32_146 : BitVec 32 := 1#32
  let v185 : BitVec 32 := Scalar.muli v180 c1_i32_146
  let v186 : BitVec 32 := Scalar.addi v184 v185
  v186.toNat
def k1_dev11 (d0 : Dev nD) : Nat :=
  let c0_i32_155 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_154 : BitVec 32 := 16#32
  let v193 : BitVec 32 := Scalar.muli v2 c16_i32_154
  let v194 : BitVec 32 := Scalar.addi c0_i32_155 v193
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_156 : BitVec 32 := 4#32
  let v195 : BitVec 32 := Scalar.muli v5 c4_i32_156
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_131 : BitVec 32 := 3#32
  let v170 : BitVec 32 := Scalar.addi v8 c3_i32_131
  let c4_i32_132 : BitVec 32 := 4#32
  let c0_i32_133 : BitVec 32 := 0#32
  let v171 : BitVec 1 := Scalar.cmpi .eq c4_i32_132 c0_i32_133
  let c1_i32_134 : BitVec 32 := 1#32
  let v172 : BitVec 32 := Scalar.select v171 c1_i32_134 c4_i32_132
  let v173 : BitVec 32 := Scalar.remsi v170 v172
  let c0_i32_136 : BitVec 32 := 0#32
  let v175 : BitVec 1 := Scalar.cmpi .slt v173 c0_i32_136
  let c0_i32_137 : BitVec 32 := 0#32
  let v176 : BitVec 1 := Scalar.cmpi .slt v172 c0_i32_137
  let v177 : BitVec 1 := Scalar.xori v175 v176
  let c0_i32_135 : BitVec 32 := 0#32
  let v174 : BitVec 1 := Scalar.cmpi .ne v173 c0_i32_135
  let v178 : BitVec 1 := Scalar.andi v177 v174
  let v179 : BitVec 32 := Scalar.addi v173 v172
  let v180 : BitVec 32 := Scalar.select v178 v179 v173
  let c1_i32_157 : BitVec 32 := 1#32
  let v197 : BitVec 32 := Scalar.muli v180 c1_i32_157
  let v198 : BitVec 32 := Scalar.addi v196 v197
  v198.toNat
def k1_dev12 (d0 : Dev nD) : Nat :=
  let c0_i32_166 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_165 : BitVec 32 := 16#32
  let v205 : BitVec 32 := Scalar.muli v2 c16_i32_165
  let v206 : BitVec 32 := Scalar.addi c0_i32_166 v205
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_167 : BitVec 32 := 4#32
  let v207 : BitVec 32 := Scalar.muli v5 c4_i32_167
  let v208 : BitVec 32 := Scalar.addi v206 v207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_131 : BitVec 32 := 3#32
  let v170 : BitVec 32 := Scalar.addi v8 c3_i32_131
  let c4_i32_132 : BitVec 32 := 4#32
  let c0_i32_133 : BitVec 32 := 0#32
  let v171 : BitVec 1 := Scalar.cmpi .eq c4_i32_132 c0_i32_133
  let c1_i32_134 : BitVec 32 := 1#32
  let v172 : BitVec 32 := Scalar.select v171 c1_i32_134 c4_i32_132
  let v173 : BitVec 32 := Scalar.remsi v170 v172
  let c0_i32_136 : BitVec 32 := 0#32
  let v175 : BitVec 1 := Scalar.cmpi .slt v173 c0_i32_136
  let c0_i32_137 : BitVec 32 := 0#32
  let v176 : BitVec 1 := Scalar.cmpi .slt v172 c0_i32_137
  let v177 : BitVec 1 := Scalar.xori v175 v176
  let c0_i32_135 : BitVec 32 := 0#32
  let v174 : BitVec 1 := Scalar.cmpi .ne v173 c0_i32_135
  let v178 : BitVec 1 := Scalar.andi v177 v174
  let v179 : BitVec 32 := Scalar.addi v173 v172
  let v180 : BitVec 32 := Scalar.select v178 v179 v173
  let c1_i32_168 : BitVec 32 := 1#32
  let v209 : BitVec 32 := Scalar.muli v180 c1_i32_168
  let v210 : BitVec 32 := Scalar.addi v208 v209
  v210.toNat
abbrev stage1_0 : Fin 1 → Memref sig .tc .vmem S1024x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S128x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S128x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S128x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S4x1024x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S4x128x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S4x128x256 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev grid2 : Pipeline.Grid := ⟨3, ![2, 1, 1], ![false, false, false]⟩

abbrev pre2 : Pipeline.Prefetch sig := ⟨1, ![main_v96.idx], fun | 0 => main_v96.names | ⟨_ + 1, h⟩ => absurd h (Nat.not_lt.2 (Nat.le_add_left _ _)), fun | 0 => rfl | ⟨_ + 1, h⟩ => absurd h (Nat.not_lt.2 (Nat.le_add_left _ _))⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (inb_S1_S1_0 : ∀ a, (![0] : Fin 1 → Nat) a + S1.size a ≤ S1.size a) (numel1_S1 : S1.numel = 1) (pf : pre2.Contents (Elt F)) (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 32 := Scalar.addi v0 arg1
  let c0_i32 : BitVec 32 := 0#32
  ![arg2.toNat, v1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S512x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 1, 1], ![false, false, false]⟩

abbrev pre3 : Pipeline.Prefetch sig := ⟨1, ![main_v99.idx], fun | 0 => main_v99.names | ⟨_ + 1, h⟩ => absurd h (Nat.not_lt.2 (Nat.le_add_left _ _)), fun | 0 => rfl | ⟨_ + 1, h⟩ => absurd h (Nat.not_lt.2 (Nat.le_add_left _ _))⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (inb_S1_S1_0 : ∀ a, (![0] : Fin 1 → Nat) a + S1.size a ≤ S1.size a) (numel1_S1 : S1.numel = 1) (pf : pre3.Contents (Elt F)) (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 32 := Scalar.addi v0 arg1
  let c0_i32 : BitVec 32 := 0#32
  ![arg2.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S512x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 1, 8], ![false, false, false]⟩

abbrev pre4 : Pipeline.Prefetch sig := ⟨1, ![main_v105.idx], fun | 0 => main_v105.names | ⟨_ + 1, h⟩ => absurd h (Nat.not_lt.2 (Nat.le_add_left _ _)), fun | 0 => rfl | ⟨_ + 1, h⟩ => absurd h (Nat.not_lt.2 (Nat.le_add_left _ _))⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (inb_S1_S1_0 : ∀ a, (![0] : Fin 1 → Nat) a + S1.size a ≤ S1.size a) (numel1_S1 : S1.numel = 1) (pf : pre4.Contents (Elt F)) (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 32 := Scalar.addi v0 arg1
  let c0_i32 : BitVec 32 := 0#32
  ![arg2.toNat, v1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S512x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 1, 8], ![false, false, false]⟩

abbrev pre5 : Pipeline.Prefetch sig := ⟨1, ![main_v111.idx], fun | 0 => main_v111.names | ⟨_ + 1, h⟩ => absurd h (Nat.not_lt.2 (Nat.le_add_left _ _)), fun | 0 => rfl | ⟨_ + 1, h⟩ => absurd h (Nat.not_lt.2 (Nat.le_add_left _ _))⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (inb_S1_S1_0 : ∀ a, (![0] : Fin 1 → Nat) a + S1.size a ≤ S1.size a) (numel1_S1 : S1.numel = 1) (pf : pre5.Contents (Elt F)) (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 32 := Scalar.addi v0 arg1
  let c0_i32 : BitVec 32 := 0#32
  ![arg2.toNat, v1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S512x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S512x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S512x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 1, 8], ![false, false, false]⟩

abbrev pre6 : Pipeline.Prefetch sig := ⟨1, ![main_v114.idx], fun | 0 => main_v114.names | ⟨_ + 1, h⟩ => absurd h (Nat.not_lt.2 (Nat.le_add_left _ _)), fun | 0 => rfl | ⟨_ + 1, h⟩ => absurd h (Nat.not_lt.2 (Nat.le_add_left _ _))⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (inb_S1_S1_0 : ∀ a, (![0] : Fin 1 → Nat) a + S1.size a ≤ S1.size a) (numel1_S1 : S1.numel = 1) (pf : pre6.Contents (Elt F)) (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 32 := Scalar.addi v0 arg1
  let c0_i32 : BitVec 32 := 0#32
  ![arg2.toNat, v1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S512x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S512x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨2, ![4, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S256x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S256x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S256x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S256x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S256x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev stage7_5 : Fin 2 → Memref sig .tc .vmem S256x256 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev grid8 : Pipeline.Grid := .none

def k8_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_18 : BitVec 32 := 4#32
  let v34 : BitVec 32 := Scalar.muli v19 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v36 : BitVec 32 := Scalar.muli v8 c1_i32_19
  let v37 : BitVec 32 := Scalar.addi v35 v36
  v37.toNat
def k8_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_23 : BitVec 32 := 4#32
  let v40 : BitVec 32 := Scalar.muli v30 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v42 : BitVec 32 := Scalar.muli v8 c1_i32_24
  let v43 : BitVec 32 := Scalar.addi v41 v42
  v43.toNat
def k8_dev3 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v49 : BitVec 32 := Scalar.muli v2 c16_i32_34
  let v50 : BitVec 32 := Scalar.addi c0_i32_35 v49
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_36 : BitVec 32 := 4#32
  let v51 : BitVec 32 := Scalar.muli v30 c4_i32_36
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v53 : BitVec 32 := Scalar.muli v8 c1_i32_37
  let v54 : BitVec 32 := Scalar.addi v52 v53
  v54.toNat
def k8_dev4 (d0 : Dev nD) : Nat :=
  let c0_i32_68 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_67 : BitVec 32 := 16#32
  let v81 : BitVec 32 := Scalar.muli v2 c16_i32_67
  let v82 : BitVec 32 := Scalar.addi c0_i32_68 v81
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_69 : BitVec 32 := 4#32
  let v83 : BitVec 32 := Scalar.muli v30 c4_i32_69
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v85 : BitVec 32 := Scalar.muli v8 c1_i32_70
  let v86 : BitVec 32 := Scalar.addi v84 v85
  v86.toNat
def k8_dev5 (d0 : Dev nD) : Nat :=
  let c0_i32_100 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_99 : BitVec 32 := 16#32
  let v113 : BitVec 32 := Scalar.muli v2 c16_i32_99
  let v114 : BitVec 32 := Scalar.addi c0_i32_100 v113
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_101 : BitVec 32 := 4#32
  let v115 : BitVec 32 := Scalar.muli v30 c4_i32_101
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v117 : BitVec 32 := Scalar.muli v8 c1_i32_102
  let v118 : BitVec 32 := Scalar.addi v116 v117
  v118.toNat
abbrev stage8_0 : Fin 1 → Memref sig .tc .vmem S1024x256 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S4x1024x256 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev grid9 : Pipeline.Grid := .none

def k9_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v34 : BitVec 32 := Scalar.muli v5 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_19 : BitVec 32 := 1#32
  let v36 : BitVec 32 := Scalar.muli v19 c1_i32_19
  let v37 : BitVec 32 := Scalar.addi v35 v36
  v37.toNat
def k9_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_24 : BitVec 32 := 1#32
  let v42 : BitVec 32 := Scalar.muli v30 c1_i32_24
  let v43 : BitVec 32 := Scalar.addi v41 v42
  v43.toNat
def k9_off1 (d0 : Dev nD) (c0_i32_30 : BitVec 32) (c0_i32_37 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v49 : BitVec 32 := Scalar.subi v8 c0_i32_30
  let c4_i32_31 : BitVec 32 := 4#32
  let c0_i32_32 : BitVec 32 := 0#32
  let v50 : BitVec 1 := Scalar.cmpi .eq c4_i32_31 c0_i32_32
  let c1_i32_33 : BitVec 32 := 1#32
  let v51 : BitVec 32 := Scalar.select v50 c1_i32_33 c4_i32_31
  let v52 : BitVec 32 := Scalar.remsi v49 v51
  let c0_i32_35 : BitVec 32 := 0#32
  let v54 : BitVec 1 := Scalar.cmpi .slt v52 c0_i32_35
  let c0_i32_36 : BitVec 32 := 0#32
  let v55 : BitVec 1 := Scalar.cmpi .slt v51 c0_i32_36
  let v56 : BitVec 1 := Scalar.xori v54 v55
  let c0_i32_34 : BitVec 32 := 0#32
  let v53 : BitVec 1 := Scalar.cmpi .ne v52 c0_i32_34
  let v57 : BitVec 1 := Scalar.andi v56 v53
  let v58 : BitVec 32 := Scalar.addi v52 v51
  let v59 : BitVec 32 := Scalar.select v57 v58 v52
  let c1024_i32 : BitVec 32 := 1024#32
  let v71 : BitVec 32 := Scalar.muli v59 c1024_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v60 : BitVec 32 := Scalar.subi v5 c0_i32_37
  let c4_i32_38 : BitVec 32 := 4#32
  let c0_i32_39 : BitVec 32 := 0#32
  let v61 : BitVec 1 := Scalar.cmpi .eq c4_i32_38 c0_i32_39
  let c1_i32_40 : BitVec 32 := 1#32
  let v62 : BitVec 32 := Scalar.select v61 c1_i32_40 c4_i32_38
  let v63 : BitVec 32 := Scalar.remsi v60 v62
  let c0_i32_42 : BitVec 32 := 0#32
  let v65 : BitVec 1 := Scalar.cmpi .slt v63 c0_i32_42
  let c0_i32_43 : BitVec 32 := 0#32
  let v66 : BitVec 1 := Scalar.cmpi .slt v62 c0_i32_43
  let v67 : BitVec 1 := Scalar.xori v65 v66
  let c0_i32_41 : BitVec 32 := 0#32
  let v64 : BitVec 1 := Scalar.cmpi .ne v63 c0_i32_41
  let v68 : BitVec 1 := Scalar.andi v67 v64
  let v69 : BitVec 32 := Scalar.addi v63 v62
  let v70 : BitVec 32 := Scalar.select v68 v69 v63
  let c256_i32 : BitVec 32 := 256#32
  let v72 : BitVec 32 := Scalar.muli v70 c256_i32
  let v73 : BitVec 32 := Scalar.addi v71 v72
  let c0_i32_73 : BitVec 32 := 0#32
  ![v73.toNat, 0]
def k9_dev3 (d0 : Dev nD) : Nat :=
  let c0_i32_89 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_88 : BitVec 32 := 16#32
  let v132 : BitVec 32 := Scalar.muli v2 c16_i32_88
  let v133 : BitVec 32 := Scalar.addi c0_i32_89 v132
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_90 : BitVec 32 := 4#32
  let v134 : BitVec 32 := Scalar.muli v5 c4_i32_90
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_91 : BitVec 32 := 1#32
  let v136 : BitVec 32 := Scalar.muli v30 c1_i32_91
  let v137 : BitVec 32 := Scalar.addi v135 v136
  v137.toNat
def k9_dev4 (d0 : Dev nD) : Nat :=
  let c0_i32_247 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_246 : BitVec 32 := 16#32
  let v336 : BitVec 32 := Scalar.muli v2 c16_i32_246
  let v337 : BitVec 32 := Scalar.addi c0_i32_247 v336
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_248 : BitVec 32 := 4#32
  let v338 : BitVec 32 := Scalar.muli v5 c4_i32_248
  let v339 : BitVec 32 := Scalar.addi v337 v338
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_249 : BitVec 32 := 1#32
  let v340 : BitVec 32 := Scalar.muli v30 c1_i32_249
  let v341 : BitVec 32 := Scalar.addi v339 v340
  v341.toNat
def k9_dev5 (d0 : Dev nD) : Nat :=
  let c0_i32_407 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_406 : BitVec 32 := 16#32
  let v543 : BitVec 32 := Scalar.muli v2 c16_i32_406
  let v544 : BitVec 32 := Scalar.addi c0_i32_407 v543
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_408 : BitVec 32 := 4#32
  let v545 : BitVec 32 := Scalar.muli v5 c4_i32_408
  let v546 : BitVec 32 := Scalar.addi v544 v545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_409 : BitVec 32 := 1#32
  let v547 : BitVec 32 := Scalar.muli v30 c1_i32_409
  let v548 : BitVec 32 := Scalar.addi v546 v547
  v548.toNat
abbrev stage9_0 : Fin 1 → Memref sig .tc .vmem S1024x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))

abbrev stage9_1 : Fin 1 → Memref sig .tc .vmem S1024x4096 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
-- ==== ReferenceIdeal.lean ====
abbrev S4x256x4096 : Shape := ⟨3, ![4, 256, 4096]⟩
abbrev S4096x512 : Shape := ⟨2, ![4096, 512]⟩
abbrev S512x4096 : Shape := ⟨2, ![512, 4096]⟩
abbrev S4096x4096 : Shape := ⟨2, ![4096, 4096]⟩
abbrev S4096x2048 : Shape := ⟨2, ![4096, 2048]⟩
abbrev S4096x64 : Shape := ⟨2, ![4096, 64]⟩
abbrev S4x256x512 : Shape := ⟨3, ![4, 256, 512]⟩
abbrev S4x256x32x128 : Shape := ⟨4, ![4, 256, 32, 128]⟩
abbrev S4x256x2048 : Shape := ⟨3, ![4, 256, 2048]⟩
abbrev S4x256x32x64 : Shape := ⟨4, ![4, 256, 32, 64]⟩
abbrev S4x256x64 : Shape := ⟨3, ![4, 256, 64]⟩
abbrev S4x256x1x64 : Shape := ⟨4, ![4, 256, 1, 64]⟩
abbrev S4x32x256x256 : Shape := ⟨4, ![4, 32, 256, 256]⟩
abbrev S_ : Shape := ⟨0, ![]⟩
abbrev S4x32x256 : Shape := ⟨3, ![4, 32, 256]⟩
abbrev S4x32x256x1 : Shape := ⟨4, ![4, 32, 256, 1]⟩
abbrev S4x32x128x256 : Shape := ⟨4, ![4, 32, 128, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096x512, .f32⟩
  | .hbm, ⟨2, _⟩ => ⟨S512x4096, .f32⟩
  | .hbm, ⟨3, _⟩ => ⟨S512x4096, .f32⟩
  | .hbm, ⟨4, _⟩ => ⟨S4096x4096, .f32⟩
  | .hbm, ⟨5, _⟩ => ⟨S4096x2048, .f32⟩
  | .hbm, ⟨6, _⟩ => ⟨S4096x64, .f32⟩
  | .hbm, ⟨7, _⟩ => ⟨S4096x4096, .f32⟩
  | .hbm, ⟨8, _⟩ => ⟨S4x256x512, .f32⟩
  | .hbm, ⟨9, _⟩ => ⟨S4x256x4096, .f32⟩
  | .hbm, ⟨10, _⟩ => ⟨S4x256x32x128, .f32⟩
  | .hbm, ⟨11, _⟩ => ⟨S4x256x4096, .f32⟩
  | .hbm, ⟨12, _⟩ => ⟨S4x256x32x128, .f32⟩
  | .hbm, ⟨13, _⟩ => ⟨S4x256x4096, .f32⟩
  | .hbm, ⟨14, _⟩ => ⟨S4x256x32x128, .f32⟩
  | .hbm, ⟨15, _⟩ => ⟨S4x256x2048, .f32⟩
  | .hbm, ⟨16, _⟩ => ⟨S4x256x32x64, .f32⟩
  | .hbm, ⟨17, _⟩ => ⟨S4x256x64, .f32⟩
  | .hbm, ⟨18, _⟩ => ⟨S4x256x1x64, .f32⟩
  | .hbm, ⟨19, _⟩ => ⟨S4x32x256x256, .f32⟩
  | .hbm, ⟨20, _⟩ => ⟨S4x256x32x64, .f32⟩
  | .hbm, ⟨21, _⟩ => ⟨S4x32x256x256, .f32⟩
  | .hbm, ⟨22, _⟩ => ⟨S4x32x256x256, .f32⟩
  | .hbm, ⟨23, _⟩ => ⟨S_, .f32⟩
  | .hbm, ⟨24, _⟩ => ⟨S4x32x256x256, .f32⟩
  | .hbm, ⟨25, _⟩ => ⟨S4x32x256x256, .f32⟩
  | .hbm, ⟨26, _⟩ => ⟨S_, .f32⟩
  | .hbm, ⟨27, _⟩ => ⟨S4x32x256, .f32⟩
  | .hbm, ⟨28, _⟩ => ⟨S4x32x256x1, .f32⟩
  | .hbm, ⟨29, _⟩ => ⟨S4x32x256x256, .f32⟩
  | .hbm, ⟨30, _⟩ => ⟨S4x32x256x256, .f32⟩
  | .hbm, ⟨31, _⟩ => ⟨S4x32x256x256, .f32⟩
  | .hbm, ⟨32, _⟩ => ⟨S_, .f32⟩
  | .hbm, ⟨33, _⟩ => ⟨S4x32x256, .f32⟩
  | .hbm, ⟨34, _⟩ => ⟨S4x32x256x1, .f32⟩
  | .hbm, ⟨35, _⟩ => ⟨S4x32x256x256, .f32⟩
  | .hbm, ⟨36, _⟩ => ⟨S4x32x256x256, .f32⟩
  | .hbm, ⟨37, _⟩ => ⟨S4x32x128x256, .f32⟩
  | .hbm, ⟨38, _⟩ => ⟨S4x256x32x128, .f32⟩
  | .hbm, ⟨39, _⟩ => ⟨S4x256x4096, .f32⟩
  | .hbm, ⟨40, _⟩ => ⟨S4x256x4096, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Ideal.Rings.lean ====
module

public import proofs.«01_k».proof.Proof.Gen.KernelIdeal.Points
public import proofs.«01_k».proof.Proof.Gen.KernelIdeal.Skeleton
public import proofs.«01_k».proof.Proof.Gen.KernelIdeal.Regions
public import Idealize.ShloMosaic.Lib.ValueLayout

/-!
# The two rings

The mesh is 2 × 4 × 4: device `c` sits at `(c / 16, c / 4 % 4, c % 4)`. Ring `false` is the first call's gather, over the second axis;
ring `true` is the second call's, over the third. On either ring a device sends to `nxt` and hears from `prv`.
This module names the cells of both rings, the slots of their buffers, and what the slots hold.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

namespace Cert.KernelIdeal.Gen

variable {F : FTy → Type} [FloatOps F]

/-! ## The neighbours -/

/-- The device a device sends to. -/
def nxt : Bool → Dev nD → Dev nD
  | false, c => ⟨c.val / 16 * 16 + (c.val / 4 % 4 + 1) % 4 * 4 + c.val % 4, by have := c.isLt; simp only [nD] at *; omega⟩
  | true, c => ⟨c.val / 4 * 4 + (c.val % 4 + 1) % 4, by have := c.isLt; simp only [nD] at *; omega⟩

/-- The device a device hears from. -/
def prv : Bool → Dev nD → Dev nD
  | false, c => ⟨c.val / 16 * 16 + (c.val / 4 % 4 + 3) % 4 * 4 + c.val % 4, by have := c.isLt; simp only [nD] at *; omega⟩
  | true, c => ⟨c.val / 4 * 4 + (c.val % 4 + 3) % 4, by have := c.isLt; simp only [nD] at *; omega⟩

theorem prv_nxt (b : Bool) (c : Dev nD) : prv b (nxt b c) = c := by revert b c; decide
theorem nxt_prv (b : Bool) (c : Dev nD) : nxt b (prv b c) = c := by revert b c; decide

/-- The step along a ring, as a permutation of the devices. -/
def ringEquiv (b : Bool) : Dev nD ≃ Dev nD := ⟨nxt b, prv b, prv_nxt b, nxt_prv b⟩

/-- The device `j` steps back along the ring. -/
def back (b : Bool) (j : ℕ) (c : Dev nD) : Dev nD := (prv b)^[j] c

theorem back_succ_nxt (b : Bool) (j : ℕ) (c : Dev nD) : back b (j + 1) (nxt b c) = back b j c := by
  unfold back; rw [Function.iterate_succ_apply, prv_nxt]

theorem dev8_1 (c : Dev nD) : (⟨k8_dev1 c, k8_dev1_lt c⟩ : Dev nD) = prv false c := by revert c; decide
theorem dev8_2 (c : Dev nD) : (⟨k8_dev2 c, k8_dev2_lt c⟩ : Dev nD) = nxt false c := by revert c; decide
theorem dev8_3 (c : Dev nD) : (⟨k8_dev3 c, k8_dev3_lt c⟩ : Dev nD) = nxt false c := by revert c; decide
theorem dev8_4 (c : Dev nD) : (⟨k8_dev4 c, k8_dev4_lt c⟩ : Dev nD) = nxt false c := by revert c; decide
theorem dev8_5 (c : Dev nD) : (⟨k8_dev5 c, k8_dev5_lt c⟩ : Dev nD) = nxt false c := by revert c; decide
theorem dev9_1 (c : Dev nD) : (⟨k9_dev1 c, k9_dev1_lt c⟩ : Dev nD) = prv true c := by revert c; decide
theorem dev9_2 (c : Dev nD) : (⟨k9_dev2 c, k9_dev2_lt c⟩ : Dev nD) = nxt true c := by revert c; decide
theorem dev9_3 (c : Dev nD) : (⟨k9_dev3 c, k9_dev3_lt c⟩ : Dev nD) = nxt true c := by revert c; decide
theorem dev9_4 (c : Dev nD) : (⟨k9_dev4 c, k9_dev4_lt c⟩ : Dev nD) = nxt true c := by revert c; decide
theorem dev9_5 (c : Dev nD) : (⟨k9_dev5 c, k9_dev5_lt c⟩ : Dev nD) = nxt true c := by revert c; decide

/-! ## Semaphores and cells -/

/-- The barrier semaphore of a ring. -/
abbrev barS : Bool → Sem sig
  | false => barrier2
  | true => barrier1
/-- The semaphore a ring's `h`-th send completes on. -/
abbrev sendS : Bool → Fin 3 → DmaSem sig
  | false, h => ⟨78 + h.val, by have := h.isLt; simp [sig]; omega⟩
  | true, h => ⟨86 + h.val, by have := h.isLt; simp [sig]; omega⟩
/-- The semaphore a ring's `h`-th arrival completes on. -/
abbrev recvS : Bool → Fin 3 → DmaSem sig
  | false, h => ⟨81 + h.val, by have := h.isLt; simp [sig]; omega⟩
  | true, h => ⟨89 + h.val, by have := h.isLt; simp [sig]; omega⟩

abbrev barCell (b : Bool) (c : Dev nD) : GSem nD τ sig := ((c : Thread nD τ), .reg (barS b))
abbrev sendCell (b : Bool) (h : Fin 3) (c : Dev nD) : GSem nD τ sig := ((c : Thread nD τ), .dma (sendS b h))
abbrev recvCell (b : Bool) (h : Fin 3) (c : Dev nD) : GSem nD τ sig := ((c : Thread nD τ), .dma (recvS b h))

/-- What a semaphore is for. -/
inductive Role where
  | bar (b : Bool)
  | send (b : Bool) (h : Fin 3)
  | recv (b : Bool) (h : Fin 3)
  | xbar
  | xsend (d t : Fin 3)
  | xrecv (d t : Fin 3)
  | other
  deriving DecidableEq

/-- The role of a semaphore, read off its number. -/
def role : SemLoc sig → Role
  | .reg s => if s = barrier0 then .xbar else if s = barrier2 then .bar false else .bar true
  | .dma s =>
    if s.val < 18 then .other
    else if h : s.val < 27 then .xsend ⟨(s.val - 18) / 3, by omega⟩ ⟨(s.val - 18) % 3, by omega⟩
    else if h : s.val < 36 then .xrecv ⟨(s.val - 27) / 3, by omega⟩ ⟨(s.val - 27) % 3, by omega⟩
    else if s.val < 78 then .other
    else if h : s.val < 81 then .send false ⟨s.val - 78, by omega⟩
    else if h : s.val < 84 then .recv false ⟨s.val - 81, by omega⟩
    else if s.val < 86 then .other
    else if h : s.val < 89 then .send true ⟨s.val - 86, by omega⟩
    else if h : s.val < 92 then .recv true ⟨s.val - 89, by omega⟩
    else .other

theorem role_bar (b : Bool) : role (.reg (barS b)) = .bar b := by revert b; decide
theorem role_send (b : Bool) (h : Fin 3) : role (.dma (sendS b h)) = .send b h := by revert b h; decide
theorem role_recv (b : Bool) (h : Fin 3) : role (.dma (recvS b h)) = .recv b h := by revert b h; decide

/-! ## The slots -/

/-- A ring's buffer: four slots. -/
abbrev rb : Bool → Ref sig .tc
  | false => cc8_stg1_0
  | true => cc9_scratch0
/-- The shape of a slot. -/
abbrev slotS : Bool → Shape
  | false => S1024x256
  | true => S1024x1024

theorem inbA (h : Fin 4) : ∀ a, (![h.val, 0, 0] : Fin 3 → ℕ) a + S1x1024x256.size a ≤ S4x1024x256.size a := by revert h; decide
theorem inbB (h : Fin 4) : ∀ a, (![h.val, 0, 0] : Fin 3 → ℕ) a + S1x1024x1024.size a ≤ S4x1024x1024.size a := by revert h; decide

/-- Slot `h` of the first ring's buffer, with its leading axis of one. -/
abbrev rowA (h : Fin 4) : Memref sig .tc .vmem S1x1024x256 .bf16 :=
  (Memref.whole cc8_stg1_0 : Memref sig .tc .vmem S4x1024x256 .bf16).slice (Rect.unit (s := S4x1024x256) ![h.val, 0, 0] S1x1024x256.size (inbA h)) (fun _ => rfl)
/-- Slot `h` of the second ring's buffer, with its leading axis of one. -/
abbrev rowB (h : Fin 4) : Memref sig .tc .vmem S1x1024x1024 .bf16 :=
  (Memref.whole cc9_scratch0 : Memref sig .tc .vmem S4x1024x1024 .bf16).slice (Rect.unit (s := S4x1024x1024) ![h.val, 0, 0] S1x1024x1024.size (inbB h)) (fun _ => rfl)

/-- Slot `h` of a ring's buffer. -/
abbrev slotM : (b : Bool) → Fin 4 → Memref sig .tc .vmem (slotS b) .bf16
  | false, h => (rowA h).squeeze S1024x256 squeezes_S1x1024x256_S1024x256
  | true, h => (rowB h).squeeze S1024x1024 squeezes_S1x1024x1024_S1024x1024

/-- The elements of slot `h` of the first ring: those whose first coordinate is `h`. -/
theorem mem_slotA (h : Fin 4) (i : S4x1024x256.Idx) : i ∈ (slotM false h).view.set ↔ (i 0).val = h.val := by
  have e : (slotM false h).view.set = (rowA h).view.set := View.set_reshape _ _
  have e2 : (rowA h).view.set = (Rect.unit (s := S4x1024x256) ![h.val, 0, 0] S1x1024x256.size (inbA h)).set := View.set_slice_whole _ _
  rw [e, e2, Rect.mem_set_unit]
  constructor
  · intro hi
    have h0 : h.val ≤ (i 0).val ∧ (i 0).val < h.val + 1 := hi 0
    omega
  · intro hi a
    match a with
    | ⟨0, _⟩ => exact ⟨hi.ge, by show (i 0).val < h.val + 1; omega⟩
    | ⟨1, _⟩ => exact ⟨Nat.zero_le _, by show (i 1).val < 0 + 1024; have := (i 1).isLt; simpa using this⟩
    | ⟨2, _⟩ => exact ⟨Nat.zero_le _, by show (i 2).val < 0 + 256; have := (i 2).isLt; simpa using this⟩

/-- The elements of slot `h` of the second ring: those whose first coordinate is `h`. -/
theorem mem_slotB (h : Fin 4) (i : S4x1024x1024.Idx) : i ∈ (slotM true h).view.set ↔ (i 0).val = h.val := by
  have e : (slotM true h).view.set = (rowB h).view.set := View.set_reshape _ _
  have e2 : (rowB h).view.set = (Rect.unit (s := S4x1024x1024) ![h.val, 0, 0] S1x1024x1024.size (inbB h)).set := View.set_slice_whole _ _
  rw [e, e2, Rect.mem_set_unit]
  constructor
  · intro hi
    have h0 : h.val ≤ (i 0).val ∧ (i 0).val < h.val + 1 := hi 0
    omega
  · intro hi a
    match a with
    | ⟨0, _⟩ => exact ⟨hi.ge, by show (i 0).val < h.val + 1; omega⟩
    | ⟨1, _⟩ => exact ⟨Nat.zero_le _, by show (i 1).val < 0 + 1024; have := (i 1).isLt; simpa using this⟩
    | ⟨2, _⟩ => exact ⟨Nat.zero_le _, by show (i 2).val < 0 + 1024; have := (i 2).isLt; simpa using this⟩

/-! ## What the slots hold -/

/-- The blocks the devices put into a ring. -/
abbrev Blocks (F : FTy → Type) : Type := (b : Bool) → Dev nD → Vec F (slotS b) .bf16

/-- A ring's buffer on device `c` once everything has arrived, as slot `h` of it sees it (the same at every `h`): slot `j` holds the
    block of the device `j` steps back. -/
def gathered (X : Blocks F) : (b : Bool) → (h : Fin 4) → Dev nD → (slotM b h).view.ty.Contents (Elt F)
  | false, _, c => fun i : S4x1024x256.Idx => X false (back false (i 0).val c) (ValueIdx.ix2 (i 1) (i 2))
  | true, _, c => fun i : S4x1024x1024.Idx => X true (back true (i 0).val c) (ValueIdx.ix2 (i 1) (i 2))

theorem read_slotA (X : Blocks F) (h : Fin 4) (c : Dev nD) :
    (slotM false h).view.read (Elt F) (gathered X false h c) = X false (back false h.val c) := by
  funext x
  rw [eq_ix2 x]
  refine (shapeCast_1ab_ab_apply (a := 1024) (b := 256)
    (fun y => gathered X false h c ((Rect.unit (s := S4x1024x256) ![h.val, 0, 0] S1x1024x256.size (inbA h)).emb y))
    squeezes_S1x1024x256_S1024x256.numel_eq.symm (x 0) (x 1)).trans ?_
  generalize hy : (Rect.unit (s := S4x1024x256) ![h.val, 0, 0] S1x1024x256.size (inbA h)).emb (ValueIdx.ix3 (0 : Fin 1) (x 0) (x 1)) = y
  have e (a : Fin 3) : ((Rect.unit (s := S4x1024x256) ![h.val, 0, 0] S1x1024x256.size (inbA h)).emb (ValueIdx.ix3 (0 : Fin 1) (x 0) (x 1)) a : ℕ)
      = (![h.val, 0, 0] : Fin 3 → ℕ) a + 1 * (ValueIdx.ix3 (0 : Fin 1) (x 0) (x 1) a).val := Rect.emb_apply ..
  rw [hy] at e
  have e0 : (y 0).val = h.val := e 0
  have e1 : y 1 = x 0 := Fin.ext ((e 1).trans ((Nat.zero_add _).trans (Nat.one_mul _)))
  have e2 : y 2 = x 1 := Fin.ext ((e 2).trans ((Nat.zero_add _).trans (Nat.one_mul _)))
  show X false (back false (y 0).val c) (ValueIdx.ix2 (y 1) (y 2)) = _
  rw [e0, e1, e2]; rfl

theorem read_slotB (X : Blocks F) (h : Fin 4) (c : Dev nD) :
    (slotM true h).view.read (Elt F) (gathered X true h c) = X true (back true h.val c) := by
  funext x
  rw [eq_ix2 x]
  refine (shapeCast_1ab_ab_apply (a := 1024) (b := 1024)
    (fun y => gathered X true h c ((Rect.unit (s := S4x1024x1024) ![h.val, 0, 0] S1x1024x1024.size (inbB h)).emb y))
    squeezes_S1x1024x1024_S1024x1024.numel_eq.symm (x 0) (x 1)).trans ?_
  generalize hy : (Rect.unit (s := S4x1024x1024) ![h.val, 0, 0] S1x1024x1024.size (inbB h)).emb (ValueIdx.ix3 (0 : Fin 1) (x 0) (x 1)) = y
  have e (a : Fin 3) : ((Rect.unit (s := S4x1024x1024) ![h.val, 0, 0] S1x1024x1024.size (inbB h)).emb (ValueIdx.ix3 (0 : Fin 1) (x 0) (x 1)) a : ℕ)
      = (![h.val, 0, 0] : Fin 3 → ℕ) a + 1 * (ValueIdx.ix3 (0 : Fin 1) (x 0) (x 1) a).val := Rect.emb_apply ..
  rw [hy] at e
  have e0 : (y 0).val = h.val := e 0
  have e1 : y 1 = x 0 := Fin.ext ((e 1).trans ((Nat.zero_add _).trans (Nat.one_mul _)))
  have e2 : y 2 = x 1 := Fin.ext ((e 2).trans ((Nat.zero_add _).trans (Nat.one_mul _)))
  show X true (back true (y 0).val c) (ValueIdx.ix2 (y 1) (y 2)) = _
  rw [e0, e1, e2]; rfl

/-- Reading slot `h` gives the block of the device `h` steps back. -/
theorem read_slot (X : Blocks F) (b : Bool) (h : Fin 4) (c : Dev nD) :
    (slotM b h).view.read (Elt F) (gathered X b h c) = X b (back b h.val c) := by
  cases b
  · exact read_slotA X h c
  · exact read_slotB X h c

/-- On its own elements a slot is what reading it gives, written back. -/
theorem eq_of_read {b : Bool} {h : Fin 4} {f g : (slotM b h).view.ty.Contents (Elt F)}
    (e : (slotM b h).view.read (Elt F) f = (slotM b h).view.read (Elt F) g) : ∀ i ∈ (slotM b h).view.set, f i = g i := by
  intro i hi
  obtain ⟨x, -, rfl⟩ := Finset.mem_map.1 hi
  have := congrFun e x
  rw [View.read_apply, View.read_apply] at this
  exact (cast_inj _).1 this

/-- What a copy of slot `h` leaves in slot `h + 1` of the next device is what that slot is to hold. -/
theorem landed (X : Blocks F) (b : Bool) (h : Fin 3) (c : Dev nD) (fd : (slotM b h.succ).view.ty.Contents (Elt F)) :
    ∀ i ∈ (slotM b h.succ).view.set,
      (slotM b h.succ).view.write (Elt F) fd ((slotM b h.castSucc).view.read (Elt F) (gathered X b h.castSucc c)) Finset.univ i
        = gathered X b h.succ (nxt b c) i :=
  eq_of_read (by
    rw [View.read_write_univ, read_slot, read_slot, Fin.val_succ, back_succ_nxt]; rfl)

/-- Storing the own block into slot 0 of the first ring's buffer. -/
theorem storedA (X : Blocks F) (c : Dev nD) (inb) (fd : (slotM false 0).view.ty.Contents (Elt F)) :
    ∀ i ∈ (slotM false 0).view.set,
      ((Memref.whole cc8_stg1_0 : Memref sig .tc .vmem S4x1024x256 .bf16).access (Rect.unit (s := S4x1024x256) ![0, 0, 0] S1x1024x256.size inb)).write (Elt F) fd
        (k8_pay1 (X false c)) Finset.univ i = gathered X false 0 c i :=
  eq_of_read (b := false) (by
    rw [read_slotA]
    funext x
    rw [eq_ix2 x]
    refine (shapeCast_1ab_ab_apply (a := 1024) (b := 256)
      ((rowA 0).view.read (Elt F) (((rowA 0).view).write (Elt F) fd (k8_pay1 (X false c)) Finset.univ))
      squeezes_S1x1024x256_S1024x256.numel_eq.symm (x 0) (x 1)).trans ?_
    rw [View.read_write_univ]
    unfold k8_pay1
    rw [shapeCast_self]
    exact shapeCast_ab_1ab_apply (a := 1024) (b := 256) (X false c) squeezes_S1x1024x256_S1024x256.numel_eq (0 : Fin 1) (x 0) (x 1))

/-- Storing the own block into slot 0 of the second ring's buffer. -/
theorem storedB (X : Blocks F) (c : Dev nD) (inb) (fd : (slotM true 0).view.ty.Contents (Elt F)) :
    ∀ i ∈ (slotM true 0).view.set,
      ((Memref.whole cc9_scratch0 : Memref sig .tc .vmem S4x1024x1024 .bf16).access (Rect.unit (s := S4x1024x1024) ![0, 0, 0] S1x1024x1024.size inb)).write (Elt F) fd
        (k9_pay1 (X true c)) Finset.univ i = gathered X true 0 c i :=
  eq_of_read (b := true) (by
    rw [read_slotB]
    funext x
    rw [eq_ix2 x]
    refine (shapeCast_1ab_ab_apply (a := 1024) (b := 1024)
      ((rowB 0).view.read (Elt F) (((rowB 0).view).write (Elt F) fd (k9_pay1 (X true c)) Finset.univ))
      squeezes_S1x1024x1024_S1024x1024.numel_eq.symm (x 0) (x 1)).trans ?_
    rw [View.read_write_univ]
    unfold k9_pay1
    rw [shapeCast_self]
    exact shapeCast_ab_1ab_apply (a := 1024) (b := 1024) (X true c) squeezes_S1x1024x1024_S1024x1024.numel_eq (0 : Fin 1) (x 0) (x 1))

end Cert.KernelIdeal.Gen

end
-- ==== Proof.Ideal.Protocol.lean ====
module

public import proofs.«01_k».proof.Proof.Ideal.Rings

/-!
# The protocol of a ring

On entering its region a device tells both neighbours that it is there. Its word to the neighbour it hears from carries the slots that
neighbour will write: that is what makes the later copies safe. Each of the three hops then copies slot `h` into slot `h + 1` of the next
device. One schedule covers the cells of both rings.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Gen

variable {F : FTy → Type} [FloatOps F]

/-- The ghost state: the pipeline library's, the rings', the exchange's, and the counters of local copies. -/
abbrev UU : Type := UR sig nD τ × ((URounds (GSem nD τ sig) Bool × URounds (GSem nD τ sig) (Fin 3)) × Counters)

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) :=
  ((Emb.inl : Emb (URounds (GSem nD τ sig) Bool) (URounds (GSem nD τ sig) Bool × URounds (GSem nD τ sig) (Fin 3))).trans
    (Emb.inl : Emb _ ((URounds (GSem nD τ sig) Bool × URounds (GSem nD τ sig) (Fin 3)) × Counters))).trans embR
abbrev EX : Emb (URounds (GSem nD τ sig) (Fin 3)) (MT nD τ sig Unit (Elt F) ℕ UU ℕ) :=
  ((Emb.inr : Emb (URounds (GSem nD τ sig) (Fin 3)) (URounds (GSem nD τ sig) Bool × URounds (GSem nD τ sig) (Fin 3))).trans
    (Emb.inl : Emb _ ((URounds (GSem nD τ sig) Bool × URounds (GSem nD τ sig) (Fin 3)) × Counters))).trans embR

/-! ## Slots as resources -/

/-- What a hop adds to the two semaphores it completes on. -/
abbrev N (b : Bool) : ℕ := (slotM b 0).view.dmaCredit
theorem N_pos (b : Bool) : 0 < N b := View.dmaCredit_pos _ (by cases b <;> decide)
theorem N_slot (b : Bool) (h : Fin 4) : (slotM b h).view.dmaCredit = N b := by cases b <;> rfl

/-- Share `q` of slot `h` of device `c`, holding `f`. -/
abbrev slotPts (b : Bool) (c : Dev nD) (h : Fin 4) (q : PosShare TreeShare) (f : (slotM b h).view.ty.Contents (Elt F)) : sProp 𝕄 :=
  (slotM b h).view.loc (c : Thread nD τ) ↦[(slotM b h).view.set]{q} f

/-- Slot `h`, whatever it holds. -/
def slotAny (b : Bool) (c : Dev nD) (h : Fin 4) : sProp 𝕄 := iprop(∃ f, slotPts (F := F) b c h fullShare f)

/-- The share of a slot a hop reads from: all of it on the first ring; half of it on the second, where the slot is also multiplied from
    while the copy is under way. -/
abbrev sendShare : Bool → PosShare TreeShare
  | false => fullShare
  | true => fullShare.left

/-! ## The schedule -/

/-- What the next device hands over with its word to device `c`'s barrier: its three slots to be written, and that its arrival cells are open. -/
def barPay (b : Bool) (c : Dev nD) : sProp 𝕄 :=
  iprop((slotAny b (nxt b c) 1 ∗ slotAny b (nxt b c) 2 ∗ slotAny b (nxt b c) 3)
    ∗ reached ER (recvCell b 0 (nxt b c)) 0 ∗ reached ER (recvCell b 1 (nxt b c)) 0 ∗ reached ER (recvCell b 2 (nxt b c)) 0)
/-- What comes back when hop `h` has been sent. -/
def sendPay (X : Blocks F) (b : Bool) (h : Fin 3) (c : Dev nD) : sProp 𝕄 := slotPts b c h.castSucc (sendShare b) (gathered X b h.castSucc c)
/-- What comes with the arrival of hop `h`. -/
def recvPay (X : Blocks F) (b : Bool) (h : Fin 3) (c : Dev nD) : sProp 𝕄 := slotPts b c h.succ fullShare (gathered X b h.succ c)

/-- The duties of a cell, by its role: both neighbours' words on a barrier, one landing on a hop's cells. -/
def roleDuties : Role → Finset Bool
  | .bar _ => Finset.univ
  | .send _ _ | .recv _ _ => {false}
  | _ => ∅
/-- The amount of a duty. -/
def roleAmount : Role → ℕ
  | .send b _ | .recv b _ => N b
  | _ => 1
/-- What a duty carries. -/
def rolePay (X : Blocks F) (c : Dev nD) (d : Bool) : Role → sProp 𝕄
  | .bar b => if d then barPay b c else iprop(emp)
  | .send b h => sendPay X b h c
  | .recv b h => recvPay X b h c
  | _ => iprop(emp)

/-- One round on every cell. -/
def ringRd (X : Blocks F) : Rounds.Schedule (GSem nD τ sig) Bool 𝕄 where
  duties g r := if r = 0 ∧ g.1.2 = .tc then roleDuties (role g.2) else ∅
  unitless _ := False
  amount g _ _ := roleAmount (role g.2)
  payload g _ d := rolePay X g.1.1 d (role g.2)
  amount_pos g _ _ _ := by
    cases role g.2 with
    | bar b => exact Nat.one_pos
    | send b h => exact N_pos b
    | recv b h => exact N_pos b
    | _ => exact Nat.one_pos

instance slotPts_storable (b : Bool) (c : Dev nD) (h : Fin 4) (q : PosShare TreeShare) (f : (slotM b h).view.ty.Contents (Elt F)) :
    BI.Storable (upEmb : UEmb _ 𝕄) (slotPts b c h q f) := inferInstance
instance slotAny_storable (b : Bool) (c : Dev nD) (h : Fin 4) : BI.Storable (upEmb : UEmb _ 𝕄) (slotAny (F := F) b c h) := by
  unfold slotAny; infer_instance

instance barPay_storable (b : Bool) (c : Dev nD) : BI.Storable (upEmb : UEmb _ 𝕄) (barPay (F := F) b c) := by
  unfold barPay; infer_instance

instance ringRd_storable (X : Blocks F) (g : GSem nD τ sig) (r : ℕ) (d : Bool) :
    BI.Storable (upEmb : UEmb _ 𝕄) ((ringRd (F := F) X).payload g r d) := by
  show BI.Storable upEmb (rolePay X g.1.1 d (role g.2))
  cases role g.2 with
  | bar b =>
    show BI.Storable upEmb (if d then barPay b g.1.1 else iprop(emp))
    split <;> infer_instance
  | send b h => exact slotPts_storable ..
  | recv b h => exact slotPts_storable ..
  | _ => show BI.Storable upEmb iprop(emp); infer_instance

section Sched
variable (X : Blocks F) (b : Bool) (h : Fin 3) (c : Dev nD)

theorem duties_bar : (ringRd X).duties (barCell b c) 0 = Finset.univ := by
  dsimp only [ringRd]; rw [if_pos ⟨rfl, rfl⟩, role_bar]; rfl
theorem duties_send : (ringRd X).duties (sendCell b h c) 0 = {false} := by
  dsimp only [ringRd]; rw [if_pos ⟨rfl, rfl⟩, role_send]; rfl
theorem duties_recv : (ringRd X).duties (recvCell b h c) 0 = {false} := by
  dsimp only [ringRd]; rw [if_pos ⟨rfl, rfl⟩, role_recv]; rfl
theorem duties_later (g : GSem nD τ sig) : ∀ r, 1 ≤ r → (ringRd X).duties g r = ∅ :=
  fun r hr => by dsimp only [ringRd]; rw [if_neg (fun h => by omega)]

theorem amount_bar (d : Bool) : (ringRd X).amount (barCell b c) 0 d = 1 := by dsimp only [ringRd]; rw [role_bar]; rfl
theorem amount_send (d : Bool) : (ringRd X).amount (sendCell b h c) 0 d = N b := by dsimp only [ringRd]; rw [role_send]; rfl
theorem amount_recv (d : Bool) : (ringRd X).amount (recvCell b h c) 0 d = N b := by dsimp only [ringRd]; rw [role_recv]; rfl

theorem payload_bar (d : Bool) : (ringRd X).payload (barCell b c) 0 d = if d then barPay b c else iprop(emp) := by
  dsimp only [ringRd]; rw [role_bar]; rfl
theorem payload_send (d : Bool) : (ringRd X).payload (sendCell b h c) 0 d = sendPay X b h c := by dsimp only [ringRd]; rw [role_send]; rfl
theorem payload_recv (d : Bool) : (ringRd X).payload (recvCell b h c) 0 d = recvPay X b h c := by dsimp only [ringRd]; rw [role_recv]; rfl

theorem expect_bar : (ringRd X).expect (barCell b c) 0 = 2 := by
  unfold Schedule.expect Schedule.amountOf
  rw [duties_bar, Finset.sum_congr rfl fun d _ => amount_bar X b c d]; rfl
theorem expect_send : (ringRd X).expect (sendCell b h c) 0 = N b := by
  unfold Schedule.expect Schedule.amountOf; rw [duties_send, Finset.sum_singleton, amount_send]
theorem expect_recv : (ringRd X).expect (recvCell b h c) 0 = N b := by
  unfold Schedule.expect Schedule.amountOf; rw [duties_recv, Finset.sum_singleton, amount_recv]

theorem rest_bar : bigSep ((ringRd X).duties (barCell b c) 0 \ ∅) (fun d => (ringRd X).payload (barCell b c) 0 d) ⊢ (barPay b c : sProp 𝕄) := by
  rw [Finset.sdiff_empty, duties_bar]
  refine (bigSep_elim (Finset.mem_univ true)).trans ?_
  rw [payload_bar, if_pos rfl]
  exact BI.Entails.refl _
theorem rest_send : bigSep ((ringRd X).duties (sendCell b h c) 0 \ ∅) (fun d => (ringRd X).payload (sendCell b h c) 0 d) = sendPay X b h c := by
  rw [Finset.sdiff_empty, duties_send, bigSep_singleton, payload_send]
theorem rest_recv : bigSep ((ringRd X).duties (recvCell b h c) 0 \ ∅) (fun d => (ringRd X).payload (recvCell b h c) 0 d) = recvPay X b h c := by
  rw [Finset.sdiff_empty, duties_recv, bigSep_singleton, payload_recv]

end Sched

/-! ## What a device owes, and in which order -/

/-- The landing hop `h` owes the next device. -/
abbrev hopDue (b : Bool) (c : Dev nD) (h : Fin 3) : CellTallies nD τ sig Unit := tallyAt (recvCell b h (nxt b c)) () (N b)
/-- The words owed to the two neighbours' barriers. -/
abbrev nxtDue (b : Bool) (c : Dev nD) : CellTallies nD τ sig Unit := tallyAt (barCell b (nxt b c)) () 1
abbrev prvDue (b : Bool) (c : Dev nD) : CellTallies nD τ sig Unit := tallyAt (barCell b (prv b c)) () 1

/-- What is owed on top of `D` before hop `k`. -/
def hopsLeft (D : CellTallies nD τ sig Unit) (b : Bool) (c : Dev nD) : Fin 4 → CellTallies nD τ sig Unit
  | 3 => D
  | 2 => D + hopDue b c 2
  | 1 => D + hopDue b c 2 + hopDue b c 1
  | 0 => D + hopDue b c 2 + hopDue b c 1 + hopDue b c 0

theorem hopsLeft_hop (D : CellTallies nD τ sig Unit) (b : Bool) (c : Dev nD) (h : Fin 3) :
    hopsLeft D b c h.castSucc = hopsLeft D b c h.succ + hopDue b c h := by
  match h with
  | 0 => rfl
  | 1 => rfl
  | 2 => rfl

/-- All a device owes for a ring, on entering its region, on top of `D`. -/
def ringDue (D : CellTallies nD τ sig Unit) (b : Bool) (c : Dev nD) : CellTallies nD τ sig Unit :=
  hopsLeft D b c 0 + nxtDue b c + prvDue b c

theorem ringDue_eq (D : CellTallies nD τ sig Unit) (b : Bool) (c : Dev nD) : ringDue D b c = D + ringDue 0 b c := by
  unfold ringDue hopsLeft; simp only [zero_add, add_assoc]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- A ring's barrier is at this level, its arrivals at the three levels after; the exchange's barrier and arrivals are below both rings. -/
abbrev base : Bool → ℕ
  | false => 3
  | true => 7
def roleLevel : Role → ℕ
  | .bar b => base b
  | .recv b h => base b + 1 + h.val
  | .xbar => 1
  | .xrecv _ _ => 2
  | _ => 0
def lv (g : GSem nD τ sig) (_ : Unit) : ℕ := roleLevel (role g.2)

/-- Everything owed lies above level `n`. -/
def Above (O : CellTallies nD τ sig Unit) (n : ℕ) : Prop := ∀ g u, 0 < O g u → u ∈ L g ∧ n < lv g u

theorem above_zero (n : ℕ) : Above 0 n := fun _ _ h => absurd h (Nat.lt_irrefl 0)
theorem Above.mono {O : CellTallies nD τ sig Unit} {n k : ℕ} (h : Above O n) (hk : k ≤ n) : Above O k :=
  fun g u hg => ⟨(h g u hg).1, lt_of_le_of_lt hk (h g u hg).2⟩
theorem Above.add {O P : CellTallies nD τ sig Unit} {n : ℕ} (hO : Above O n) (hP : Above P n) : Above (O + P) n := fun g u h => by
  rw [Pi.add_apply, Finsupp.add_apply] at h
  rcases Nat.add_pos_iff_pos_or_pos.mp h with h | h
  · exact hO g u h
  · exact hP g u h
theorem above_tally (d : Dev nD) (sm : SemLoc sig) (k n : ℕ) (hn : n < roleLevel (role sm)) : Above (tallyAt ((d : Thread nD τ), sm) () k) n :=
  fun g u h => by
    rw [tallyAt_apply] at h
    by_cases e : g = ((d : Thread nD τ), sm) ∧ u = ()
    · rw [e.1, L_tc]; exact ⟨Finset.mem_singleton_self _, hn⟩
    · rw [if_neg e] at h; exact absurd h (Nat.lt_irrefl 0)

theorem above_hop (b : Bool) (c : Dev nD) (h : Fin 3) (n : ℕ) (hn : n < base b + 1 + h.val) : Above (hopDue b c h) n :=
  above_tally _ _ _ _ (by rw [role_recv]; exact hn)

theorem above_hopsLeft {D : CellTallies nD τ sig Unit} (b : Bool) (c : Dev nD) (k : Fin 4) (n : ℕ) (hD : Above D n) (hn : n < base b + 1 + k.val) :
    Above (hopsLeft D b c k) n := by
  match k with
  | 3 => exact hD
  | 2 => exact hD.add (above_hop _ _ _ _ hn)
  | 1 => exact (hD.add (above_hop _ _ _ _ (lt_trans hn (by simp)))).add (above_hop _ _ _ _ hn)
  | 0 => exact ((hD.add (above_hop _ _ _ _ (lt_trans hn (by simp)))).add (above_hop _ _ _ _ (lt_trans hn (by simp)))).add (above_hop _ _ _ _ hn)

theorem above_ringDue {D : CellTallies nD τ sig Unit} (b : Bool) (c : Dev nD) (n : ℕ) (hD : Above D n) (hn : n < base b) : Above (ringDue D b c) n :=
  ((above_hopsLeft b c 0 n hD (by omega)).add (above_tally _ _ _ _ (by rw [role_bar]; exact hn))).add
    (above_tally _ _ _ _ (by rw [role_bar]; exact hn))

theorem mayWait (c : Dev nD) (sm : SemLoc sig) (O : CellTallies nD τ sig Unit) (h : Above O (roleLevel (role sm))) :
    (levAts L lv : sProp 𝕄) ⊢ MayWait (c : Thread nD τ) sm () O :=
  MayOwe.of_cut (L := L) (lev := lv) (roleLevel (role sm)) (fun p hp => by rw [Finset.mem_singleton.mp hp, L_tc]; exact Finset.mem_singleton_self _)
    (fun g u hg => (h g u hg).1) (fun p hp => by rw [Finset.mem_singleton.mp hp]; exact le_refl _) (fun g u hg => (h g u hg).2)

/-! ## The cells, and what every device may consult -/

theorem barS_inj : Function.Injective fun b : Bool => (SemLoc.reg (barS b) : SemLoc sig) := by decide
/-- The scoped semaphores of the rings: of ring `b`, for sending or arriving, of hop `h`. -/
abbrev scSem : Bool × Bool × Fin 3 → SemLoc sig
  | (b, false, h) => .dma (sendS b h)
  | (b, true, h) => .dma (recvS b h)
theorem scSem_inj : Function.Injective scSem := by decide
theorem scSem_ne_bar : ∀ (k : Bool × Bool × Fin 3) (b : Bool), scSem k ≠ .reg (barS b) := by decide

def barEmb : Dev nD × Bool ↪ GSem nD τ sig :=
  ⟨fun cb => barCell cb.2 cb.1, fun _ _ h => Prod.ext (congrArg (fun g : GSem nD τ sig => g.1.1) h) (barS_inj (congrArg Prod.snd h))⟩
def scEmb : Dev nD × (Bool × Bool × Fin 3) ↪ GSem nD τ sig :=
  ⟨fun ck => ((ck.1 : Thread nD τ), scSem ck.2), fun _ _ h =>
    Prod.ext (congrArg (fun g : GSem nD τ sig => g.1.1) h) (scSem_inj (congrArg Prod.snd h))⟩

abbrev barCells : Finset (GSem nD τ sig) := Finset.univ.map barEmb
abbrev scCells : Finset (GSem nD τ sig) := Finset.univ.map scEmb

theorem bar_mem (b : Bool) (c : Dev nD) : barCell b c ∈ (barCells ∪ scCells : Finset (GSem nD τ sig)) :=
  Finset.mem_union_left _ (Finset.mem_map_of_mem barEmb (Finset.mem_univ (c, b)))
theorem send_mem (b : Bool) (h : Fin 3) (c : Dev nD) : sendCell b h c ∈ (barCells ∪ scCells : Finset (GSem nD τ sig)) :=
  Finset.mem_union_right _ (Finset.mem_map_of_mem scEmb (Finset.mem_univ (c, (b, false, h))))
theorem recv_mem (b : Bool) (h : Fin 3) (c : Dev nD) : recvCell b h c ∈ (barCells ∪ scCells : Finset (GSem nD τ sig)) :=
  Finset.mem_union_right _ (Finset.mem_map_of_mem scEmb (Finset.mem_univ (c, (b, true, h))))

/-- All the invariants, under one map of names; and that round 0 of every barrier cell is reached. -/
def records (X : Blocks F) (κ : GSem nD τ sig → ℕ) : sProp 𝕄 :=
  iprop((bigSep (barCells ∪ scCells) fun g => cellInv ER (ringRd X) (κ g) g) ∗ bigSep barCells fun g => reached ER g 0)

instance records_persistent (X : Blocks F) (κ : GSem nD τ sig → ℕ) : BI.Persistent (records X κ) := by unfold records; infer_instance

theorem inv_at (X : Blocks F) (κ : GSem nD τ sig → ℕ) {g : GSem nD τ sig} (hg : g ∈ (barCells ∪ scCells : Finset (GSem nD τ sig))) :
    records X κ ⊢ cellInv ER (ringRd X) (κ g) g := by
  unfold records
  have e : (bigSep (barCells ∪ scCells) fun g => (cellInv ER (ringRd X) (κ g) g : sProp 𝕄)) ⊢ cellInv ER (ringRd X) (κ g) g := bigSep_elim hg
  iintro ⟨H, -⟩
  iapply e $$ H

theorem reached_at (X : Blocks F) (κ : GSem nD τ sig → ℕ) (b : Bool) (c : Dev nD) : records X κ ⊢ reached ER (barCell b c) 0 := by
  unfold records
  have e : (bigSep barCells fun g => (reached ER g 0 : sProp 𝕄)) ⊢ reached ER (barCell b c) 0 :=
    bigSep_elim (Finset.mem_map_of_mem barEmb (Finset.mem_univ (c, b)))
  iintro ⟨-, H⟩
  iapply e $$ H

/-- Something for each of the three hops. -/
abbrev tri (Φ : Fin 3 → sProp 𝕄) : sProp 𝕄 := iprop(Φ 0 ∗ Φ 1 ∗ Φ 2)

/-- What device `c` carries from the launch to ring `b`'s region: its place at its barrier, the right to open its six other cells, the
    tokens of the duties it pays, and the credit of the arrivals it waits for. -/
def carried (b : Bool) (c : Dev nD) : sProp 𝕄 :=
  iprop(atPos ER (barCell b c) 0 ∅ 0
    ∗ (tri fun h => openTok ER (sendCell b h c)) ∗ (tri fun h => openTok ER (recvCell b h c))
    ∗ dutyTok ER (barCell b (prv b c)) 0 true ∗ dutyTok ER (barCell b (nxt b c)) 0 false
    ∗ (tri fun h => dutyTok ER (sendCell b h c) 0 false) ∗ (tri fun h => dutyTok ER (recvCell b h (nxt b c)) 0 false)
    ∗ cred (tallyAt (barCell b c) () 2) ∗ (tri fun h => cred (tallyAt (recvCell b h c) () (N b))))

/-- What a hop needs besides the slots. -/
def hopKit (b : Bool) (c : Dev nD) (h : Fin 3) : sProp 𝕄 :=
  iprop(atPos ER (sendCell b h c) 0 ∅ 0 ∗ reached ER (sendCell b h c) 0 ∗ atPos ER (recvCell b h c) 0 ∅ 0
    ∗ dutyTok ER (sendCell b h c) 0 false ∗ dutyTok ER (recvCell b h (nxt b c)) 0 false ∗ cred (tallyAt (recvCell b h c) () (N b)))

/-- The same once the six cells are open. -/
def opened (b : Bool) (c : Dev nD) : sProp 𝕄 :=
  iprop(atPos ER (barCell b c) 0 ∅ 0 ∗ (tri fun h => reached ER (recvCell b h c) 0)
    ∗ dutyTok ER (barCell b (prv b c)) 0 true ∗ dutyTok ER (barCell b (nxt b c)) 0 false
    ∗ cred (tallyAt (barCell b c) () 2) ∗ tri (hopKit b c))

/-- What device `c` owes, whatever it has waited for. -/
def owing (c : Dev nD) (O : CellTallies nD τ sig Unit) : sProp 𝕄 := iprop(∃ W, owes (c : Thread nD τ) O W)

end Cert.KernelIdeal.Gen

end
-- ==== Proof.Ideal.ExSlots.lean ====
module

public import proofs.«01_k».proof.Proof.Ideal.Protocol

/-!
# The exchange: cells and slots

In the exchange every device sends three blocks to each of the three others of its group along the third axis: its rows of the compressed
input, and for either decompression weight the rows that the other device's columns of the product need. Each of its three results has four
slots: slot 0 its own block, slot `e` the block of the device `e` steps back.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

namespace Cert.KernelIdeal.Gen

variable {F : FTy → Type} [FloatOps F]

/-- The device `d + 1` steps ahead. -/
def pz (d : Fin 3) (c : Dev nD) : Dev nD := ⟨c.val / 4 * 4 + (c.val % 4 + d.val + 1) % 4, by have := c.isLt; simp only [nD] at *; omega⟩

theorem pz_rev (d : Fin 3) (c : Dev nD) : pz d.rev (pz d c) = c := by revert d c; decide
theorem pz_rev' (d : Fin 3) (c : Dev nD) : pz d (pz d.rev c) = c := by revert d c; decide
theorem back_pz (d : Fin 3) (c : Dev nD) : back true d.succ.val (pz d c) = c := by revert d c; decide
/-- The step of `d + 1`, as a permutation of the devices. -/
def pzEquiv (d : Fin 3) : Dev nD ≃ Dev nD := ⟨pz d, pz d.rev, pz_rev d, pz_rev' d⟩

theorem dev1_1 (c : Dev nD) : (⟨k1_dev1 c, k1_dev1_lt c⟩ : Dev nD) = pz 0 c := by revert c; decide
theorem dev1_2 (c : Dev nD) : (⟨k1_dev2 c, k1_dev2_lt c⟩ : Dev nD) = pz 1 c := by revert c; decide
theorem dev1_3 (c : Dev nD) : (⟨k1_dev3 c, k1_dev3_lt c⟩ : Dev nD) = pz 2 c := by revert c; decide
theorem dev1_4 (c : Dev nD) : (⟨k1_dev4 c, k1_dev4_lt c⟩ : Dev nD) = pz 0 c := by revert c; decide
theorem dev1_5 (c : Dev nD) : (⟨k1_dev5 c, k1_dev5_lt c⟩ : Dev nD) = pz 0 c := by revert c; decide
theorem dev1_6 (c : Dev nD) : (⟨k1_dev6 c, k1_dev6_lt c⟩ : Dev nD) = pz 0 c := by revert c; decide
theorem dev1_7 (c : Dev nD) : (⟨k1_dev7 c, k1_dev7_lt c⟩ : Dev nD) = pz 1 c := by revert c; decide
theorem dev1_8 (c : Dev nD) : (⟨k1_dev8 c, k1_dev8_lt c⟩ : Dev nD) = pz 1 c := by revert c; decide
theorem dev1_9 (c : Dev nD) : (⟨k1_dev9 c, k1_dev9_lt c⟩ : Dev nD) = pz 1 c := by revert c; decide
theorem dev1_10 (c : Dev nD) : (⟨k1_dev10 c, k1_dev10_lt c⟩ : Dev nD) = pz 2 c := by revert c; decide
theorem dev1_11 (c : Dev nD) : (⟨k1_dev11 c, k1_dev11_lt c⟩ : Dev nD) = pz 2 c := by revert c; decide
theorem dev1_12 (c : Dev nD) : (⟨k1_dev12 c, k1_dev12_lt c⟩ : Dev nD) = pz 2 c := by revert c; decide

/-! ## Cells -/

/-- The semaphore on which the copy of block `t` over `d + 1` steps is sent. -/
abbrev xsendS (d t : Fin 3) : DmaSem sig := ⟨18 + 3 * d.val + t.val, by have := d.isLt; have := t.isLt; simp [sig]; omega⟩
/-- The semaphore on which that copy arrives. -/
abbrev xrecvS (d t : Fin 3) : DmaSem sig := ⟨27 + 3 * d.val + t.val, by have := d.isLt; have := t.isLt; simp [sig]; omega⟩

abbrev xbarCell (c : Dev nD) : GSem nD τ sig := ((c : Thread nD τ), .reg barrier0)
abbrev xsendCell (d t : Fin 3) (c : Dev nD) : GSem nD τ sig := ((c : Thread nD τ), .dma (xsendS d t))
abbrev xrecvCell (d t : Fin 3) (c : Dev nD) : GSem nD τ sig := ((c : Thread nD τ), .dma (xrecvS d t))

theorem role_xbar : role (.reg barrier0) = .xbar := by decide
theorem role_xsend (d t : Fin 3) : role (.dma (xsendS d t)) = .xsend d t := by revert d t; decide
theorem role_xrecv (d t : Fin 3) : role (.dma (xrecvS d t)) = .xrecv d t := by revert d t; decide

/-! ## Slots and sources -/

/-- The shape of a block. -/
abbrev xS : Fin 3 → Shape
  | 0 => S1024x128
  | 1 => S128x256
  | 2 => S128x256

theorem inbX0 (h : Fin 4) : ∀ a, (![h.val, 0, 0] : Fin 3 → ℕ) a + S1x1024x128.size a ≤ S4x1024x128.size a := by revert h; decide
/-- Slot `h` of the first result, with its leading axis of one. -/
abbrev rowX0 (h : Fin 4) : Memref sig .tc .vmem S1x1024x128 .bf16 :=
  (Memref.whole cc1_stg9_0 : Memref sig .tc .vmem S4x1024x128 .bf16).slice (Rect.unit (s := S4x1024x128) ![h.val, 0, 0] S1x1024x128.size (inbX0 h)) (fun _ => rfl)
theorem inbX1 (h : Fin 4) : ∀ a, (![h.val, 0, 0] : Fin 3 → ℕ) a + S1x128x256.size a ≤ S4x128x256.size a := by revert h; decide
/-- Slot `h` of the second result, with its leading axis of one. -/
abbrev rowX1 (h : Fin 4) : Memref sig .tc .vmem S1x128x256 .bf16 :=
  (Memref.whole cc1_stg10_0 : Memref sig .tc .vmem S4x128x256 .bf16).slice (Rect.unit (s := S4x128x256) ![h.val, 0, 0] S1x128x256.size (inbX1 h)) (fun _ => rfl)
theorem inbX2 (h : Fin 4) : ∀ a, (![h.val, 0, 0] : Fin 3 → ℕ) a + S1x128x256.size a ≤ S4x128x256.size a := by revert h; decide
/-- Slot `h` of the third result, with its leading axis of one. -/
abbrev rowX2 (h : Fin 4) : Memref sig .tc .vmem S1x128x256 .bf16 :=
  (Memref.whole cc1_stg11_0 : Memref sig .tc .vmem S4x128x256 .bf16).slice (Rect.unit (s := S4x128x256) ![h.val, 0, 0] S1x128x256.size (inbX2 h)) (fun _ => rfl)

/-- Slot `h` of result `t`. -/
abbrev xslot : (t : Fin 3) → Fin 4 → Memref sig .tc .vmem (xS t) .bf16
  | 0, h => (rowX0 h).squeeze S1024x128 squeezes_S1x1024x128_S1024x128
  | 1, h => (rowX1 h).squeeze S128x256 squeezes_S1x128x256_S128x256
  | 2, h => (rowX2 h).squeeze S128x256 squeezes_S1x128x256_S128x256

/-- Where the block of kind `t` for the device `d + 1` steps ahead is read. -/
abbrev xsrc : (t : Fin 3) → Fin 3 → Memref sig .tc .vmem (xS t) .bf16
  | 0, _ => Memref.whole cc1_stg0_0
  | 1, 0 => Memref.whole cc1_stg3_0
  | 1, 1 => Memref.whole cc1_stg4_0
  | 1, 2 => Memref.whole cc1_stg5_0
  | 2, 0 => Memref.whole cc1_stg6_0
  | 2, 1 => Memref.whole cc1_stg7_0
  | 2, 2 => Memref.whole cc1_stg8_0

/-- A block as the contents of the buffer it is read from. -/
abbrev xput : (t : Fin 3) → (d : Fin 3) → Vec F (xS t) .bf16 → (xsrc t d).view.ty.Contents (Elt F)
  | 0, _, v => v
  | 1, 0, v => v
  | 1, 1, v => v
  | 1, 2, v => v
  | 2, 0, v => v
  | 2, 1, v => v
  | 2, 2, v => v

theorem read_xput (t d : Fin 3) (v : Vec F (xS t) .bf16) : (xsrc t d).view.read (Elt F) (xput t d v) = v := by
  fin_cases t <;> fin_cases d <;> rfl

/-- The elements of slot `h` of the first result: those whose first coordinate is `h`. -/
theorem mem_xslot0 (h : Fin 4) (i : S4x1024x128.Idx) : i ∈ (xslot 0 h).view.set ↔ (i 0).val = h.val := by
  have e : (xslot 0 h).view.set = (rowX0 h).view.set := View.set_reshape _ _
  have e2 : (rowX0 h).view.set = (Rect.unit (s := S4x1024x128) ![h.val, 0, 0] S1x1024x128.size (inbX0 h)).set := View.set_slice_whole _ _
  rw [e, e2, Rect.mem_set_unit]
  constructor
  · intro hi
    have h0 : h.val ≤ (i 0).val ∧ (i 0).val < h.val + 1 := hi 0
    omega
  · intro hi a
    match a with
    | ⟨0, _⟩ => exact ⟨hi.ge, by show (i 0).val < h.val + 1; omega⟩
    | ⟨1, _⟩ => exact ⟨Nat.zero_le _, by show (i 1).val < 0 + 1024; have := (i 1).isLt; simpa using this⟩
    | ⟨2, _⟩ => exact ⟨Nat.zero_le _, by show (i 2).val < 0 + 128; have := (i 2).isLt; simpa using this⟩

/-- The elements of slot `h` of the second result: those whose first coordinate is `h`. -/
theorem mem_xslot1 (h : Fin 4) (i : S4x128x256.Idx) : i ∈ (xslot 1 h).view.set ↔ (i 0).val = h.val := by
  have e : (xslot 1 h).view.set = (rowX1 h).view.set := View.set_reshape _ _
  have e2 : (rowX1 h).view.set = (Rect.unit (s := S4x128x256) ![h.val, 0, 0] S1x128x256.size (inbX1 h)).set := View.set_slice_whole _ _
  rw [e, e2, Rect.mem_set_unit]
  constructor
  · intro hi
    have h0 : h.val ≤ (i 0).val ∧ (i 0).val < h.val + 1 := hi 0
    omega
  · intro hi a
    match a with
    | ⟨0, _⟩ => exact ⟨hi.ge, by show (i 0).val < h.val + 1; omega⟩
    | ⟨1, _⟩ => exact ⟨Nat.zero_le _, by show (i 1).val < 0 + 128; have := (i 1).isLt; simpa using this⟩
    | ⟨2, _⟩ => exact ⟨Nat.zero_le _, by show (i 2).val < 0 + 256; have := (i 2).isLt; simpa using this⟩

/-- The elements of slot `h` of the third result: those whose first coordinate is `h`. -/
theorem mem_xslot2 (h : Fin 4) (i : S4x128x256.Idx) : i ∈ (xslot 2 h).view.set ↔ (i 0).val = h.val := by
  have e : (xslot 2 h).view.set = (rowX2 h).view.set := View.set_reshape _ _
  have e2 : (rowX2 h).view.set = (Rect.unit (s := S4x128x256) ![h.val, 0, 0] S1x128x256.size (inbX2 h)).set := View.set_slice_whole _ _
  rw [e, e2, Rect.mem_set_unit]
  constructor
  · intro hi
    have h0 : h.val ≤ (i 0).val ∧ (i 0).val < h.val + 1 := hi 0
    omega
  · intro hi a
    match a with
    | ⟨0, _⟩ => exact ⟨hi.ge, by show (i 0).val < h.val + 1; omega⟩
    | ⟨1, _⟩ => exact ⟨Nat.zero_le _, by show (i 1).val < 0 + 128; have := (i 1).isLt; simpa using this⟩
    | ⟨2, _⟩ => exact ⟨Nat.zero_le _, by show (i 2).val < 0 + 256; have := (i 2).isLt; simpa using this⟩

/-! ## What the slots hold -/

/-- The blocks of the exchange: of kind `t`, for the device `e` steps ahead, made by each device. -/
abbrev XBlocks (F : FTy → Type) : Type := (t : Fin 3) → Fin 4 → Dev nD → Vec F (xS t) .bf16

/-- Result `t` on device `c` once everything has arrived, as slot `h` of it sees it (the same at every `h`). -/
def xgathered (B : XBlocks F) : (t : Fin 3) → (h : Fin 4) → Dev nD → (xslot t h).view.ty.Contents (Elt F)
  | 0, _, c => fun i : S4x1024x128.Idx => B 0 (i 0) (back true (i 0).val c) (ValueIdx.ix2 (i 1) (i 2))
  | 1, _, c => fun i : S4x128x256.Idx => B 1 (i 0) (back true (i 0).val c) (ValueIdx.ix2 (i 1) (i 2))
  | 2, _, c => fun i : S4x128x256.Idx => B 2 (i 0) (back true (i 0).val c) (ValueIdx.ix2 (i 1) (i 2))

theorem read_xslot0 (B : XBlocks F) (h : Fin 4) (c : Dev nD) :
    (xslot 0 h).view.read (Elt F) (xgathered B 0 h c) = B 0 h (back true h.val c) := by
  funext x
  rw [eq_ix2 x]
  refine (shapeCast_1ab_ab_apply (a := 1024) (b := 128)
    (fun y => xgathered B 0 h c ((Rect.unit (s := S4x1024x128) ![h.val, 0, 0] S1x1024x128.size (inbX0 h)).emb y))
    squeezes_S1x1024x128_S1024x128.numel_eq.symm (x 0) (x 1)).trans ?_
  generalize hy : (Rect.unit (s := S4x1024x128) ![h.val, 0, 0] S1x1024x128.size (inbX0 h)).emb (ValueIdx.ix3 (0 : Fin 1) (x 0) (x 1)) = y
  have e (a : Fin 3) : ((Rect.unit (s := S4x1024x128) ![h.val, 0, 0] S1x1024x128.size (inbX0 h)).emb (ValueIdx.ix3 (0 : Fin 1) (x 0) (x 1)) a : ℕ)
      = (![h.val, 0, 0] : Fin 3 → ℕ) a + 1 * (ValueIdx.ix3 (0 : Fin 1) (x 0) (x 1) a).val := Rect.emb_apply ..
  rw [hy] at e
  have e0 : (y 0 : Fin 4) = h := Fin.ext (e 0)
  have e1 : y 1 = x 0 := Fin.ext ((e 1).trans ((Nat.zero_add _).trans (Nat.one_mul _)))
  have e2 : y 2 = x 1 := Fin.ext ((e 2).trans ((Nat.zero_add _).trans (Nat.one_mul _)))
  show B 0 (y 0 : Fin 4) (back true (y 0 : Fin 4).val c) (ValueIdx.ix2 (y 1) (y 2)) = _
  rw [e0, e1, e2]; rfl

theorem read_xslot1 (B : XBlocks F) (h : Fin 4) (c : Dev nD) :
    (xslot 1 h).view.read (Elt F) (xgathered B 1 h c) = B 1 h (back true h.val c) := by
  funext x
  rw [eq_ix2 x]
  refine (shapeCast_1ab_ab_apply (a := 128) (b := 256)
    (fun y => xgathered B 1 h c ((Rect.unit (s := S4x128x256) ![h.val, 0, 0] S1x128x256.size (inbX1 h)).emb y))
    squeezes_S1x128x256_S128x256.numel_eq.symm (x 0) (x 1)).trans ?_
  generalize hy : (Rect.unit (s := S4x128x256) ![h.val, 0, 0] S1x128x256.size (inbX1 h)).emb (ValueIdx.ix3 (0 : Fin 1) (x 0) (x 1)) = y
  have e (a : Fin 3) : ((Rect.unit (s := S4x128x256) ![h.val, 0, 0] S1x128x256.size (inbX1 h)).emb (ValueIdx.ix3 (0 : Fin 1) (x 0) (x 1)) a : ℕ)
      = (![h.val, 0, 0] : Fin 3 → ℕ) a + 1 * (ValueIdx.ix3 (0 : Fin 1) (x 0) (x 1) a).val := Rect.emb_apply ..
  rw [hy] at e
  have e0 : (y 0 : Fin 4) = h := Fin.ext (e 0)
  have e1 : y 1 = x 0 := Fin.ext ((e 1).trans ((Nat.zero_add _).trans (Nat.one_mul _)))
  have e2 : y 2 = x 1 := Fin.ext ((e 2).trans ((Nat.zero_add _).trans (Nat.one_mul _)))
  show B 1 (y 0 : Fin 4) (back true (y 0 : Fin 4).val c) (ValueIdx.ix2 (y 1) (y 2)) = _
  rw [e0, e1, e2]; rfl

theorem read_xslot2 (B : XBlocks F) (h : Fin 4) (c : Dev nD) :
    (xslot 2 h).view.read (Elt F) (xgathered B 2 h c) = B 2 h (back true h.val c) := by
  funext x
  rw [eq_ix2 x]
  refine (shapeCast_1ab_ab_apply (a := 128) (b := 256)
    (fun y => xgathered B 2 h c ((Rect.unit (s := S4x128x256) ![h.val, 0, 0] S1x128x256.size (inbX2 h)).emb y))
    squeezes_S1x128x256_S128x256.numel_eq.symm (x 0) (x 1)).trans ?_
  generalize hy : (Rect.unit (s := S4x128x256) ![h.val, 0, 0] S1x128x256.size (inbX2 h)).emb (ValueIdx.ix3 (0 : Fin 1) (x 0) (x 1)) = y
  have e (a : Fin 3) : ((Rect.unit (s := S4x128x256) ![h.val, 0, 0] S1x128x256.size (inbX2 h)).emb (ValueIdx.ix3 (0 : Fin 1) (x 0) (x 1)) a : ℕ)
      = (![h.val, 0, 0] : Fin 3 → ℕ) a + 1 * (ValueIdx.ix3 (0 : Fin 1) (x 0) (x 1) a).val := Rect.emb_apply ..
  rw [hy] at e
  have e0 : (y 0 : Fin 4) = h := Fin.ext (e 0)
  have e1 : y 1 = x 0 := Fin.ext ((e 1).trans ((Nat.zero_add _).trans (Nat.one_mul _)))
  have e2 : y 2 = x 1 := Fin.ext ((e 2).trans ((Nat.zero_add _).trans (Nat.one_mul _)))
  show B 2 (y 0 : Fin 4) (back true (y 0 : Fin 4).val c) (ValueIdx.ix2 (y 1) (y 2)) = _
  rw [e0, e1, e2]; rfl

/-- Reading slot `h` gives the block of the device `h` steps back. -/
theorem read_xslot (B : XBlocks F) (t : Fin 3) (h : Fin 4) (c : Dev nD) :
    (xslot t h).view.read (Elt F) (xgathered B t h c) = B t h (back true h.val c) := by
  match t with
  | 0 => exact read_xslot0 B h c
  | 1 => exact read_xslot1 B h c
  | 2 => exact read_xslot2 B h c

theorem xeq_of_read {t : Fin 3} {h : Fin 4} {f g : (xslot t h).view.ty.Contents (Elt F)}
    (e : (xslot t h).view.read (Elt F) f = (xslot t h).view.read (Elt F) g) : ∀ i ∈ (xslot t h).view.set, f i = g i := by
  intro i hi
  obtain ⟨x, -, rfl⟩ := Finset.mem_map.1 hi
  have := congrFun e x
  rw [View.read_apply, View.read_apply] at this
  exact (cast_inj _).1 this

/-- What a copy leaves in its slot is what that slot is to hold. -/
theorem xlanded (B : XBlocks F) (d t : Fin 3) (c : Dev nD) (fd : (xslot t d.succ).view.ty.Contents (Elt F)) :
    ∀ i ∈ (xslot t d.succ).view.set,
      (xslot t d.succ).view.write (Elt F) fd ((xsrc t d).view.read (Elt F) (xput t d (B t d.succ c))) Finset.univ i
        = xgathered B t d.succ (pz d c) i :=
  xeq_of_read (by rw [View.read_write_univ, read_xslot, read_xput, back_pz])

/-- Storing the own block into slot 0 of the first result. -/
theorem xstored0 (B : XBlocks F) (c : Dev nD) (inb) (fd : (xslot 0 0).view.ty.Contents (Elt F)) :
    ∀ i ∈ (xslot 0 0).view.set,
      ((Memref.whole cc1_stg9_0 : Memref sig .tc .vmem S4x1024x128 .bf16).access (Rect.unit (s := S4x1024x128) ![0, 0, 0] S1x1024x128.size inb)).write (Elt F) fd
        (k1_pay1 (B 0 0 c)) Finset.univ i = xgathered B 0 0 c i :=
  xeq_of_read (t := 0) (by
    rw [read_xslot0]
    funext x
    rw [eq_ix2 x]
    refine (shapeCast_1ab_ab_apply (a := 1024) (b := 128)
      ((rowX0 0).view.read (Elt F) (((rowX0 0).view).write (Elt F) fd (k1_pay1 (B 0 0 c)) Finset.univ))
      squeezes_S1x1024x128_S1024x128.numel_eq.symm (x 0) (x 1)).trans ?_
    rw [View.read_write_univ]
    unfold k1_pay1
    rw [shapeCast_self]
    exact shapeCast_ab_1ab_apply (a := 1024) (b := 128) (B 0 0 c) squeezes_S1x1024x128_S1024x128.numel_eq (0 : Fin 1) (x 0) (x 1))

/-- Storing the own block into slot 0 of the second result. -/
theorem xstored1 (B : XBlocks F) (c : Dev nD) (inb) (fd : (xslot 1 0).view.ty.Contents (Elt F)) :
    ∀ i ∈ (xslot 1 0).view.set,
      ((Memref.whole cc1_stg10_0 : Memref sig .tc .vmem S4x128x256 .bf16).access (Rect.unit (s := S4x128x256) ![0, 0, 0] S1x128x256.size inb)).write (Elt F) fd
        (k1_pay2 (B 1 0 c)) Finset.univ i = xgathered B 1 0 c i :=
  xeq_of_read (t := 1) (by
    rw [read_xslot1]
    funext x
    rw [eq_ix2 x]
    refine (shapeCast_1ab_ab_apply (a := 128) (b := 256)
      ((rowX1 0).view.read (Elt F) (((rowX1 0).view).write (Elt F) fd (k1_pay2 (B 1 0 c)) Finset.univ))
      squeezes_S1x128x256_S128x256.numel_eq.symm (x 0) (x 1)).trans ?_
    rw [View.read_write_univ]
    unfold k1_pay2
    rw [shapeCast_self]
    exact shapeCast_ab_1ab_apply (a := 128) (b := 256) (B 1 0 c) squeezes_S1x128x256_S128x256.numel_eq (0 : Fin 1) (x 0) (x 1))

/-- Storing the own block into slot 0 of the third result. -/
theorem xstored2 (B : XBlocks F) (c : Dev nD) (inb) (fd : (xslot 2 0).view.ty.Contents (Elt F)) :
    ∀ i ∈ (xslot 2 0).view.set,
      ((Memref.whole cc1_stg11_0 : Memref sig .tc .vmem S4x128x256 .bf16).access (Rect.unit (s := S4x128x256) ![0, 0, 0] S1x128x256.size inb)).write (Elt F) fd
        (k1_pay3 (B 2 0 c)) Finset.univ i = xgathered B 2 0 c i :=
  xeq_of_read (t := 2) (by
    rw [read_xslot2]
    funext x
    rw [eq_ix2 x]
    refine (shapeCast_1ab_ab_apply (a := 128) (b := 256)
      ((rowX2 0).view.read (Elt F) (((rowX2 0).view).write (Elt F) fd (k1_pay3 (B 2 0 c)) Finset.univ))
      squeezes_S1x128x256_S128x256.numel_eq.symm (x 0) (x 1)).trans ?_
    rw [View.read_write_univ]
    unfold k1_pay3
    rw [shapeCast_self]
    exact shapeCast_ab_1ab_apply (a := 128) (b := 256) (B 2 0 c) squeezes_S1x128x256_S128x256.numel_eq (0 : Fin 1) (x 0) (x 1))

end Cert.KernelIdeal.Gen

end
-- ==== Proof.Ideal.ExProtocol.lean ====
module

public import proofs.«01_k».proof.Proof.Ideal.ExSlots

/-!
# The exchange: its protocol

On entering, a device tells each of the three others that it is there, handing over the slots that other will write. Then nine copies run at
once, three to each other device; the device's rows of the input are read by three of them, so each of those holds a share.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

namespace Cert.KernelIdeal.Gen

variable {F : FTy → Type} [FloatOps F]

local notation "𝕄" => MT nD τ sig Unit (Elt F) ℕ UU ℕ

/-- What a copy of kind `t` adds to the two semaphores it completes on. -/
abbrev NX (t : Fin 3) : ℕ := (xslot t 0).view.dmaCredit
theorem NX_pos (t : Fin 3) : 0 < NX t := View.dmaCredit_pos _ (by fin_cases t <;> decide)
theorem NX_slot (t : Fin 3) (h : Fin 4) : (xslot t h).view.dmaCredit = NX t := by fin_cases t <;> rfl
theorem NX_src (t d : Fin 3) : (xsrc t d).view.dmaCredit = NX t := by fin_cases t <;> fin_cases d <;> rfl

/-- Slot `h` of result `t` of device `c`, holding `f`. -/
abbrev xslotPts (t : Fin 3) (c : Dev nD) (h : Fin 4) (f : (xslot t h).view.ty.Contents (Elt F)) : sProp 𝕄 :=
  (xslot t h).view.loc (c : Thread nD τ) ↦[(xslot t h).view.set]{fullShare} f
/-- Slot `h`, whatever it holds. -/
def xslotAny (t : Fin 3) (c : Dev nD) (h : Fin 4) : sProp 𝕄 := iprop(∃ f, xslotPts (F := F) t c h f)

/-- The share of its source a copy holds: three copies read the rows of the input at once. -/
abbrev xshare : Fin 3 → Fin 3 → PosShare TreeShare
  | 0, 0 => fullShare.left
  | 0, 1 => fullShare.right.left
  | 0, 2 => fullShare.right.right
  | 1, _ => fullShare
  | 2, _ => fullShare
/-- A copy's source, holding a block. -/
abbrev xsrcPts (t d : Fin 3) (c : Dev nD) (v : Vec F (xS t) .bf16) : sProp 𝕄 :=
  (xsrc t d).view.loc (c : Thread nD τ) ↦[(xsrc t d).view.set]{xshare t d} (xput t d v)

/-! ## The schedule -/

/-- What the device `d + 1` steps ahead hands over: the slots device `c` writes there, and that their arrival cells are open. -/
def xbarPay (d : Fin 3) (c : Dev nD) : sProp 𝕄 :=
  iprop((tri fun t => xslotAny t (pz d c) d.succ) ∗ (tri fun t => reached EX (xrecvCell d t (pz d c)) 0))
def xsendPay (B : XBlocks F) (d t : Fin 3) (c : Dev nD) : sProp 𝕄 := xsrcPts t d c (B t d.succ c)
def xrecvPay (B : XBlocks F) (d t : Fin 3) (c : Dev nD) : sProp 𝕄 := xslotPts t c d.succ (xgathered B t d.succ c)

def xDuties : Role → Finset (Fin 3)
  | .xbar => Finset.univ
  | .xsend _ _ | .xrecv _ _ => {0}
  | _ => ∅
def xAmount : Role → ℕ
  | .xsend _ t | .xrecv _ t => NX t
  | _ => 1
def xPay (B : XBlocks F) (c : Dev nD) (e : Fin 3) : Role → sProp 𝕄
  | .xbar => xbarPay e c
  | .xsend d t => xsendPay B d t c
  | .xrecv d t => xrecvPay B d t c
  | _ => iprop(emp)

/-- One round on every cell. -/
def xRd (B : XBlocks F) : Rounds.Schedule (GSem nD τ sig) (Fin 3) 𝕄 where
  duties g r := if r = 0 ∧ g.1.2 = .tc then xDuties (role g.2) else ∅
  unitless _ := False
  amount g _ _ := xAmount (role g.2)
  payload g _ d := xPay B g.1.1 d (role g.2)
  amount_pos g _ _ _ := by
    cases role g.2 with
    | xsend d t => exact NX_pos t
    | xrecv d t => exact NX_pos t
    | _ => exact Nat.one_pos

instance xslotAny_storable (t : Fin 3) (c : Dev nD) (h : Fin 4) : BI.Storable (upEmb : UEmb _ 𝕄) (xslotAny (F := F) t c h) := by
  unfold xslotAny; infer_instance
instance xbarPay_storable (d : Fin 3) (c : Dev nD) : BI.Storable (upEmb : UEmb _ 𝕄) (xbarPay (F := F) d c) := by
  unfold xbarPay; dsimp only [tri]; infer_instance
instance xsendPay_storable (B : XBlocks F) (d t : Fin 3) (c : Dev nD) : BI.Storable (upEmb : UEmb _ 𝕄) (xsendPay B d t c) := by
  unfold xsendPay; infer_instance
instance xrecvPay_storable (B : XBlocks F) (d t : Fin 3) (c : Dev nD) : BI.Storable (upEmb : UEmb _ 𝕄) (xrecvPay B d t c) := by
  unfold xrecvPay; infer_instance

instance xRd_storable (B : XBlocks F) (g : GSem nD τ sig) (r : ℕ) (d : Fin 3) :
    BI.Storable (upEmb : UEmb _ 𝕄) ((xRd (F := F) B).payload g r d) := by
  show BI.Storable upEmb (xPay B g.1.1 d (role g.2))
  cases role g.2 with
  | xbar => exact xbarPay_storable ..
  | xsend d t => exact xsendPay_storable ..
  | xrecv d t => exact xrecvPay_storable ..
  | _ => show BI.Storable upEmb iprop(emp); infer_instance

section Sched
variable (B : XBlocks F) (d t : Fin 3) (c : Dev nD)

theorem duties_xbar : (xRd B).duties (xbarCell c) 0 = Finset.univ := by
  dsimp only [xRd]; rw [if_pos ⟨rfl, rfl⟩, role_xbar]; rfl
theorem duties_xsend : (xRd B).duties (xsendCell d t c) 0 = {0} := by
  dsimp only [xRd]; rw [if_pos ⟨rfl, rfl⟩, role_xsend]; rfl
theorem duties_xrecv : (xRd B).duties (xrecvCell d t c) 0 = {0} := by
  dsimp only [xRd]; rw [if_pos ⟨rfl, rfl⟩, role_xrecv]; rfl
theorem duties_xlater (g : GSem nD τ sig) : ∀ r, 1 ≤ r → (xRd B).duties g r = ∅ :=
  fun r hr => by dsimp only [xRd]; rw [if_neg (fun h => by omega)]

theorem amount_xbar (e : Fin 3) : (xRd B).amount (xbarCell c) 0 e = 1 := by dsimp only [xRd]; rw [role_xbar]; rfl
theorem amount_xsend (e : Fin 3) : (xRd B).amount (xsendCell d t c) 0 e = NX t := by dsimp only [xRd]; rw [role_xsend]; rfl
theorem amount_xrecv (e : Fin 3) : (xRd B).amount (xrecvCell d t c) 0 e = NX t := by dsimp only [xRd]; rw [role_xrecv]; rfl

theorem payload_xbar (e : Fin 3) : (xRd B).payload (xbarCell c) 0 e = xbarPay e c := by dsimp only [xRd]; rw [role_xbar]; rfl
theorem payload_xsend (e : Fin 3) : (xRd B).payload (xsendCell d t c) 0 e = xsendPay B d t c := by dsimp only [xRd]; rw [role_xsend]; rfl
theorem payload_xrecv (e : Fin 3) : (xRd B).payload (xrecvCell d t c) 0 e = xrecvPay B d t c := by dsimp only [xRd]; rw [role_xrecv]; rfl

theorem expect_xbar : (xRd B).expect (xbarCell c) 0 = 3 := by
  unfold Schedule.expect Schedule.amountOf
  rw [duties_xbar, Finset.sum_congr rfl fun d _ => amount_xbar B c d]; rfl
theorem expect_xsend : (xRd B).expect (xsendCell d t c) 0 = NX t := by
  unfold Schedule.expect Schedule.amountOf; rw [duties_xsend, Finset.sum_singleton, amount_xsend]
theorem expect_xrecv : (xRd B).expect (xrecvCell d t c) 0 = NX t := by
  unfold Schedule.expect Schedule.amountOf; rw [duties_xrecv, Finset.sum_singleton, amount_xrecv]

theorem rest_xbar : bigSep ((xRd B).duties (xbarCell c) 0 \ ∅) (fun d => (xRd B).payload (xbarCell c) 0 d)
    = (tri fun d => xbarPay d c : sProp 𝕄) := by
  have e : (fun d => (xRd B).payload (xbarCell c) 0 d) = fun d => (xbarPay d c : sProp 𝕄) := funext fun d => payload_xbar B c d
  rw [Finset.sdiff_empty, duties_xbar, e]
  exact bigSep_univ_eq_bigSepL [0, 1, 2] (by decide) (by decide) _
theorem rest_xsend : bigSep ((xRd B).duties (xsendCell d t c) 0 \ ∅) (fun e => (xRd B).payload (xsendCell d t c) 0 e) = xsendPay B d t c := by
  rw [Finset.sdiff_empty, duties_xsend, bigSep_singleton, payload_xsend]
theorem rest_xrecv : bigSep ((xRd B).duties (xrecvCell d t c) 0 \ ∅) (fun e => (xRd B).payload (xrecvCell d t c) 0 e) = xrecvPay B d t c := by
  rw [Finset.sdiff_empty, duties_xrecv, bigSep_singleton, payload_xrecv]

end Sched

/-! ## What a device owes -/

/-- The landing of a copy, and a word to another device's barrier. -/
abbrev xDue (d t : Fin 3) (c : Dev nD) : CellTallies nD τ sig Unit := tallyAt (xrecvCell d t (pz d c)) () (NX t)
abbrev xTell (d : Fin 3) (c : Dev nD) : CellTallies nD τ sig Unit := tallyAt (xbarCell (pz d c)) () 1

/-- What the three copies over `d + 1` steps owe on top of `D`. -/
def xRow (D : CellTallies nD τ sig Unit) (d : Fin 3) (c : Dev nD) : CellTallies nD τ sig Unit :=
  D + xDue d 2 c + xDue d 1 c + xDue d 0 c
/-- All a device owes for the exchange, on top of `D`. -/
def xAll (D : CellTallies nD τ sig Unit) (c : Dev nD) : CellTallies nD τ sig Unit := xRow (xRow (xRow D 2 c) 1 c) 0 c
def exchDue (D : CellTallies nD τ sig Unit) (c : Dev nD) : CellTallies nD τ sig Unit := xAll D c + xTell 2 c + xTell 1 c + xTell 0 c

theorem exchDue_eq (D : CellTallies nD τ sig Unit) (c : Dev nD) : exchDue D c = D + exchDue 0 c := by
  unfold exchDue xAll xRow; simp only [zero_add, add_assoc]

theorem above_xRow {D : CellTallies nD τ sig Unit} (hD : Above D 1) (d : Fin 3) (c : Dev nD) : Above (xRow D d c) 1 := by
  have e (t : Fin 3) : Above (xDue d t c) 1 := above_tally _ _ _ _ (by rw [role_xrecv]; exact Nat.one_lt_two)
  exact ((hD.add (e 2)).add (e 1)).add (e 0)
theorem above_xAll {D : CellTallies nD τ sig Unit} (hD : Above D 1) (c : Dev nD) : Above (xAll D c) 1 :=
  above_xRow (above_xRow (above_xRow hD 2 c) 1 c) 0 c
theorem above_exchDue {D : CellTallies nD τ sig Unit} (hD : Above D 1) (c : Dev nD) : Above (exchDue D c) 0 := by
  have e (d : Fin 3) : Above (xTell d c) 0 := above_tally _ _ _ _ (by rw [role_xbar]; decide)
  exact ((((above_xAll hD c).mono (by decide)).add (e 2)).add (e 1)).add (e 0)

/-! ## The cells, and what every device may consult -/

abbrev xscSem : Bool × Fin 3 × Fin 3 → SemLoc sig
  | (false, d, t) => .dma (xsendS d t)
  | (true, d, t) => .dma (xrecvS d t)
theorem xscSem_inj : Function.Injective xscSem := by decide
theorem xscSem_ne_bar : ∀ k : Bool × Fin 3 × Fin 3, xscSem k ≠ .reg barrier0 := by decide

def xbarEmb : Dev nD ↪ GSem nD τ sig := ⟨xbarCell, fun _ _ h => congrArg (fun g : GSem nD τ sig => g.1.1) h⟩
def xscEmb : Dev nD × (Bool × Fin 3 × Fin 3) ↪ GSem nD τ sig :=
  ⟨fun ck => ((ck.1 : Thread nD τ), xscSem ck.2), fun _ _ h =>
    Prod.ext (congrArg (fun g : GSem nD τ sig => g.1.1) h) (xscSem_inj (congrArg Prod.snd h))⟩

abbrev xbarCells : Finset (GSem nD τ sig) := Finset.univ.map xbarEmb
abbrev xscCells : Finset (GSem nD τ sig) := Finset.univ.map xscEmb

theorem xbar_mem (c : Dev nD) : xbarCell c ∈ (xbarCells ∪ xscCells : Finset (GSem nD τ sig)) :=
  Finset.mem_union_left _ (Finset.mem_map_of_mem xbarEmb (Finset.mem_univ c))
theorem xsend_mem (d t : Fin 3) (c : Dev nD) : xsendCell d t c ∈ (xbarCells ∪ xscCells : Finset (GSem nD τ sig)) :=
  Finset.mem_union_right _ (Finset.mem_map_of_mem xscEmb (Finset.mem_univ (c, (false, d, t))))
theorem xrecv_mem (d t : Fin 3) (c : Dev nD) : xrecvCell d t c ∈ (xbarCells ∪ xscCells : Finset (GSem nD τ sig)) :=
  Finset.mem_union_right _ (Finset.mem_map_of_mem xscEmb (Finset.mem_univ (c, (true, d, t))))

/-- All the invariants of the exchange; and that round 0 of every barrier cell is reached. -/
def xrecords (B : XBlocks F) (κ : GSem nD τ sig → ℕ) : sProp 𝕄 :=
  iprop((bigSep (xbarCells ∪ xscCells) fun g => cellInv EX (xRd B) (κ g) g) ∗ bigSep xbarCells fun g => reached EX g 0)

instance xrecords_persistent (B : XBlocks F) (κ : GSem nD τ sig → ℕ) : BI.Persistent (xrecords B κ) := by unfold xrecords; infer_instance

theorem xinv_at (B : XBlocks F) (κ : GSem nD τ sig → ℕ) {g : GSem nD τ sig} (hg : g ∈ (xbarCells ∪ xscCells : Finset (GSem nD τ sig))) :
    xrecords B κ ⊢ cellInv EX (xRd B) (κ g) g := by
  unfold xrecords
  have e : (bigSep (xbarCells ∪ xscCells) fun g => (cellInv EX (xRd B) (κ g) g : sProp 𝕄)) ⊢ cellInv EX (xRd B) (κ g) g := bigSep_elim hg
  iintro ⟨H, -⟩
  iapply e $$ H

theorem xreached_at (B : XBlocks F) (κ : GSem nD τ sig → ℕ) (c : Dev nD) : xrecords B κ ⊢ reached EX (xbarCell c) 0 := by
  unfold xrecords
  have e : (bigSep xbarCells fun g => (reached EX g 0 : sProp 𝕄)) ⊢ reached EX (xbarCell c) 0 :=
    bigSep_elim (Finset.mem_map_of_mem xbarEmb (Finset.mem_univ c))
  iintro ⟨-, H⟩
  iapply e $$ H

/-- Something for each of the nine copies. -/
abbrev nine (Φ : Fin 3 → Fin 3 → sProp 𝕄) : sProp 𝕄 := tri fun d => tri fun t => Φ d t

/-- What device `c` carries from the launch to the exchange. -/
def xcarried (c : Dev nD) : sProp 𝕄 :=
  iprop(atPos EX (xbarCell c) 0 ∅ 0
    ∗ (nine fun d t => openTok EX (xsendCell d t c)) ∗ (nine fun d t => openTok EX (xrecvCell d t c))
    ∗ (tri fun d => dutyTok EX (xbarCell (pz d c)) 0 d.rev)
    ∗ (nine fun d t => dutyTok EX (xsendCell d t c) 0 0) ∗ (nine fun d t => dutyTok EX (xrecvCell d t (pz d c)) 0 0)
    ∗ cred (tallyAt (xbarCell c) () 3) ∗ (nine fun d t => cred (tallyAt (xrecvCell d t c) () (NX t))))

/-- What a copy needs besides its source and its slot. -/
def copyKit (c : Dev nD) (d t : Fin 3) : sProp 𝕄 :=
  iprop(atPos EX (xsendCell d t c) 0 ∅ 0 ∗ reached EX (xsendCell d t c) 0 ∗ atPos EX (xrecvCell d t c) 0 ∅ 0
    ∗ dutyTok EX (xsendCell d t c) 0 0 ∗ dutyTok EX (xrecvCell d t (pz d c)) 0 0 ∗ cred (tallyAt (xrecvCell d t c) () (NX t)))

/-- The same once the eighteen cells are open. -/
def xopened (c : Dev nD) : sProp 𝕄 :=
  iprop(atPos EX (xbarCell c) 0 ∅ 0 ∗ (nine fun d t => reached EX (xrecvCell d t c) 0)
    ∗ (tri fun d => dutyTok EX (xbarCell (pz d c)) 0 d.rev) ∗ cred (tallyAt (xbarCell c) () 3) ∗ nine (copyKit c))

/-! ## The steps -/

variable (B : XBlocks F) (κ : GSem nD τ sig → ℕ) (c : Dev nD)

variable {α : Type} {k : PUnit.{1} → Prog (TpuEff nD τ sig (Elt F) Λ₀ .tc) α} {Kt : α → sProp (MT nD τ sig Unit (Elt F) ℕ UU ℕ)}

/-- The word to the device `d + 1` steps ahead: it carries the slots that device writes here. -/
theorem step_xtell (d : Fin 3) (n : Dev nD) (hn : n = pz d c) (O : CellTallies nD τ sig Unit) :
    iprop(xrecords B κ ∗ owing c (O + xTell d c) ∗ dutyTok EX (xbarCell (pz d c)) 0 d.rev
        ∗ (tri fun t => xslotAny t c d.rev.succ) ∗ (tri fun t => reached EX (xrecvCell d.rev t c) 0))
      ⊢ iprop((owing c O -∗ wp frame (wpE (defs₀ (F := F)) Variants.none (c : Thread nD τ) none) Set.univ (k ⟨⟩) Kt)
        -∗ wp frame (wpE (defs₀ (F := F)) Variants.none (c : Thread nD τ) none) Set.univ (.op (.semSignal (Dev.tc n) barrier0 1) k) Kt) := by
  subst hn
  unfold owing
  iintro ⟨#HR, ⟨%W, HO⟩, Ht, Hs, Hr⟩ Hk
  iapply (Rounds.wp_signal Variants.none EX (xRd B) (c : Thread nD τ) none (dst := (pz d c : Thread nD τ)) (sem := barrier0) (r := 0) (d := d.rev)
      (κ := κ (xbarCell (pz d c))) (by rw [duties_xbar]; exact Finset.mem_univ _) (amount_xbar B (pz d c) d.rev) () O rfl)
    $$ [HO Ht Hs Hr]
  · isplitr; · iapply (xinv_at B κ (xbar_mem (pz d c))); iexact HR
    isplitl [HO]; · iexact HO
    isplitl [Ht]; · iexact Ht
    isplitl [Hs Hr]
    · rw [payload_xbar]; unfold xbarPay; rw [pz_rev]
      isplitl [Hs]; · iexact Hs
      iexact Hr
    · iapply (xreached_at B κ (pz d c)); iexact HR
  iintro HO
  iapply Hk
  iexists W; iexact HO

/-- Waiting for the three others: the slots to be written there come with their words. -/
theorem step_xwaitBar (O : CellTallies nD τ sig Unit) (hO : Above O 1) :
    iprop(xrecords B κ ∗ levAts L lv ∗ owing c O ∗ cred (tallyAt (xbarCell c) () 3) ∗ atPos EX (xbarCell c) 0 ∅ 0)
      ⊢ iprop((iprop(owing c O ∗ atPos EX (xbarCell c) (0 + 1) ∅ 0 ∗ tri fun d => xbarPay d c)
          -∗ wp frame (wpE (defs₀ (F := F)) Variants.none (c : Thread nD τ) none) Set.univ (k ⟨⟩) Kt)
        -∗ wp frame (wpE (defs₀ (F := F)) Variants.none (c : Thread nD τ) none) Set.univ (.op (.semWait barrier0 3) k) Kt) := by
  unfold owing
  iintro ⟨#HR, #Hlev, ⟨%W, HO⟩, Hc, Hat⟩ Hk
  iapply (Rounds.wp_wait_rest_token Variants.none EX (xRd B) (c : Thread nD τ) none (κ := κ (xbarCell c))
      (wpE_semWait_eq Variants.none (c : Thread nD τ) none Set.univ) (Set.mem_univ _) () (O := O) (W := W) (R := 0) (m := 0) (T := ∅)
      ((Nat.zero_add 3).trans (expect_xbar B c).symm)) $$ [Hc HO Hat]
  · isplitr; · iapply (xinv_at B κ (xbar_mem c)); iexact HR
    isplitl [Hc]; · iexact Hc
    isplitl [HO]; · iexact HO
    isplitr; · iapply (mayWait c _ O (by rw [role_xbar]; exact hO)); iexact Hlev
    iexact Hat
  iintro ⟨HO, Hat, -, Hpay⟩
  ihave Hp := (Entails.of_eq (rest_xbar B c)) $$ Hpay
  iapply Hk
  isplitl [HO]; · iexists _; iexact HO
  isplitl [Hat] <;> iassumption

/-- Block `t` over `d + 1` steps starts: its source and its slot leave. -/
theorem step_xcopy (d t : Fin 3) (n : Dev nD) (hn : n = pz d c) (O : CellTallies nD τ sig Unit)
    {sS rS : DmaSem sig} (hsS : sS = xsendS d t) (hrS : rS = xrecvS d t)
    {hsc : (xslot t d.succ).view.ref.isScScratch = false}
    {hsrc : (xsrc t d).view.WordExact} {hdst : (xslot t d.succ).view.WordExact}
    {hsem : DmaTarget.Typed .vmem (.dma rS) (.remote (Dev.tc n) (xslot t d.succ) (.dma sS) hsc)} :
    iprop(xrecords B κ ∗ owing c (O + xDue d t c) ∗ xsrcPts t d c (B t d.succ c)
        ∗ xslotAny t (pz d c) d.succ ∗ reached EX (xrecvCell d t (pz d c)) 0
        ∗ dutyTok EX (xsendCell d t c) 0 0 ∗ reached EX (xsendCell d t c) 0 ∗ dutyTok EX (xrecvCell d t (pz d c)) 0 0)
      ⊢ iprop((iprop(owing c O ∗ cred (tallyAt (xsendCell d t c) () (NX t)))
          -∗ wp frame (wpE (defs₀ (F := F)) Variants.none (c : Thread nD τ) none) Set.univ (k ⟨⟩) Kt)
        -∗ wp frame (wpE (defs₀ (F := F)) Variants.none (c : Thread nD τ) none) Set.univ
          (.op (.enqueueDma (xsrc t d) (.remote (Dev.tc n) (xslot t d.succ) (.dma sS) hsc) (.dma rS) hsrc hdst hsem) k) Kt) := by
  subst hn hsS hrS
  unfold owing xslotAny
  iintro ⟨#HR, ⟨%W, HO⟩, Hs, ⟨%fd, Hd⟩, #HrV, HtS, #HrS, HtN⟩ Hk
  iapply (Rounds.wp_send_pointsTo Variants.none EX (xRd B) (c : Thread nD τ) none (c' := (pz d c : Thread nD τ))
      (src := xsrc t d) (dst := xslot t d.succ) (sS := .dma (xsendS d t)) (sem := .dma (xrecvS d t)) (q := xshare t d)
      (fs := xput t d (B t d.succ c)) (κ₁ := κ (xsendCell d t c)) (κ₂ := κ (xrecvCell d t (pz d c)))
      (r₁ := 0) (r₂ := 0) (d₁ := 0) (d₂ := 0) (fd := fd)
      (by rw [duties_xsend]; exact Finset.mem_singleton_self _) (by rw [duties_xrecv]; exact Finset.mem_singleton_self _)
      () () (NX t) (NX_slot t d.succ) (amount_xsend B d t c 0) (amount_xrecv B d t (pz d c) 0) O rfl (W := W)
      (by rw [payload_xsend]; exact BI.Entails.refl _)
      (by
        rw [payload_xrecv]; unfold xrecvPay
        exact Entails.of_eq (pointsTo_congr (xlanded B d t c fd)))) $$ [Hs Hd HO HtS HtN]
  · isplitr; · iapply (xinv_at B κ (xsend_mem d t c)); iexact HR
    isplitr; · iapply (xinv_at B κ (xrecv_mem d t (pz d c))); iexact HR
    isplitl [Hs]; · iexact Hs
    isplitl [Hd]; · iexact Hd
    isplitl [HO]; · iexact HO
    isplitl [HtS]; · iexact HtS
    isplitr; · iexact HrS
    isplitl [HtN]; · iexact HtN
    iexact HrV
  iintro ⟨HcS, HO⟩
  iapply Hk
  isplitl [HO]; · iexists W; iexact HO
  iexact HcS

/-- Waiting until a copy has been sent: its source comes back. -/
theorem step_xwaitSend (d t : Fin 3) (O : CellTallies nD τ sig Unit) (hO : Above O 0) {sS : DmaSem sig} (hsS : sS = xsendS d t)
    {hsrc : (xslot t d.succ).view.WordExact} {hdst : (xsrc t d).view.WordExact} :
    iprop(xrecords B κ ∗ levAts L lv ∗ owing c O ∗ cred (tallyAt (xsendCell d t c) () (NX t)) ∗ atPos EX (xsendCell d t c) 0 ∅ 0)
      ⊢ iprop((iprop(owing c O ∗ atPos EX (xsendCell d t c) (0 + 1) ∅ 0 ∗ xsrcPts t d c (B t d.succ c))
          -∗ wp frame (wpE (defs₀ (F := F)) Variants.none (c : Thread nD τ) none) Set.univ (k ⟨⟩) Kt)
        -∗ wp frame (wpE (defs₀ (F := F)) Variants.none (c : Thread nD τ) none) Set.univ
          (.op (.waitDma2 sS (xslot t d.succ) (xsrc t d) hsrc hdst) k) Kt) := by
  subst hsS
  unfold owing
  iintro ⟨#HR, #Hlev, ⟨%W, HO⟩, Hc, Hat⟩ Hk
  iapply (Rounds.wp_wait_rest_token Variants.none EX (xRd B) (c : Thread nD τ) none (κ := κ (xsendCell d t c))
      (wpE_waitDma2_eq (src := xslot t d.succ) (dst := xsrc t d) Variants.none (c : Thread nD τ) none Set.univ) (Set.mem_univ _) ()
      (O := O) (W := W) (R := 0) (m := 0) (T := ∅)
      ((Nat.zero_add _).trans ((NX_src t d).trans (expect_xsend B d t c).symm))) $$ [Hc HO Hat]
  · isplitr; · iapply (xinv_at B κ (xsend_mem d t c)); iexact HR
    isplitl [Hc]; · rw [NX_src]; iexact Hc
    isplitl [HO]; · iexact HO
    isplitr; · iapply (mayWait c _ O (by rw [role_xsend]; exact hO)); iexact Hlev
    iexact Hat
  iintro ⟨HO, Hat, -, Hpay⟩
  ihave Hp := (Entails.of_eq ((rest_xsend B d t c).trans (by unfold xsendPay; rfl))) $$ Hpay
  iapply Hk
  isplitl [HO]; · iexists _; iexact HO
  isplitl [Hat] <;> iassumption

/-- Waiting for an arrival: the slot it filled comes with it. -/
theorem step_xwaitRecv (d t : Fin 3) (O : CellTallies nD τ sig Unit) (hO : Above O 2) {rS : DmaSem sig} (hrS : rS = xrecvS d t)
    {hsrc : (xsrc t d).view.WordExact} {hdst : (xslot t d.succ).view.WordExact} :
    iprop(xrecords B κ ∗ levAts L lv ∗ owing c O ∗ cred (tallyAt (xrecvCell d t c) () (NX t)) ∗ atPos EX (xrecvCell d t c) 0 ∅ 0)
      ⊢ iprop((iprop(owing c O ∗ atPos EX (xrecvCell d t c) (0 + 1) ∅ 0 ∗ xslotPts t c d.succ (xgathered B t d.succ c))
          -∗ wp frame (wpE (defs₀ (F := F)) Variants.none (c : Thread nD τ) none) Set.univ (k ⟨⟩) Kt)
        -∗ wp frame (wpE (defs₀ (F := F)) Variants.none (c : Thread nD τ) none) Set.univ
          (.op (.waitDma2 rS (xsrc t d) (xslot t d.succ) hsrc hdst) k) Kt) := by
  subst hrS
  unfold owing
  iintro ⟨#HR, #Hlev, ⟨%W, HO⟩, Hc, Hat⟩ Hk
  iapply (Rounds.wp_wait_rest_token Variants.none EX (xRd B) (c : Thread nD τ) none (κ := κ (xrecvCell d t c))
      (wpE_waitDma2_eq (src := xsrc t d) (dst := xslot t d.succ) Variants.none (c : Thread nD τ) none Set.univ) (Set.mem_univ _) ()
      (O := O) (W := W) (R := 0) (m := 0) (T := ∅)
      ((Nat.zero_add _).trans ((NX_slot t d.succ).trans (expect_xrecv B d t c).symm))) $$ [Hc HO Hat]
  · isplitr; · iapply (xinv_at B κ (xrecv_mem d t c)); iexact HR
    isplitl [Hc]; · rw [NX_slot]; iexact Hc
    isplitl [HO]; · iexact HO
    isplitr; · iapply (mayWait c _ O (by rw [role_xrecv]; exact hO)); iexact Hlev
    iexact Hat
  iintro ⟨HO, Hat, -, Hpay⟩
  ihave Hp := (Entails.of_eq ((rest_xrecv B d t c).trans (by unfold xrecvPay; rfl))) $$ Hpay
  iapply Hk
  isplitl [HO]; · iexists _; iexact HO
  isplitl [Hat] <;> iassumption

/-- A cell whose one round is over: its counter, at zero. -/
theorem step_xclose (g : GSem nD τ sig) (hg : g ∈ (xbarCells ∪ xscCells : Finset (GSem nD τ sig))) :
    iprop(xrecords B κ ∗ atPos EX g (0 + 1) ∅ 0) ⊢ (|={Set.univ}=> semVal g 0 : sProp 𝕄) := by
  iintro ⟨#HR, Hat⟩
  iapply (Rounds.cell_close EX (xRd B) (κ := κ g) (Set.mem_univ _) id (duties_xlater B g))
  isplitr; · iapply (xinv_at B κ hg); iexact HR
  iexact Hat

end Cert.KernelIdeal.Gen

end
-- ==== Proof.Ideal.Steps.lean ====
module

public import proofs.«01_k».proof.Proof.Ideal.Protocol

/-!
# The steps of a ring

Each synchronising operation of either kernel, as a rule over the resources of the protocol.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Gen

variable {F : FTy → Type} [FloatOps F]

local notation "𝕄" => MT nD τ sig Unit (Elt F) ℕ UU ℕ

abbrev 𝒱₀ : Variants := Variants.none

variable (X : Blocks F) (κ : GSem nD τ sig → ℕ) (b : Bool) (c : Dev nD)

variable {α : Type} {k : PUnit.{1} → Prog (TpuEff nD τ sig (Elt F) Λ₀ .tc) α} {Kt : α → sProp (MT nD τ sig Unit (Elt F) ℕ UU ℕ)}

/-- The word to the neighbour a device hears from: it carries the three slots that neighbour writes. -/
theorem step_tellPrv (n : Dev nD) (hn : n = prv b c) (O : CellTallies nD τ sig Unit) :
    iprop(records X κ ∗ owing c (O + prvDue b c) ∗ dutyTok ER (barCell b (prv b c)) 0 true
        ∗ (slotAny b c 1 ∗ slotAny b c 2 ∗ slotAny b c 3) ∗ (tri fun h => reached ER (recvCell b h c) 0))
      ⊢ iprop((owing c O -∗ wp frame (wpE (defs₀ (F := F)) 𝒱₀ (c : Thread nD τ) none) Set.univ (k ⟨⟩) Kt)
        -∗ wp frame (wpE (defs₀ (F := F)) 𝒱₀ (c : Thread nD τ) none) Set.univ (.op (.semSignal (Dev.tc n) (barS b) 1) k) Kt) := by
  subst hn
  unfold owing
  iintro ⟨#HR, ⟨%W, HO⟩, Ht, Hs, Hr⟩ Hk
  iapply (Rounds.wp_signal 𝒱₀ ER (ringRd X) (c : Thread nD τ) none (dst := (prv b c : Thread nD τ)) (sem := barS b) (r := 0) (d := true)
      (κ := κ (barCell b (prv b c))) (by rw [duties_bar]; exact Finset.mem_univ _) (amount_bar X b (prv b c) true) () O rfl)
    $$ [HO Ht Hs Hr]
  · isplitr; · iapply (inv_at X κ (bar_mem b (prv b c))); iexact HR
    isplitl [HO]; · iexact HO
    isplitl [Ht]; · iexact Ht
    isplitl [Hs Hr]
    · rw [payload_bar, if_pos rfl]; unfold barPay; rw [nxt_prv]
      isplitl [Hs]; · iexact Hs
      iexact Hr
    · iapply (reached_at X κ b (prv b c)); iexact HR
  iintro HO
  iapply Hk
  iexists W; iexact HO

/-- The word to the neighbour a device sends to: it carries nothing. -/
theorem step_tellNxt (n : Dev nD) (hn : n = nxt b c) (O : CellTallies nD τ sig Unit) :
    iprop(records X κ ∗ owing c (O + nxtDue b c) ∗ dutyTok ER (barCell b (nxt b c)) 0 false)
      ⊢ iprop((owing c O -∗ wp frame (wpE (defs₀ (F := F)) 𝒱₀ (c : Thread nD τ) none) Set.univ (k ⟨⟩) Kt)
        -∗ wp frame (wpE (defs₀ (F := F)) 𝒱₀ (c : Thread nD τ) none) Set.univ (.op (.semSignal (Dev.tc n) (barS b) 1) k) Kt) := by
  subst hn
  unfold owing
  iintro ⟨#HR, ⟨%W, HO⟩, Ht⟩ Hk
  iapply (Rounds.wp_signal 𝒱₀ ER (ringRd X) (c : Thread nD τ) none (dst := (nxt b c : Thread nD τ)) (sem := barS b) (r := 0) (d := false)
      (κ := κ (barCell b (nxt b c))) (by rw [duties_bar]; exact Finset.mem_univ _) (amount_bar X b (nxt b c) false) () O rfl)
    $$ [HO Ht]
  · isplitr; · iapply (inv_at X κ (bar_mem b (nxt b c))); iexact HR
    isplitl [HO]; · iexact HO
    isplitl [Ht]; · iexact Ht
    isplitr
    · rw [payload_bar, if_neg (by decide)]; iempintro
    · iapply (reached_at X κ b (nxt b c)); iexact HR
  iintro HO
  iapply Hk
  iexists W; iexact HO

/-- Waiting for both neighbours: the next device's slots come with its word. -/
theorem step_waitBar (O : CellTallies nD τ sig Unit) (hO : Above O (base b)) :
    iprop(records X κ ∗ levAts L lv ∗ owing c O ∗ cred (tallyAt (barCell b c) () 2) ∗ atPos ER (barCell b c) 0 ∅ 0)
      ⊢ iprop((iprop(owing c O ∗ atPos ER (barCell b c) (0 + 1) ∅ 0 ∗ barPay b c)
          -∗ wp frame (wpE (defs₀ (F := F)) 𝒱₀ (c : Thread nD τ) none) Set.univ (k ⟨⟩) Kt)
        -∗ wp frame (wpE (defs₀ (F := F)) 𝒱₀ (c : Thread nD τ) none) Set.univ (.op (.semWait (barS b) 2) k) Kt) := by
  unfold owing
  iintro ⟨#HR, #Hlev, ⟨%W, HO⟩, Hc, Hat⟩ Hk
  iapply (Rounds.wp_wait_rest_token 𝒱₀ ER (ringRd X) (c : Thread nD τ) none (κ := κ (barCell b c))
      (wpE_semWait_eq 𝒱₀ (c : Thread nD τ) none Set.univ) (Set.mem_univ _) () (O := O) (W := W) (R := 0) (m := 0) (T := ∅)
      ((Nat.zero_add 2).trans (expect_bar X b c).symm)) $$ [Hc HO Hat]
  · isplitr; · iapply (inv_at X κ (bar_mem b c)); iexact HR
    isplitl [Hc]; · iexact Hc
    isplitl [HO]; · iexact HO
    isplitr; · iapply (mayWait c _ O (by rw [role_bar]; exact hO)); iexact Hlev
    iexact Hat
  iintro ⟨HO, Hat, -, Hpay⟩
  ihave Hp := (rest_bar X b c) $$ Hpay
  iapply Hk
  isplitl [HO]; · iexists _; iexact HO
  isplitl [Hat] <;> iassumption

/-- Hop `h`: slot `h` to slot `h + 1` of the next device. -/
theorem step_hop (h : Fin 3) (n : Dev nD) (hn : n = nxt b c) (O : CellTallies nD τ sig Unit)
    {sS rS : DmaSem sig} (hsS : sS = sendS b h) (hrS : rS = recvS b h)
    {hsc : (slotM b h.succ).view.ref.isScScratch = false}
    {hsrc : (slotM b h.castSucc).view.WordExact} {hdst : (slotM b h.succ).view.WordExact}
    {hsem : DmaTarget.Typed .vmem (.dma rS) (.remote (Dev.tc n) (slotM b h.succ) (.dma sS) hsc)} :
    iprop(records X κ ∗ owing c (O + hopDue b c h) ∗ slotPts b c h.castSucc (sendShare b) (gathered X b h.castSucc c)
        ∗ slotAny b (nxt b c) h.succ ∗ reached ER (recvCell b h (nxt b c)) 0
        ∗ dutyTok ER (sendCell b h c) 0 false ∗ reached ER (sendCell b h c) 0 ∗ dutyTok ER (recvCell b h (nxt b c)) 0 false)
      ⊢ iprop((iprop(owing c O ∗ cred (tallyAt (sendCell b h c) () (N b)))
          -∗ wp frame (wpE (defs₀ (F := F)) 𝒱₀ (c : Thread nD τ) none) Set.univ (k ⟨⟩) Kt)
        -∗ wp frame (wpE (defs₀ (F := F)) 𝒱₀ (c : Thread nD τ) none) Set.univ
          (.op (.enqueueDma (slotM b h.castSucc) (.remote (Dev.tc n) (slotM b h.succ) (.dma sS) hsc) (.dma rS) hsrc hdst hsem) k) Kt) := by
  subst hn hsS hrS
  unfold owing slotAny
  iintro ⟨#HR, ⟨%W, HO⟩, Hs, ⟨%fd, Hd⟩, #HrV, HtS, #HrS, HtN⟩ Hk
  iapply (Rounds.wp_send_pointsTo 𝒱₀ ER (ringRd X) (c : Thread nD τ) none (c' := (nxt b c : Thread nD τ))
      (src := slotM b h.castSucc) (dst := slotM b h.succ) (sS := .dma (sendS b h)) (sem := .dma (recvS b h)) (q := sendShare b)
      (fs := gathered X b h.castSucc c) (κ₁ := κ (sendCell b h c)) (κ₂ := κ (recvCell b h (nxt b c)))
      (r₁ := 0) (r₂ := 0) (d₁ := false) (d₂ := false) (fd := fd)
      (by rw [duties_send]; exact Finset.mem_singleton_self _) (by rw [duties_recv]; exact Finset.mem_singleton_self _)
      () () (N b) (N_slot b h.succ) (amount_send X b h c false) (amount_recv X b h (nxt b c) false) O rfl (W := W)
      (by rw [payload_send]; exact BI.Entails.refl _)
      (by
        rw [payload_recv]; unfold recvPay
        exact Entails.of_eq (pointsTo_congr (landed X b h c fd)))) $$ [Hs Hd HO HtS HtN]
  · isplitr; · iapply (inv_at X κ (send_mem b h c)); iexact HR
    isplitr; · iapply (inv_at X κ (recv_mem b h (nxt b c))); iexact HR
    isplitl [Hs]; · iexact Hs
    isplitl [Hd]; · iexact Hd
    isplitl [HO]; · iexact HO
    isplitl [HtS]; · iexact HtS
    isplitr; · iexact HrS
    isplitl [HtN]; · iexact HtN
    iexact HrV
  iintro ⟨HcS, HO⟩
  iapply Hk
  isplitl [HO]; · iexists W; iexact HO
  iexact HcS

/-- Waiting until hop `h` has been sent: the slot read comes back. -/
theorem step_waitSend (h : Fin 3) (O : CellTallies nD τ sig Unit) (hO : Above O 0) {sS : DmaSem sig} (hsS : sS = sendS b h)
    {hsrc : (slotM b h.succ).view.WordExact} {hdst : (slotM b h.castSucc).view.WordExact} :
    iprop(records X κ ∗ levAts L lv ∗ owing c O ∗ cred (tallyAt (sendCell b h c) () (N b)) ∗ atPos ER (sendCell b h c) 0 ∅ 0)
      ⊢ iprop((iprop(owing c O ∗ atPos ER (sendCell b h c) (0 + 1) ∅ 0 ∗ slotPts b c h.castSucc (sendShare b) (gathered X b h.castSucc c))
          -∗ wp frame (wpE (defs₀ (F := F)) 𝒱₀ (c : Thread nD τ) none) Set.univ (k ⟨⟩) Kt)
        -∗ wp frame (wpE (defs₀ (F := F)) 𝒱₀ (c : Thread nD τ) none) Set.univ
          (.op (.waitDma2 sS (slotM b h.succ) (slotM b h.castSucc) hsrc hdst) k) Kt) := by
  subst hsS
  unfold owing
  iintro ⟨#HR, #Hlev, ⟨%W, HO⟩, Hc, Hat⟩ Hk
  iapply (Rounds.wp_wait_rest_token 𝒱₀ ER (ringRd X) (c : Thread nD τ) none (κ := κ (sendCell b h c))
      (wpE_waitDma2_eq (src := slotM b h.succ) (dst := slotM b h.castSucc) 𝒱₀ (c : Thread nD τ) none Set.univ) (Set.mem_univ _) ()
      (O := O) (W := W) (R := 0) (m := 0) (T := ∅)
      ((Nat.zero_add _).trans ((N_slot b h.castSucc).trans (expect_send X b h c).symm))) $$ [Hc HO Hat]
  · isplitr; · iapply (inv_at X κ (send_mem b h c)); iexact HR
    isplitl [Hc]; · rw [N_slot]; iexact Hc
    isplitl [HO]; · iexact HO
    isplitr; · iapply (mayWait c _ O (by rw [role_send]; exact hO)); iexact Hlev
    iexact Hat
  iintro ⟨HO, Hat, -, Hpay⟩
  ihave Hp := (Entails.of_eq ((rest_send X b h c).trans (by unfold sendPay; rfl))) $$ Hpay
  iapply Hk
  isplitl [HO]; · iexists _; iexact HO
  isplitl [Hat] <;> iassumption

/-- Waiting for the arrival of hop `h`: the slot it filled comes with it. -/
theorem step_waitRecv (h : Fin 3) (O : CellTallies nD τ sig Unit) (hO : Above O (base b + 1 + h.val)) {rS : DmaSem sig} (hrS : rS = recvS b h)
    {hsrc : (slotM b h.castSucc).view.WordExact} {hdst : (slotM b h.succ).view.WordExact} :
    iprop(records X κ ∗ levAts L lv ∗ owing c O ∗ cred (tallyAt (recvCell b h c) () (N b)) ∗ atPos ER (recvCell b h c) 0 ∅ 0)
      ⊢ iprop((iprop(owing c O ∗ atPos ER (recvCell b h c) (0 + 1) ∅ 0 ∗ slotPts b c h.succ fullShare (gathered X b h.succ c))
          -∗ wp frame (wpE (defs₀ (F := F)) 𝒱₀ (c : Thread nD τ) none) Set.univ (k ⟨⟩) Kt)
        -∗ wp frame (wpE (defs₀ (F := F)) 𝒱₀ (c : Thread nD τ) none) Set.univ
          (.op (.waitDma2 rS (slotM b h.castSucc) (slotM b h.succ) hsrc hdst) k) Kt) := by
  subst hrS
  unfold owing
  iintro ⟨#HR, #Hlev, ⟨%W, HO⟩, Hc, Hat⟩ Hk
  iapply (Rounds.wp_wait_rest_token 𝒱₀ ER (ringRd X) (c : Thread nD τ) none (κ := κ (recvCell b h c))
      (wpE_waitDma2_eq (src := slotM b h.castSucc) (dst := slotM b h.succ) 𝒱₀ (c : Thread nD τ) none Set.univ) (Set.mem_univ _) ()
      (O := O) (W := W) (R := 0) (m := 0) (T := ∅)
      ((Nat.zero_add _).trans ((N_slot b h.succ).trans (expect_recv X b h c).symm))) $$ [Hc HO Hat]
  · isplitr; · iapply (inv_at X κ (recv_mem b h c)); iexact HR
    isplitl [Hc]; · rw [N_slot]; iexact Hc
    isplitl [HO]; · iexact HO
    isplitr; · iapply (mayWait c _ O (by rw [role_recv]; exact hO)); iexact Hlev
    iexact Hat
  iintro ⟨HO, Hat, -, Hpay⟩
  ihave Hp := (Entails.of_eq ((rest_recv X b h c).trans (by unfold recvPay; rfl))) $$ Hpay
  iapply Hk
  isplitl [HO]; · iexists _; iexact HO
  isplitl [Hat] <;> iassumption

/-- A cell whose one round is over: its counter, at zero. -/
theorem step_close (g : GSem nD τ sig) (hg : g ∈ (barCells ∪ scCells : Finset (GSem nD τ sig))) :
    iprop(records X κ ∗ atPos ER g (0 + 1) ∅ 0) ⊢ (|={Set.univ}=> semVal g 0 : sProp 𝕄) := by
  iintro ⟨#HR, Hat⟩
  iapply (Rounds.cell_close ER (ringRd X) (κ := κ g) (Set.mem_univ _) id (duties_later X g))
  isplitr; · iapply (inv_at X κ hg); iexact HR
  iexact Hat

end Cert.KernelIdeal.Gen

end
-- ==== Proof.Ideal.RingA.lean ====
module

public import proofs.«01_k».proof.Proof.Ideal.Steps

/-!
# The first ring's kernel

The gather over `y`: its buffer cut into slots, and the run of its body.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Gen

variable {F : FTy → Type} [FloatOps F]

local notation "𝕄" => MT nD τ sig Unit (Elt F) ℕ UU ℕ

/-! ## A buffer as its four slots -/

/-- A buffer cut into four disjoint parts. -/
theorem four {ℓ : Loc nD τ sig} (S : Fin 4 → Finset (Idx ℓ)) (f : Buf (Elt F) ℓ) (hd : ∀ h h', h ≠ h' → Disjoint (S h) (S h'))
    (hc : ∀ i, ∃ h, i ∈ S h) :
    (ℓ ↦{fullShare} f : sProp 𝕄) = iprop((ℓ ↦[S 0]{fullShare} f) ∗ (ℓ ↦[S 1]{fullShare} f) ∗ (ℓ ↦[S 2]{fullShare} f) ∗ ℓ ↦[S 3]{fullShare} f) := by
  have e : (Finset.univ : Finset (Idx ℓ)) = Finset.univ.biUnion S :=
    (Finset.eq_univ_iff_forall.mpr fun i => by obtain ⟨h, hi⟩ := hc i; exact Finset.mem_biUnion.mpr ⟨h, Finset.mem_univ _, hi⟩).symm
  rw [e, pointsTo_biUnion Finset.univ S fun h _ h' _ ne => hd h h' ne]
  exact bigSep_univ_eq_bigSepL [0, 1, 2, 3] (by decide) (by decide) _

theorem slotsA (c : Dev nD) (f : Buf (Elt F) ((c : Thread nD τ).loc cc8_stg1_0)) :
    (((c : Thread nD τ).loc cc8_stg1_0) ↦{fullShare} f : sProp 𝕄)
      = iprop(slotPts false c 0 fullShare f ∗ slotPts false c 1 fullShare f ∗ slotPts false c 2 fullShare f ∗ slotPts false c 3 fullShare f) :=
  four (ℓ := (c : Thread nD τ).loc cc8_stg1_0) (fun h => (slotM false h).view.set) f
    (fun h h' ne => Finset.disjoint_left.mpr fun i hi hi' => ne (Fin.ext (((mem_slotA h i).1 hi).symm.trans ((mem_slotA h' i).1 hi'))))
    fun i => ⟨(i : S4x1024x256.Idx) 0, (mem_slotA _ i).2 rfl⟩

theorem slotsB (c : Dev nD) (f : Buf (Elt F) ((c : Thread nD τ).loc cc9_scratch0)) :
    (((c : Thread nD τ).loc cc9_scratch0) ↦{fullShare} f : sProp 𝕄)
      = iprop(slotPts true c 0 fullShare f ∗ slotPts true c 1 fullShare f ∗ slotPts true c 2 fullShare f ∗ slotPts true c 3 fullShare f) :=
  four (ℓ := (c : Thread nD τ).loc cc9_scratch0) (fun h => (slotM true h).view.set) f
    (fun h h' ne => Finset.disjoint_left.mpr fun i hi hi' => ne (Fin.ext (((mem_slotB h i).1 hi).symm.trans ((mem_slotB h' i).1 hi'))))
    fun i => ⟨(i : S4x1024x1024.Idx) 0, (mem_slotB _ i).2 rfl⟩

/-! ## After a ring -/

variable (X : Blocks F) (κ : GSem nD τ sig → ℕ) (c : Dev nD)

/-- The two cells of hop `h`, their round over. -/
def spent (b : Bool) (c : Dev nD) (h : Fin 3) : sProp 𝕄 := iprop(atPos ER (sendCell b h c) (0 + 1) ∅ 0 ∗ atPos ER (recvCell b h c) (0 + 1) ∅ 0)

/-- The seven counters of a ring, at zero. -/
def counters (b : Bool) (c : Dev nD) : sProp 𝕄 :=
  iprop(semVal (barCell b c) 0 ∗ (tri fun h => semVal (sendCell b h c) 0) ∗ (tri fun h => semVal (recvCell b h c) 0))

theorem closeHop (b : Bool) (h : Fin 3) :
    iprop(records X κ ∗ spent b c h) ⊢ (|={Set.univ}=> iprop(semVal (sendCell b h c) 0 ∗ semVal (recvCell b h c) 0) : sProp 𝕄) := by
  unfold spent
  iintro ⟨#HR, Hs, Hr⟩
  imod (step_close X κ (sendCell b h c) (send_mem b h c)) $$ [Hs] with Hs0
  · isplitr; · iexact HR
    iexact Hs
  imod (step_close X κ (recvCell b h c) (recv_mem b h c)) $$ [Hr] with Hr0
  · isplitr; · iexact HR
    iexact Hr
  imodintro
  isplitl [Hs0] <;> iassumption

theorem closeRing (b : Bool) :
    iprop(records X κ ∗ atPos ER (barCell b c) (0 + 1) ∅ 0 ∗ tri (spent b c)) ⊢ (|={Set.univ}=> counters b c : sProp 𝕄) := by
  unfold counters
  iintro ⟨#HR, Hb, H0, H1, H2⟩
  imod (step_close X κ (barCell b c) (bar_mem b c)) $$ [Hb] with Hb0
  · isplitr; · iexact HR
    iexact Hb
  imod (closeHop X κ c b 0) $$ [H0] with ⟨Hs0, Hr0⟩
  · isplitr; · iexact HR
    iexact H0
  imod (closeHop X κ c b 1) $$ [H1] with ⟨Hs1, Hr1⟩
  · isplitr; · iexact HR
    iexact H1
  imod (closeHop X κ c b 2) $$ [H2] with ⟨Hs2, Hr2⟩
  · isplitr; · iexact HR
    iexact H2
  imodintro
  isplitl [Hb0]; · iexact Hb0
  isplitl [Hs0 Hs1 Hs2]
  · isplitl [Hs0]; · iexact Hs0
    isplitl [Hs1] <;> iassumption
  isplitl [Hr0]; · iexact Hr0
  isplitl [Hr1] <;> iassumption

/-! ## The body -/

variable {α : Type} {k : PUnit.{1} → Prog (TpuEff nD τ sig (Elt F) Λ₀ .tc) α} {Kt : α → sProp (MT nD τ sig Unit (Elt F) ℕ UU ℕ)}

/-- One hop of the first ring with its two waits: the slot read stays, the slot filled comes. -/
theorem round (h : Fin 3) (n : Dev nD) (hn : n = nxt false c) (D : CellTallies nD τ sig Unit) (hD : Above D 6)
    {sS rS sS' rS' : DmaSem sig} (hsS : sS = sendS false h) (hrS : rS = recvS false h) (hsS' : sS' = sendS false h) (hrS' : rS' = recvS false h)
    {hsc : (slotM false h.succ).view.ref.isScScratch = false}
    {hsrc : (slotM false h.castSucc).view.WordExact} {hdst : (slotM false h.succ).view.WordExact}
    {hsem : DmaTarget.Typed .vmem (.dma rS) (.remote (Dev.tc n) (slotM false h.succ) (.dma sS) hsc)}
    {h1 : (slotM false h.succ).view.WordExact} {h2 : (slotM false h.castSucc).view.WordExact}
    {h3 : (slotM false h.castSucc).view.WordExact} {h4 : (slotM false h.succ).view.WordExact} :
    iprop(records X κ ∗ levAts L lv ∗ owing c (hopsLeft D false c h.castSucc) ∗ slotPts false c h.castSucc fullShare (gathered X false h.castSucc c)
        ∗ slotAny false (nxt false c) h.succ ∗ reached ER (recvCell false h (nxt false c)) 0 ∗ hopKit false c h)
      ⊢ iprop((iprop(owing c (hopsLeft D false c h.succ) ∗ slotPts false c h.castSucc fullShare (gathered X false h.castSucc c)
            ∗ slotPts false c h.succ fullShare (gathered X false h.succ c) ∗ spent false c h)
          -∗ wp frame (wpE (defs₀ (F := F)) 𝒱₀ (c : Thread nD τ) none) Set.univ (k ⟨⟩) Kt)
        -∗ wp frame (wpE (defs₀ (F := F)) 𝒱₀ (c : Thread nD τ) none) Set.univ
          (.op (.enqueueDma (slotM false h.castSucc) (.remote (Dev.tc n) (slotM false h.succ) (.dma sS) hsc) (.dma rS) hsrc hdst hsem) fun _ =>
            .op (.waitDma2 sS' (slotM false h.succ) (slotM false h.castSucc) h1 h2) fun _ =>
            .op (.waitDma2 rS' (slotM false h.castSucc) (slotM false h.succ) h3 h4) k) Kt) := by
  have a1 : Above (hopsLeft D false c h.succ) (base false + 1 + h.val) :=
    above_hopsLeft false c h.succ _ (hD.mono (by have := h.isLt; show 3 + 1 + h.val ≤ 6; omega)) (by rw [Fin.val_succ]; omega)
  unfold hopKit spent
  iintro ⟨#HR, #Hlev, HO, Hs, Hn, #HrN, HaS, #HrS, HaR, HtS, HtR, Hc⟩ Hk
  iapply (step_hop X κ false c h n hn (hopsLeft D false c h.succ) hsS hrS) $$ [HO Hs Hn HtS HtR]
  · isplitr; · iexact HR
    isplitl [HO]; · rw [hopsLeft_hop]; iexact HO
    isplitl [Hs]; · iexact Hs
    isplitl [Hn]; · iexact Hn
    isplitr; · iexact HrN
    isplitl [HtS]; · iexact HtS
    isplitr; · iexact HrS
    iexact HtR
  iintro ⟨HO, HcS⟩
  iapply (step_waitSend X κ false c h _ (a1.mono (Nat.zero_le _)) hsS') $$ [HO HcS HaS]
  · isplitr; · iexact HR
    isplitr; · iexact Hlev
    isplitl [HO]; · iexact HO
    isplitl [HcS] <;> iassumption
  iintro ⟨HO, HaS, Hs⟩
  iapply (step_waitRecv X κ false c h _ a1 hrS') $$ [HO Hc HaR]
  · isplitr; · iexact HR
    isplitr; · iexact Hlev
    isplitl [HO]; · iexact HO
    isplitl [Hc] <;> iassumption
  iintro ⟨HO, HaR, Hd⟩
  iapply Hk
  isplitl [HO]; · iexact HO
  isplitl [Hs]; · iexact Hs
  isplitl [Hd]; · iexact Hd
  isplitl [HaS] <;> iassumption

/-- What the first ring's body is given. -/
def preA (D : CellTallies nD τ sig Unit) : sProp 𝕄 :=
  iprop(records X κ ∗ levAts L lv ∗ opened false c ∗ owing c (ringDue D false c)
    ∗ (((c : Thread nD τ).loc cc8_stg0_0) ↦{fullShare} (X false c)) ∗ ∃ f, ((c : Thread nD τ).loc cc8_stg1_0) ↦{fullShare} f)

/-- What it leaves: the counters at zero, the own block, and the buffer with everything gathered. -/
def postA (D : CellTallies nD τ sig Unit) : sProp 𝕄 :=
  iprop(counters false c ∗ owing c D
    ∗ (((c : Thread nD τ).loc cc8_stg0_0) ↦{fullShare} (X false c)) ∗ ((c : Thread nD τ).loc cc8_stg1_0) ↦{fullShare} (gathered X false 0 c))

theorem setA0 : ((Memref.whole cc8_stg1_0 : Memref sig .tc .vmem S4x1024x256 .bf16).access
    (Rect.unit (s := S4x1024x256) ![0, 0, 0] S1x1024x256.size inb_S4x1024x256_S1x1024x256_0_0_0)).set = (slotM false 0).view.set :=
  (View.set_reshape _ _).symm

set_option maxHeartbeats 1600000 in
theorem runA (D : CellTallies nD τ sig Unit) (hD : Above D 6) (w0 : (Memref.whole cc8_stg0_0 : Memref sig .tc .vmem S1024x256 .bf16).IsWhole)
    (w1 : (Memref.whole cc8_stg1_0 : Memref sig .tc .vmem S4x1024x256 .bf16).IsWhole) (Kt : PUnit → sProp 𝕄) :
    iprop(preA X κ c D ∗ (postA X c D -∗ Kt ⟨⟩))
      ⊢ wp frame (wpE (defs₀ (F := F)) 𝒱₀ (c : Thread nD τ) none) Set.univ
          (cc8__yag_body (F := F) (Memref.whole cc8_stg0_0) w0 (Memref.whole cc8_stg1_0) w1 cc8_scratch0 cc8_scratch1) Kt := by
  rw [cc8__yag_body_eq_skeleton, cc8__yag_body_skel, k8_part1_eq_skeleton, k8_part2_eq_skeleton, k8_part3_eq_skeleton, k8_part4_eq_skeleton]
  unfold k8_part1_skel k8_part2_skel k8_part3_skel k8_part4_skel
  simp only [semSignalWord, semWaitWord, Prog.lift, Prog.bind_op, Prog.bind_ret, Prog.pure_eq_ret, Prog.bind_assoc, wp_deviceId]
  unfold preA opened ringDue
  iintro ⟨⟨#HR, #Hlev, ⟨HaB, #HrV, HtP, HtN, HcB, HK0, HK1, HK2⟩, HO, Hx, ⟨%f, Hg⟩⟩, Hk⟩
  ihave Hg4 := (Entails.of_eq (slotsA c f)) $$ Hg
  icases Hg4 with ⟨H0, H1, H2, H3⟩
  iapply (step_tellPrv X κ false c _ (dev8_1 c) _) $$ [HO HtP H1 H2 H3]
  · isplitr; · iexact HR
    isplitl [HO]; · iexact HO
    isplitl [HtP]; · iexact HtP
    isplitl [H1 H2 H3]
    · unfold slotAny
      isplitl [H1]; · iexists f; iexact H1
      isplitl [H2]; · iexists f; iexact H2
      iexists f; iexact H3
    iexact HrV
  iintro HO
  iapply (step_tellNxt X κ false c _ (dev8_2 c) _) $$ [HO HtN]
  · isplitr; · iexact HR
    isplitl [HO]; · iexact HO
    iexact HtN
  iintro HO
  iapply (step_waitBar X κ false c _ (above_hopsLeft false c 0 _ (hD.mono (by decide)) (by decide))) $$ [HO HcB HaB]
  · isplitr; · iexact HR
    isplitr; · iexact Hlev
    isplitl [HO]; · iexact HO
    isplitl [HcB] <;> iassumption
  iintro ⟨HO, HaB, Hbar⟩
  unfold barPay
  icases Hbar with ⟨⟨Hn1, Hn2, Hn3⟩, #HrN0, #HrN1, #HrN2⟩
  iapply (wp_load 𝒱₀ (c : Thread nD τ) none Set.univ (m := Memref.whole cc8_stg0_0) (Finset.subset_univ _)) $$ Hx
  iintro Hx
  rw [show (Memref.whole cc8_stg0_0 : Memref sig .tc .vmem S1024x256 .bf16).view.readAt (Elt F)
      (Rect.unit (s := S1024x256) ![0, 0] S1024x256.size inb_S1024x256_S1024x256_0_0).toLoadRect (X false c) = X false c from
    Memref.readAt_unit_zero (Elt F) cc8_stg0_0 (by funext a; fin_cases a <;> rfl) _ _]
  iapply (wp_load_rect 𝒱₀ (c : Thread nD τ) none Set.univ (m := Memref.whole cc8_stg1_0)
    (r := Rect.unit (s := S4x1024x256) ![0, 0, 0] S1x1024x256.size inb_S4x1024x256_S1x1024x256_0_0_0) (S := (slotM false 0).view.set)
    (by rw [setA0])) $$ H0
  iintro H0
  iapply (wp_store 𝒱₀ (c : Thread nD τ) none Set.univ (m := Memref.whole cc8_stg1_0)
    (r := Rect.unit (s := S4x1024x256) ![0, 0, 0] S1x1024x256.size inb_S4x1024x256_S1x1024x256_0_0_0) (Mk := Finset.univ) (S := (slotM false 0).view.set)
    (by rw [View.setOn_univ, setA0])) $$ H0
  iintro H0
  ihave H0 := (Entails.of_eq (pointsTo_congr (storedA X c _ f))) $$ H0
  iapply (round X κ c 0 _ (dev8_3 c) D hD rfl rfl rfl rfl) $$ [HO H0 Hn1 HK0]
  · isplitr; · iexact HR
    isplitr; · iexact Hlev
    isplitl [HO]; · iexact HO
    isplitl [H0]; · iexact H0
    isplitl [Hn1]; · iexact Hn1
    isplitr; · iexact HrN0
    iexact HK0
  iintro ⟨HO, H0, H1, Hd0⟩
  iapply (round X κ c 1 _ (dev8_4 c) D hD rfl rfl rfl rfl) $$ [HO H1 Hn2 HK1]
  · isplitr; · iexact HR
    isplitr; · iexact Hlev
    isplitl [HO]; · iexact HO
    isplitl [H1]; · iexact H1
    isplitl [Hn2]; · iexact Hn2
    isplitr; · iexact HrN1
    iexact HK1
  iintro ⟨HO, H1, H2, Hd1⟩
  iapply (round X κ c 2 _ (dev8_5 c) D hD rfl rfl rfl rfl) $$ [HO H2 Hn3 HK2]
  · isplitr; · iexact HR
    isplitr; · iexact Hlev
    isplitl [HO]; · iexact HO
    isplitl [H2]; · iexact H2
    isplitl [Hn3]; · iexact Hn3
    isplitr; · iexact HrN2
    iexact HK2
  iintro ⟨HO, H2, H3, Hd2⟩
  rw [wp_ret]
  imod (closeRing X κ c false) $$ [HaB Hd0 Hd1 Hd2] with Hcnt
  · isplitr; · iexact HR
    isplitl [HaB]; · iexact HaB
    isplitl [Hd0]; · iexact Hd0
    isplitl [Hd1] <;> iassumption
  imodintro
  iapply Hk
  unfold postA
  isplitl [Hcnt]; · iexact Hcnt
  isplitl [HO]; · iexact HO
  isplitl [Hx]; · iexact Hx
  rw [slotsA]
  isplitl [H0]; · iexact H0
  isplitl [H1]; · iexact H1
  isplitl [H2]; · iexact H2
  iexact H3

end Cert.KernelIdeal.Gen

end
-- ==== Proof.Ideal.ExRun.lean ====
module

public import proofs.«01_k».proof.Proof.Ideal.ExProtocol
public import proofs.«01_k».proof.Proof.Ideal.RingA

/-!
# The exchange's kernel

Its results cut into slots, and the run of its body.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Gen

variable {F : FTy → Type} [FloatOps F]

local notation "𝕄" => MT nD τ sig Unit (Elt F) ℕ UU ℕ

/-! ## A result as its four slots -/

theorem slotsX0 (c : Dev nD) (f : Buf (Elt F) ((c : Thread nD τ).loc cc1_stg9_0)) :
    (((c : Thread nD τ).loc cc1_stg9_0) ↦{fullShare} f : sProp 𝕄)
      = iprop(xslotPts 0 c 0 f ∗ xslotPts 0 c 1 f ∗ xslotPts 0 c 2 f ∗ xslotPts 0 c 3 f) :=
  four (ℓ := (c : Thread nD τ).loc cc1_stg9_0) (fun h => (xslot 0 h).view.set) f
    (fun h h' ne => Finset.disjoint_left.mpr fun i hi hi' => ne (Fin.ext (((mem_xslot0 h i).1 hi).symm.trans ((mem_xslot0 h' i).1 hi'))))
    fun i => ⟨(i : S4x1024x128.Idx) 0, (mem_xslot0 _ i).2 rfl⟩

theorem setX0 (inb) : ((Memref.whole cc1_stg9_0 : Memref sig .tc .vmem S4x1024x128 .bf16).access
    (Rect.unit (s := S4x1024x128) ![0, 0, 0] S1x1024x128.size inb)).set = (xslot 0 0).view.set :=
  (View.set_reshape _ _).symm

theorem slotsX1 (c : Dev nD) (f : Buf (Elt F) ((c : Thread nD τ).loc cc1_stg10_0)) :
    (((c : Thread nD τ).loc cc1_stg10_0) ↦{fullShare} f : sProp 𝕄)
      = iprop(xslotPts 1 c 0 f ∗ xslotPts 1 c 1 f ∗ xslotPts 1 c 2 f ∗ xslotPts 1 c 3 f) :=
  four (ℓ := (c : Thread nD τ).loc cc1_stg10_0) (fun h => (xslot 1 h).view.set) f
    (fun h h' ne => Finset.disjoint_left.mpr fun i hi hi' => ne (Fin.ext (((mem_xslot1 h i).1 hi).symm.trans ((mem_xslot1 h' i).1 hi'))))
    fun i => ⟨(i : S4x128x256.Idx) 0, (mem_xslot1 _ i).2 rfl⟩

theorem setX1 (inb) : ((Memref.whole cc1_stg10_0 : Memref sig .tc .vmem S4x128x256 .bf16).access
    (Rect.unit (s := S4x128x256) ![0, 0, 0] S1x128x256.size inb)).set = (xslot 1 0).view.set :=
  (View.set_reshape _ _).symm

theorem slotsX2 (c : Dev nD) (f : Buf (Elt F) ((c : Thread nD τ).loc cc1_stg11_0)) :
    (((c : Thread nD τ).loc cc1_stg11_0) ↦{fullShare} f : sProp 𝕄)
      = iprop(xslotPts 2 c 0 f ∗ xslotPts 2 c 1 f ∗ xslotPts 2 c 2 f ∗ xslotPts 2 c 3 f) :=
  four (ℓ := (c : Thread nD τ).loc cc1_stg11_0) (fun h => (xslot 2 h).view.set) f
    (fun h h' ne => Finset.disjoint_left.mpr fun i hi hi' => ne (Fin.ext (((mem_xslot2 h i).1 hi).symm.trans ((mem_xslot2 h' i).1 hi'))))
    fun i => ⟨(i : S4x128x256.Idx) 0, (mem_xslot2 _ i).2 rfl⟩

theorem setX2 (inb) : ((Memref.whole cc1_stg11_0 : Memref sig .tc .vmem S4x128x256 .bf16).access
    (Rect.unit (s := S4x128x256) ![0, 0, 0] S1x128x256.size inb)).set = (xslot 2 0).view.set :=
  (View.set_reshape _ _).symm

/-! ## One copy -/

variable (B : XBlocks F) (κ : GSem nD τ sig → ℕ) (c : Dev nD)

/-- A copy under way: what its two waits need. -/
def underWay (c : Dev nD) (d t : Fin 3) : sProp 𝕄 :=
  iprop(atPos EX (xsendCell d t c) 0 ∅ 0 ∗ cred (tallyAt (xsendCell d t c) () (NX t))
    ∗ atPos EX (xrecvCell d t c) 0 ∅ 0 ∗ cred (tallyAt (xrecvCell d t c) () (NX t)))
/-- The two cells of a copy, their round over. -/
def xspent (c : Dev nD) (d t : Fin 3) : sProp 𝕄 := iprop(atPos EX (xsendCell d t c) (0 + 1) ∅ 0 ∗ atPos EX (xrecvCell d t c) (0 + 1) ∅ 0)
/-- The nineteen counters of the exchange, at zero. -/
def xcounters (c : Dev nD) : sProp 𝕄 :=
  iprop(semVal (xbarCell c) 0 ∗ (nine fun d t => semVal (xsendCell d t c) 0) ∗ (nine fun d t => semVal (xrecvCell d t c) 0))

theorem xcloseCopy (d t : Fin 3) :
    iprop(xrecords B κ ∗ xspent c d t) ⊢ (|={Set.univ}=> iprop(semVal (xsendCell d t c) 0 ∗ semVal (xrecvCell d t c) 0) : sProp 𝕄) := by
  unfold xspent
  iintro ⟨#HR, Hs, Hr⟩
  imod (step_xclose B κ (xsendCell d t c) (xsend_mem d t c)) $$ [Hs] with Hs0
  · isplitr; · iexact HR
    iexact Hs
  imod (step_xclose B κ (xrecvCell d t c) (xrecv_mem d t c)) $$ [Hr] with Hr0
  · isplitr; · iexact HR
    iexact Hr
  imodintro
  isplitl [Hs0] <;> iassumption

theorem xcloseRow (d : Fin 3) :
    iprop(xrecords B κ ∗ tri (xspent c d)) ⊢ (|={Set.univ}=> iprop((tri fun t => semVal (xsendCell d t c) 0) ∗ (tri fun t => semVal (xrecvCell d t c) 0)) : sProp 𝕄) := by
  iintro ⟨#HR, H0, H1, H2⟩
  imod (xcloseCopy B κ c d 0) $$ [H0] with ⟨Hs0, Hr0⟩
  · isplitr; · iexact HR
    iexact H0
  imod (xcloseCopy B κ c d 1) $$ [H1] with ⟨Hs1, Hr1⟩
  · isplitr; · iexact HR
    iexact H1
  imod (xcloseCopy B κ c d 2) $$ [H2] with ⟨Hs2, Hr2⟩
  · isplitr; · iexact HR
    iexact H2
  imodintro
  isplitl [Hs0 Hs1 Hs2]
  · isplitl [Hs0]; · iexact Hs0
    isplitl [Hs1] <;> iassumption
  isplitl [Hr0]; · iexact Hr0
  isplitl [Hr1] <;> iassumption

theorem xclose :
    iprop(xrecords B κ ∗ atPos EX (xbarCell c) (0 + 1) ∅ 0 ∗ nine (xspent c)) ⊢ (|={Set.univ}=> xcounters c : sProp 𝕄) := by
  unfold xcounters
  iintro ⟨#HR, Hb, H0, H1, H2⟩
  imod (step_xclose B κ (xbarCell c) (xbar_mem c)) $$ [Hb] with Hb0
  · isplitr; · iexact HR
    iexact Hb
  imod (xcloseRow B κ c 0) $$ [H0] with ⟨Hs0, Hr0⟩
  · isplitr; · iexact HR
    iexact H0
  imod (xcloseRow B κ c 1) $$ [H1] with ⟨Hs1, Hr1⟩
  · isplitr; · iexact HR
    iexact H1
  imod (xcloseRow B κ c 2) $$ [H2] with ⟨Hs2, Hr2⟩
  · isplitr; · iexact HR
    iexact H2
  imodintro
  isplitl [Hb0]; · iexact Hb0
  isplitl [Hs0 Hs1 Hs2]
  · isplitl [Hs0]; · iexact Hs0
    isplitl [Hs1] <;> iassumption
  isplitl [Hr0]; · iexact Hr0
  isplitl [Hr1] <;> iassumption

variable {α : Type} {k : PUnit.{1} → Prog (TpuEff nD τ sig (Elt F) Λ₀ .tc) α} {Kt : α → sProp (MT nD τ sig Unit (Elt F) ℕ UU ℕ)}

/-- A copy starts. -/
theorem xstart (d t : Fin 3) (n : Dev nD) (hn : n = pz d c) (O : CellTallies nD τ sig Unit)
    {sS rS : DmaSem sig} (hsS : sS = xsendS d t) (hrS : rS = xrecvS d t)
    {hsc : (xslot t d.succ).view.ref.isScScratch = false}
    {hsrc : (xsrc t d).view.WordExact} {hdst : (xslot t d.succ).view.WordExact}
    {hsem : DmaTarget.Typed .vmem (.dma rS) (.remote (Dev.tc n) (xslot t d.succ) (.dma sS) hsc)} :
    iprop(xrecords B κ ∗ owing c (O + xDue d t c) ∗ xsrcPts t d c (B t d.succ c)
        ∗ xslotAny t (pz d c) d.succ ∗ reached EX (xrecvCell d t (pz d c)) 0 ∗ copyKit c d t)
      ⊢ iprop((iprop(owing c O ∗ underWay c d t)
          -∗ wp frame (wpE (defs₀ (F := F)) Variants.none (c : Thread nD τ) none) Set.univ (k ⟨⟩) Kt)
        -∗ wp frame (wpE (defs₀ (F := F)) Variants.none (c : Thread nD τ) none) Set.univ
          (.op (.enqueueDma (xsrc t d) (.remote (Dev.tc n) (xslot t d.succ) (.dma sS) hsc) (.dma rS) hsrc hdst hsem) k) Kt) := by
  unfold copyKit underWay
  iintro ⟨#HR, HO, Hs, Hn, #HrN, HaS, #HrS, HaR, HtS, HtR, Hc⟩ Hk
  iapply (step_xcopy B κ c d t n hn O hsS hrS) $$ [HO Hs Hn HtS HtR]
  · isplitr; · iexact HR
    isplitl [HO]; · iexact HO
    isplitl [Hs]; · iexact Hs
    isplitl [Hn]; · iexact Hn
    isplitr; · iexact HrN
    isplitl [HtS]; · iexact HtS
    isplitr; · iexact HrS
    iexact HtR
  iintro ⟨HO, HcS⟩
  iapply Hk
  isplitl [HO]; · iexact HO
  isplitl [HaS]; · iexact HaS
  isplitl [HcS]; · iexact HcS
  isplitl [HaR] <;> iassumption

/-- Its two waits: the source comes back, the slot filled here comes. -/
theorem xfinish (d t : Fin 3) (D : CellTallies nD τ sig Unit) (hD : Above D 2)
    {sS rS : DmaSem sig} (hsS : sS = xsendS d t) (hrS : rS = xrecvS d t)
    {h1 : (xslot t d.succ).view.WordExact} {h2 : (xsrc t d).view.WordExact}
    {h3 : (xsrc t d).view.WordExact} {h4 : (xslot t d.succ).view.WordExact} :
    iprop(xrecords B κ ∗ levAts L lv ∗ owing c D ∗ underWay c d t)
      ⊢ iprop((iprop(owing c D ∗ xsrcPts t d c (B t d.succ c) ∗ xslotPts t c d.succ (xgathered B t d.succ c) ∗ xspent c d t)
          -∗ wp frame (wpE (defs₀ (F := F)) Variants.none (c : Thread nD τ) none) Set.univ (k ⟨⟩) Kt)
        -∗ wp frame (wpE (defs₀ (F := F)) Variants.none (c : Thread nD τ) none) Set.univ
          (.op (.waitDma2 sS (xslot t d.succ) (xsrc t d) h1 h2) fun _ => .op (.waitDma2 rS (xsrc t d) (xslot t d.succ) h3 h4) k) Kt) := by
  unfold underWay xspent
  iintro ⟨#HR, #Hlev, HO, HaS, HcS, HaR, HcR⟩ Hk
  iapply (step_xwaitSend B κ c d t _ (hD.mono (Nat.zero_le _)) hsS) $$ [HO HcS HaS]
  · isplitr; · iexact HR
    isplitr; · iexact Hlev
    isplitl [HO]; · iexact HO
    isplitl [HcS] <;> iassumption
  iintro ⟨HO, HaS, Hs⟩
  iapply (step_xwaitRecv B κ c d t _ hD hrS) $$ [HO HcR HaR]
  · isplitr; · iexact HR
    isplitr; · iexact Hlev
    isplitl [HO]; · iexact HO
    isplitl [HcR] <;> iassumption
  iintro ⟨HO, HaR, Hd⟩
  iapply Hk
  isplitl [HO]; · iexact HO
  isplitl [Hs]; · iexact Hs
  isplitl [Hd]; · iexact Hd
  isplitl [HaS] <;> iassumption

/-! ## The sources -/

theorem xsrc_set (t d : Fin 3) : (xsrc t d).view.set = Finset.univ := by
  fin_cases t <;> fin_cases d <;> exact View.set_whole _

theorem xsrcs0' (d : Fin 3) (v : Vec F S1024x128 .bf16) :
    (xsrcPts 0 d c v : sProp 𝕄) = (((c : Thread nD τ).loc cc1_stg0_0) ↦{xshare 0 d} v) := by
  unfold xsrcPts; rw [xsrc_set]

/-- The rows of the input as the sources of three copies. -/
theorem xsrcs0 (v : Vec F S1024x128 .bf16) :
    (((c : Thread nD τ).loc cc1_stg0_0) ↦{fullShare} v : sProp 𝕄)
      = iprop(xsrcPts 0 0 c v ∗ xsrcPts 0 1 c v ∗ xsrcPts 0 2 c v) := by
  have e (q : PosShare TreeShare) : (((c : Thread nD τ).loc cc1_stg0_0) ↦{q} v : sProp 𝕄)
      = iprop((((c : Thread nD τ).loc cc1_stg0_0) ↦{q.left} v) ∗ (((c : Thread nD τ).loc cc1_stg0_0) ↦{q.right} v)) :=
    have h := pointsTo_share (ℓ := (c : Thread nD τ).loc cc1_stg0_0) (I := Finset.univ) (f := v) (PosShare.mem_left_op_right q)
    BI.equiv_iff.mp ⟨h.1, h.2⟩
  rw [e, e fullShare.right, xsrcs0', xsrcs0', xsrcs0']

theorem xsrcs1 (d : Fin 3) (v : Vec F S128x256 .bf16) :
    (xsrcPts 1 d c v : sProp 𝕄) = ((xsrc 1 d).view.loc (c : Thread nD τ) ↦{fullShare} (xput 1 d v)) := by
  unfold xsrcPts; rw [xsrc_set]
theorem xsrcs2 (d : Fin 3) (v : Vec F S128x256 .bf16) :
    (xsrcPts 2 d c v : sProp 𝕄) = ((xsrc 2 d).view.loc (c : Thread nD τ) ↦{fullShare} (xput 2 d v)) := by
  unfold xsrcPts; rw [xsrc_set]

/-- The nine operands, as the pipeline staged them. -/
def xins (c : Dev nD) : sProp 𝕄 :=
  iprop((((c : Thread nD τ).loc cc1_stg0_0) ↦{fullShare} (B 0 0 c)) ∗ (((c : Thread nD τ).loc cc1_stg1_0) ↦{fullShare} (B 1 0 c))
    ∗ (((c : Thread nD τ).loc cc1_stg2_0) ↦{fullShare} (B 2 0 c))
    ∗ (((c : Thread nD τ).loc cc1_stg3_0) ↦{fullShare} (B 1 1 c)) ∗ (((c : Thread nD τ).loc cc1_stg4_0) ↦{fullShare} (B 1 2 c))
    ∗ (((c : Thread nD τ).loc cc1_stg5_0) ↦{fullShare} (B 1 3 c))
    ∗ (((c : Thread nD τ).loc cc1_stg6_0) ↦{fullShare} (B 2 1 c)) ∗ (((c : Thread nD τ).loc cc1_stg7_0) ↦{fullShare} (B 2 2 c))
    ∗ (((c : Thread nD τ).loc cc1_stg8_0) ↦{fullShare} (B 2 3 c)))

/-- What the body is given. -/
def preX (D : CellTallies nD τ sig Unit) : sProp 𝕄 :=
  iprop(xrecords B κ ∗ levAts L lv ∗ xopened c ∗ owing c (exchDue D c) ∗ xins B c
    ∗ (∃ f, ((c : Thread nD τ).loc cc1_stg9_0) ↦{fullShare} f) ∗ (∃ f, ((c : Thread nD τ).loc cc1_stg10_0) ↦{fullShare} f)
    ∗ (∃ f, ((c : Thread nD τ).loc cc1_stg11_0) ↦{fullShare} f))
/-- What it leaves. -/
def postX (D : CellTallies nD τ sig Unit) : sProp 𝕄 :=
  iprop(xcounters c ∗ owing c D ∗ xins B c
    ∗ (((c : Thread nD τ).loc cc1_stg9_0) ↦{fullShare} (xgathered B 0 0 c)) ∗ (((c : Thread nD τ).loc cc1_stg10_0) ↦{fullShare} (xgathered B 1 0 c))
    ∗ (((c : Thread nD τ).loc cc1_stg11_0) ↦{fullShare} (xgathered B 2 0 c)))

set_option maxHeartbeats 6400000 in
theorem runX (hB : ∀ e, B 0 e c = B 0 0 c) (D : CellTallies nD τ sig Unit) (hD : Above D 2)
    (w0 : (Memref.whole cc1_stg0_0 : Memref sig .tc .vmem S1024x128 .bf16).IsWhole)
    (w1 : (Memref.whole cc1_stg1_0 : Memref sig .tc .vmem S128x256 .bf16).IsWhole)
    (w2 : (Memref.whole cc1_stg2_0 : Memref sig .tc .vmem S128x256 .bf16).IsWhole)
    (w3 : (Memref.whole cc1_stg3_0 : Memref sig .tc .vmem S128x256 .bf16).IsWhole)
    (w4 : (Memref.whole cc1_stg4_0 : Memref sig .tc .vmem S128x256 .bf16).IsWhole)
    (w5 : (Memref.whole cc1_stg5_0 : Memref sig .tc .vmem S128x256 .bf16).IsWhole)
    (w6 : (Memref.whole cc1_stg6_0 : Memref sig .tc .vmem S128x256 .bf16).IsWhole)
    (w7 : (Memref.whole cc1_stg7_0 : Memref sig .tc .vmem S128x256 .bf16).IsWhole)
    (w8 : (Memref.whole cc1_stg8_0 : Memref sig .tc .vmem S128x256 .bf16).IsWhole)
    (w9 : (Memref.whole cc1_stg9_0 : Memref sig .tc .vmem S4x1024x128 .bf16).IsWhole)
    (w10 : (Memref.whole cc1_stg10_0 : Memref sig .tc .vmem S4x128x256 .bf16).IsWhole)
    (w11 : (Memref.whole cc1_stg11_0 : Memref sig .tc .vmem S4x128x256 .bf16).IsWhole)
    (Kt : PUnit → sProp 𝕄) :
    iprop(preX B κ c D ∗ (postX B c D -∗ Kt ⟨⟩))
      ⊢ wp frame (wpE (defs₀ (F := F)) Variants.none (c : Thread nD τ) none) Set.univ
          (cc1__exch_body (F := F) (Memref.whole cc1_stg0_0) w0 (Memref.whole cc1_stg1_0) w1 (Memref.whole cc1_stg2_0) w2 (Memref.whole cc1_stg3_0) w3 (Memref.whole cc1_stg4_0) w4 (Memref.whole cc1_stg5_0) w5 (Memref.whole cc1_stg6_0) w6 (Memref.whole cc1_stg7_0) w7 (Memref.whole cc1_stg8_0) w8 (Memref.whole cc1_stg9_0) w9 (Memref.whole cc1_stg10_0) w10 (Memref.whole cc1_stg11_0) w11 cc1_scratch0 cc1_scratch1) Kt := by
  rw [cc1__exch_body_eq_skeleton, cc1__exch_body_skel, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  unfold k1_part1_skel k1_part2_skel k1_part3_skel k1_part4_skel k1_part5_skel k1_part6_skel k1_part7_skel k1_part8_skel k1_part9_skel k1_part10_skel k1_part11_skel k1_part12_skel
  simp only [semSignalWord, semWaitWord, Prog.lift, Prog.bind_op, Prog.bind_ret, Prog.pure_eq_ret, Prog.bind_assoc, wp_deviceId]
  unfold preX xopened exchDue
  iintro ⟨⟨#HR, #Hlev, ⟨HaB, ⟨#Hr0, #Hr1, #Hr2⟩, ⟨Ht0, Ht1, Ht2⟩, HcB, ⟨K00, K01, K02⟩, ⟨K10, K11, K12⟩, ⟨K20, K21, K22⟩⟩, HO, Hin, ⟨%f0, G0⟩, ⟨%f1, G1⟩, ⟨%f2, G2⟩⟩, Hk⟩
  unfold xins
  icases Hin with ⟨I0, I1, I2, I3, I4, I5, I6, I7, I8⟩
  ihave G0 := (Entails.of_eq (slotsX0 c f0)) $$ G0
  icases G0 with ⟨G00, G01, G02, G03⟩
  ihave G1 := (Entails.of_eq (slotsX1 c f1)) $$ G1
  icases G1 with ⟨G10, G11, G12, G13⟩
  ihave G2 := (Entails.of_eq (slotsX2 c f2)) $$ G2
  icases G2 with ⟨G20, G21, G22, G23⟩
  iapply (step_xtell B κ c 0 _ (dev1_1 c) _) $$ [HO Ht0 G03 G13 G23]
  · isplitr; · iexact HR
    isplitl [HO]; · iexact HO
    isplitl [Ht0]; · iexact Ht0
    isplitl [G03 G13 G23]
    · unfold xslotAny
      isplitl [G03]; · iexists f0; iexact G03
      isplitl [G13]; · iexists f1; iexact G13
      iexists f2; iexact G23
    iexact Hr2
  iintro HO
  iapply (step_xtell B κ c 1 _ (dev1_2 c) _) $$ [HO Ht1 G02 G12 G22]
  · isplitr; · iexact HR
    isplitl [HO]; · iexact HO
    isplitl [Ht1]; · iexact Ht1
    isplitl [G02 G12 G22]
    · unfold xslotAny
      isplitl [G02]; · iexists f0; iexact G02
      isplitl [G12]; · iexists f1; iexact G12
      iexists f2; iexact G22
    iexact Hr1
  iintro HO
  iapply (step_xtell B κ c 2 _ (dev1_3 c) _) $$ [HO Ht2 G01 G11 G21]
  · isplitr; · iexact HR
    isplitl [HO]; · iexact HO
    isplitl [Ht2]; · iexact Ht2
    isplitl [G01 G11 G21]
    · unfold xslotAny
      isplitl [G01]; · iexists f0; iexact G01
      isplitl [G11]; · iexists f1; iexact G11
      iexists f2; iexact G21
    iexact Hr0
  iintro HO
  iapply (step_xwaitBar B κ c _ (above_xAll (hD.mono (by decide)) c)) $$ [HO HcB HaB]
  · isplitr; · iexact HR
    isplitr; · iexact Hlev
    isplitl [HO]; · iexact HO
    isplitl [HcB] <;> iassumption
  iintro ⟨HO, HaB, P0, P1, P2⟩
  unfold xbarPay
  icases P0 with ⟨⟨N00, N01, N02⟩, #R00, #R01, #R02⟩
  icases P1 with ⟨⟨N10, N11, N12⟩, #R10, #R11, #R12⟩
  icases P2 with ⟨⟨N20, N21, N22⟩, #R20, #R21, #R22⟩
  iapply (wp_load Variants.none (c : Thread nD τ) none Set.univ (m := Memref.whole cc1_stg0_0) (Finset.subset_univ _)) $$ I0
  iintro I0
  rw [show (Memref.whole cc1_stg0_0 : Memref sig .tc .vmem S1024x128 .bf16).view.readAt (Elt F)
      (Rect.unit (s := S1024x128) ![0, 0] S1024x128.size inb_S1024x128_S1024x128_0_0).toLoadRect (B 0 0 c) = B 0 0 c from
    Memref.readAt_unit_zero (Elt F) cc1_stg0_0 (by funext a; fin_cases a <;> rfl) _ _]
  iapply (wp_load_rect Variants.none (c : Thread nD τ) none Set.univ (m := Memref.whole cc1_stg9_0)
    (r := Rect.unit (s := S4x1024x128) ![0, 0, 0] S1x1024x128.size inb_S4x1024x128_S1x1024x128_0_0_0) (S := (xslot 0 0).view.set)
    (by rw [setX0])) $$ G00
  iintro G00
  iapply (wp_store Variants.none (c : Thread nD τ) none Set.univ (m := Memref.whole cc1_stg9_0)
    (r := Rect.unit (s := S4x1024x128) ![0, 0, 0] S1x1024x128.size inb_S4x1024x128_S1x1024x128_0_0_0) (Mk := Finset.univ) (S := (xslot 0 0).view.set)
    (by rw [View.setOn_univ, setX0])) $$ G00
  iintro G00
  ihave G00 := (Entails.of_eq (pointsTo_congr (xstored0 B c _ f0))) $$ G00
  iapply (wp_load Variants.none (c : Thread nD τ) none Set.univ (m := Memref.whole cc1_stg1_0) (Finset.subset_univ _)) $$ I1
  iintro I1
  rw [show (Memref.whole cc1_stg1_0 : Memref sig .tc .vmem S128x256 .bf16).view.readAt (Elt F)
      (Rect.unit (s := S128x256) ![0, 0] S128x256.size inb_S128x256_S128x256_0_0).toLoadRect (B 1 0 c) = B 1 0 c from
    Memref.readAt_unit_zero (Elt F) cc1_stg1_0 (by funext a; fin_cases a <;> rfl) _ _]
  iapply (wp_load_rect Variants.none (c : Thread nD τ) none Set.univ (m := Memref.whole cc1_stg10_0)
    (r := Rect.unit (s := S4x128x256) ![0, 0, 0] S1x128x256.size inb_S4x128x256_S1x128x256_0_0_0) (S := (xslot 1 0).view.set)
    (by rw [setX1])) $$ G10
  iintro G10
  iapply (wp_store Variants.none (c : Thread nD τ) none Set.univ (m := Memref.whole cc1_stg10_0)
    (r := Rect.unit (s := S4x128x256) ![0, 0, 0] S1x128x256.size inb_S4x128x256_S1x128x256_0_0_0) (Mk := Finset.univ) (S := (xslot 1 0).view.set)
    (by rw [View.setOn_univ, setX1])) $$ G10
  iintro G10
  ihave G10 := (Entails.of_eq (pointsTo_congr (xstored1 B c _ f1))) $$ G10
  iapply (wp_load Variants.none (c : Thread nD τ) none Set.univ (m := Memref.whole cc1_stg2_0) (Finset.subset_univ _)) $$ I2
  iintro I2
  rw [show (Memref.whole cc1_stg2_0 : Memref sig .tc .vmem S128x256 .bf16).view.readAt (Elt F)
      (Rect.unit (s := S128x256) ![0, 0] S128x256.size inb_S128x256_S128x256_0_0).toLoadRect (B 2 0 c) = B 2 0 c from
    Memref.readAt_unit_zero (Elt F) cc1_stg2_0 (by funext a; fin_cases a <;> rfl) _ _]
  iapply (wp_load_rect Variants.none (c : Thread nD τ) none Set.univ (m := Memref.whole cc1_stg11_0)
    (r := Rect.unit (s := S4x128x256) ![0, 0, 0] S1x128x256.size inb_S4x128x256_S1x128x256_0_0_0) (S := (xslot 2 0).view.set)
    (by rw [setX2])) $$ G20
  iintro G20
  iapply (wp_store Variants.none (c : Thread nD τ) none Set.univ (m := Memref.whole cc1_stg11_0)
    (r := Rect.unit (s := S4x128x256) ![0, 0, 0] S1x128x256.size inb_S4x128x256_S1x128x256_0_0_0) (Mk := Finset.univ) (S := (xslot 2 0).view.set)
    (by rw [View.setOn_univ, setX2])) $$ G20
  iintro G20
  ihave G20 := (Entails.of_eq (pointsTo_congr (xstored2 B c _ f2))) $$ G20
  ihave I0 := (Entails.of_eq (xsrcs0 c (B 0 0 c))) $$ I0
  icases I0 with ⟨S00, S01, S02⟩
  ihave S00 := (Entails.of_eq (congrArg (xsrcPts 0 0 c) (hB 1).symm)) $$ S00
  ihave S01 := (Entails.of_eq (congrArg (xsrcPts 0 1 c) (hB 2).symm)) $$ S01
  ihave S02 := (Entails.of_eq (congrArg (xsrcPts 0 2 c) (hB 3).symm)) $$ S02
  ihave S10 := (Entails.of_eq (xsrcs1 c 0 (B 1 1 c)).symm) $$ [I3]; · iexact I3
  ihave S11 := (Entails.of_eq (xsrcs1 c 1 (B 1 2 c)).symm) $$ [I4]; · iexact I4
  ihave S12 := (Entails.of_eq (xsrcs1 c 2 (B 1 3 c)).symm) $$ [I5]; · iexact I5
  ihave S20 := (Entails.of_eq (xsrcs2 c 0 (B 2 1 c)).symm) $$ [I6]; · iexact I6
  ihave S21 := (Entails.of_eq (xsrcs2 c 1 (B 2 2 c)).symm) $$ [I7]; · iexact I7
  ihave S22 := (Entails.of_eq (xsrcs2 c 2 (B 2 3 c)).symm) $$ [I8]; · iexact I8
  iapply (xstart B κ c 0 0 _ (dev1_4 c) _ rfl rfl) $$ [HO S00 N00 K00]
  · isplitr; · iexact HR
    isplitl [HO]; · iexact HO
    isplitl [S00]; · iexact S00
    isplitl [N00]; · iexact N00
    isplitr; · iexact R00
    iexact K00
  iintro ⟨HO, K00⟩
  iapply (xstart B κ c 0 1 _ (dev1_5 c) _ rfl rfl) $$ [HO S10 N01 K01]
  · isplitr; · iexact HR
    isplitl [HO]; · iexact HO
    isplitl [S10]; · iexact S10
    isplitl [N01]; · iexact N01
    isplitr; · iexact R01
    iexact K01
  iintro ⟨HO, K01⟩
  iapply (xstart B κ c 0 2 _ (dev1_6 c) _ rfl rfl) $$ [HO S20 N02 K02]
  · isplitr; · iexact HR
    isplitl [HO]; · iexact HO
    isplitl [S20]; · iexact S20
    isplitl [N02]; · iexact N02
    isplitr; · iexact R02
    iexact K02
  iintro ⟨HO, K02⟩
  iapply (xstart B κ c 1 0 _ (dev1_7 c) _ rfl rfl) $$ [HO S01 N10 K10]
  · isplitr; · iexact HR
    isplitl [HO]; · iexact HO
    isplitl [S01]; · iexact S01
    isplitl [N10]; · iexact N10
    isplitr; · iexact R10
    iexact K10
  iintro ⟨HO, K10⟩
  iapply (xstart B κ c 1 1 _ (dev1_8 c) _ rfl rfl) $$ [HO S11 N11 K11]
  · isplitr; · iexact HR
    isplitl [HO]; · iexact HO
    isplitl [S11]; · iexact S11
    isplitl [N11]; · iexact N11
    isplitr; · iexact R11
    iexact K11
  iintro ⟨HO, K11⟩
  iapply (xstart B κ c 1 2 _ (dev1_9 c) _ rfl rfl) $$ [HO S21 N12 K12]
  · isplitr; · iexact HR
    isplitl [HO]; · iexact HO
    isplitl [S21]; · iexact S21
    isplitl [N12]; · iexact N12
    isplitr; · iexact R12
    iexact K12
  iintro ⟨HO, K12⟩
  iapply (xstart B κ c 2 0 _ (dev1_10 c) _ rfl rfl) $$ [HO S02 N20 K20]
  · isplitr; · iexact HR
    isplitl [HO]; · iexact HO
    isplitl [S02]; · iexact S02
    isplitl [N20]; · iexact N20
    isplitr; · iexact R20
    iexact K20
  iintro ⟨HO, K20⟩
  iapply (xstart B κ c 2 1 _ (dev1_11 c) _ rfl rfl) $$ [HO S12 N21 K21]
  · isplitr; · iexact HR
    isplitl [HO]; · iexact HO
    isplitl [S12]; · iexact S12
    isplitl [N21]; · iexact N21
    isplitr; · iexact R21
    iexact K21
  iintro ⟨HO, K21⟩
  iapply (xstart B κ c 2 2 _ (dev1_12 c) _ rfl rfl) $$ [HO S22 N22 K22]
  · isplitr; · iexact HR
    isplitl [HO]; · iexact HO
    isplitl [S22]; · iexact S22
    isplitl [N22]; · iexact N22
    isplitr; · iexact R22
    iexact K22
  iintro ⟨HO, K22⟩
  iapply (xfinish B κ c 0 0 D hD rfl rfl) $$ [HO K00]
  · isplitr; · iexact HR
    isplitr; · iexact Hlev
    isplitl [HO]; · iexact HO
    iexact K00
  iintro ⟨HO, S00, G01, K00⟩
  iapply (xfinish B κ c 0 1 D hD rfl rfl) $$ [HO K01]
  · isplitr; · iexact HR
    isplitr; · iexact Hlev
    isplitl [HO]; · iexact HO
    iexact K01
  iintro ⟨HO, S10, G11, K01⟩
  iapply (xfinish B κ c 0 2 D hD rfl rfl) $$ [HO K02]
  · isplitr; · iexact HR
    isplitr; · iexact Hlev
    isplitl [HO]; · iexact HO
    iexact K02
  iintro ⟨HO, S20, G21, K02⟩
  iapply (xfinish B κ c 1 0 D hD rfl rfl) $$ [HO K10]
  · isplitr; · iexact HR
    isplitr; · iexact Hlev
    isplitl [HO]; · iexact HO
    iexact K10
  iintro ⟨HO, S01, G02, K10⟩
  iapply (xfinish B κ c 1 1 D hD rfl rfl) $$ [HO K11]
  · isplitr; · iexact HR
    isplitr; · iexact Hlev
    isplitl [HO]; · iexact HO
    iexact K11
  iintro ⟨HO, S11, G12, K11⟩
  iapply (xfinish B κ c 1 2 D hD rfl rfl) $$ [HO K12]
  · isplitr; · iexact HR
    isplitr; · iexact Hlev
    isplitl [HO]; · iexact HO
    iexact K12
  iintro ⟨HO, S21, G22, K12⟩
  iapply (xfinish B κ c 2 0 D hD rfl rfl) $$ [HO K20]
  · isplitr; · iexact HR
    isplitr; · iexact Hlev
    isplitl [HO]; · iexact HO
    iexact K20
  iintro ⟨HO, S02, G03, K20⟩
  iapply (xfinish B κ c 2 1 D hD rfl rfl) $$ [HO K21]
  · isplitr; · iexact HR
    isplitr; · iexact Hlev
    isplitl [HO]; · iexact HO
    iexact K21
  iintro ⟨HO, S12, G13, K21⟩
  iapply (xfinish B κ c 2 2 D hD rfl rfl) $$ [HO K22]
  · isplitr; · iexact HR
    isplitr; · iexact Hlev
    isplitl [HO]; · iexact HO
    iexact K22
  iintro ⟨HO, S22, G23, K22⟩
  rw [wp_ret]
  imod (xclose B κ c) $$ [HaB K00 K01 K02 K10 K11 K12 K20 K21 K22] with Hcnt
  · isplitr; · iexact HR
    isplitl [HaB]; · iexact HaB
    isplitl [K00 K01 K02]
    · isplitl [K00]; · iexact K00
      isplitl [K01] <;> iassumption
    isplitl [K10 K11 K12]
    · isplitl [K10]; · iexact K10
      isplitl [K11] <;> iassumption
    isplitl [K20]; · iexact K20
    isplitl [K21] <;> iassumption
  ihave S00 := (Entails.of_eq (congrArg (xsrcPts 0 0 c) (hB 1))) $$ [S00]; · iexact S00
  ihave S01 := (Entails.of_eq (congrArg (xsrcPts 0 1 c) (hB 2))) $$ [S01]; · iexact S01
  ihave S02 := (Entails.of_eq (congrArg (xsrcPts 0 2 c) (hB 3))) $$ [S02]; · iexact S02
  ihave I3 := (Entails.of_eq (xsrcs1 c 0 (B 1 1 c))) $$ [S10]; · iexact S10
  ihave I4 := (Entails.of_eq (xsrcs1 c 1 (B 1 2 c))) $$ [S11]; · iexact S11
  ihave I5 := (Entails.of_eq (xsrcs1 c 2 (B 1 3 c))) $$ [S12]; · iexact S12
  ihave I6 := (Entails.of_eq (xsrcs2 c 0 (B 2 1 c))) $$ [S20]; · iexact S20
  ihave I7 := (Entails.of_eq (xsrcs2 c 1 (B 2 2 c))) $$ [S21]; · iexact S21
  ihave I8 := (Entails.of_eq (xsrcs2 c 2 (B 2 3 c))) $$ [S22]; · iexact S22
  imodintro
  iapply Hk
  unfold postX xins
  isplitl [Hcnt]; · iexact Hcnt
  isplitl [HO]; · iexact HO
  isplitl [S00 S01 S02 I1 I2 I3 I4 I5 I6 I7 I8]
  · isplitl [S00 S01 S02]
    · rw [xsrcs0]
      isplitl [S00]; · iexact S00
      isplitl [S01] <;> iassumption
    isplitl [I1]; · iexact I1
    isplitl [I2]; · iexact I2
    isplitl [I3]; · iexact I3
    isplitl [I4]; · iexact I4
    isplitl [I5]; · iexact I5
    isplitl [I6]; · iexact I6
    isplitl [I7]; · iexact I7
    iexact I8
  isplitl [G00 G01 G02 G03]
  · rw [slotsX0]
    isplitl [G00]; · iexact G00
    isplitl [G01]; · iexact G01
    isplitl [G02]; · iexact G02
    iexact G03
  isplitl [G10 G11 G12 G13]
  · rw [slotsX1]
    isplitl [G10]; · iexact G10
    isplitl [G11]; · iexact G11
    isplitl [G12]; · iexact G12
    iexact G13
  rw [slotsX2]
  isplitl [G20]; · iexact G20
  isplitl [G21]; · iexact G21
  isplitl [G22]; · iexact G22
  iexact G23

end Cert.KernelIdeal.Gen

end
-- ==== Proof.Ideal.Mm.lean ====
module

public import proofs.«01_k».proof.Proof.Ideal.ExRun
public import proofs.«01_k».proof.Proof.Gen.KernelIdeal.Regions
public import proofs.«01_k».proof.Proof.Gen.KernelIdeal.Points
public import Idealize.ShloMosaic.Lib.Pipeline.ValueKit
public import Idealize.ShloMosaic.Lib.Pipeline.RegionTalk
public import Idealize.ShloMosaic.Lib.Pipeline.TableIdle

/-!
# Reading and writing a staging buffer whole

The matrix products and the attention read each of their blocks as a whole and store the result as a whole.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

namespace Cert.KernelIdeal.Gen

variable {F : FTy → Type} [FloatOps F]

local notation "𝕄" => MT nD τ sig Unit (Elt F) ℕ UU ℕ

/-- The view through the rectangle that is all of a memref reads what the memref reads. -/
theorem read_all {cs : CoreSpace} {s : Shape} {e : EltTy} (m : Memref sig .tc cs s e) {off : Fin s.rank → ℕ}
    (h0 : off = fun _ => 0) (inb : ∀ a, off a + s.size a ≤ s.size a) (f : m.view.ty.Contents (Elt F)) :
    (m.access (Rect.unit off s.size inb)).read (Elt F) f = m.view.read (Elt F) f := by
  subst h0
  funext x
  exact congrArg (m.view.read (Elt F) f) (Rect.emb_whole_apply s x)

/-- Loading all of a memref reads its contents. -/
theorem load_all (c : Dev nD) {cs : CoreSpace} {s : Shape} {e : EltTy} (m : Memref sig .tc cs s e) {off : Fin s.rank → ℕ}
    (h0 : off = fun _ => 0) {inb : ∀ a, off a + s.size a ≤ s.size a} {hl} (X : s.Idx → Elt F e)
    {Kt : PUnit.{1} → sProp 𝕄} {k : (s.Idx → Elt F e) → Prog (TpuEff nD τ sig (Elt F) Λ₀ .tc) PUnit} :
    owns (c : Thread nD τ) m fullShare X
      ⊢ iprop((owns (c : Thread nD τ) m fullShare X -∗ wp frame (wpE (defs₀ (F := F)) Variants.none (c : Thread nD τ) none) Set.univ (k X) Kt)
        -∗ wp frame (wpE (defs₀ (F := F)) Variants.none (c : Thread nD τ) none) Set.univ
            (.op (.load m (Rect.unit off s.size inb).toLoadRect hl) k) Kt) := by
  unfold owns
  iintro ⟨%f, %hf, H⟩ Hk
  iapply (wp_load Variants.none (c : Thread nD τ) none Set.univ (m := m) (m.view.setOn_subset_set _)) $$ H
  iintro H
  rw [show m.view.readAt (Elt F) (Rect.unit off s.size inb).toLoadRect f = X from (read_all m h0 inb f).trans hf]
  iapply Hk
  iexists f
  isplitr; · ipureintro; exact hf
  iexact H

/-- Storing all of a memref leaves what was stored. -/
theorem store_all (c : Dev nD) {cs : CoreSpace} {s : Shape} {e : EltTy} (m : Memref sig .tc cs s e) {off : Fin s.rank → ℕ}
    (h0 : off = fun _ => 0) {inb : ∀ a, off a + s.size a ≤ s.size a} {hx hm} (X w : s.Idx → Elt F e)
    {Kt : PUnit.{1} → sProp 𝕄} {k : PUnit → Prog (TpuEff nD τ sig (Elt F) Λ₀ .tc) PUnit} :
    owns (c : Thread nD τ) m fullShare X
      ⊢ iprop((owns (c : Thread nD τ) m fullShare w -∗ wp frame (wpE (defs₀ (F := F)) Variants.none (c : Thread nD τ) none) Set.univ (k ⟨⟩) Kt)
        -∗ wp frame (wpE (defs₀ (F := F)) Variants.none (c : Thread nD τ) none) Set.univ
            (.op (.store m (Rect.unit off s.size inb) w Finset.univ hx hm) k) Kt) := by
  unfold owns
  iintro ⟨%f, %hf, H⟩ Hk
  iapply (wp_store Variants.none (c : Thread nD τ) none Set.univ (m := m) (r := Rect.unit off s.size inb) (Mk := Finset.univ)
    (S := m.view.set) (View.set_slice_subset _ _)) $$ H
  iintro H
  iapply Hk
  iexists (m.access (Rect.unit off s.size inb)).write (Elt F) f w Finset.univ
  isplitr
  · ipureintro
    exact (read_all m h0 inb _).symm.trans (View.read_write_univ _ _)
  iexact H

/-- A body that has nothing left to do. -/
theorem wp_done (c : Dev nD) {Kt : PUnit.{1} → sProp (MT nD τ sig Unit (Elt F) ℕ UU ℕ)} :
    Kt ⟨⟩ ⊢ wp frame (wpE (defs₀ (F := F)) Variants.none (c : Thread nD τ) none) Set.univ
      ((Prog.ret PUnit.unit).bind fun __r => Pure.pure PUnit.unit : Prog (TpuEff nD τ sig (Elt F) Λ₀ .tc) PUnit) Kt := by
  show _ ⊢ wp frame (wpE (defs₀ (F := F)) Variants.none (c : Thread nD τ) none) Set.univ (.ret PUnit.unit) Kt
  rw [wp_ret]
  exact fupd_intro

end Cert.KernelIdeal.Gen

end
-- ==== Proof.Ideal.Attn.lean ====
module

public import proofs.«01_k».proof.Proof.Ideal.Mm

/-!
# The attention of call 7

One point of the grid per batch entry; a device has two heads, and each fills one half of the columns.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation heldIn)

namespace Cert.KernelIdeal.Gen

variable {F : FTy → Type} [FloatOps F]

local notation "𝕄" => MT nD τ sig Unit (Elt F) ℕ UU ℕ

/-- Two blocks of columns side by side. -/
def beside (l r : Vec F S256x128 .bf16) : Vec F S256x256 .bf16 := fun i =>
  if h : (i 1).val < 128 then l (ValueIdx.ix2 (i 0) ⟨(i 1).val, h⟩)
  else r (ValueIdx.ix2 (i 0) ⟨(i 1).val - 128, by have h1 : (i 1).val < 256 := (i 1).isLt; show _ < 128; omega⟩)

/-- The second head's output. -/
def head1 (q k v : Vec F S256x256 .f32) (qr : Vec F S256x128 .f32) (kr : Vec F S256x64 .f32) : Vec F S256x128 .bf16 :=
  k7_pay1 (k7_pay4 v) (k7_pay5 qr) (k7_pay6 kr) (k7_pay8 q) (k7_pay9 k)

/-- Both heads' outputs. -/
def heads (q k v : Vec F S256x256 .f32) (qr : Vec F S256x128 .f32) (kr : Vec F S256x64 .f32) : Vec F S256x256 .bf16 :=
  beside (k7_pay7 q k v qr kr) (head1 q k v qr kr)

abbrev leftR : Rect S256x256 := Rect.unit ![0, 0] S256x128.size inb_S256x256_S256x128_0_0
abbrev rightR : Rect S256x256 := Rect.unit ![0, 128] S256x128.size inb_S256x256_S256x128_0_128

theorem emb_left (x : S256x128.Idx) : leftR.emb x = ValueIdx.ix2 (x 0) ⟨(x 1).val, Nat.lt_of_lt_of_le (x 1).isLt (by decide)⟩ := by
  funext b; fin_cases b
  · refine Fin.ext ?_; show 0 + 1 * (x 0).val = (x 0).val; omega
  · refine Fin.ext ?_; show 0 + 1 * (x 1).val = (x 1).val; omega

theorem emb_right (x : S256x128.Idx) : rightR.emb x
    = ValueIdx.ix2 (x 0) ⟨128 + (x 1).val, by have h : (x 1).val < 128 := (x 1).isLt; show _ < 256; omega⟩ := by
  funext b; fin_cases b
  · refine Fin.ext ?_; show 0 + 1 * (x 0).val = (x 0).val; omega
  · refine Fin.ext ?_; show 128 + 1 * (x 1).val = 128 + (x 1).val; omega

/-- Storing the two halves fills the block. -/
theorem stored_halves (p : Memref sig .tc .vmem S256x256 .bf16) (f : p.view.ty.Contents (Elt F)) (l r : Vec F S256x128 .bf16) :
    p.view.read (Elt F) ((p.access rightR).write (Elt F) ((p.access leftR).write (Elt F) f l Finset.univ) r Finset.univ) = beside l r := by
  funext i
  unfold beside
  split_ifs with h
  · have e : i = leftR.emb (ValueIdx.ix2 (i 0) ⟨(i 1).val, h⟩ : S256x128.Idx) := by
      rw [emb_left]; exact (ValueIdx.eq_ix2 i)
    have off : (p.access leftR).emb (ValueIdx.ix2 (i 0) ⟨(i 1).val, h⟩ : S256x128.Idx) ∉ (p.access rightR).setOn Finset.univ := by
      intro hm
      obtain ⟨y, -, hy⟩ := Finset.mem_map.mp hm
      have e2 : rightR.emb y = leftR.emb (ValueIdx.ix2 (i 0) ⟨(i 1).val, h⟩ : S256x128.Idx) := p.view.emb.injective hy
      rw [emb_right, emb_left] at e2
      have e3 : 128 + (y 1).val = (i 1).val := congrArg (fun z : S256x256.Idx => (z 1).val) e2
      omega
    refine (congrArg _ e).trans ?_
    show (p.access leftR).read (Elt F) _ (ValueIdx.ix2 (i 0) ⟨(i 1).val, h⟩ : S256x128.Idx) = _
    rw [View.read_apply, View.write_of_not_mem _ _ _ off, ← View.read_apply, View.read_write_univ]
  · have h1 : (i 1).val < 256 := (i 1).isLt
    have e : i = rightR.emb (ValueIdx.ix2 (i 0) ⟨(i 1).val - 128, by show _ < 128; omega⟩ : S256x128.Idx) := by
      rw [emb_right]
      refine (ValueIdx.eq_ix2 i).trans ?_
      refine congrArg (ValueIdx.ix2 (i 0)) (Fin.ext ?_)
      show (i 1).val = 128 + ((i 1).val - 128)
      omega
    refine (congrArg _ e).trans ?_
    show (p.access rightR).read (Elt F) _ _ = _
    rw [View.read_write_univ]

/-- What the operands' buffers hold at a point. -/
def got7 (c : Dev nD) (W : Valuation τ sig (Elt F)) (w : Fin 6) (n : ℕ) (h : n < grid7.N) : (win7 w).block.Idx → Elt F (win7 w).elt :=
  heldIn (c := c) cfg7 (fun w => W (Proc.devRef .tc (Pipeline.arrRef spec7 w))) w n h

/-- What the result's buffer holds after a point. -/
def acc7 (c : Dev nD) (W : Valuation τ sig (Elt F)) (n : ℕ) (h : n < grid7.N) : Vec F S256x256 .bf16 :=
  heads (got7 c W 0 n h) (got7 c W 1 n h) (got7 c W 2 n h) (got7 c W 3 n h) (got7 c W 4 n h)

/-- The call's data over a valuation `W`, a constant invariant `Ψ` and constant dues `D`. -/
def attn (c : Dev nD) (W : Valuation τ sig (Elt F)) (Ψ : sProp 𝕄) (D : CellTallies nD τ sig Unit) :
    Dat τ (Elt F) Unit ℕ UU ℕ cfg7 c where
  A w := W (Proc.devRef .tc (Pipeline.arrRef spec7 w))
  after w t := match w with
    | ⟨0, _⟩ => got7 c W 0 t.val t.isLt
    | ⟨1, _⟩ => got7 c W 1 t.val t.isLt
    | ⟨2, _⟩ => got7 c W 2 t.val t.isLt
    | ⟨3, _⟩ => got7 c W 3 t.val t.isLt
    | ⟨4, _⟩ => got7 c W 4 t.val t.isLt
    | ⟨5, _⟩ => acc7 c W t.val t.isLt
  Φ _ := Ψ
  q _ := fullShare
  owed _ := D

variable (c : Dev nD) (W : Valuation τ sig (Elt F)) (Ψ : sProp (MT nD τ sig Unit (Elt F) ℕ UU ℕ))
  (D : CellTallies nD τ sig Unit)

theorem attn_got0 (t : Fin grid7.N) (d) : (attn c W Ψ D).before (0 : Fin 6) t d = got7 c W 0 t.val t.isLt :=
  Dat.before_eq_heldIn (attn c W Ψ D) (0 : Fin 6) rfl (fun _ => rfl) (fun _ _ => rfl) (fun _ => rfl) t d
theorem attn_got1 (t : Fin grid7.N) (d) : (attn c W Ψ D).before (1 : Fin 6) t d = got7 c W 1 t.val t.isLt :=
  Dat.before_eq_heldIn (attn c W Ψ D) (1 : Fin 6) rfl (fun _ => rfl) (fun _ _ => rfl) (fun _ => rfl) t d
theorem attn_got2 (t : Fin grid7.N) (d) : (attn c W Ψ D).before (2 : Fin 6) t d = got7 c W 2 t.val t.isLt :=
  Dat.before_eq_heldIn (attn c W Ψ D) (2 : Fin 6) rfl (fun _ => rfl) (fun _ _ => rfl) (fun _ => rfl) t d
theorem attn_got3 (t : Fin grid7.N) (d) : (attn c W Ψ D).before (3 : Fin 6) t d = got7 c W 3 t.val t.isLt :=
  Dat.before_eq_heldIn (attn c W Ψ D) (3 : Fin 6) rfl (fun _ => rfl) (fun _ _ => rfl) (fun _ => rfl) t d
theorem attn_got4 (t : Fin grid7.N) (d) : (attn c W Ψ D).before (4 : Fin 6) t d = got7 c W 4 t.val t.isLt :=
  Dat.before_eq_heldIn (attn c W Ψ D) (4 : Fin 6) rfl (fun _ => rfl) (fun _ _ => rfl) (fun _ => rfl) t d

/-- One point. -/
theorem run7 (i : grid7.Coords) (p2 h2 p3 h3 p4 h4 p5 h5 p6 h6 p7 h7) (q k v : Vec F S256x256 .f32) (qr : Vec F S256x128 .f32)
    (kr : Vec F S256x64 .f32) (vo : Vec F S256x256 .bf16) {Kt : PUnit.{1} → sProp 𝕄} :
    iprop(owns (c : Thread nD τ) p2 fullShare q ∗ owns (c : Thread nD τ) p3 fullShare k ∗ owns (c : Thread nD τ) p4 fullShare v
        ∗ owns (c : Thread nD τ) p5 fullShare qr ∗ owns (c : Thread nD τ) p6 fullShare kr ∗ owns (c : Thread nD τ) p7 fullShare vo
        ∗ (owns (c : Thread nD τ) p2 fullShare q ∗ owns (c : Thread nD τ) p3 fullShare k ∗ owns (c : Thread nD τ) p4 fullShare v
          ∗ owns (c : Thread nD τ) p5 fullShare qr ∗ owns (c : Thread nD τ) p6 fullShare kr
          ∗ owns (c : Thread nD τ) p7 fullShare (heads q k v qr kr) -∗ Kt ⟨⟩))
      ⊢ wp frame (wpE (defs₀ (F := F)) Variants.none (c : Thread nD τ) none) Set.univ
          (cc7__attn_body (F := F) i p2 h2 p3 h3 p4 h4 p5 h5 p6 h6 p7 h7) Kt := by
  have z : (![0, 0] : Fin 2 → ℕ) = fun _ => 0 := by funext x; fin_cases x <;> rfl
  rw [cc7__attn_body_eq_skeleton]
  rw [show (owns (c : Thread nD τ) p7 fullShare vo : sProp 𝕄)
    = iprop(∃ f, ⌜p7.view.read (Elt F) f = vo⌝ ∗ (p7.view.loc (c : Thread nD τ) ↦[p7.view.set]{fullShare} f)) from rfl]
  unfold cc7__attn_body_skel
  rw [k7_part1_eq_skeleton]
  unfold k7_part1_skel
  iintro ⟨H2, H3, H4, H5, H6, ⟨%f, %hf, H7⟩, Hk⟩
  iapply (load_all c p2 z q) $$ H2
  iintro H2
  iapply (load_all c p3 z k) $$ H3
  iintro H3
  iapply (load_all c p4 z v) $$ H4
  iintro H4
  iapply (load_all c p5 z qr) $$ H5
  iintro H5
  iapply (load_all c p6 z kr) $$ H6
  iintro H6
  iapply (wp_load Variants.none (c : Thread nD τ) none Set.univ (m := p7) (p7.view.setOn_subset_set _)) $$ H7
  iintro H7
  iapply (wp_store Variants.none (c : Thread nD τ) none Set.univ (m := p7) (r := leftR) (Mk := Finset.univ)
    (S := p7.view.set) (View.set_slice_subset _ _)) $$ H7
  iintro H7
  iapply (wp_load Variants.none (c : Thread nD τ) none Set.univ (m := p7) (p7.view.setOn_subset_set _)) $$ H7
  iintro H7
  iapply (wp_store Variants.none (c : Thread nD τ) none Set.univ (m := p7) (r := rightR) (Mk := Finset.univ)
    (S := p7.view.set) (View.set_slice_subset _ _)) $$ H7
  iintro H7
  iapply (wp_done c)
  iapply Hk
  isplitl [H2]; · iexact H2
  isplitl [H3]; · iexact H3
  isplitl [H4]; · iexact H4
  isplitl [H5]; · iexact H5
  isplitl [H6]; · iexact H6
  unfold owns
  iexists _
  isplitr
  · ipureintro
    exact stored_halves p7 f (k7_pay7 q k v qr kr) (head1 q k v qr kr)
  iexact H7

theorem attn_body : Pipeline.BodyObligationLoose (attn c W Ψ D) (defs₀ (F := F)) Variants.none () Set.univ := by
  intro t
  rw [bigSep_W7, bigSep_W7]
  show iprop(Ψ ∗ (attn c W Ψ D).owesAt () t.castSucc
      ∗ (∃ d, owns (c : Thread nD τ) (win7_0.stage (cfg7.slots t (0 : Fin 6))) fullShare ((attn c W Ψ D).before (0 : Fin 6) t d))
      ∗ (∃ d, owns (c : Thread nD τ) (win7_1.stage (cfg7.slots t (1 : Fin 6))) fullShare ((attn c W Ψ D).before (1 : Fin 6) t d))
      ∗ (∃ d, owns (c : Thread nD τ) (win7_2.stage (cfg7.slots t (2 : Fin 6))) fullShare ((attn c W Ψ D).before (2 : Fin 6) t d))
      ∗ (∃ d, owns (c : Thread nD τ) (win7_3.stage (cfg7.slots t (3 : Fin 6))) fullShare ((attn c W Ψ D).before (3 : Fin 6) t d))
      ∗ (∃ d, owns (c : Thread nD τ) (win7_4.stage (cfg7.slots t (4 : Fin 6))) fullShare ((attn c W Ψ D).before (4 : Fin 6) t d))
      ∗ (∃ d, owns (c : Thread nD τ) (win7_5.stage (cfg7.slots t (5 : Fin 6))) fullShare ((attn c W Ψ D).before (5 : Fin 6) t d)))
    ⊢ wp frame (wpE (defs₀ (F := F)) Variants.none (c : Thread nD τ) none) Set.univ (bodyAt7 (F := F) t)
      fun _ => iprop(Ψ ∗ (attn c W Ψ D).owesAt () t.succ
        ∗ owns (c : Thread nD τ) (win7_0.stage (cfg7.slots t (0 : Fin 6))) fullShare (got7 c W 0 t.val t.isLt)
        ∗ owns (c : Thread nD τ) (win7_1.stage (cfg7.slots t (1 : Fin 6))) fullShare (got7 c W 1 t.val t.isLt)
        ∗ owns (c : Thread nD τ) (win7_2.stage (cfg7.slots t (2 : Fin 6))) fullShare (got7 c W 2 t.val t.isLt)
        ∗ owns (c : Thread nD τ) (win7_3.stage (cfg7.slots t (3 : Fin 6))) fullShare (got7 c W 3 t.val t.isLt)
        ∗ owns (c : Thread nD τ) (win7_4.stage (cfg7.slots t (4 : Fin 6))) fullShare (got7 c W 4 t.val t.isLt)
        ∗ owns (c : Thread nD τ) (win7_5.stage (cfg7.slots t (5 : Fin 6))) fullShare (acc7 c W t.val t.isLt))
  iintro ⟨HΨ, HO, ⟨%d0, H0⟩, ⟨%d1, H1⟩, ⟨%d2, H2⟩, ⟨%d3, H3⟩, ⟨%d4, H4⟩, ⟨%d5, H5⟩⟩
  rw [attn_got0, attn_got1, attn_got2, attn_got3, attn_got4]
  iapply (run7 c (grid7.coords t))
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΨ]; · iexact HΨ
  isplitl [HO]; · iexact HO
  isplitl [H0]; · iexact H0
  isplitl [H1]; · iexact H1
  isplitl [H2]; · iexact H2
  isplitl [H3]; · iexact H3
  isplitl [H4]; · iexact H4
  iexact H5

end Cert.KernelIdeal.Gen

end
-- ==== Proof.Ideal.Mm0.lean ====
module

public import proofs.«01_k».proof.Proof.Ideal.Mm

/-!
# The product of call 0

The grid runs over the blocks of rows and, for each, over the blocks of the contracted axis.
The result's buffer is zeroed at the first of these and gathers one product per point.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation heldIn)

namespace Cert.KernelIdeal.Gen

variable {F : FTy → Type} [FloatOps F]

local notation "𝕄" => MT nD τ sig Unit (Elt F) ℕ UU ℕ

/-- What the first operand's buffer holds at a point. -/
def lhs0 (a : (pcfg0 (F := F)).Adm) (c : Dev nD) (W : Valuation τ sig (Elt F)) (n : ℕ) (h : n < grid0.N) : Vec F S512x512 .f32 :=
  heldIn (c := c) (cfg0 a) (fun w => W (Proc.devRef .tc (Pipeline.arrRef (cfg0 a).spec w))) (0 : Fin 3) n h

/-- What the second operand's buffer holds at a point. -/
def rhs0 (a : (pcfg0 (F := F)).Adm) (c : Dev nD) (W : Valuation τ sig (Elt F)) (n : ℕ) (h : n < grid0.N) : Vec F S512x128 .f32 :=
  heldIn (c := c) (cfg0 a) (fun w => W (Proc.devRef .tc (Pipeline.arrRef (cfg0 a).spec w))) (1 : Fin 3) n h

/-- What the result's buffer holds after a point. -/
def acc0 (a : (pcfg0 (F := F)).Adm) (c : Dev nD) (W : Valuation τ sig (Elt F)) : (n : ℕ) → n < grid0.N → Vec F S512x128 .f32
  | 0, h => k0_pay2 (lhs0 a c W 0 h) (rhs0 a c W 0 h) k0_pay1
  | n + 1, h => k0_pay2 (lhs0 a c W (n + 1) h) (rhs0 a c W (n + 1) h)
      (if (n + 1) % 8 = 0 then k0_pay1 else acc0 a c W n (Nat.lt_of_succ_lt h))

theorem acc0_eq (a : (pcfg0 (F := F)).Adm) (c : Dev nD) (W : Valuation τ sig (Elt F)) (n : ℕ) (h : n < grid0.N) :
    acc0 a c W n h = k0_pay2 (lhs0 a c W n h) (rhs0 a c W n h)
      (if n % 8 = 0 then k0_pay1 else acc0 a c W (n - 1) (Nat.lt_of_le_of_lt (Nat.sub_le _ _) h)) := by
  cases n with
  | zero => rfl
  | succ n => rfl

/-- The call's data over a valuation `W`, a constant invariant `Ψ` and constant dues `D`. -/
def mm0 (a : (pcfg0 (F := F)).Adm) (c : Dev nD) (W : Valuation τ sig (Elt F)) (Ψ : sProp 𝕄) (D : CellTallies nD τ sig Unit) :
    Dat τ (Elt F) Unit ℕ UU ℕ (cfg0 a) c where
  A w := W (Proc.devRef .tc (Pipeline.arrRef (cfg0 a).spec w))
  after w t := match w with
    | ⟨0, _⟩ => lhs0 a c W t.val t.isLt
    | ⟨1, _⟩ => rhs0 a c W t.val t.isLt
    | ⟨2, _⟩ => acc0 a c W t.val t.isLt
  Φ _ := Ψ
  q _ := fullShare
  owed _ := D

variable (a : (pcfg0 (F := F)).Adm) (c : Dev nD) (W : Valuation τ sig (Elt F)) (Ψ : sProp (MT nD τ sig Unit (Elt F) ℕ UU ℕ))
  (D : CellTallies nD τ sig Unit)

theorem mm0_lhs (t : Fin grid0.N) (d) : (mm0 a c W Ψ D).before (0 : Fin 3) t d = lhs0 a c W t.val t.isLt :=
  Dat.before_eq_heldIn (mm0 a c W Ψ D) (0 : Fin 3) rfl (fun _ => rfl) (fun _ _ => rfl) (fun _ => rfl) t d

theorem mm0_rhs (t : Fin grid0.N) (d) : (mm0 a c W Ψ D).before (1 : Fin 3) t d = rhs0 a c W t.val t.isLt :=
  Dat.before_eq_heldIn (mm0 a c W Ψ D) (1 : Fin 3) rfl (fun _ => rfl) (fun _ _ => rfl) (fun _ => rfl) t d

/-- The result's block is written back only after the last point of each block of rows. -/
theorem flush0 (t : Fin grid0.N) : ((cfg0 a).win (2 : Fin 3)).flush t = decide (t.val % 8 = 7) := by
  rw [show ((cfg0 a).win (2 : Fin 3)).flush t
      = (true && (decide (t.val + 1 = grid0.N) || decide (∃ h : t.val + 1 < grid0.N, ∃ x : Fin 2,
          cc0_transform_2 (grid0.coords ⟨t.val + 1, h⟩) x ≠ cc0_transform_2 (grid0.coords t) x))) from
    Pipeline.Window.flush_eq_flushF _ t]
  revert t
  decide +kernel

theorem mm0_out (t : Fin grid0.N) (ht : t.val % 8 ≠ 0) (d) :
    (mm0 a c W Ψ D).before (2 : Fin 3) t d = acc0 a c W (t.val - 1) (Nat.lt_of_le_of_lt (Nat.sub_le _ _) t.isLt) :=
  Dat.before_out_kept (mm0 a c W Ψ D) (2 : Fin 3) rfl t (fun h => ht (by rw [h]))
    ((flush0 a _).trans (decide_eq_false (by show (t.val - 1) % 8 ≠ 7; omega))) (fun _ => rfl) (fun _ _ => rfl) d

theorem first0 (i : grid0.Coords) :
    (Scalar.cmpi .ne (Scalar.extui (Scalar.cmpi .eq (BitVec.ofNat 32 (i 2).val) 0#32) : BitVec 32) 0#32 = 1#1) ↔ (i 2).val = 0 := by
  have h : ∀ n : Fin 8, (Scalar.cmpi .ne (Scalar.extui (Scalar.cmpi .eq (BitVec.ofNat 32 n.val) 0#32) : BitVec 32) 0#32 = 1#1) ↔ n.val = 0 := by
    decide +kernel
  exact h (i 2)

theorem coords0 (t : Fin grid0.N) : (grid0.coords t 2).val = t.val % 8 := by
  revert t; decide +kernel

/-- One point: the result's buffer gathers the product of the two blocks. -/
theorem run0 (t : Fin grid0.N) (p3 h3 p4 h4 p5 h5 p6 h6) (va : Vec F S512x512 .f32) (vb vo : Vec F S512x128 .f32) {Kt : PUnit.{1} → sProp 𝕄} :
    iprop(owns (c : Thread nD τ) p4 fullShare va ∗ owns (c : Thread nD τ) p5 fullShare vb ∗ owns (c : Thread nD τ) p6 fullShare vo
        ∗ (owns (c : Thread nD τ) p4 fullShare va ∗ owns (c : Thread nD τ) p5 fullShare vb
          ∗ owns (c : Thread nD τ) p6 fullShare (k0_pay2 va vb (if t.val % 8 = 0 then k0_pay1 else vo)) -∗ Kt ⟨⟩))
      ⊢ wp frame (wpE (defs₀ (F := F)) Variants.none (c : Thread nD τ) none) Set.univ
          (cc0__mm_body (F := F) (grid0.coords t) p3 h3 p4 h4 p5 h5 p6 h6) Kt := by
  have z : (![0, 0] : Fin 2 → ℕ) = fun _ => 0 := by funext x; fin_cases x <;> rfl
  rw [cc0__mm_body_eq_skeleton]
  unfold cc0__mm_body_skel
  iintro ⟨Ha, Hb, Ho, Hk⟩
  by_cases h : t.val % 8 = 0
  · rw [dif_pos ((first0 (grid0.coords t)).mpr ((coords0 t).trans h)), if_pos h]
    iapply (load_all c p6 z vo) $$ Ho
    iintro Ho
    iapply (store_all c p6 z vo k0_pay1) $$ Ho
    iintro Ho
    iapply (load_all c p4 z va) $$ Ha
    iintro Ha
    iapply (load_all c p5 z vb) $$ Hb
    iintro Hb
    iapply (load_all c p6 z k0_pay1) $$ Ho
    iintro Ho
    iapply (load_all c p6 z k0_pay1) $$ Ho
    iintro Ho
    iapply (store_all c p6 z k0_pay1 (k0_pay2 va vb k0_pay1)) $$ Ho
    iintro Ho
    iapply (wp_done c)
    iapply Hk
    isplitl [Ha]; · iexact Ha
    isplitl [Hb]; · iexact Hb
    iexact Ho
  · rw [dif_neg (fun e => h ((coords0 t).symm.trans ((first0 (grid0.coords t)).mp e))), if_neg h]
    iapply (load_all c p4 z va) $$ Ha
    iintro Ha
    iapply (load_all c p5 z vb) $$ Hb
    iintro Hb
    iapply (load_all c p6 z vo) $$ Ho
    iintro Ho
    iapply (load_all c p6 z vo) $$ Ho
    iintro Ho
    iapply (store_all c p6 z vo (k0_pay2 va vb vo)) $$ Ho
    iintro Ho
    iapply (wp_done c)
    iapply Hk
    isplitl [Ha]; · iexact Ha
    isplitl [Hb]; · iexact Hb
    iexact Ho

theorem mm0_body : Pipeline.BodyObligationLoose (mm0 a c W Ψ D) (defs₀ (F := F)) Variants.none () Set.univ := by
  intro t
  rw [bigSep_W0, bigSep_W0]
  show iprop(Ψ ∗ (mm0 a c W Ψ D).owesAt () t.castSucc
      ∗ (∃ d, owns (c : Thread nD τ) (spec0_0.stage ((cfg0 a).slots t (0 : Fin 3))) fullShare ((mm0 a c W Ψ D).before (0 : Fin 3) t d))
      ∗ (∃ d, owns (c : Thread nD τ) (spec0_1.stage ((cfg0 a).slots t (1 : Fin 3))) fullShare ((mm0 a c W Ψ D).before (1 : Fin 3) t d))
      ∗ (∃ d, owns (c : Thread nD τ) (spec0_2.stage ((cfg0 a).slots t (2 : Fin 3))) fullShare ((mm0 a c W Ψ D).before (2 : Fin 3) t d)))
    ⊢ wp frame (wpE (defs₀ (F := F)) Variants.none (c : Thread nD τ) none) Set.univ
      (cc0__mm_body (F := F) (grid0.coords t) (Memref.whole main_v11) (Memref.isWhole_whole _)
        (spec0_0.stage ((cfg0 a).slots t (0 : Fin 3))) (hstage0_0 (((cfg0 a).slots t (0 : Fin 3)).cast nbuf0_0)) (spec0_1.stage ((cfg0 a).slots t (1 : Fin 3))) (hstage0_1 (((cfg0 a).slots t (1 : Fin 3)).cast nbuf0_1))
        (spec0_2.stage ((cfg0 a).slots t (2 : Fin 3))) (hstage0_2 (((cfg0 a).slots t (2 : Fin 3)).cast nbuf0_2)))
      fun _ => iprop(Ψ ∗ (mm0 a c W Ψ D).owesAt () t.succ
        ∗ owns (c : Thread nD τ) (spec0_0.stage ((cfg0 a).slots t (0 : Fin 3))) fullShare (lhs0 a c W t.val t.isLt)
        ∗ owns (c : Thread nD τ) (spec0_1.stage ((cfg0 a).slots t (1 : Fin 3))) fullShare (rhs0 a c W t.val t.isLt)
        ∗ owns (c : Thread nD τ) (spec0_2.stage ((cfg0 a).slots t (2 : Fin 3))) fullShare (acc0 a c W t.val t.isLt))
  iintro ⟨HΨ, HO, ⟨%d0, Ha⟩, ⟨%d1, Hb⟩, ⟨%d2, Ho⟩⟩
  rw [mm0_lhs, mm0_rhs]
  iapply (run0 c t)
  isplitl [Ha]; · iexact Ha
  isplitl [Hb]; · iexact Hb
  isplitl [Ho]; · iexact Ho
  iintro ⟨Ha, Hb, Ho⟩
  rw [acc0_eq]
  rw [show (if t.val % 8 = 0 then k0_pay1 else (mm0 a c W Ψ D).before (2 : Fin 3) t d2)
      = (if t.val % 8 = 0 then k0_pay1 else acc0 a c W (t.val - 1) (Nat.lt_of_le_of_lt (Nat.sub_le _ _) t.isLt)) from
    ite_congr rfl (fun _ => rfl) (fun h => mm0_out a c W Ψ D t h d2)]
  isplitl [HΨ]; · iexact HΨ
  isplitl [HO]; · iexact HO
  isplitl [Ha]; · iexact Ha
  isplitl [Hb]; · iexact Hb
  iexact Ho

end Cert.KernelIdeal.Gen

end
-- ==== Proof.Ideal.Mm2.lean ====
module

public import proofs.«01_k».proof.Proof.Ideal.Mm

/-!
# The product of call 2

The grid runs over the blocks of rows and, for each, over the blocks of the contracted axis.
The result's buffer is zeroed at the first of these and gathers one product per point.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation heldIn)

namespace Cert.KernelIdeal.Gen

variable {F : FTy → Type} [FloatOps F]

local notation "𝕄" => MT nD τ sig Unit (Elt F) ℕ UU ℕ

/-- What the first operand's buffer holds at a point. -/
def lhs2 (a : (pcfg2 (F := F)).Adm) (c : Dev nD) (W : Valuation τ sig (Elt F)) (n : ℕ) (h : n < grid2.N) : Vec F S512x512 .bf16 :=
  heldIn (c := c) (cfg2 a) (fun w => W (Proc.devRef .tc (Pipeline.arrRef (cfg2 a).spec w))) (0 : Fin 3) n h

/-- What the second operand's buffer holds at a point. -/
def rhs2 (a : (pcfg2 (F := F)).Adm) (c : Dev nD) (W : Valuation τ sig (Elt F)) (n : ℕ) (h : n < grid2.N) : Vec F S512x256 .bf16 :=
  heldIn (c := c) (cfg2 a) (fun w => W (Proc.devRef .tc (Pipeline.arrRef (cfg2 a).spec w))) (1 : Fin 3) n h

/-- What the result's buffer holds after a point. -/
def acc2 (a : (pcfg2 (F := F)).Adm) (c : Dev nD) (W : Valuation τ sig (Elt F)) : (n : ℕ) → n < grid2.N → Vec F S512x256 .f32
  | 0, h => k2_pay2 (lhs2 a c W 0 h) (rhs2 a c W 0 h) k2_pay1
  | n + 1, h => k2_pay2 (lhs2 a c W (n + 1) h) (rhs2 a c W (n + 1) h)
      (if (n + 1) % 1 = 0 then k2_pay1 else acc2 a c W n (Nat.lt_of_succ_lt h))

theorem acc2_eq (a : (pcfg2 (F := F)).Adm) (c : Dev nD) (W : Valuation τ sig (Elt F)) (n : ℕ) (h : n < grid2.N) :
    acc2 a c W n h = k2_pay2 (lhs2 a c W n h) (rhs2 a c W n h)
      (if n % 1 = 0 then k2_pay1 else acc2 a c W (n - 1) (Nat.lt_of_le_of_lt (Nat.sub_le _ _) h)) := by
  cases n with
  | zero => rfl
  | succ n => rfl

/-- The call's data over a valuation `W`, a constant invariant `Ψ` and constant dues `D`. -/
def mm2 (a : (pcfg2 (F := F)).Adm) (c : Dev nD) (W : Valuation τ sig (Elt F)) (Ψ : sProp 𝕄) (D : CellTallies nD τ sig Unit) :
    Dat τ (Elt F) Unit ℕ UU ℕ (cfg2 a) c where
  A w := W (Proc.devRef .tc (Pipeline.arrRef (cfg2 a).spec w))
  after w t := match w with
    | ⟨0, _⟩ => lhs2 a c W t.val t.isLt
    | ⟨1, _⟩ => rhs2 a c W t.val t.isLt
    | ⟨2, _⟩ => acc2 a c W t.val t.isLt
  Φ _ := Ψ
  q _ := fullShare
  owed _ := D

variable (a : (pcfg2 (F := F)).Adm) (c : Dev nD) (W : Valuation τ sig (Elt F)) (Ψ : sProp (MT nD τ sig Unit (Elt F) ℕ UU ℕ))
  (D : CellTallies nD τ sig Unit)

theorem mm2_lhs (t : Fin grid2.N) (d) : (mm2 a c W Ψ D).before (0 : Fin 3) t d = lhs2 a c W t.val t.isLt :=
  Dat.before_eq_heldIn (mm2 a c W Ψ D) (0 : Fin 3) rfl (fun _ => rfl) (fun _ _ => rfl) (fun _ => rfl) t d

theorem mm2_rhs (t : Fin grid2.N) (d) : (mm2 a c W Ψ D).before (1 : Fin 3) t d = rhs2 a c W t.val t.isLt :=
  Dat.before_eq_heldIn (mm2 a c W Ψ D) (1 : Fin 3) rfl (fun _ => rfl) (fun _ _ => rfl) (fun _ => rfl) t d

/-- The result's block is written back only after the last point of each block of rows. -/
theorem flush2 (t : Fin grid2.N) : ((cfg2 a).win (2 : Fin 3)).flush t = decide (t.val % 1 = 0) := by
  rw [show ((cfg2 a).win (2 : Fin 3)).flush t
      = (true && (decide (t.val + 1 = grid2.N) || decide (∃ h : t.val + 1 < grid2.N, ∃ x : Fin 2,
          cc2_transform_2 (grid2.coords ⟨t.val + 1, h⟩) x ≠ cc2_transform_2 (grid2.coords t) x))) from
    Pipeline.Window.flush_eq_flushF _ t]
  revert t
  decide +kernel

theorem mm2_out (t : Fin grid2.N) (ht : t.val % 1 ≠ 0) (d) :
    (mm2 a c W Ψ D).before (2 : Fin 3) t d = acc2 a c W (t.val - 1) (Nat.lt_of_le_of_lt (Nat.sub_le _ _) t.isLt) :=
  Dat.before_out_kept (mm2 a c W Ψ D) (2 : Fin 3) rfl t (fun h => ht (by rw [h]))
    ((flush2 a _).trans (decide_eq_false (by show (t.val - 1) % 1 ≠ 0; omega))) (fun _ => rfl) (fun _ _ => rfl) d

theorem first2 (i : grid2.Coords) :
    (Scalar.cmpi .ne (Scalar.extui (Scalar.cmpi .eq (BitVec.ofNat 32 (i 2).val) 0#32) : BitVec 32) 0#32 = 1#1) ↔ (i 2).val = 0 := by
  have h : ∀ n : Fin 1, (Scalar.cmpi .ne (Scalar.extui (Scalar.cmpi .eq (BitVec.ofNat 32 n.val) 0#32) : BitVec 32) 0#32 = 1#1) ↔ n.val = 0 := by
    decide +kernel
  exact h (i 2)

theorem coords2 (t : Fin grid2.N) : (grid2.coords t 2).val = t.val % 1 := by
  revert t; decide +kernel

/-- One point: the result's buffer gathers the product of the two blocks. -/
theorem run2 (t : Fin grid2.N) (p3 h3 p4 h4 p5 h5 p6 h6) (va : Vec F S512x512 .bf16) (vb : Vec F S512x256 .bf16) (vo : Vec F S512x256 .f32) {Kt : PUnit.{1} → sProp 𝕄} :
    iprop(owns (c : Thread nD τ) p4 fullShare va ∗ owns (c : Thread nD τ) p5 fullShare vb ∗ owns (c : Thread nD τ) p6 fullShare vo
        ∗ (owns (c : Thread nD τ) p4 fullShare va ∗ owns (c : Thread nD τ) p5 fullShare vb
          ∗ owns (c : Thread nD τ) p6 fullShare (k2_pay2 va vb (if t.val % 1 = 0 then k2_pay1 else vo)) -∗ Kt ⟨⟩))
      ⊢ wp frame (wpE (defs₀ (F := F)) Variants.none (c : Thread nD τ) none) Set.univ
          (cc2__mm_body (F := F) (grid2.coords t) p3 h3 p4 h4 p5 h5 p6 h6) Kt := by
  have z : (![0, 0] : Fin 2 → ℕ) = fun _ => 0 := by funext x; fin_cases x <;> rfl
  rw [cc2__mm_body_eq_skeleton]
  unfold cc2__mm_body_skel
  iintro ⟨Ha, Hb, Ho, Hk⟩
  by_cases h : t.val % 1 = 0
  · rw [dif_pos ((first2 (grid2.coords t)).mpr ((coords2 t).trans h)), if_pos h]
    iapply (load_all c p6 z vo) $$ Ho
    iintro Ho
    iapply (store_all c p6 z vo k2_pay1) $$ Ho
    iintro Ho
    iapply (load_all c p4 z va) $$ Ha
    iintro Ha
    iapply (load_all c p5 z vb) $$ Hb
    iintro Hb
    iapply (load_all c p6 z k2_pay1) $$ Ho
    iintro Ho
    iapply (load_all c p6 z k2_pay1) $$ Ho
    iintro Ho
    iapply (store_all c p6 z k2_pay1 (k2_pay2 va vb k2_pay1)) $$ Ho
    iintro Ho
    iapply (wp_done c)
    iapply Hk
    isplitl [Ha]; · iexact Ha
    isplitl [Hb]; · iexact Hb
    iexact Ho
  · rw [dif_neg (fun e => h ((coords2 t).symm.trans ((first2 (grid2.coords t)).mp e))), if_neg h]
    iapply (load_all c p4 z va) $$ Ha
    iintro Ha
    iapply (load_all c p5 z vb) $$ Hb
    iintro Hb
    iapply (load_all c p6 z vo) $$ Ho
    iintro Ho
    iapply (load_all c p6 z vo) $$ Ho
    iintro Ho
    iapply (store_all c p6 z vo (k2_pay2 va vb vo)) $$ Ho
    iintro Ho
    iapply (wp_done c)
    iapply Hk
    isplitl [Ha]; · iexact Ha
    isplitl [Hb]; · iexact Hb
    iexact Ho

theorem mm2_body : Pipeline.BodyObligationLoose (mm2 a c W Ψ D) (defs₀ (F := F)) Variants.none () Set.univ := by
  intro t
  rw [bigSep_W2, bigSep_W2]
  show iprop(Ψ ∗ (mm2 a c W Ψ D).owesAt () t.castSucc
      ∗ (∃ d, owns (c : Thread nD τ) (spec2_0.stage ((cfg2 a).slots t (0 : Fin 3))) fullShare ((mm2 a c W Ψ D).before (0 : Fin 3) t d))
      ∗ (∃ d, owns (c : Thread nD τ) (spec2_1.stage ((cfg2 a).slots t (1 : Fin 3))) fullShare ((mm2 a c W Ψ D).before (1 : Fin 3) t d))
      ∗ (∃ d, owns (c : Thread nD τ) (spec2_2.stage ((cfg2 a).slots t (2 : Fin 3))) fullShare ((mm2 a c W Ψ D).before (2 : Fin 3) t d)))
    ⊢ wp frame (wpE (defs₀ (F := F)) Variants.none (c : Thread nD τ) none) Set.univ
      (cc2__mm_body (F := F) (grid2.coords t) (Memref.whole main_v96) (Memref.isWhole_whole _)
        (spec2_0.stage ((cfg2 a).slots t (0 : Fin 3))) (hstage2_0 (((cfg2 a).slots t (0 : Fin 3)).cast nbuf2_0)) (spec2_1.stage ((cfg2 a).slots t (1 : Fin 3))) (hstage2_1 (((cfg2 a).slots t (1 : Fin 3)).cast nbuf2_1))
        (spec2_2.stage ((cfg2 a).slots t (2 : Fin 3))) (hstage2_2 (((cfg2 a).slots t (2 : Fin 3)).cast nbuf2_2)))
      fun _ => iprop(Ψ ∗ (mm2 a c W Ψ D).owesAt () t.succ
        ∗ owns (c : Thread nD τ) (spec2_0.stage ((cfg2 a).slots t (0 : Fin 3))) fullShare (lhs2 a c W t.val t.isLt)
        ∗ owns (c : Thread nD τ) (spec2_1.stage ((cfg2 a).slots t (1 : Fin 3))) fullShare (rhs2 a c W t.val t.isLt)
        ∗ owns (c : Thread nD τ) (spec2_2.stage ((cfg2 a).slots t (2 : Fin 3))) fullShare (acc2 a c W t.val t.isLt))
  iintro ⟨HΨ, HO, ⟨%d0, Ha⟩, ⟨%d1, Hb⟩, ⟨%d2, Ho⟩⟩
  rw [mm2_lhs, mm2_rhs]
  iapply (run2 c t)
  isplitl [Ha]; · iexact Ha
  isplitl [Hb]; · iexact Hb
  isplitl [Ho]; · iexact Ho
  iintro ⟨Ha, Hb, Ho⟩
  rw [acc2_eq]
  rw [show (if t.val % 1 = 0 then k2_pay1 else (mm2 a c W Ψ D).before (2 : Fin 3) t d2)
      = (if t.val % 1 = 0 then k2_pay1 else acc2 a c W (t.val - 1) (Nat.lt_of_le_of_lt (Nat.sub_le _ _) t.isLt)) from
    ite_congr rfl (fun _ => rfl) (fun h => mm2_out a c W Ψ D t h d2)]
  isplitl [HΨ]; · iexact HΨ
  isplitl [HO]; · iexact HO
  isplitl [Ha]; · iexact Ha
  isplitl [Hb]; · iexact Hb
  iexact Ho

end Cert.KernelIdeal.Gen

end
-- ==== Proof.Ideal.Mm3.lean ====
module

public import proofs.«01_k».proof.Proof.Ideal.Mm

/-!
# The product of call 3

The grid runs over the blocks of rows and, for each, over the blocks of the contracted axis.
The result's buffer is zeroed at the first of these and gathers one product per point.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation heldIn)

namespace Cert.KernelIdeal.Gen

variable {F : FTy → Type} [FloatOps F]

local notation "𝕄" => MT nD τ sig Unit (Elt F) ℕ UU ℕ

/-- What the first operand's buffer holds at a point. -/
def lhs3 (a : (pcfg3 (F := F)).Adm) (c : Dev nD) (W : Valuation τ sig (Elt F)) (n : ℕ) (h : n < grid3.N) : Vec F S512x512 .bf16 :=
  heldIn (c := c) (cfg3 a) (fun w => W (Proc.devRef .tc (Pipeline.arrRef (cfg3 a).spec w))) (0 : Fin 3) n h

/-- What the second operand's buffer holds at a point. -/
def rhs3 (a : (pcfg3 (F := F)).Adm) (c : Dev nD) (W : Valuation τ sig (Elt F)) (n : ℕ) (h : n < grid3.N) : Vec F S512x256 .bf16 :=
  heldIn (c := c) (cfg3 a) (fun w => W (Proc.devRef .tc (Pipeline.arrRef (cfg3 a).spec w))) (1 : Fin 3) n h

/-- What the result's buffer holds after a point. -/
def acc3 (a : (pcfg3 (F := F)).Adm) (c : Dev nD) (W : Valuation τ sig (Elt F)) : (n : ℕ) → n < grid3.N → Vec F S512x256 .f32
  | 0, h => k3_pay2 (lhs3 a c W 0 h) (rhs3 a c W 0 h) k3_pay1
  | n + 1, h => k3_pay2 (lhs3 a c W (n + 1) h) (rhs3 a c W (n + 1) h)
      (if (n + 1) % 1 = 0 then k3_pay1 else acc3 a c W n (Nat.lt_of_succ_lt h))

theorem acc3_eq (a : (pcfg3 (F := F)).Adm) (c : Dev nD) (W : Valuation τ sig (Elt F)) (n : ℕ) (h : n < grid3.N) :
    acc3 a c W n h = k3_pay2 (lhs3 a c W n h) (rhs3 a c W n h)
      (if n % 1 = 0 then k3_pay1 else acc3 a c W (n - 1) (Nat.lt_of_le_of_lt (Nat.sub_le _ _) h)) := by
  cases n with
  | zero => rfl
  | succ n => rfl

/-- The call's data over a valuation `W`, a constant invariant `Ψ` and constant dues `D`. -/
def mm3 (a : (pcfg3 (F := F)).Adm) (c : Dev nD) (W : Valuation τ sig (Elt F)) (Ψ : sProp 𝕄) (D : CellTallies nD τ sig Unit) :
    Dat τ (Elt F) Unit ℕ UU ℕ (cfg3 a) c where
  A w := W (Proc.devRef .tc (Pipeline.arrRef (cfg3 a).spec w))
  after w t := match w with
    | ⟨0, _⟩ => lhs3 a c W t.val t.isLt
    | ⟨1, _⟩ => rhs3 a c W t.val t.isLt
    | ⟨2, _⟩ => acc3 a c W t.val t.isLt
  Φ _ := Ψ
  q _ := fullShare
  owed _ := D

variable (a : (pcfg3 (F := F)).Adm) (c : Dev nD) (W : Valuation τ sig (Elt F)) (Ψ : sProp (MT nD τ sig Unit (Elt F) ℕ UU ℕ))
  (D : CellTallies nD τ sig Unit)

theorem mm3_lhs (t : Fin grid3.N) (d) : (mm3 a c W Ψ D).before (0 : Fin 3) t d = lhs3 a c W t.val t.isLt :=
  Dat.before_eq_heldIn (mm3 a c W Ψ D) (0 : Fin 3) rfl (fun _ => rfl) (fun _ _ => rfl) (fun _ => rfl) t d

theorem mm3_rhs (t : Fin grid3.N) (d) : (mm3 a c W Ψ D).before (1 : Fin 3) t d = rhs3 a c W t.val t.isLt :=
  Dat.before_eq_heldIn (mm3 a c W Ψ D) (1 : Fin 3) rfl (fun _ => rfl) (fun _ _ => rfl) (fun _ => rfl) t d

/-- The result's block is written back only after the last point of each block of rows. -/
theorem flush3 (t : Fin grid3.N) : ((cfg3 a).win (2 : Fin 3)).flush t = decide (t.val % 1 = 0) := by
  rw [show ((cfg3 a).win (2 : Fin 3)).flush t
      = (true && (decide (t.val + 1 = grid3.N) || decide (∃ h : t.val + 1 < grid3.N, ∃ x : Fin 2,
          cc3_transform_2 (grid3.coords ⟨t.val + 1, h⟩) x ≠ cc3_transform_2 (grid3.coords t) x))) from
    Pipeline.Window.flush_eq_flushF _ t]
  revert t
  decide +kernel

theorem mm3_out (t : Fin grid3.N) (ht : t.val % 1 ≠ 0) (d) :
    (mm3 a c W Ψ D).before (2 : Fin 3) t d = acc3 a c W (t.val - 1) (Nat.lt_of_le_of_lt (Nat.sub_le _ _) t.isLt) :=
  Dat.before_out_kept (mm3 a c W Ψ D) (2 : Fin 3) rfl t (fun h => ht (by rw [h]))
    ((flush3 a _).trans (decide_eq_false (by show (t.val - 1) % 1 ≠ 0; omega))) (fun _ => rfl) (fun _ _ => rfl) d

theorem first3 (i : grid3.Coords) :
    (Scalar.cmpi .ne (Scalar.extui (Scalar.cmpi .eq (BitVec.ofNat 32 (i 2).val) 0#32) : BitVec 32) 0#32 = 1#1) ↔ (i 2).val = 0 := by
  have h : ∀ n : Fin 1, (Scalar.cmpi .ne (Scalar.extui (Scalar.cmpi .eq (BitVec.ofNat 32 n.val) 0#32) : BitVec 32) 0#32 = 1#1) ↔ n.val = 0 := by
    decide +kernel
  exact h (i 2)

theorem coords3 (t : Fin grid3.N) : (grid3.coords t 2).val = t.val % 1 := by
  revert t; decide +kernel

/-- One point: the result's buffer gathers the product of the two blocks. -/
theorem run3 (t : Fin grid3.N) (p3 h3 p4 h4 p5 h5 p6 h6) (va : Vec F S512x512 .bf16) (vb : Vec F S512x256 .bf16) (vo : Vec F S512x256 .f32) {Kt : PUnit.{1} → sProp 𝕄} :
    iprop(owns (c : Thread nD τ) p4 fullShare va ∗ owns (c : Thread nD τ) p5 fullShare vb ∗ owns (c : Thread nD τ) p6 fullShare vo
        ∗ (owns (c : Thread nD τ) p4 fullShare va ∗ owns (c : Thread nD τ) p5 fullShare vb
          ∗ owns (c : Thread nD τ) p6 fullShare (k3_pay2 va vb (if t.val % 1 = 0 then k3_pay1 else vo)) -∗ Kt ⟨⟩))
      ⊢ wp frame (wpE (defs₀ (F := F)) Variants.none (c : Thread nD τ) none) Set.univ
          (cc3__mm_body (F := F) (grid3.coords t) p3 h3 p4 h4 p5 h5 p6 h6) Kt := by
  have z : (![0, 0] : Fin 2 → ℕ) = fun _ => 0 := by funext x; fin_cases x <;> rfl
  rw [cc3__mm_body_eq_skeleton]
  unfold cc3__mm_body_skel
  iintro ⟨Ha, Hb, Ho, Hk⟩
  by_cases h : t.val % 1 = 0
  · rw [dif_pos ((first3 (grid3.coords t)).mpr ((coords3 t).trans h)), if_pos h]
    iapply (load_all c p6 z vo) $$ Ho
    iintro Ho
    iapply (store_all c p6 z vo k3_pay1) $$ Ho
    iintro Ho
    iapply (load_all c p4 z va) $$ Ha
    iintro Ha
    iapply (load_all c p5 z vb) $$ Hb
    iintro Hb
    iapply (load_all c p6 z k3_pay1) $$ Ho
    iintro Ho
    iapply (load_all c p6 z k3_pay1) $$ Ho
    iintro Ho
    iapply (store_all c p6 z k3_pay1 (k3_pay2 va vb k3_pay1)) $$ Ho
    iintro Ho
    iapply (wp_done c)
    iapply Hk
    isplitl [Ha]; · iexact Ha
    isplitl [Hb]; · iexact Hb
    iexact Ho
  · rw [dif_neg (fun e => h ((coords3 t).symm.trans ((first3 (grid3.coords t)).mp e))), if_neg h]
    iapply (load_all c p4 z va) $$ Ha
    iintro Ha
    iapply (load_all c p5 z vb) $$ Hb
    iintro Hb
    iapply (load_all c p6 z vo) $$ Ho
    iintro Ho
    iapply (load_all c p6 z vo) $$ Ho
    iintro Ho
    iapply (store_all c p6 z vo (k3_pay2 va vb vo)) $$ Ho
    iintro Ho
    iapply (wp_done c)
    iapply Hk
    isplitl [Ha]; · iexact Ha
    isplitl [Hb]; · iexact Hb
    iexact Ho

theorem mm3_body : Pipeline.BodyObligationLoose (mm3 a c W Ψ D) (defs₀ (F := F)) Variants.none () Set.univ := by
  intro t
  rw [bigSep_W3, bigSep_W3]
  show iprop(Ψ ∗ (mm3 a c W Ψ D).owesAt () t.castSucc
      ∗ (∃ d, owns (c : Thread nD τ) (spec3_0.stage ((cfg3 a).slots t (0 : Fin 3))) fullShare ((mm3 a c W Ψ D).before (0 : Fin 3) t d))
      ∗ (∃ d, owns (c : Thread nD τ) (spec3_1.stage ((cfg3 a).slots t (1 : Fin 3))) fullShare ((mm3 a c W Ψ D).before (1 : Fin 3) t d))
      ∗ (∃ d, owns (c : Thread nD τ) (spec3_2.stage ((cfg3 a).slots t (2 : Fin 3))) fullShare ((mm3 a c W Ψ D).before (2 : Fin 3) t d)))
    ⊢ wp frame (wpE (defs₀ (F := F)) Variants.none (c : Thread nD τ) none) Set.univ
      (cc3__mm_body (F := F) (grid3.coords t) (Memref.whole main_v99) (Memref.isWhole_whole _)
        (spec3_0.stage ((cfg3 a).slots t (0 : Fin 3))) (hstage3_0 (((cfg3 a).slots t (0 : Fin 3)).cast nbuf3_0)) (spec3_1.stage ((cfg3 a).slots t (1 : Fin 3))) (hstage3_1 (((cfg3 a).slots t (1 : Fin 3)).cast nbuf3_1))
        (spec3_2.stage ((cfg3 a).slots t (2 : Fin 3))) (hstage3_2 (((cfg3 a).slots t (2 : Fin 3)).cast nbuf3_2)))
      fun _ => iprop(Ψ ∗ (mm3 a c W Ψ D).owesAt () t.succ
        ∗ owns (c : Thread nD τ) (spec3_0.stage ((cfg3 a).slots t (0 : Fin 3))) fullShare (lhs3 a c W t.val t.isLt)
        ∗ owns (c : Thread nD τ) (spec3_1.stage ((cfg3 a).slots t (1 : Fin 3))) fullShare (rhs3 a c W t.val t.isLt)
        ∗ owns (c : Thread nD τ) (spec3_2.stage ((cfg3 a).slots t (2 : Fin 3))) fullShare (acc3 a c W t.val t.isLt))
  iintro ⟨HΨ, HO, ⟨%d0, Ha⟩, ⟨%d1, Hb⟩, ⟨%d2, Ho⟩⟩
  rw [mm3_lhs, mm3_rhs]
  iapply (run3 c t)
  isplitl [Ha]; · iexact Ha
  isplitl [Hb]; · iexact Hb
  isplitl [Ho]; · iexact Ho
  iintro ⟨Ha, Hb, Ho⟩
  rw [acc3_eq]
  rw [show (if t.val % 1 = 0 then k3_pay1 else (mm3 a c W Ψ D).before (2 : Fin 3) t d2)
      = (if t.val % 1 = 0 then k3_pay1 else acc3 a c W (t.val - 1) (Nat.lt_of_le_of_lt (Nat.sub_le _ _) t.isLt)) from
    ite_congr rfl (fun _ => rfl) (fun h => mm3_out a c W Ψ D t h d2)]
  isplitl [HΨ]; · iexact HΨ
  isplitl [HO]; · iexact HO
  isplitl [Ha]; · iexact Ha
  isplitl [Hb]; · iexact Hb
  iexact Ho

end Cert.KernelIdeal.Gen

end
-- ==== Proof.Ideal.Mm4.lean ====
module

public import proofs.«01_k».proof.Proof.Ideal.Mm

/-!
# The product of call 4

The grid runs over the blocks of rows and, for each, over the blocks of the contracted axis.
The result's buffer is zeroed at the first of these and gathers one product per point.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation heldIn)

namespace Cert.KernelIdeal.Gen

variable {F : FTy → Type} [FloatOps F]

local notation "𝕄" => MT nD τ sig Unit (Elt F) ℕ UU ℕ

/-- What the first operand's buffer holds at a point. -/
def lhs4 (a : (pcfg4 (F := F)).Adm) (c : Dev nD) (W : Valuation τ sig (Elt F)) (n : ℕ) (h : n < grid4.N) : Vec F S512x512 .f32 :=
  heldIn (c := c) (cfg4 a) (fun w => W (Proc.devRef .tc (Pipeline.arrRef (cfg4 a).spec w))) (0 : Fin 3) n h

/-- What the second operand's buffer holds at a point. -/
def rhs4 (a : (pcfg4 (F := F)).Adm) (c : Dev nD) (W : Valuation τ sig (Elt F)) (n : ℕ) (h : n < grid4.N) : Vec F S512x256 .f32 :=
  heldIn (c := c) (cfg4 a) (fun w => W (Proc.devRef .tc (Pipeline.arrRef (cfg4 a).spec w))) (1 : Fin 3) n h

/-- What the result's buffer holds after a point. -/
def acc4 (a : (pcfg4 (F := F)).Adm) (c : Dev nD) (W : Valuation τ sig (Elt F)) : (n : ℕ) → n < grid4.N → Vec F S512x256 .f32
  | 0, h => k4_pay2 (lhs4 a c W 0 h) (rhs4 a c W 0 h) k4_pay1
  | n + 1, h => k4_pay2 (lhs4 a c W (n + 1) h) (rhs4 a c W (n + 1) h)
      (if (n + 1) % 8 = 0 then k4_pay1 else acc4 a c W n (Nat.lt_of_succ_lt h))

theorem acc4_eq (a : (pcfg4 (F := F)).Adm) (c : Dev nD) (W : Valuation τ sig (Elt F)) (n : ℕ) (h : n < grid4.N) :
    acc4 a c W n h = k4_pay2 (lhs4 a c W n h) (rhs4 a c W n h)
      (if n % 8 = 0 then k4_pay1 else acc4 a c W (n - 1) (Nat.lt_of_le_of_lt (Nat.sub_le _ _) h)) := by
  cases n with
  | zero => rfl
  | succ n => rfl

/-- The call's data over a valuation `W`, a constant invariant `Ψ` and constant dues `D`. -/
def mm4 (a : (pcfg4 (F := F)).Adm) (c : Dev nD) (W : Valuation τ sig (Elt F)) (Ψ : sProp 𝕄) (D : CellTallies nD τ sig Unit) :
    Dat τ (Elt F) Unit ℕ UU ℕ (cfg4 a) c where
  A w := W (Proc.devRef .tc (Pipeline.arrRef (cfg4 a).spec w))
  after w t := match w with
    | ⟨0, _⟩ => lhs4 a c W t.val t.isLt
    | ⟨1, _⟩ => rhs4 a c W t.val t.isLt
    | ⟨2, _⟩ => acc4 a c W t.val t.isLt
  Φ _ := Ψ
  q _ := fullShare
  owed _ := D

variable (a : (pcfg4 (F := F)).Adm) (c : Dev nD) (W : Valuation τ sig (Elt F)) (Ψ : sProp (MT nD τ sig Unit (Elt F) ℕ UU ℕ))
  (D : CellTallies nD τ sig Unit)

theorem mm4_lhs (t : Fin grid4.N) (d) : (mm4 a c W Ψ D).before (0 : Fin 3) t d = lhs4 a c W t.val t.isLt :=
  Dat.before_eq_heldIn (mm4 a c W Ψ D) (0 : Fin 3) rfl (fun _ => rfl) (fun _ _ => rfl) (fun _ => rfl) t d

theorem mm4_rhs (t : Fin grid4.N) (d) : (mm4 a c W Ψ D).before (1 : Fin 3) t d = rhs4 a c W t.val t.isLt :=
  Dat.before_eq_heldIn (mm4 a c W Ψ D) (1 : Fin 3) rfl (fun _ => rfl) (fun _ _ => rfl) (fun _ => rfl) t d

/-- The result's block is written back only after the last point of each block of rows. -/
theorem flush4 (t : Fin grid4.N) : ((cfg4 a).win (2 : Fin 3)).flush t = decide (t.val % 8 = 7) := by
  rw [show ((cfg4 a).win (2 : Fin 3)).flush t
      = (true && (decide (t.val + 1 = grid4.N) || decide (∃ h : t.val + 1 < grid4.N, ∃ x : Fin 2,
          cc4_transform_2 (grid4.coords ⟨t.val + 1, h⟩) x ≠ cc4_transform_2 (grid4.coords t) x))) from
    Pipeline.Window.flush_eq_flushF _ t]
  revert t
  decide +kernel

theorem mm4_out (t : Fin grid4.N) (ht : t.val % 8 ≠ 0) (d) :
    (mm4 a c W Ψ D).before (2 : Fin 3) t d = acc4 a c W (t.val - 1) (Nat.lt_of_le_of_lt (Nat.sub_le _ _) t.isLt) :=
  Dat.before_out_kept (mm4 a c W Ψ D) (2 : Fin 3) rfl t (fun h => ht (by rw [h]))
    ((flush4 a _).trans (decide_eq_false (by show (t.val - 1) % 8 ≠ 7; omega))) (fun _ => rfl) (fun _ _ => rfl) d

theorem first4 (i : grid4.Coords) :
    (Scalar.cmpi .ne (Scalar.extui (Scalar.cmpi .eq (BitVec.ofNat 32 (i 2).val) 0#32) : BitVec 32) 0#32 = 1#1) ↔ (i 2).val = 0 := by
  have h : ∀ n : Fin 8, (Scalar.cmpi .ne (Scalar.extui (Scalar.cmpi .eq (BitVec.ofNat 32 n.val) 0#32) : BitVec 32) 0#32 = 1#1) ↔ n.val = 0 := by
    decide +kernel
  exact h (i 2)

theorem coords4 (t : Fin grid4.N) : (grid4.coords t 2).val = t.val % 8 := by
  revert t; decide +kernel

/-- One point: the result's buffer gathers the product of the two blocks. -/
theorem run4 (t : Fin grid4.N) (p3 h3 p4 h4 p5 h5 p6 h6) (va : Vec F S512x512 .f32) (vb vo : Vec F S512x256 .f32) {Kt : PUnit.{1} → sProp 𝕄} :
    iprop(owns (c : Thread nD τ) p4 fullShare va ∗ owns (c : Thread nD τ) p5 fullShare vb ∗ owns (c : Thread nD τ) p6 fullShare vo
        ∗ (owns (c : Thread nD τ) p4 fullShare va ∗ owns (c : Thread nD τ) p5 fullShare vb
          ∗ owns (c : Thread nD τ) p6 fullShare (k4_pay2 va vb (if t.val % 8 = 0 then k4_pay1 else vo)) -∗ Kt ⟨⟩))
      ⊢ wp frame (wpE (defs₀ (F := F)) Variants.none (c : Thread nD τ) none) Set.univ
          (cc4__mm_body (F := F) (grid4.coords t) p3 h3 p4 h4 p5 h5 p6 h6) Kt := by
  have z : (![0, 0] : Fin 2 → ℕ) = fun _ => 0 := by funext x; fin_cases x <;> rfl
  rw [cc4__mm_body_eq_skeleton]
  unfold cc4__mm_body_skel
  iintro ⟨Ha, Hb, Ho, Hk⟩
  by_cases h : t.val % 8 = 0
  · rw [dif_pos ((first4 (grid4.coords t)).mpr ((coords4 t).trans h)), if_pos h]
    iapply (load_all c p6 z vo) $$ Ho
    iintro Ho
    iapply (store_all c p6 z vo k4_pay1) $$ Ho
    iintro Ho
    iapply (load_all c p4 z va) $$ Ha
    iintro Ha
    iapply (load_all c p5 z vb) $$ Hb
    iintro Hb
    iapply (load_all c p6 z k4_pay1) $$ Ho
    iintro Ho
    iapply (load_all c p6 z k4_pay1) $$ Ho
    iintro Ho
    iapply (store_all c p6 z k4_pay1 (k4_pay2 va vb k4_pay1)) $$ Ho
    iintro Ho
    iapply (wp_done c)
    iapply Hk
    isplitl [Ha]; · iexact Ha
    isplitl [Hb]; · iexact Hb
    iexact Ho
  · rw [dif_neg (fun e => h ((coords4 t).symm.trans ((first4 (grid4.coords t)).mp e))), if_neg h]
    iapply (load_all c p4 z va) $$ Ha
    iintro Ha
    iapply (load_all c p5 z vb) $$ Hb
    iintro Hb
    iapply (load_all c p6 z vo) $$ Ho
    iintro Ho
    iapply (load_all c p6 z vo) $$ Ho
    iintro Ho
    iapply (store_all c p6 z vo (k4_pay2 va vb vo)) $$ Ho
    iintro Ho
    iapply (wp_done c)
    iapply Hk
    isplitl [Ha]; · iexact Ha
    isplitl [Hb]; · iexact Hb
    iexact Ho

theorem mm4_body : Pipeline.BodyObligationLoose (mm4 a c W Ψ D) (defs₀ (F := F)) Variants.none () Set.univ := by
  intro t
  rw [bigSep_W4, bigSep_W4]
  show iprop(Ψ ∗ (mm4 a c W Ψ D).owesAt () t.castSucc
      ∗ (∃ d, owns (c : Thread nD τ) (spec4_0.stage ((cfg4 a).slots t (0 : Fin 3))) fullShare ((mm4 a c W Ψ D).before (0 : Fin 3) t d))
      ∗ (∃ d, owns (c : Thread nD τ) (spec4_1.stage ((cfg4 a).slots t (1 : Fin 3))) fullShare ((mm4 a c W Ψ D).before (1 : Fin 3) t d))
      ∗ (∃ d, owns (c : Thread nD τ) (spec4_2.stage ((cfg4 a).slots t (2 : Fin 3))) fullShare ((mm4 a c W Ψ D).before (2 : Fin 3) t d)))
    ⊢ wp frame (wpE (defs₀ (F := F)) Variants.none (c : Thread nD τ) none) Set.univ
      (cc4__mm_body (F := F) (grid4.coords t) (Memref.whole main_v105) (Memref.isWhole_whole _)
        (spec4_0.stage ((cfg4 a).slots t (0 : Fin 3))) (hstage4_0 (((cfg4 a).slots t (0 : Fin 3)).cast nbuf4_0)) (spec4_1.stage ((cfg4 a).slots t (1 : Fin 3))) (hstage4_1 (((cfg4 a).slots t (1 : Fin 3)).cast nbuf4_1))
        (spec4_2.stage ((cfg4 a).slots t (2 : Fin 3))) (hstage4_2 (((cfg4 a).slots t (2 : Fin 3)).cast nbuf4_2)))
      fun _ => iprop(Ψ ∗ (mm4 a c W Ψ D).owesAt () t.succ
        ∗ owns (c : Thread nD τ) (spec4_0.stage ((cfg4 a).slots t (0 : Fin 3))) fullShare (lhs4 a c W t.val t.isLt)
        ∗ owns (c : Thread nD τ) (spec4_1.stage ((cfg4 a).slots t (1 : Fin 3))) fullShare (rhs4 a c W t.val t.isLt)
        ∗ owns (c : Thread nD τ) (spec4_2.stage ((cfg4 a).slots t (2 : Fin 3))) fullShare (acc4 a c W t.val t.isLt))
  iintro ⟨HΨ, HO, ⟨%d0, Ha⟩, ⟨%d1, Hb⟩, ⟨%d2, Ho⟩⟩
  rw [mm4_lhs, mm4_rhs]
  iapply (run4 c t)
  isplitl [Ha]; · iexact Ha
  isplitl [Hb]; · iexact Hb
  isplitl [Ho]; · iexact Ho
  iintro ⟨Ha, Hb, Ho⟩
  rw [acc4_eq]
  rw [show (if t.val % 8 = 0 then k4_pay1 else (mm4 a c W Ψ D).before (2 : Fin 3) t d2)
      = (if t.val % 8 = 0 then k4_pay1 else acc4 a c W (t.val - 1) (Nat.lt_of_le_of_lt (Nat.sub_le _ _) t.isLt)) from
    ite_congr rfl (fun _ => rfl) (fun h => mm4_out a c W Ψ D t h d2)]
  isplitl [HΨ]; · iexact HΨ
  isplitl [HO]; · iexact HO
  isplitl [Ha]; · iexact Ha
  isplitl [Hb]; · iexact Hb
  iexact Ho

end Cert.KernelIdeal.Gen

end
-- ==== Proof.Ideal.Mm5.lean ====
module

public import proofs.«01_k».proof.Proof.Ideal.Mm

/-!
# The product of call 5

The grid runs over the blocks of rows and, for each, over the blocks of the contracted axis.
The result's buffer is zeroed at the first of these and gathers one product per point.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation heldIn)

namespace Cert.KernelIdeal.Gen

variable {F : FTy → Type} [FloatOps F]

local notation "𝕄" => MT nD τ sig Unit (Elt F) ℕ UU ℕ

/-- What the first operand's buffer holds at a point. -/
def lhs5 (a : (pcfg5 (F := F)).Adm) (c : Dev nD) (W : Valuation τ sig (Elt F)) (n : ℕ) (h : n < grid5.N) : Vec F S512x512 .f32 :=
  heldIn (c := c) (cfg5 a) (fun w => W (Proc.devRef .tc (Pipeline.arrRef (cfg5 a).spec w))) (0 : Fin 3) n h

/-- What the second operand's buffer holds at a point. -/
def rhs5 (a : (pcfg5 (F := F)).Adm) (c : Dev nD) (W : Valuation τ sig (Elt F)) (n : ℕ) (h : n < grid5.N) : Vec F S512x128 .f32 :=
  heldIn (c := c) (cfg5 a) (fun w => W (Proc.devRef .tc (Pipeline.arrRef (cfg5 a).spec w))) (1 : Fin 3) n h

/-- What the result's buffer holds after a point. -/
def acc5 (a : (pcfg5 (F := F)).Adm) (c : Dev nD) (W : Valuation τ sig (Elt F)) : (n : ℕ) → n < grid5.N → Vec F S512x128 .f32
  | 0, h => k5_pay2 (lhs5 a c W 0 h) (rhs5 a c W 0 h) k5_pay1
  | n + 1, h => k5_pay2 (lhs5 a c W (n + 1) h) (rhs5 a c W (n + 1) h)
      (if (n + 1) % 8 = 0 then k5_pay1 else acc5 a c W n (Nat.lt_of_succ_lt h))

theorem acc5_eq (a : (pcfg5 (F := F)).Adm) (c : Dev nD) (W : Valuation τ sig (Elt F)) (n : ℕ) (h : n < grid5.N) :
    acc5 a c W n h = k5_pay2 (lhs5 a c W n h) (rhs5 a c W n h)
      (if n % 8 = 0 then k5_pay1 else acc5 a c W (n - 1) (Nat.lt_of_le_of_lt (Nat.sub_le _ _) h)) := by
  cases n with
  | zero => rfl
  | succ n => rfl

/-- The call's data over a valuation `W`, a constant invariant `Ψ` and constant dues `D`. -/
def mm5 (a : (pcfg5 (F := F)).Adm) (c : Dev nD) (W : Valuation τ sig (Elt F)) (Ψ : sProp 𝕄) (D : CellTallies nD τ sig Unit) :
    Dat τ (Elt F) Unit ℕ UU ℕ (cfg5 a) c where
  A w := W (Proc.devRef .tc (Pipeline.arrRef (cfg5 a).spec w))
  after w t := match w with
    | ⟨0, _⟩ => lhs5 a c W t.val t.isLt
    | ⟨1, _⟩ => rhs5 a c W t.val t.isLt
    | ⟨2, _⟩ => acc5 a c W t.val t.isLt
  Φ _ := Ψ
  q _ := fullShare
  owed _ := D

variable (a : (pcfg5 (F := F)).Adm) (c : Dev nD) (W : Valuation τ sig (Elt F)) (Ψ : sProp (MT nD τ sig Unit (Elt F) ℕ UU ℕ))
  (D : CellTallies nD τ sig Unit)

theorem mm5_lhs (t : Fin grid5.N) (d) : (mm5 a c W Ψ D).before (0 : Fin 3) t d = lhs5 a c W t.val t.isLt :=
  Dat.before_eq_heldIn (mm5 a c W Ψ D) (0 : Fin 3) rfl (fun _ => rfl) (fun _ _ => rfl) (fun _ => rfl) t d

theorem mm5_rhs (t : Fin grid5.N) (d) : (mm5 a c W Ψ D).before (1 : Fin 3) t d = rhs5 a c W t.val t.isLt :=
  Dat.before_eq_heldIn (mm5 a c W Ψ D) (1 : Fin 3) rfl (fun _ => rfl) (fun _ _ => rfl) (fun _ => rfl) t d

/-- The result's block is written back only after the last point of each block of rows. -/
theorem flush5 (t : Fin grid5.N) : ((cfg5 a).win (2 : Fin 3)).flush t = decide (t.val % 8 = 7) := by
  rw [show ((cfg5 a).win (2 : Fin 3)).flush t
      = (true && (decide (t.val + 1 = grid5.N) || decide (∃ h : t.val + 1 < grid5.N, ∃ x : Fin 2,
          cc5_transform_2 (grid5.coords ⟨t.val + 1, h⟩) x ≠ cc5_transform_2 (grid5.coords t) x))) from
    Pipeline.Window.flush_eq_flushF _ t]
  revert t
  decide +kernel

theorem mm5_out (t : Fin grid5.N) (ht : t.val % 8 ≠ 0) (d) :
    (mm5 a c W Ψ D).before (2 : Fin 3) t d = acc5 a c W (t.val - 1) (Nat.lt_of_le_of_lt (Nat.sub_le _ _) t.isLt) :=
  Dat.before_out_kept (mm5 a c W Ψ D) (2 : Fin 3) rfl t (fun h => ht (by rw [h]))
    ((flush5 a _).trans (decide_eq_false (by show (t.val - 1) % 8 ≠ 7; omega))) (fun _ => rfl) (fun _ _ => rfl) d

theorem first5 (i : grid5.Coords) :
    (Scalar.cmpi .ne (Scalar.extui (Scalar.cmpi .eq (BitVec.ofNat 32 (i 2).val) 0#32) : BitVec 32) 0#32 = 1#1) ↔ (i 2).val = 0 := by
  have h : ∀ n : Fin 8, (Scalar.cmpi .ne (Scalar.extui (Scalar.cmpi .eq (BitVec.ofNat 32 n.val) 0#32) : BitVec 32) 0#32 = 1#1) ↔ n.val = 0 := by
    decide +kernel
  exact h (i 2)

theorem coords5 (t : Fin grid5.N) : (grid5.coords t 2).val = t.val % 8 := by
  revert t; decide +kernel

/-- One point: the result's buffer gathers the product of the two blocks. -/
theorem run5 (t : Fin grid5.N) (p3 h3 p4 h4 p5 h5 p6 h6) (va : Vec F S512x512 .f32) (vb vo : Vec F S512x128 .f32) {Kt : PUnit.{1} → sProp 𝕄} :
    iprop(owns (c : Thread nD τ) p4 fullShare va ∗ owns (c : Thread nD τ) p5 fullShare vb ∗ owns (c : Thread nD τ) p6 fullShare vo
        ∗ (owns (c : Thread nD τ) p4 fullShare va ∗ owns (c : Thread nD τ) p5 fullShare vb
          ∗ owns (c : Thread nD τ) p6 fullShare (k5_pay2 va vb (if t.val % 8 = 0 then k5_pay1 else vo)) -∗ Kt ⟨⟩))
      ⊢ wp frame (wpE (defs₀ (F := F)) Variants.none (c : Thread nD τ) none) Set.univ
          (cc5__mm_body (F := F) (grid5.coords t) p3 h3 p4 h4 p5 h5 p6 h6) Kt := by
  have z : (![0, 0] : Fin 2 → ℕ) = fun _ => 0 := by funext x; fin_cases x <;> rfl
  rw [cc5__mm_body_eq_skeleton]
  unfold cc5__mm_body_skel
  iintro ⟨Ha, Hb, Ho, Hk⟩
  by_cases h : t.val % 8 = 0
  · rw [dif_pos ((first5 (grid5.coords t)).mpr ((coords5 t).trans h)), if_pos h]
    iapply (load_all c p6 z vo) $$ Ho
    iintro Ho
    iapply (store_all c p6 z vo k5_pay1) $$ Ho
    iintro Ho
    iapply (load_all c p4 z va) $$ Ha
    iintro Ha
    iapply (load_all c p5 z vb) $$ Hb
    iintro Hb
    iapply (load_all c p6 z k5_pay1) $$ Ho
    iintro Ho
    iapply (load_all c p6 z k5_pay1) $$ Ho
    iintro Ho
    iapply (store_all c p6 z k5_pay1 (k5_pay2 va vb k5_pay1)) $$ Ho
    iintro Ho
    iapply (wp_done c)
    iapply Hk
    isplitl [Ha]; · iexact Ha
    isplitl [Hb]; · iexact Hb
    iexact Ho
  · rw [dif_neg (fun e => h ((coords5 t).symm.trans ((first5 (grid5.coords t)).mp e))), if_neg h]
    iapply (load_all c p4 z va) $$ Ha
    iintro Ha
    iapply (load_all c p5 z vb) $$ Hb
    iintro Hb
    iapply (load_all c p6 z vo) $$ Ho
    iintro Ho
    iapply (load_all c p6 z vo) $$ Ho
    iintro Ho
    iapply (store_all c p6 z vo (k5_pay2 va vb vo)) $$ Ho
    iintro Ho
    iapply (wp_done c)
    iapply Hk
    isplitl [Ha]; · iexact Ha
    isplitl [Hb]; · iexact Hb
    iexact Ho

theorem mm5_body : Pipeline.BodyObligationLoose (mm5 a c W Ψ D) (defs₀ (F := F)) Variants.none () Set.univ := by
  intro t
  rw [bigSep_W5, bigSep_W5]
  show iprop(Ψ ∗ (mm5 a c W Ψ D).owesAt () t.castSucc
      ∗ (∃ d, owns (c : Thread nD τ) (spec5_0.stage ((cfg5 a).slots t (0 : Fin 3))) fullShare ((mm5 a c W Ψ D).before (0 : Fin 3) t d))
      ∗ (∃ d, owns (c : Thread nD τ) (spec5_1.stage ((cfg5 a).slots t (1 : Fin 3))) fullShare ((mm5 a c W Ψ D).before (1 : Fin 3) t d))
      ∗ (∃ d, owns (c : Thread nD τ) (spec5_2.stage ((cfg5 a).slots t (2 : Fin 3))) fullShare ((mm5 a c W Ψ D).before (2 : Fin 3) t d)))
    ⊢ wp frame (wpE (defs₀ (F := F)) Variants.none (c : Thread nD τ) none) Set.univ
      (cc5__mm_body (F := F) (grid5.coords t) (Memref.whole main_v111) (Memref.isWhole_whole _)
        (spec5_0.stage ((cfg5 a).slots t (0 : Fin 3))) (hstage5_0 (((cfg5 a).slots t (0 : Fin 3)).cast nbuf5_0)) (spec5_1.stage ((cfg5 a).slots t (1 : Fin 3))) (hstage5_1 (((cfg5 a).slots t (1 : Fin 3)).cast nbuf5_1))
        (spec5_2.stage ((cfg5 a).slots t (2 : Fin 3))) (hstage5_2 (((cfg5 a).slots t (2 : Fin 3)).cast nbuf5_2)))
      fun _ => iprop(Ψ ∗ (mm5 a c W Ψ D).owesAt () t.succ
        ∗ owns (c : Thread nD τ) (spec5_0.stage ((cfg5 a).slots t (0 : Fin 3))) fullShare (lhs5 a c W t.val t.isLt)
        ∗ owns (c : Thread nD τ) (spec5_1.stage ((cfg5 a).slots t (1 : Fin 3))) fullShare (rhs5 a c W t.val t.isLt)
        ∗ owns (c : Thread nD τ) (spec5_2.stage ((cfg5 a).slots t (2 : Fin 3))) fullShare (acc5 a c W t.val t.isLt))
  iintro ⟨HΨ, HO, ⟨%d0, Ha⟩, ⟨%d1, Hb⟩, ⟨%d2, Ho⟩⟩
  rw [mm5_lhs, mm5_rhs]
  iapply (run5 c t)
  isplitl [Ha]; · iexact Ha
  isplitl [Hb]; · iexact Hb
  isplitl [Ho]; · iexact Ho
  iintro ⟨Ha, Hb, Ho⟩
  rw [acc5_eq]
  rw [show (if t.val % 8 = 0 then k5_pay1 else (mm5 a c W Ψ D).before (2 : Fin 3) t d2)
      = (if t.val % 8 = 0 then k5_pay1 else acc5 a c W (t.val - 1) (Nat.lt_of_le_of_lt (Nat.sub_le _ _) t.isLt)) from
    ite_congr rfl (fun _ => rfl) (fun h => mm5_out a c W Ψ D t h d2)]
  isplitl [HΨ]; · iexact HΨ
  isplitl [HO]; · iexact HO
  isplitl [Ha]; · iexact Ha
  isplitl [Hb]; · iexact Hb
  iexact Ho

end Cert.KernelIdeal.Gen

end
-- ==== Proof.Ideal.Mm6.lean ====
module

public import proofs.«01_k».proof.Proof.Ideal.Mm

/-!
# The product of call 6

The grid runs over the blocks of rows and, for each, over the blocks of the contracted axis.
The result's buffer is zeroed at the first of these and gathers one product per point.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation heldIn)

namespace Cert.KernelIdeal.Gen

variable {F : FTy → Type} [FloatOps F]

local notation "𝕄" => MT nD τ sig Unit (Elt F) ℕ UU ℕ

/-- What the first operand's buffer holds at a point. -/
def lhs6 (a : (pcfg6 (F := F)).Adm) (c : Dev nD) (W : Valuation τ sig (Elt F)) (n : ℕ) (h : n < grid6.N) : Vec F S512x512 .f32 :=
  heldIn (c := c) (cfg6 a) (fun w => W (Proc.devRef .tc (Pipeline.arrRef (cfg6 a).spec w))) (0 : Fin 3) n h

/-- What the second operand's buffer holds at a point. -/
def rhs6 (a : (pcfg6 (F := F)).Adm) (c : Dev nD) (W : Valuation τ sig (Elt F)) (n : ℕ) (h : n < grid6.N) : Vec F S512x64 .f32 :=
  heldIn (c := c) (cfg6 a) (fun w => W (Proc.devRef .tc (Pipeline.arrRef (cfg6 a).spec w))) (1 : Fin 3) n h

/-- What the result's buffer holds after a point. -/
def acc6 (a : (pcfg6 (F := F)).Adm) (c : Dev nD) (W : Valuation τ sig (Elt F)) : (n : ℕ) → n < grid6.N → Vec F S512x64 .f32
  | 0, h => k6_pay2 (lhs6 a c W 0 h) (rhs6 a c W 0 h) k6_pay1
  | n + 1, h => k6_pay2 (lhs6 a c W (n + 1) h) (rhs6 a c W (n + 1) h)
      (if (n + 1) % 8 = 0 then k6_pay1 else acc6 a c W n (Nat.lt_of_succ_lt h))

theorem acc6_eq (a : (pcfg6 (F := F)).Adm) (c : Dev nD) (W : Valuation τ sig (Elt F)) (n : ℕ) (h : n < grid6.N) :
    acc6 a c W n h = k6_pay2 (lhs6 a c W n h) (rhs6 a c W n h)
      (if n % 8 = 0 then k6_pay1 else acc6 a c W (n - 1) (Nat.lt_of_le_of_lt (Nat.sub_le _ _) h)) := by
  cases n with
  | zero => rfl
  | succ n => rfl

/-- The call's data over a valuation `W`, a constant invariant `Ψ` and constant dues `D`. -/
def mm6 (a : (pcfg6 (F := F)).Adm) (c : Dev nD) (W : Valuation τ sig (Elt F)) (Ψ : sProp 𝕄) (D : CellTallies nD τ sig Unit) :
    Dat τ (Elt F) Unit ℕ UU ℕ (cfg6 a) c where
  A w := W (Proc.devRef .tc (Pipeline.arrRef (cfg6 a).spec w))
  after w t := match w with
    | ⟨0, _⟩ => lhs6 a c W t.val t.isLt
    | ⟨1, _⟩ => rhs6 a c W t.val t.isLt
    | ⟨2, _⟩ => acc6 a c W t.val t.isLt
  Φ _ := Ψ
  q _ := fullShare
  owed _ := D

variable (a : (pcfg6 (F := F)).Adm) (c : Dev nD) (W : Valuation τ sig (Elt F)) (Ψ : sProp (MT nD τ sig Unit (Elt F) ℕ UU ℕ))
  (D : CellTallies nD τ sig Unit)

theorem mm6_lhs (t : Fin grid6.N) (d) : (mm6 a c W Ψ D).before (0 : Fin 3) t d = lhs6 a c W t.val t.isLt :=
  Dat.before_eq_heldIn (mm6 a c W Ψ D) (0 : Fin 3) rfl (fun _ => rfl) (fun _ _ => rfl) (fun _ => rfl) t d

theorem mm6_rhs (t : Fin grid6.N) (d) : (mm6 a c W Ψ D).before (1 : Fin 3) t d = rhs6 a c W t.val t.isLt :=
  Dat.before_eq_heldIn (mm6 a c W Ψ D) (1 : Fin 3) rfl (fun _ => rfl) (fun _ _ => rfl) (fun _ => rfl) t d

/-- The result's block is written back only after the last point of each block of rows. -/
theorem flush6 (t : Fin grid6.N) : ((cfg6 a).win (2 : Fin 3)).flush t = decide (t.val % 8 = 7) := by
  rw [show ((cfg6 a).win (2 : Fin 3)).flush t
      = (true && (decide (t.val + 1 = grid6.N) || decide (∃ h : t.val + 1 < grid6.N, ∃ x : Fin 2,
          cc6_transform_2 (grid6.coords ⟨t.val + 1, h⟩) x ≠ cc6_transform_2 (grid6.coords t) x))) from
    Pipeline.Window.flush_eq_flushF _ t]
  revert t
  decide +kernel

theorem mm6_out (t : Fin grid6.N) (ht : t.val % 8 ≠ 0) (d) :
    (mm6 a c W Ψ D).before (2 : Fin 3) t d = acc6 a c W (t.val - 1) (Nat.lt_of_le_of_lt (Nat.sub_le _ _) t.isLt) :=
  Dat.before_out_kept (mm6 a c W Ψ D) (2 : Fin 3) rfl t (fun h => ht (by rw [h]))
    ((flush6 a _).trans (decide_eq_false (by show (t.val - 1) % 8 ≠ 7; omega))) (fun _ => rfl) (fun _ _ => rfl) d

theorem first6 (i : grid6.Coords) :
    (Scalar.cmpi .ne (Scalar.extui (Scalar.cmpi .eq (BitVec.ofNat 32 (i 2).val) 0#32) : BitVec 32) 0#32 = 1#1) ↔ (i 2).val = 0 := by
  have h : ∀ n : Fin 8, (Scalar.cmpi .ne (Scalar.extui (Scalar.cmpi .eq (BitVec.ofNat 32 n.val) 0#32) : BitVec 32) 0#32 = 1#1) ↔ n.val = 0 := by
    decide +kernel
  exact h (i 2)

theorem coords6 (t : Fin grid6.N) : (grid6.coords t 2).val = t.val % 8 := by
  revert t; decide +kernel

/-- One point: the result's buffer gathers the product of the two blocks. -/
theorem run6 (t : Fin grid6.N) (p3 h3 p4 h4 p5 h5 p6 h6) (va : Vec F S512x512 .f32) (vb vo : Vec F S512x64 .f32) {Kt : PUnit.{1} → sProp 𝕄} :
    iprop(owns (c : Thread nD τ) p4 fullShare va ∗ owns (c : Thread nD τ) p5 fullShare vb ∗ owns (c : Thread nD τ) p6 fullShare vo
        ∗ (owns (c : Thread nD τ) p4 fullShare va ∗ owns (c : Thread nD τ) p5 fullShare vb
          ∗ owns (c : Thread nD τ) p6 fullShare (k6_pay2 va vb (if t.val % 8 = 0 then k6_pay1 else vo)) -∗ Kt ⟨⟩))
      ⊢ wp frame (wpE (defs₀ (F := F)) Variants.none (c : Thread nD τ) none) Set.univ
          (cc6__mm_body (F := F) (grid6.coords t) p3 h3 p4 h4 p5 h5 p6 h6) Kt := by
  have z : (![0, 0] : Fin 2 → ℕ) = fun _ => 0 := by funext x; fin_cases x <;> rfl
  rw [cc6__mm_body_eq_skeleton]
  unfold cc6__mm_body_skel
  iintro ⟨Ha, Hb, Ho, Hk⟩
  by_cases h : t.val % 8 = 0
  · rw [dif_pos ((first6 (grid6.coords t)).mpr ((coords6 t).trans h)), if_pos h]
    iapply (load_all c p6 z vo) $$ Ho
    iintro Ho
    iapply (store_all c p6 z vo k6_pay1) $$ Ho
    iintro Ho
    iapply (load_all c p4 z va) $$ Ha
    iintro Ha
    iapply (load_all c p5 z vb) $$ Hb
    iintro Hb
    iapply (load_all c p6 z k6_pay1) $$ Ho
    iintro Ho
    iapply (load_all c p6 z k6_pay1) $$ Ho
    iintro Ho
    iapply (store_all c p6 z k6_pay1 (k6_pay2 va vb k6_pay1)) $$ Ho
    iintro Ho
    iapply (wp_done c)
    iapply Hk
    isplitl [Ha]; · iexact Ha
    isplitl [Hb]; · iexact Hb
    iexact Ho
  · rw [dif_neg (fun e => h ((coords6 t).symm.trans ((first6 (grid6.coords t)).mp e))), if_neg h]
    iapply (load_all c p4 z va) $$ Ha
    iintro Ha
    iapply (load_all c p5 z vb) $$ Hb
    iintro Hb
    iapply (load_all c p6 z vo) $$ Ho
    iintro Ho
    iapply (load_all c p6 z vo) $$ Ho
    iintro Ho
    iapply (store_all c p6 z vo (k6_pay2 va vb vo)) $$ Ho
    iintro Ho
    iapply (wp_done c)
    iapply Hk
    isplitl [Ha]; · iexact Ha
    isplitl [Hb]; · iexact Hb
    iexact Ho

theorem mm6_body : Pipeline.BodyObligationLoose (mm6 a c W Ψ D) (defs₀ (F := F)) Variants.none () Set.univ := by
  intro t
  rw [bigSep_W6, bigSep_W6]
  show iprop(Ψ ∗ (mm6 a c W Ψ D).owesAt () t.castSucc
      ∗ (∃ d, owns (c : Thread nD τ) (spec6_0.stage ((cfg6 a).slots t (0 : Fin 3))) fullShare ((mm6 a c W Ψ D).before (0 : Fin 3) t d))
      ∗ (∃ d, owns (c : Thread nD τ) (spec6_1.stage ((cfg6 a).slots t (1 : Fin 3))) fullShare ((mm6 a c W Ψ D).before (1 : Fin 3) t d))
      ∗ (∃ d, owns (c : Thread nD τ) (spec6_2.stage ((cfg6 a).slots t (2 : Fin 3))) fullShare ((mm6 a c W Ψ D).before (2 : Fin 3) t d)))
    ⊢ wp frame (wpE (defs₀ (F := F)) Variants.none (c : Thread nD τ) none) Set.univ
      (cc6__mm_body (F := F) (grid6.coords t) (Memref.whole main_v114) (Memref.isWhole_whole _)
        (spec6_0.stage ((cfg6 a).slots t (0 : Fin 3))) (hstage6_0 (((cfg6 a).slots t (0 : Fin 3)).cast nbuf6_0)) (spec6_1.stage ((cfg6 a).slots t (1 : Fin 3))) (hstage6_1 (((cfg6 a).slots t (1 : Fin 3)).cast nbuf6_1))
        (spec6_2.stage ((cfg6 a).slots t (2 : Fin 3))) (hstage6_2 (((cfg6 a).slots t (2 : Fin 3)).cast nbuf6_2)))
      fun _ => iprop(Ψ ∗ (mm6 a c W Ψ D).owesAt () t.succ
        ∗ owns (c : Thread nD τ) (spec6_0.stage ((cfg6 a).slots t (0 : Fin 3))) fullShare (lhs6 a c W t.val t.isLt)
        ∗ owns (c : Thread nD τ) (spec6_1.stage ((cfg6 a).slots t (1 : Fin 3))) fullShare (rhs6 a c W t.val t.isLt)
        ∗ owns (c : Thread nD τ) (spec6_2.stage ((cfg6 a).slots t (2 : Fin 3))) fullShare (acc6 a c W t.val t.isLt))
  iintro ⟨HΨ, HO, ⟨%d0, Ha⟩, ⟨%d1, Hb⟩, ⟨%d2, Ho⟩⟩
  rw [mm6_lhs, mm6_rhs]
  iapply (run6 c t)
  isplitl [Ha]; · iexact Ha
  isplitl [Hb]; · iexact Hb
  isplitl [Ho]; · iexact Ho
  iintro ⟨Ha, Hb, Ho⟩
  rw [acc6_eq]
  rw [show (if t.val % 8 = 0 then k6_pay1 else (mm6 a c W Ψ D).before (2 : Fin 3) t d2)
      = (if t.val % 8 = 0 then k6_pay1 else acc6 a c W (t.val - 1) (Nat.lt_of_le_of_lt (Nat.sub_le _ _) t.isLt)) from
    ite_congr rfl (fun _ => rfl) (fun h => mm6_out a c W Ψ D t h d2)]
  isplitl [HΨ]; · iexact HΨ
  isplitl [HO]; · iexact HO
  isplitl [Ha]; · iexact Ha
  isplitl [Hb]; · iexact Hb
  iexact Ho

end Cert.KernelIdeal.Gen

end
-- ==== Proof.Ideal.Tables.lean ====
module

public import proofs.«01_k».proof.Proof.Ideal.Attn
public import proofs.«01_k».proof.Proof.Ideal.Mm0
public import proofs.«01_k».proof.Proof.Ideal.Mm2
public import proofs.«01_k».proof.Proof.Ideal.Mm3
public import proofs.«01_k».proof.Proof.Ideal.Mm4
public import proofs.«01_k».proof.Proof.Ideal.Mm5
public import proofs.«01_k».proof.Proof.Ideal.Mm6

/-!
# The tables of the six products

A product's table is one word, the first block of columns of its second operand: zero, or for the two query products the number
`4 z + y` of the device's heads.
-/

@[expose] public section

noncomputable section

open Idealize.ShloMosaic Idealize.ShloMosaic.TcCoe

namespace Cert.KernelIdeal.Gen

variable {F : FTy → Type} [FloatOps F]

/-- A device's place among its sixteen: `4 z + y`. -/
abbrev place (d : Dev nD) : ℕ := 4 * (d.val % 4) + d.val / 4 % 4

theorem place_lt (d : Dev nD) : place d < 16 := by
  show 4 * (d.val % 4) + d.val / 4 % 4 < 16
  omega

/-! ## Call 0 -/

/-- The table holding `n`. -/
def tbl0 (n : BitVec 32) : pre0.Contents (Elt F) := fun | ⟨0, _⟩ => fun _ => n

/-- The second operand's block at a point: its block of rows is the point's last coordinate, its block of columns counts from the table's word. -/
def blk0 (n : BitVec 32) (i : grid0.Coords) : Fin 2 → ℕ :=
  ![(BitVec.ofNat 32 (i 2).val).toNat, (Scalar.addi n (BitVec.ofNat 32 (i 1).val)).toNat]

theorem blk0_eq (n : BitVec 32) (i : grid0.Coords) : cc0_transform_1 inb_S1_S1_0 numel1_S1 (tbl0 (F := F) n) i = blk0 n i := rfl

theorem in0 : ∀ (i : grid0.Coords) (x : Fin 2), (blk0 0#32 i x + 1) * S512x128.size x ≤ S4096x128.size x := by decide +kernel

theorem ok0_tbl : ok0 (tbl0 (F := F) 0#32) := by
  unfold ok0
  exact fun i => ⟨in0 i, Or.inl rfl⟩

abbrev adm0 : (pcfg0 (F := F)).Adm := ⟨tbl0 0#32, ok0_tbl⟩

/-! ## Call 2 -/

/-- The table holding `n`. -/
def tbl2 (n : BitVec 32) : pre2.Contents (Elt F) := fun | ⟨0, _⟩ => fun _ => n

/-- The second operand's block at a point: its block of rows is the point's last coordinate, its block of columns counts from the table's word. -/
def blk2 (n : BitVec 32) (i : grid2.Coords) : Fin 2 → ℕ :=
  ![(BitVec.ofNat 32 (i 2).val).toNat, (Scalar.addi n (BitVec.ofNat 32 (i 1).val)).toNat]

theorem blk2_eq (n : BitVec 32) (i : grid2.Coords) : cc2_transform_1 inb_S1_S1_0 numel1_S1 (tbl2 (F := F) n) i = blk2 n i := rfl

theorem in2 : ∀ (i : grid2.Coords), ∃ h : (∀ x : Fin 2, (blk2 0#32 i x + 1) * S512x256.size x ≤ S512x256.size x),
    EltTy.bits .bf16 = 32 ∨ (Rect.block (s := S512x256) S512x256.size (blk2 0#32 i) h).WholeWords (EltTy.packing .bf16) := by decide +kernel

theorem ok2_tbl : ok2 (tbl2 (F := F) 0#32) := by
  unfold ok2
  exact fun i => in2 i

abbrev adm2 : (pcfg2 (F := F)).Adm := ⟨tbl2 0#32, ok2_tbl⟩

/-! ## Call 3 -/

/-- The table holding `n`. -/
def tbl3 (n : BitVec 32) : pre3.Contents (Elt F) := fun | ⟨0, _⟩ => fun _ => n

/-- The second operand's block at a point: its block of rows is the point's last coordinate, its block of columns counts from the table's word. -/
def blk3 (n : BitVec 32) (i : grid3.Coords) : Fin 2 → ℕ :=
  ![(BitVec.ofNat 32 (i 2).val).toNat, (Scalar.addi n (BitVec.ofNat 32 (i 1).val)).toNat]

theorem blk3_eq (n : BitVec 32) (i : grid3.Coords) : cc3_transform_1 inb_S1_S1_0 numel1_S1 (tbl3 (F := F) n) i = blk3 n i := rfl

theorem in3 : ∀ (i : grid3.Coords), ∃ h : (∀ x : Fin 2, (blk3 0#32 i x + 1) * S512x256.size x ≤ S512x256.size x),
    EltTy.bits .bf16 = 32 ∨ (Rect.block (s := S512x256) S512x256.size (blk3 0#32 i) h).WholeWords (EltTy.packing .bf16) := by decide +kernel

theorem ok3_tbl : ok3 (tbl3 (F := F) 0#32) := by
  unfold ok3
  exact fun i => in3 i

abbrev adm3 : (pcfg3 (F := F)).Adm := ⟨tbl3 0#32, ok3_tbl⟩

/-! ## Call 4 -/

/-- The table holding `n`. -/
def tbl4 (n : BitVec 32) : pre4.Contents (Elt F) := fun | ⟨0, _⟩ => fun _ => n

/-- The second operand's block at a point: its block of rows is the point's last coordinate, its block of columns counts from the table's word. -/
def blk4 (n : BitVec 32) (i : grid4.Coords) : Fin 2 → ℕ :=
  ![(BitVec.ofNat 32 (i 2).val).toNat, (Scalar.addi n (BitVec.ofNat 32 (i 1).val)).toNat]

theorem blk4_eq (n : BitVec 32) (i : grid4.Coords) : cc4_transform_1 inb_S1_S1_0 numel1_S1 (tbl4 (F := F) n) i = blk4 n i := rfl

theorem in4 : ∀ d : Dev nD, ∀ (i : grid4.Coords) (x : Fin 2), (blk4 (BitVec.ofNat 32 (place d)) i x + 1) * S512x256.size x ≤ S4096x4096.size x := by decide +kernel

theorem ok4_tbl (d : Dev nD) : ok4 (tbl4 (F := F) (BitVec.ofNat 32 (place d))) := by
  unfold ok4
  exact fun i => ⟨in4 d i, Or.inl rfl⟩

abbrev adm4 (d : Dev nD) : (pcfg4 (F := F)).Adm := ⟨tbl4 (BitVec.ofNat 32 (place d)), ok4_tbl d⟩

/-! ## Call 5 -/

/-- The table holding `n`. -/
def tbl5 (n : BitVec 32) : pre5.Contents (Elt F) := fun | ⟨0, _⟩ => fun _ => n

/-- The second operand's block at a point: its block of rows is the point's last coordinate, its block of columns counts from the table's word. -/
def blk5 (n : BitVec 32) (i : grid5.Coords) : Fin 2 → ℕ :=
  ![(BitVec.ofNat 32 (i 2).val).toNat, (Scalar.addi n (BitVec.ofNat 32 (i 1).val)).toNat]

theorem blk5_eq (n : BitVec 32) (i : grid5.Coords) : cc5_transform_1 inb_S1_S1_0 numel1_S1 (tbl5 (F := F) n) i = blk5 n i := rfl

theorem in5 : ∀ d : Dev nD, ∀ (i : grid5.Coords) (x : Fin 2), (blk5 (BitVec.ofNat 32 (place d)) i x + 1) * S512x128.size x ≤ S4096x2048.size x := by decide +kernel

theorem ok5_tbl (d : Dev nD) : ok5 (tbl5 (F := F) (BitVec.ofNat 32 (place d))) := by
  unfold ok5
  exact fun i => ⟨in5 d i, Or.inl rfl⟩

abbrev adm5 (d : Dev nD) : (pcfg5 (F := F)).Adm := ⟨tbl5 (BitVec.ofNat 32 (place d)), ok5_tbl d⟩

/-! ## Call 6 -/

/-- The table holding `n`. -/
def tbl6 (n : BitVec 32) : pre6.Contents (Elt F) := fun | ⟨0, _⟩ => fun _ => n

/-- The second operand's block at a point: its block of rows is the point's last coordinate, its block of columns counts from the table's word. -/
def blk6 (n : BitVec 32) (i : grid6.Coords) : Fin 2 → ℕ :=
  ![(BitVec.ofNat 32 (i 2).val).toNat, (Scalar.addi n (BitVec.ofNat 32 (i 1).val)).toNat]

theorem blk6_eq (n : BitVec 32) (i : grid6.Coords) : cc6_transform_1 inb_S1_S1_0 numel1_S1 (tbl6 (F := F) n) i = blk6 n i := rfl

theorem in6 : ∀ (i : grid6.Coords) (x : Fin 2), (blk6 0#32 i x + 1) * S512x64.size x ≤ S4096x64.size x := by decide +kernel

theorem ok6_tbl : ok6 (tbl6 (F := F) 0#32) := by
  unfold ok6
  exact fun i => ⟨in6 i, Or.inl rfl⟩

abbrev adm6 : (pcfg6 (F := F)).Adm := ⟨tbl6 0#32, ok6_tbl⟩

/-- The tables of device `d`. -/
abbrev adm (d : Dev nD) : (p : Fin 10) → (pcfgs (F := F) p).Adm
  | ⟨0, _⟩ => adm0
  | ⟨1, _⟩ => cfg1.toPCfg_adm
  | ⟨2, _⟩ => adm2
  | ⟨3, _⟩ => adm3
  | ⟨4, _⟩ => adm4 d
  | ⟨5, _⟩ => adm5 d
  | ⟨6, _⟩ => adm6
  | ⟨7, _⟩ => cfg7.toPCfg_adm
  | ⟨8, _⟩ => cfg8.toPCfg_adm
  | ⟨9, _⟩ => cfg9.toPCfg_adm

end Cert.KernelIdeal.Gen

end
-- ==== Proof.Ideal.WoCopy.lean ====
module

public import proofs.«01_k».proof.Proof.Ideal.RingA

/-!
# The weight's row blocks

Before each of its products the second kernel copies 1024 rows of the weight into its staging buffer, as four copies of 256 rows each: the
rows the columns of the slot it is about to multiply stand for. The four copies run at once, so each holds a quarter share of the weight.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

namespace Cert.KernelIdeal.Gen

variable {F : FTy → Type} [FloatOps F]

local notation "𝕄" => MT nD τ sig Unit (Elt F) ℕ UU ℕ

/-! ## Where the copies read and write -/

/-- The first row of the weight copy `j` of hop `h` reads, on device `c`. -/
def woStart (c : Dev nD) (h j : ℕ) : ℕ := (c.val % 4 + 4 - h) % 4 * 1024 + (c.val / 4 % 4 + 4 - j) % 4 * 256

theorem off9_row : ∀ (c : Dev nD) (h j : Fin 4), k9_off1 c (BitVec.ofNat 32 h.val) (BitVec.ofNat 32 j.val) 0 = woStart c h.val j.val := by
  decide +kernel
theorem off9_col (c : Dev nD) (h j : BitVec 32) : k9_off1 c h j 1 = 0 := rfl

abbrev woSrc (c : Dev nD) (h j : Fin 4) : Memref sig .tc .hbm S256x4096 .f32 :=
  (Memref.whole main_arg7 : Memref sig .tc .hbm S4096x4096 .f32).slice
    (Rect.unit (s := S4096x4096) (k9_off1 c (BitVec.ofNat 32 h.val) (BitVec.ofNat 32 j.val)) S256x4096.size (k9_off1_inb c h j)) (fun _ => rfl)

theorem inbW (j : Fin 4) : ∀ a, (![256 * j.val, 0] : Fin 2 → ℕ) a + S256x4096.size a ≤ S1024x4096.size a := by revert j; decide

abbrev woDst (j : Fin 4) : Memref sig .tc .vmem S256x4096 .f32 :=
  (Memref.whole cc9_scratch1 : Memref sig .tc .vmem S1024x4096 .f32).slice (Rect.unit (s := S1024x4096) ![256 * j.val, 0] S256x4096.size (inbW j)) (fun _ => rfl)

/-- The semaphore copy `j` completes on. -/
abbrev woS (j : Fin 4) : DmaSem sig := ⟨92 + j.val, by have := j.isLt; simp [sig]; omega⟩
theorem role_wo (j : Fin 4) : role (.dma (woS j)) = .other := by revert j; decide

/-- What a copy adds to its semaphore. -/
abbrev NW : ℕ := (woDst 0).view.dmaCredit
theorem NW_pos : 0 < NW := View.dmaCredit_pos _ (by decide)

theorem mem_woDst (j : Fin 4) (i : S1024x4096.Idx) : i ∈ (woDst j).view.set ↔ (i 0).val / 256 = j.val := by
  have e2 : (woDst j).view.set = (Rect.unit (s := S1024x4096) ![256 * j.val, 0] S256x4096.size (inbW j)).set := View.set_slice_whole _ _
  rw [e2, Rect.mem_set_unit]
  constructor
  · intro hi
    have h0 : 256 * j.val ≤ (i 0).val ∧ (i 0).val < 256 * j.val + 256 := hi 0
    omega
  · intro hi a
    match a with
    | ⟨0, _⟩ => exact ⟨by show 256 * j.val ≤ (i 0).val; omega, by show (i 0).val < 256 * j.val + 256; omega⟩
    | ⟨1, _⟩ => exact ⟨Nat.zero_le _, by show (i 1).val < 0 + 4096; have := (i 1).isLt; simpa using this⟩

theorem woDst_disjoint (j j' : Fin 4) (ne : j ≠ j') : Disjoint (woDst j).view.set (woDst j').view.set :=
  Finset.disjoint_left.mpr fun i hi hi' => ne (Fin.ext (((mem_woDst j i).1 hi).symm.trans ((mem_woDst j' i).1 hi')))
theorem woDst_cover (i : S1024x4096.Idx) : ∃ j : Fin 4, i ∈ (woDst j).view.set := by
  have h : (i 0).val < 1024 := (i 0).isLt
  exact ⟨⟨(i 0).val / 256, by omega⟩, (mem_woDst _ i).2 rfl⟩

/-! ## What they bring -/

theorem woStart_le (c : Dev nD) (h j : ℕ) : woStart c h j + 256 ≤ 4096 := by unfold woStart; omega

/-- The staging buffer for hop `h`: its row `256 j + r` is row `r` of the block copy `j` reads. -/
def woBlock (w : Vec F S4096x4096 .f32) (c : Dev nD) (h : ℕ) : Vec F S1024x4096 .f32 := fun i =>
  w (ValueIdx.ix2 (⟨woStart c h ((i 0).val / 256) + (i 0).val % 256, by have := woStart_le c h ((i 0).val / 256); omega⟩ : Fin 4096) (i 1 : Fin 4096))

theorem read_woDst (w : Vec F S4096x4096 .f32) (c : Dev nD) (h j : Fin 4) :
    (woDst j).view.read (Elt F) (woBlock w c h.val) = (woSrc c h j).view.read (Elt F) w := by
  funext x
  show woBlock w c h.val ((Rect.unit (s := S1024x4096) ![256 * j.val, 0] S256x4096.size (inbW j)).emb x)
    = w ((Rect.unit (s := S4096x4096) (k9_off1 c (BitVec.ofNat 32 h.val) (BitVec.ofNat 32 j.val)) S256x4096.size (k9_off1_inb c h j)).emb x)
  generalize hy : (Rect.unit (s := S1024x4096) ![256 * j.val, 0] S256x4096.size (inbW j)).emb x = y
  generalize hz : (Rect.unit (s := S4096x4096) (k9_off1 c (BitVec.ofNat 32 h.val) (BitVec.ofNat 32 j.val)) S256x4096.size (k9_off1_inb c h j)).emb x = z
  have e (a : Fin 2) : ((Rect.unit (s := S1024x4096) ![256 * j.val, 0] S256x4096.size (inbW j)).emb x a : ℕ)
      = (![256 * j.val, 0] : Fin 2 → ℕ) a + 1 * (x a).val := Rect.emb_apply ..
  have e' (a : Fin 2) : ((Rect.unit (s := S4096x4096) (k9_off1 c (BitVec.ofNat 32 h.val) (BitVec.ofNat 32 j.val)) S256x4096.size (k9_off1_inb c h j)).emb x a : ℕ)
      = k9_off1 c (BitVec.ofNat 32 h.val) (BitVec.ofNat 32 j.val) a + 1 * (x a).val := Rect.emb_apply ..
  rw [hy] at e; rw [hz] at e'
  have y0 : (y 0).val = 256 * j.val + 1 * (x 0).val := e 0
  have y1 : (y 1).val = 0 + 1 * (x 1).val := e 1
  have z0 : (z 0).val = woStart c h.val j.val + 1 * (x 0).val := by rw [← off9_row]; exact e' 0
  have z1 : (z 1).val = 0 + 1 * (x 1).val := e' 1
  have hx : (x 0).val < 256 := (x 0).isLt
  unfold woBlock
  rw [eq_ix2 (n0 := 4096) (n1 := 4096) z]
  congr 1
  have a0 : (y 0).val / 256 = j.val := by omega
  have a1 : (y 0).val % 256 = (x 0).val := by omega
  refine congrArg₂ (ValueIdx.ix2 (n0 := 4096) (n1 := 4096)) (Fin.ext ?_) (Fin.ext ?_)
  · show woStart c h.val ((y 0).val / 256) + (y 0).val % 256 = (z 0).val
    rw [a0, a1, z0, Nat.one_mul]
  · show (y 1).val = (z 1).val
    rw [y1, z1]

theorem woLanded (w : Vec F S4096x4096 .f32) (c : Dev nD) (h j : Fin 4) (fd : Vec F S1024x4096 .f32) :
    ∀ i ∈ (woDst j).view.set,
      (woDst j).view.write (Elt F) fd ((woSrc c h j).view.read (Elt F) w) Finset.univ i = woBlock w c h.val i := by
  intro i hi
  obtain ⟨x, -, rfl⟩ := Finset.mem_map.1 hi
  have e : (woDst j).view.read (Elt F) ((woDst j).view.write (Elt F) fd ((woSrc c h j).view.read (Elt F) w) Finset.univ) x
      = (woDst j).view.read (Elt F) (woBlock w c h.val) x := by rw [View.read_write_univ, read_woDst]
  rw [View.read_apply, View.read_apply] at e
  exact (cast_inj _).1 e

/-! ## The copies -/

/-- Copy `j`'s share of the weight. -/
def woShare : Fin 4 → PosShare TreeShare
  | 0 => fullShare.left.left
  | 1 => fullShare.left.right
  | 2 => fullShare.right.left
  | 3 => fullShare.right.right

/-- Share `q` of the weight on device `c`. -/
abbrev woPts (w : Vec F S4096x4096 .f32) (c : Dev nD) (q : PosShare TreeShare) : sProp 𝕄 := ((c : Thread nD τ).loc main_arg7) ↦{q} w
/-- Row block `j` of the staging buffer on device `c`, holding what `f` says. -/
abbrev woPart (c : Dev nD) (j : Fin 4) (f : Vec F S1024x4096 .f32) : sProp 𝕄 := (woDst j).view.loc (c : Thread nD τ) ↦[(woDst j).view.set]{fullShare} f
abbrev woCell (j : Fin 4) (c : Dev nD) : GSem nD τ sig := ((c : Thread nD τ), .dma (woS j))

theorem woQuarters (w : Vec F S4096x4096 .f32) (c : Dev nD) :
    (woPts w c fullShare : sProp 𝕄) = iprop((woPts w c (woShare 0) ∗ woPts w c (woShare 1)) ∗ (woPts w c (woShare 2) ∗ woPts w c (woShare 3))) := by
  have e (q : PosShare TreeShare) : (woPts w c q : sProp 𝕄) = iprop(woPts w c q.left ∗ woPts w c q.right) :=
    have h := pointsTo_share (ℓ := (c : Thread nD τ).loc main_arg7) (I := Finset.univ) (f := w) (PosShare.mem_left_op_right q)
    BI.equiv_iff.mp ⟨h.1, h.2⟩
  rw [e fullShare, e fullShare.left, e fullShare.right]; rfl

theorem woRows (c : Dev nD) (f : Vec F S1024x4096 .f32) :
    (((c : Thread nD τ).loc cc9_scratch1) ↦{fullShare} f : sProp 𝕄) = iprop(woPart c 0 f ∗ woPart c 1 f ∗ woPart c 2 f ∗ woPart c 3 f) :=
  four (ℓ := (c : Thread nD τ).loc cc9_scratch1) (fun j => (woDst j).view.set) f
    woDst_disjoint woDst_cover

/-- Copy `j` of hop `h` under way: when it is waited for, its rows and its share of the weight. -/
def flying (w : Vec F S4096x4096 .f32) (c : Dev nD) (h j : Fin 4) : sProp 𝕄 :=
  iprop(Transfers.Flight countersEmb (c : Thread nD τ) (.dma (woS j)) () NW
      iprop(woPart c j (woBlock w c h.val) ∗ ((woSrc c h j).view.loc (c : Thread nD τ) ↦[(woSrc c h j).view.set]{woShare j} w))
    ∗ (((c : Thread nD τ).loc main_arg7) ↦[Finset.univ \ (woSrc c h j).view.set]{woShare j} w))

variable {α : Type} {k : PUnit.{1} → Prog (TpuEff nD τ sig (Elt F) Λ₀ .tc) α} {Kt : α → sProp (MT nD τ sig Unit (Elt F) ℕ UU ℕ)}
variable (w : Vec F S4096x4096 .f32) (c : Dev nD)

theorem step_copyWo (h j : Fin 4) (fd : Vec F S1024x4096 .f32) {s : DmaSem sig} (hs : s = woS j)
    {hsrc : (woSrc c h j).view.WordExact} {hdst : (woDst j).view.WordExact} {hsem : DmaTarget.Typed (nD := nD) (p := .tc) .hbm (.dma s) (.here (woDst j))} :
    iprop(woPts w c (woShare j) ∗ woPart c j fd ∗ semVal (woCell j c) 0)
      ⊢ iprop((flying w c h j -∗ wp frame (wpE (defs₀ (F := F)) 𝒱₀ (c : Thread nD τ) none) Set.univ (k ⟨⟩) Kt)
        -∗ wp frame (wpE (defs₀ (F := F)) 𝒱₀ (c : Thread nD τ) none) Set.univ
          (.op (.enqueueDma (woSrc c h j) (.here (woDst j)) (.dma s) hsrc hdst hsem) k) Kt) := by
  subst hs
  unfold flying
  iintro ⟨Hw, Hd, Hv⟩ Hk
  ihave Hw := (pointsTo_split_subset (Finset.subset_univ (woSrc c h j).view.set) (f := w)).1 $$ Hw
  icases Hw with ⟨Hw, Hrest⟩
  iapply (Transfers.wp_dmaLocal countersEmb 𝒱₀ (c : Thread nD τ) none (src := woSrc c h j) (dst := woDst j) (fs := w) (fd := fd)
    () NW (by show (woDst j).view.dmaCredit = _; rfl) NW_pos (Finset.Subset.refl _)) $$ [Hw Hd Hv]
  · isplitl [Hw]; · iexact Hw
    isplitl [Hd] <;> iassumption
  iintro HF
  iapply Hk
  isplitl [HF]
  · iapply (Transfers.Flight_mono countersEmb (c : Thread nD τ) (sep_mono_left (Entails.of_eq (pointsTo_congr (woLanded w c h j fd))))) $$ HF
  iexact Hrest

theorem step_waitWo (h j : Fin 4) (O : CellTallies nD τ sig Unit) (hO : Above O 0) {s : DmaSem sig} (hs : s = woS j)
    {hsrc : (woSrc c h j).view.WordExact} {hdst : (woDst j).view.WordExact} :
    iprop(levAts L lv ∗ owing c O ∗ flying w c h j)
      ⊢ iprop((iprop(owing c O ∗ woPts w c (woShare j) ∗ woPart c j (woBlock w c h.val) ∗ semVal (woCell j c) 0)
          -∗ wp frame (wpE (defs₀ (F := F)) 𝒱₀ (c : Thread nD τ) none) Set.univ (k ⟨⟩) Kt)
        -∗ wp frame (wpE (defs₀ (F := F)) 𝒱₀ (c : Thread nD τ) none) Set.univ
          (.op (.waitDma2 s (woSrc c h j) (woDst j) hsrc hdst) k) Kt) := by
  subst hs
  unfold flying owing
  iintro ⟨#Hlev, ⟨%W, HO⟩, HF, Hrest⟩ Hk
  iapply (Transfers.wp_waitLocalO countersEmb 𝒱₀ (c : Thread nD τ) none (srcw := woSrc c h j) (dstw := woDst j)
    () (show (woDst j).view.dmaCredit = NW from rfl)) $$ [HO HF]
  · isplitl [HF]; · iexact HF
    isplitl [HO]; · iexact HO
    iapply (mayWait c _ O (by rw [role_wo]; exact hO)); iexact Hlev
  iintro ⟨⟨Hd, Hw⟩, Hv, HO⟩
  iapply Hk
  isplitl [HO]; · iexists _; iexact HO
  isplitl [Hw Hrest]
  · iapply (pointsTo_split_subset (Finset.subset_univ (woSrc c h j).view.set) (f := w)).2
    isplitl [Hw] <;> iassumption
  isplitl [Hd] <;> iassumption

/-- The four copies of a hop at rest: the weight, the staging buffer, the four counters at zero. -/
def woRest (f : Vec F S1024x4096 .f32) : sProp 𝕄 :=
  iprop(woPts w c fullShare ∗ (((c : Thread nD τ).loc cc9_scratch1) ↦{fullShare} f)
    ∗ semVal (woCell 0 c) 0 ∗ semVal (woCell 1 c) 0 ∗ semVal (woCell 2 c) 0 ∗ semVal (woCell 3 c) 0)
/-- The four copies of hop `h` under way. -/
def woFly (h : Fin 4) : sProp 𝕄 := iprop(flying w c h 0 ∗ flying w c h 1 ∗ flying w c h 2 ∗ flying w c h 3)

theorem step_copies (h : Fin 4) (fd : Vec F S1024x4096 .f32) {s0 s1 s2 s3 : DmaSem sig} (hs0 : s0 = woS 0) (hs1 : s1 = woS 1) (hs2 : s2 = woS 2) (hs3 : s3 = woS 3)
    {a0 a1 a2 a3 b0 b1 b2 b3 e0 e1 e2 e3} :
    woRest w c fd
      ⊢ iprop((woFly w c h -∗ wp frame (wpE (defs₀ (F := F)) 𝒱₀ (c : Thread nD τ) none) Set.univ (k ⟨⟩) Kt)
        -∗ wp frame (wpE (defs₀ (F := F)) 𝒱₀ (c : Thread nD τ) none) Set.univ
          (.op (.enqueueDma (woSrc c h 0) (.here (woDst 0)) (.dma s0) a0 b0 e0) fun _ =>
           .op (.enqueueDma (woSrc c h 1) (.here (woDst 1)) (.dma s1) a1 b1 e1) fun _ =>
           .op (.enqueueDma (woSrc c h 2) (.here (woDst 2)) (.dma s2) a2 b2 e2) fun _ =>
           .op (.enqueueDma (woSrc c h 3) (.here (woDst 3)) (.dma s3) a3 b3 e3) k) Kt) := by
  unfold woRest woFly
  rw [woQuarters, woRows]
  iintro ⟨⟨⟨Hw0, Hw1⟩, Hw2, Hw3⟩, ⟨Hd0, Hd1, Hd2, Hd3⟩, Hv0, Hv1, Hv2, Hv3⟩ Hk
  iapply (step_copyWo w c h 0 fd hs0) $$ [Hw0 Hd0 Hv0]
  · isplitl [Hw0]; · iexact Hw0
    isplitl [Hd0] <;> iassumption
  iintro F0
  iapply (step_copyWo w c h 1 fd hs1) $$ [Hw1 Hd1 Hv1]
  · isplitl [Hw1]; · iexact Hw1
    isplitl [Hd1] <;> iassumption
  iintro F1
  iapply (step_copyWo w c h 2 fd hs2) $$ [Hw2 Hd2 Hv2]
  · isplitl [Hw2]; · iexact Hw2
    isplitl [Hd2] <;> iassumption
  iintro F2
  iapply (step_copyWo w c h 3 fd hs3) $$ [Hw3 Hd3 Hv3]
  · isplitl [Hw3]; · iexact Hw3
    isplitl [Hd3] <;> iassumption
  iintro F3
  iapply Hk
  isplitl [F0]; · iexact F0
  isplitl [F1]; · iexact F1
  isplitl [F2] <;> iassumption

theorem step_waits (h : Fin 4) (O : CellTallies nD τ sig Unit) (hO : Above O 0) {s0 s1 s2 s3 : DmaSem sig}
    (hs0 : s0 = woS 0) (hs1 : s1 = woS 1) (hs2 : s2 = woS 2) (hs3 : s3 = woS 3) {a0 a1 a2 a3 b0 b1 b2 b3} :
    iprop(levAts L lv ∗ owing c O ∗ woFly w c h)
      ⊢ iprop((iprop(owing c O ∗ woRest w c (woBlock w c h.val)) -∗ wp frame (wpE (defs₀ (F := F)) 𝒱₀ (c : Thread nD τ) none) Set.univ (k ⟨⟩) Kt)
        -∗ wp frame (wpE (defs₀ (F := F)) 𝒱₀ (c : Thread nD τ) none) Set.univ
          (.op (.waitDma2 s0 (woSrc c h 0) (woDst 0) a0 b0) fun _ =>
           .op (.waitDma2 s1 (woSrc c h 1) (woDst 1) a1 b1) fun _ =>
           .op (.waitDma2 s2 (woSrc c h 2) (woDst 2) a2 b2) fun _ =>
           .op (.waitDma2 s3 (woSrc c h 3) (woDst 3) a3 b3) k) Kt) := by
  unfold woRest woFly
  rw [woQuarters, woRows]
  iintro ⟨#Hlev, HO, F0, F1, F2, F3⟩ Hk
  iapply (step_waitWo w c h 0 O hO hs0) $$ [HO F0]
  · isplitr; · iexact Hlev
    isplitl [HO] <;> iassumption
  iintro ⟨HO, Hw0, Hd0, Hv0⟩
  iapply (step_waitWo w c h 1 O hO hs1) $$ [HO F1]
  · isplitr; · iexact Hlev
    isplitl [HO] <;> iassumption
  iintro ⟨HO, Hw1, Hd1, Hv1⟩
  iapply (step_waitWo w c h 2 O hO hs2) $$ [HO F2]
  · isplitr; · iexact Hlev
    isplitl [HO] <;> iassumption
  iintro ⟨HO, Hw2, Hd2, Hv2⟩
  iapply (step_waitWo w c h 3 O hO hs3) $$ [HO F3]
  · isplitr; · iexact Hlev
    isplitl [HO] <;> iassumption
  iintro ⟨HO, Hw3, Hd3, Hv3⟩
  iapply Hk
  isplitl [HO]; · iexact HO
  isplitl [Hw0 Hw1 Hw2 Hw3]
  · isplitl [Hw0 Hw1]
    · isplitl [Hw0] <;> iassumption
    isplitl [Hw2] <;> iassumption
  isplitl [Hd0 Hd1 Hd2 Hd3]
  · isplitl [Hd0]; · iexact Hd0
    isplitl [Hd1]; · iexact Hd1
    isplitl [Hd2] <;> iassumption
  isplitl [Hv0]; · iexact Hv0
  isplitl [Hv1]; · iexact Hv1
  isplitl [Hv2] <;> iassumption

end Cert.KernelIdeal.Gen

end
-- ==== Proof.Ideal.RingB.lean ====
module

public import proofs.«01_k».proof.Proof.Ideal.WoCopy

/-!
# The second ring's kernel

While a slot travels to the next device it is multiplied with the weight's rows its columns stand for; the products add up.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Gen

variable {F : FTy → Type} [FloatOps F]

local notation "𝕄" => MT nD τ sig Unit (Elt F) ℕ UU ℕ

variable (X : Blocks F) (κ : GSem nD τ sig → ℕ) (c : Dev nD) (w : Vec F S4096x4096 .f32)

/-! ## The value -/

/-- The product of hop `h`: the block of the device `h` steps back with the weight's rows for it. -/
def prodB (h : ℕ) : FVec F S1024x4096 .f32 :=
  matmul dot_S1024x1024_S1024x4096_S1024x4096_1_0_0_1_n_n none (X true (back true h c)) (truncf .bf16 (woBlock w c h) bitsLt_bf16_f32)
    (constant S1024x4096 .f32 0x00000000#32)

/-- The sum of the products of the hops up to `h`. -/
def accB : ℕ → FVec F S1024x4096 .f32
  | 0 => prodB X c w 0
  | h + 1 => addf (accB h) (prodB X c w (h + 1))

theorem slot_flat (h : Fin 4) :
    shapeCast S1024x1024 ((rowB h).view.read (Elt F) (gathered X true h c)) shapeCasts_S1x1024x1024_S1024x1024 = X true (back true h.val c) :=
  read_slotB X h c

theorem pay4_eq :
    k9_pay4 (k9_pay2 ((rowB 0).view.read (Elt F) (gathered X true 0 c))) (k9_pay3 (woBlock w c 0)) (constant S1024x4096 .f32 0x00000000#32) = accB X c w 0 := by
  unfold k9_pay4 k9_pay2 k9_pay3
  rw [slot_flat]; rfl
theorem pay5_eq : k9_pay5 ((rowB 1).view.read (Elt F) (gathered X true 1 c)) (woBlock w c 1) (accB X c w 0) = accB X c w 1 := by
  unfold k9_pay5
  rw [slot_flat, shapeCast_self]; rfl
theorem pay6_eq : k9_pay6 ((rowB 2).view.read (Elt F) (gathered X true 2 c)) (woBlock w c 2) (accB X c w 1) = accB X c w 2 := by
  unfold k9_pay6
  rw [slot_flat, shapeCast_self]; rfl
theorem pay7_eq : k9_pay7 ((rowB 3).view.read (Elt F) (gathered X true 3 c)) (woBlock w c 3) (accB X c w 2) = accB X c w 3 := by
  unfold k9_pay7
  rw [slot_flat, shapeCast_self]; rfl

/-! ## The steps -/

variable {α : Type} {Kt : α → sProp (MT nD τ sig Unit (Elt F) ℕ UU ℕ)}

theorem setB (h : Fin 4) (inb) : ((Memref.whole cc9_scratch0 : Memref sig .tc .vmem S4x1024x1024 .bf16).access
    (Rect.unit (s := S4x1024x1024) ![h.val, 0, 0] S1x1024x1024.size inb)).set = (slotM true h).view.set :=
  (View.set_reshape _ _).symm

/-- Loading slot `h`, of which a share is held. -/
theorem step_loadSlot (h : Fin 4) (q : PosShare TreeShare) {inb ev} {k : Vec F S1x1024x1024 .bf16 → Prog (TpuEff nD τ sig (Elt F) Λ₀ .tc) α} :
    iprop(slotPts true c h q (gathered X true h c))
      ⊢ iprop((slotPts true c h q (gathered X true h c)
          -∗ wp frame (wpE (defs₀ (F := F)) 𝒱₀ (c : Thread nD τ) none) Set.univ (k ((rowB h).view.read (Elt F) (gathered X true h c))) Kt)
        -∗ wp frame (wpE (defs₀ (F := F)) 𝒱₀ (c : Thread nD τ) none) Set.univ
          (.op (.load (Memref.whole cc9_scratch0 : Memref sig .tc .vmem S4x1024x1024 .bf16)
            (Rect.unit (s := S4x1024x1024) ![h.val, 0, 0] S1x1024x1024.size inb).toLoadRect ev) k) Kt) := by
  iintro H Hk
  iapply (wp_load_rect 𝒱₀ (c : Thread nD τ) none Set.univ (m := Memref.whole cc9_scratch0)
    (r := Rect.unit (s := S4x1024x1024) ![h.val, 0, 0] S1x1024x1024.size inb) (S := (slotM true h).view.set) (by rw [setB])) $$ H
  iintro H
  iapply Hk $$ H

/-- Loading the weight's rows. -/
theorem step_loadWo (f : Vec F S1024x4096 .f32) {inb ev} {k : Vec F S1024x4096 .f32 → Prog (TpuEff nD τ sig (Elt F) Λ₀ .tc) α} :
    iprop(woRest w c f)
      ⊢ iprop((woRest w c f -∗ wp frame (wpE (defs₀ (F := F)) 𝒱₀ (c : Thread nD τ) none) Set.univ (k f) Kt)
        -∗ wp frame (wpE (defs₀ (F := F)) 𝒱₀ (c : Thread nD τ) none) Set.univ
          (.op (.load (Memref.whole cc9_scratch1 : Memref sig .tc .vmem S1024x4096 .f32)
            (Rect.unit (s := S1024x4096) ![0, 0] S1024x4096.size inb).toLoadRect ev) k) Kt) := by
  unfold woRest
  iintro ⟨Hw, H, Hv⟩ Hk
  iapply (wp_load 𝒱₀ (c : Thread nD τ) none Set.univ (m := Memref.whole cc9_scratch1) (Finset.subset_univ _)) $$ H
  iintro H
  rw [show (Memref.whole cc9_scratch1 : Memref sig .tc .vmem S1024x4096 .f32).view.readAt (Elt F)
      (Rect.unit (s := S1024x4096) ![0, 0] S1024x4096.size inb).toLoadRect f = f from
    Memref.readAt_unit_zero (Elt F) cc9_scratch1 (by funext a; fin_cases a <;> rfl) _ _]
  iapply Hk
  isplitl [Hw]; · iexact Hw
  isplitl [H] <;> iassumption

/-- The result's buffer. -/
abbrev outPts (f : Vec F S1024x4096 .f32) : sProp 𝕄 := ((c : Thread nD τ).loc cc9_stg1_0) ↦{fullShare} f

/-- Loading the result's buffer. -/
theorem step_loadOut (f : Vec F S1024x4096 .f32) {inb ev} {k : Vec F S1024x4096 .f32 → Prog (TpuEff nD τ sig (Elt F) Λ₀ .tc) α} :
    iprop(outPts c f)
      ⊢ iprop((outPts c f -∗ wp frame (wpE (defs₀ (F := F)) 𝒱₀ (c : Thread nD τ) none) Set.univ (k f) Kt)
        -∗ wp frame (wpE (defs₀ (F := F)) 𝒱₀ (c : Thread nD τ) none) Set.univ
          (.op (.load (Memref.whole cc9_stg1_0 : Memref sig .tc .vmem S1024x4096 .f32)
            (Rect.unit (s := S1024x4096) ![0, 0] S1024x4096.size inb).toLoadRect ev) k) Kt) := by
  iintro H Hk
  iapply (wp_load 𝒱₀ (c : Thread nD τ) none Set.univ (m := Memref.whole cc9_stg1_0) (Finset.subset_univ _)) $$ H
  iintro H
  rw [show (Memref.whole cc9_stg1_0 : Memref sig .tc .vmem S1024x4096 .f32).view.readAt (Elt F)
      (Rect.unit (s := S1024x4096) ![0, 0] S1024x4096.size inb).toLoadRect f = f from
    Memref.readAt_unit_zero (Elt F) cc9_stg1_0 (by funext a; fin_cases a <;> rfl) _ _]
  iapply Hk $$ H

/-- Storing into the result's buffer. -/
theorem step_storeOut (f g : Vec F S1024x4096 .f32) {inb ev₁ ev₂} {k : PUnit.{1} → Prog (TpuEff nD τ sig (Elt F) Λ₀ .tc) α} :
    iprop(outPts c f)
      ⊢ iprop((outPts c g -∗ wp frame (wpE (defs₀ (F := F)) 𝒱₀ (c : Thread nD τ) none) Set.univ (k ⟨⟩) Kt)
        -∗ wp frame (wpE (defs₀ (F := F)) 𝒱₀ (c : Thread nD τ) none) Set.univ
          (.op (.store (Memref.whole cc9_stg1_0 : Memref sig .tc .vmem S1024x4096 .f32)
            (Rect.unit (s := S1024x4096) ![0, 0] S1024x4096.size inb) g Finset.univ ev₁ ev₂) k) Kt) := by
  iintro H Hk
  iapply (wp_store 𝒱₀ (c : Thread nD τ) none Set.univ (m := Memref.whole cc9_stg1_0)
    (r := Rect.unit (s := S1024x4096) ![0, 0] S1024x4096.size inb) (Mk := Finset.univ) (S := Finset.univ) (Finset.subset_univ _)) $$ H
  iintro H
  iapply Hk
  rw [show ((Memref.whole cc9_stg1_0 : Memref sig .tc .vmem S1024x4096 .f32).access (Rect.unit (s := S1024x4096) ![0, 0] S1024x4096.size inb)).write (Elt F) f g
      Finset.univ = g from Memref.write_access_unit_zero_univ (Elt F) cc9_stg1_0 (by funext a; fin_cases a <;> rfl) _ _ _]
  iexact H

/-- Hop `h` under way, the weight's rows there: what is held while the product is computed. -/
def mid (D : CellTallies nD τ sig Unit) (h : Fin 3) : sProp 𝕄 :=
  iprop(owing c (hopsLeft D true c h.succ) ∗ slotPts true c h.castSucc fullShare.right (gathered X true h.castSucc c)
    ∗ cred (tallyAt (sendCell true h c) () (N true)) ∗ atPos ER (sendCell true h c) 0 ∅ 0
    ∗ cred (tallyAt (recvCell true h c) () (N true)) ∗ atPos ER (recvCell true h c) 0 ∅ 0)

theorem above_left (D : CellTallies nD τ sig Unit) (hD : Above D 10) (h : Fin 3) : Above (hopsLeft D true c h.succ) (base true + 1 + h.val) :=
  above_hopsLeft true c h.succ _ (hD.mono (by have := h.isLt; show 7 + 1 + h.val ≤ 10; omega)) (by rw [Fin.val_succ]; omega)

/-- The copies of the weight's rows, hop `h` started, the copies waited for. -/
theorem sweep (h : Fin 3) (n : Dev nD) (hn : n = nxt true c) (D : CellTallies nD τ sig Unit) (hD : Above D 10) (f : Vec F S1024x4096 .f32)
    {k : PUnit.{1} → Prog (TpuEff nD τ sig (Elt F) Λ₀ .tc) α}
    {s0 s1 s2 s3 : DmaSem sig} (hs0 : s0 = woS 0) (hs1 : s1 = woS 1) (hs2 : s2 = woS 2) (hs3 : s3 = woS 3)
    {t0 t1 t2 t3 : DmaSem sig} (ht0 : t0 = woS 0) (ht1 : t1 = woS 1) (ht2 : t2 = woS 2) (ht3 : t3 = woS 3)
    {sS rS : DmaSem sig} (hsS : sS = sendS true h) (hrS : rS = recvS true h)
    {a0 a1 a2 a3 b0 b1 b2 b3 e0 e1 e2 e3 x0 x1 x2 x3 y0 y1 y2 y3} {hsc : (slotM true h.succ).view.ref.isScScratch = false}
    {hsrc : (slotM true h.castSucc).view.WordExact} {hdst : (slotM true h.succ).view.WordExact}
    {hsem : DmaTarget.Typed .vmem (.dma rS) (.remote (Dev.tc n) (slotM true h.succ) (.dma sS) hsc)} :
    iprop(records X κ ∗ levAts L lv ∗ owing c (hopsLeft D true c h.castSucc) ∗ slotPts true c h.castSucc fullShare (gathered X true h.castSucc c)
        ∗ slotAny true (nxt true c) h.succ ∗ reached ER (recvCell true h (nxt true c)) 0 ∗ hopKit true c h ∗ woRest w c f)
      ⊢ iprop((iprop(mid X c D h ∗ woRest w c (woBlock w c h.val))
          -∗ wp frame (wpE (defs₀ (F := F)) 𝒱₀ (c : Thread nD τ) none) Set.univ (k ⟨⟩) Kt)
        -∗ wp frame (wpE (defs₀ (F := F)) 𝒱₀ (c : Thread nD τ) none) Set.univ
          (.op (.enqueueDma (woSrc c h.castSucc 0) (.here (woDst 0)) (.dma s0) a0 b0 e0) fun _ =>
           .op (.enqueueDma (woSrc c h.castSucc 1) (.here (woDst 1)) (.dma s1) a1 b1 e1) fun _ =>
           .op (.enqueueDma (woSrc c h.castSucc 2) (.here (woDst 2)) (.dma s2) a2 b2 e2) fun _ =>
           .op (.enqueueDma (woSrc c h.castSucc 3) (.here (woDst 3)) (.dma s3) a3 b3 e3) fun _ =>
           .op (.enqueueDma (slotM true h.castSucc) (.remote (Dev.tc n) (slotM true h.succ) (.dma sS) hsc) (.dma rS) hsrc hdst hsem) fun _ =>
           .op (.waitDma2 t0 (woSrc c h.castSucc 0) (woDst 0) x0 y0) fun _ =>
           .op (.waitDma2 t1 (woSrc c h.castSucc 1) (woDst 1) x1 y1) fun _ =>
           .op (.waitDma2 t2 (woSrc c h.castSucc 2) (woDst 2) x2 y2) fun _ =>
           .op (.waitDma2 t3 (woSrc c h.castSucc 3) (woDst 3) x3 y3) k) Kt) := by
  unfold hopKit mid
  iintro ⟨#HR, #Hlev, HO, Hs, Hn, #HrN, ⟨HaS, #HrS, HaR, HtS, HtR, Hc⟩, Hw⟩ Hk
  iapply (step_copies w c h.castSucc f hs0 hs1 hs2 hs3) $$ Hw
  iintro HF
  ihave Hs := (pointsTo_share (PosShare.mem_left_op_right fullShare)).1 $$ Hs
  icases Hs with ⟨HsL, HsR⟩
  iapply (step_hop X κ true c h n hn (hopsLeft D true c h.succ) hsS hrS) $$ [HO HsL Hn HtS HtR]
  · isplitr; · iexact HR
    isplitl [HO]; · rw [hopsLeft_hop]; iexact HO
    isplitl [HsL]; · iexact HsL
    isplitl [Hn]; · iexact Hn
    isplitr; · iexact HrN
    isplitl [HtS]; · iexact HtS
    isplitr; · iexact HrS
    iexact HtR
  iintro ⟨HO, HcS⟩
  iapply (step_waits w c h.castSucc _ ((above_left c D hD h).mono (Nat.zero_le _)) ht0 ht1 ht2 ht3) $$ [HO HF]
  · isplitr; · iexact Hlev
    isplitl [HO] <;> iassumption
  iintro ⟨HO, Hw⟩
  iapply Hk
  isplitr [Hw]
  · isplitl [HO]; · iexact HO
    isplitl [HsR]; · iexact HsR
    isplitl [HcS]; · iexact HcS
    isplitl [HaS]; · iexact HaS
    isplitl [Hc] <;> iassumption
  iexact Hw

/-- The two waits that end hop `h`: the slot read is whole again, the slot filled comes. -/
theorem endHop (h : Fin 3) (D : CellTallies nD τ sig Unit) (hD : Above D 10)
    {k : PUnit.{1} → Prog (TpuEff nD τ sig (Elt F) Λ₀ .tc) α}
    {sS rS : DmaSem sig} (hsS : sS = sendS true h) (hrS : rS = recvS true h)
    {h1 : (slotM true h.succ).view.WordExact} {h2 : (slotM true h.castSucc).view.WordExact}
    {h3 : (slotM true h.castSucc).view.WordExact} {h4 : (slotM true h.succ).view.WordExact} :
    iprop(records X κ ∗ levAts L lv ∗ mid X c D h)
      ⊢ iprop((iprop(owing c (hopsLeft D true c h.succ) ∗ slotPts true c h.castSucc fullShare (gathered X true h.castSucc c)
            ∗ slotPts true c h.succ fullShare (gathered X true h.succ c) ∗ spent true c h)
          -∗ wp frame (wpE (defs₀ (F := F)) 𝒱₀ (c : Thread nD τ) none) Set.univ (k ⟨⟩) Kt)
        -∗ wp frame (wpE (defs₀ (F := F)) 𝒱₀ (c : Thread nD τ) none) Set.univ
          (.op (.waitDma2 sS (slotM true h.succ) (slotM true h.castSucc) h1 h2) fun _ =>
            .op (.waitDma2 rS (slotM true h.castSucc) (slotM true h.succ) h3 h4) k) Kt) := by
  unfold mid spent
  iintro ⟨#HR, #Hlev, HO, HsR, HcS, HaS, Hc, HaR⟩ Hk
  iapply (step_waitSend X κ true c h _ ((above_left c D hD h).mono (Nat.zero_le _)) hsS) $$ [HO HcS HaS]
  · isplitr; · iexact HR
    isplitr; · iexact Hlev
    isplitl [HO]; · iexact HO
    isplitl [HcS] <;> iassumption
  iintro ⟨HO, HaS, HsL⟩
  iapply (step_waitRecv X κ true c h _ (above_left c D hD h) hrS) $$ [HO Hc HaR]
  · isplitr; · iexact HR
    isplitr; · iexact Hlev
    isplitl [HO]; · iexact HO
    isplitl [Hc] <;> iassumption
  iintro ⟨HO, HaR, Hd⟩
  iapply Hk
  isplitl [HO]; · iexact HO
  isplitl [HsL HsR]
  · iapply (pointsTo_share (PosShare.mem_left_op_right fullShare)).2
    isplitl [HsL] <;> iassumption
  isplitl [Hd]; · iexact Hd
  isplitl [HaS] <;> iassumption

/-! ## The body -/

/-- What the second ring's body is given. -/
def preB (D : CellTallies nD τ sig Unit) : sProp 𝕄 :=
  iprop(records X κ ∗ levAts L lv ∗ opened true c ∗ owing c (ringDue D true c)
    ∗ (((c : Thread nD τ).loc cc9_stg0_0) ↦{fullShare} (X true c)) ∗ (∃ f, outPts c f)
    ∗ (∃ f, ((c : Thread nD τ).loc cc9_scratch0) ↦{fullShare} f) ∗ ∃ f, woRest w c f)

/-- What it leaves: the counters at zero, the own block, the sum of the four products, the scratch with whatever it holds. -/
def postB (D : CellTallies nD τ sig Unit) : sProp 𝕄 :=
  iprop(counters true c ∗ owing c D
    ∗ (((c : Thread nD τ).loc cc9_stg0_0) ↦{fullShare} (X true c)) ∗ outPts c (accB X c w 3)
    ∗ (∃ f, ((c : Thread nD τ).loc cc9_scratch0) ↦{fullShare} f) ∗ ∃ f, woRest w c f)

set_option maxHeartbeats 6400000 in
theorem runB (D : CellTallies nD τ sig Unit) (hD : Above D 10) (w0 : (Memref.whole cc9_stg0_0 : Memref sig .tc .vmem S1024x1024 .bf16).IsWhole)
    (w1 : (Memref.whole main_arg7 : Memref sig .tc .hbm S4096x4096 .f32).IsWhole) (w2 : (Memref.whole cc9_stg1_0 : Memref sig .tc .vmem S1024x4096 .f32).IsWhole)
    (w3 : (Memref.whole cc9_scratch0 : Memref sig .tc .vmem S4x1024x1024 .bf16).IsWhole) (w4 : (Memref.whole cc9_scratch1 : Memref sig .tc .vmem S1024x4096 .f32).IsWhole)
    (Kt : PUnit → sProp 𝕄) :
    iprop(preB X κ c w D ∗ (postB X c w D -∗ Kt ⟨⟩))
      ⊢ wp frame (wpE (defs₀ (F := F)) 𝒱₀ (c : Thread nD τ) none) Set.univ
          (cc9__agwo_body (F := F) (Memref.whole cc9_stg0_0) w0 (Memref.whole main_arg7) w1 (Memref.whole cc9_stg1_0) w2
            (Memref.whole cc9_scratch0) w3 (Memref.whole cc9_scratch1) w4 cc9_scratch2 cc9_scratch3 cc9_scratch4) Kt := by
  rw [cc9__agwo_body_eq_skeleton, cc9__agwo_body_skel, k9_part26_eq_skeleton]
  unfold k9_part26_skel
  rw [k9_part1_eq_skeleton, k9_part2_eq_skeleton, k9_part3_eq_skeleton, k9_part4_eq_skeleton, k9_part5_eq_skeleton, k9_part6_eq_skeleton,
    k9_part7_eq_skeleton, k9_part8_eq_skeleton, k9_part9_eq_skeleton, k9_part10_eq_skeleton, k9_part11_eq_skeleton, k9_part12_eq_skeleton,
    k9_part13_eq_skeleton, k9_part14_eq_skeleton, k9_part15_eq_skeleton, k9_part16_eq_skeleton, k9_part17_eq_skeleton, k9_part18_eq_skeleton,
    k9_part19_eq_skeleton, k9_part20_eq_skeleton, k9_part21_eq_skeleton, k9_part22_eq_skeleton, k9_part23_eq_skeleton, k9_part24_eq_skeleton,
    k9_part25_eq_skeleton]
  unfold k9_part1_skel k9_part2_skel k9_part3_skel k9_part4_skel k9_part5_skel k9_part6_skel k9_part7_skel k9_part8_skel k9_part9_skel
    k9_part10_skel k9_part11_skel k9_part12_skel k9_part13_skel k9_part14_skel k9_part15_skel k9_part16_skel k9_part17_skel k9_part18_skel
    k9_part19_skel k9_part20_skel k9_part21_skel k9_part22_skel k9_part23_skel k9_part24_skel k9_part25_skel
  simp only [semSignalWord, semWaitWord, Prog.lift, Prog.bind_op, Prog.bind_ret, Prog.pure_eq_ret, Prog.bind_assoc, wp_deviceId]
  unfold preB opened ringDue
  iintro ⟨⟨#HR, #Hlev, ⟨HaB, #HrV, HtP, HtN, HcB, HK0, HK1, HK2⟩, HO, Hx, ⟨%o, Ho⟩, ⟨%f, Hg⟩, ⟨%u, Hw⟩⟩, Hk⟩
  ihave Hg4 := (Entails.of_eq (slotsB c f)) $$ Hg
  icases Hg4 with ⟨H0, H1, H2, H3⟩
  iapply (step_tellPrv X κ true c _ (dev9_1 c) _) $$ [HO HtP H1 H2 H3]
  · isplitr; · iexact HR
    isplitl [HO]; · iexact HO
    isplitl [HtP]; · iexact HtP
    isplitl [H1 H2 H3]
    · unfold slotAny
      isplitl [H1]; · iexists f; iexact H1
      isplitl [H2]; · iexists f; iexact H2
      iexists f; iexact H3
    iexact HrV
  iintro HO
  iapply (step_tellNxt X κ true c _ (dev9_2 c) _) $$ [HO HtN]
  · isplitr; · iexact HR
    isplitl [HO]; · iexact HO
    iexact HtN
  iintro HO
  iapply (step_waitBar X κ true c _ (above_hopsLeft true c 0 _ (hD.mono (by decide)) (by decide))) $$ [HO HcB HaB]
  · isplitr; · iexact HR
    isplitr; · iexact Hlev
    isplitl [HO]; · iexact HO
    isplitl [HcB] <;> iassumption
  iintro ⟨HO, HaB, Hbar⟩
  unfold barPay
  icases Hbar with ⟨⟨Hn1, Hn2, Hn3⟩, #HrN0, #HrN1, #HrN2⟩
  iapply (wp_load 𝒱₀ (c : Thread nD τ) none Set.univ (m := Memref.whole cc9_stg0_0) (Finset.subset_univ _)) $$ Hx
  iintro Hx
  rw [show (Memref.whole cc9_stg0_0 : Memref sig .tc .vmem S1024x1024 .bf16).view.readAt (Elt F)
      (Rect.unit (s := S1024x1024) ![0, 0] S1024x1024.size inb_S1024x1024_S1024x1024_0_0).toLoadRect (X true c) = X true c from
    Memref.readAt_unit_zero (Elt F) cc9_stg0_0 (by funext a; fin_cases a <;> rfl) _ _]
  iapply (wp_load_rect 𝒱₀ (c : Thread nD τ) none Set.univ (m := Memref.whole cc9_scratch0)
    (r := Rect.unit (s := S4x1024x1024) ![0, 0, 0] S1x1024x1024.size inb_S4x1024x1024_S1x1024x1024_0_0_0) (S := (slotM true 0).view.set)
    (setB 0 _).subset) $$ H0
  iintro H0
  iapply (wp_store 𝒱₀ (c : Thread nD τ) none Set.univ (m := Memref.whole cc9_scratch0)
    (r := Rect.unit (s := S4x1024x1024) ![0, 0, 0] S1x1024x1024.size inb_S4x1024x1024_S1x1024x1024_0_0_0) (Mk := Finset.univ) (S := (slotM true 0).view.set)
    (by rw [View.setOn_univ]; exact (setB 0 _).subset)) $$ H0
  iintro H0
  ihave H0 := (Entails.of_eq (pointsTo_congr (storedB X c _ f))) $$ H0
  iapply (sweep X κ c w 0 _ (dev9_3 c) D hD u rfl rfl rfl rfl rfl rfl rfl rfl rfl rfl) $$ [HO H0 Hn1 HK0 Hw]
  · isplitr; · iexact HR
    isplitr; · iexact Hlev
    isplitl [HO]; · iexact HO
    isplitl [H0]; · iexact H0
    isplitl [Hn1]; · iexact Hn1
    isplitr; · iexact HrN0
    isplitl [HK0] <;> iassumption
  iintro ⟨HM, Hw⟩
  unfold mid
  icases HM with ⟨HO, H0, Hm⟩
  iapply (step_loadSlot X c 0 fullShare.right) $$ [H0]; · iexact H0
  iintro H0
  iapply (step_loadWo c w (woBlock w c 0)) $$ [Hw]; · iexact Hw
  iintro Hw
  iapply (step_loadOut c o) $$ [Ho]; · iexact Ho
  iintro Ho
  rw [show k9_pay4 _ _ _ = accB X c w 0 from pay4_eq X c w]
  iapply (step_storeOut c o (accB X c w 0)) $$ [Ho]; · iexact Ho
  iintro Ho
  iapply (endHop X κ c 0 D hD rfl rfl) $$ [HO H0 Hm]
  · isplitr; · iexact HR
    isplitr; · iexact Hlev
    unfold mid
    isplitl [HO]; · iexact HO
    isplitl [H0]; · iexact H0
    iexact Hm
  iintro ⟨HO, H0, H1, Hd0⟩
  iapply (sweep X κ c w 1 _ (dev9_4 c) D hD (woBlock w c 0) rfl rfl rfl rfl rfl rfl rfl rfl rfl rfl) $$ [HO H1 Hn2 HK1 Hw]
  · isplitr; · iexact HR
    isplitr; · iexact Hlev
    isplitl [HO]; · iexact HO
    isplitl [H1]; · iexact H1
    isplitl [Hn2]; · iexact Hn2
    isplitr; · iexact HrN1
    isplitl [HK1]; · iexact HK1
    iexact Hw
  iintro ⟨HM, Hw⟩
  unfold mid
  icases HM with ⟨HO, H1, Hm⟩
  iapply (step_loadSlot X c 1 fullShare.right) $$ [H1]; · iexact H1
  iintro H1
  iapply (step_loadWo c w (woBlock w c 1)) $$ [Hw]; · iexact Hw
  iintro Hw
  iapply (step_loadOut c (accB X c w 0)) $$ [Ho]; · iexact Ho
  iintro Ho
  iapply (step_loadOut c (accB X c w 0)) $$ [Ho]; · iexact Ho
  iintro Ho
  rw [show k9_pay5 _ _ _ = accB X c w 1 from pay5_eq X c w]
  iapply (step_storeOut c (accB X c w 0) (accB X c w 1)) $$ [Ho]; · iexact Ho
  iintro Ho
  iapply (endHop X κ c 1 D hD rfl rfl) $$ [HO H1 Hm]
  · isplitr; · iexact HR
    isplitr; · iexact Hlev
    unfold mid
    isplitl [HO]; · iexact HO
    isplitl [H1]; · iexact H1
    iexact Hm
  iintro ⟨HO, H1, H2, Hd1⟩
  iapply (sweep X κ c w 2 _ (dev9_5 c) D hD (woBlock w c 1) rfl rfl rfl rfl rfl rfl rfl rfl rfl rfl) $$ [HO H2 Hn3 HK2 Hw]
  · isplitr; · iexact HR
    isplitr; · iexact Hlev
    isplitl [HO]; · iexact HO
    isplitl [H2]; · iexact H2
    isplitl [Hn3]; · iexact Hn3
    isplitr; · iexact HrN2
    isplitl [HK2]; · iexact HK2
    iexact Hw
  iintro ⟨HM, Hw⟩
  unfold mid
  icases HM with ⟨HO, H2, Hm⟩
  iapply (step_loadSlot X c 2 fullShare.right) $$ [H2]; · iexact H2
  iintro H2
  iapply (step_loadWo c w (woBlock w c 2)) $$ [Hw]; · iexact Hw
  iintro Hw
  iapply (step_loadOut c (accB X c w 1)) $$ [Ho]; · iexact Ho
  iintro Ho
  iapply (step_loadOut c (accB X c w 1)) $$ [Ho]; · iexact Ho
  iintro Ho
  rw [show k9_pay6 _ _ _ = accB X c w 2 from pay6_eq X c w]
  iapply (step_storeOut c (accB X c w 1) (accB X c w 2)) $$ [Ho]; · iexact Ho
  iintro Ho
  iapply (endHop X κ c 2 D hD rfl rfl) $$ [HO H2 Hm]
  · isplitr; · iexact HR
    isplitr; · iexact Hlev
    unfold mid
    isplitl [HO]; · iexact HO
    isplitl [H2]; · iexact H2
    iexact Hm
  iintro ⟨HO, H2, H3, Hd2⟩
  iapply (step_copies w c 3 (woBlock w c 2) rfl rfl rfl rfl) $$ [Hw]; · iexact Hw
  iintro HF
  iapply (step_waits w c 3 _ ((above_left c D hD 2).mono (Nat.zero_le _)) rfl rfl rfl rfl) $$ [HO HF]
  · isplitr; · iexact Hlev
    isplitl [HO] <;> iassumption
  iintro ⟨HO, Hw⟩
  iapply (step_loadSlot X c 3 fullShare) $$ [H3]; · iexact H3
  iintro H3
  iapply (step_loadWo c w (woBlock w c 3)) $$ [Hw]; · iexact Hw
  iintro Hw
  iapply (step_loadOut c (accB X c w 2)) $$ [Ho]; · iexact Ho
  iintro Ho
  iapply (step_loadOut c (accB X c w 2)) $$ [Ho]; · iexact Ho
  iintro Ho
  rw [show k9_pay7 _ _ _ = accB X c w 3 from pay7_eq X c w]
  iapply (step_storeOut c (accB X c w 2) (accB X c w 3)) $$ [Ho]; · iexact Ho
  iintro Ho
  rw [wp_ret]
  imod (closeRing X κ c true) $$ [HaB Hd0 Hd1 Hd2] with Hcnt
  · isplitr; · iexact HR
    isplitl [HaB]; · iexact HaB
    isplitl [Hd0]; · iexact Hd0
    isplitl [Hd1] <;> iassumption
  imodintro
  iapply Hk
  unfold postB
  isplitl [Hcnt]; · iexact Hcnt
  isplitl [HO]; · iexact HO
  isplitl [Hx]; · iexact Hx
  isplitl [Ho]; · iexact Ho
  isplitl [H0 H1 H2 H3]
  · iexists (gathered X true 0 c)
    rw [slotsB]
    isplitl [H0]; · iexact H0
    isplitl [H1]; · iexact H1
    isplitl [H2]; · iexact H2
    iexact H3
  iexists _; iexact Hw

end Cert.KernelIdeal.Gen

end
-- ==== Proof.Ideal.Chain.lean ====
module

public import proofs.«01_k».proof.Proof.Ideal.Tables
public import proofs.«01_k».proof.Proof.Ideal.ExRun
public import proofs.«01_k».proof.Proof.Ideal.RingB
public import proofs.«01_k».proof.Proof.Gen.KernelIdeal.Regions
public import proofs.«01_k».proof.Proof.Gen.KernelIdeal.Points
public import Idealize.ShloMosaic.Lib.Pipeline.ValueKit
public import Idealize.ShloMosaic.Lib.Pipeline.FrameTail
public import Idealize.ShloMosaic.Lib.Pipeline.RegionArraysT
public import Idealize.ShloMosaic.Lib.Pipeline.RegionTalk

/-!
# What every buffer holds between the calls

The program's own chain of contents: the host's stretches between the calls, and after each call the array it writes.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat afterRegion)

namespace Cert.KernelIdeal.Gen

variable {F : FTy → Type} [FloatOps F]

local notation "𝕄" => MT nD τ sig Unit (Elt F) ℕ UU ℕ

variable (m : (ℓ : Loc nD τ sig) → Buf (Elt F) ℓ)

/-! ## The host's stretches -/

abbrev host1 (V : Valuation τ sig (Elt F)) : Valuation τ sig (Elt F) :=
  StableHlo.after hostOps1_12 (StableHlo.after hostOps1_11 (StableHlo.after hostOps1_10 (StableHlo.after hostOps1_9
    (StableHlo.after hostOps1_8 (StableHlo.after hostOps1_7 (StableHlo.after hostOps1_6 (StableHlo.after hostOps1_5
      (StableHlo.after hostOps1_4 (StableHlo.after hostOps1_3 (StableHlo.after hostOps1_2 (StableHlo.after hostOps1_1
        (StableHlo.after hostOps1 V))))))))))))
abbrev host4 (V : Valuation τ sig (Elt F)) : Valuation τ sig (Elt F) :=
  StableHlo.after hostOps4_2 (StableHlo.after hostOps4_1 (StableHlo.after hostOps4 V))
abbrev host5 (V : Valuation τ sig (Elt F)) : Valuation τ sig (Elt F) :=
  StableHlo.after hostOps5_2 (StableHlo.after hostOps5_1 (StableHlo.after hostOps5 V))

/-! ## What is owed -/

/-- What is owed for the last ring while the first runs. -/
abbrev dueB (c : Dev nD) : CellTallies nD τ sig Unit := ringDue 0 true c
/-- What is owed for both rings. -/
abbrev dueR (c : Dev nD) : CellTallies nD τ sig Unit := dueB c + ringDue 0 false c
/-- All that is owed at the start. -/
abbrev O₀ (c : Dev nD) : CellTallies nD τ sig Unit := dueR c + exchDue 0 c

/-! ## What a call that does not communicate keeps -/

/-- The buffers no window stages, and the tables. -/
abbrev keep (d : Dev nD) (p : Fin 10) (c : Dev nD) : sProp (MT nD τ sig Unit (Elt F) ℕ UU ℕ) :=
  iprop((Pipeline.scopedRest (Pipeline.pin (pcfgs (F := F)) (adm d) p).spec c ∗ emp) ∗ Pipeline.tablesAt (pcfgs (F := F)) (adm d) p c)

/-- The buffers no window stages, where there is no table. -/
abbrev bare (d : Dev nD) (p : Fin 10) (c : Dev nD) : sProp (MT nD τ sig Unit (Elt F) ℕ UU ℕ) :=
  iprop(Pipeline.scopedRest (Pipeline.pin (pcfgs (F := F)) (adm d) p).spec c ∗ emp)

/-! ## The chain -/

/-- The gather of the blocks `x` on device `c`: slot `j` holds the block of the device `j` steps back over `y`. -/
def gatherY (x : Dev nD → Vec F S1024x256 .bf16) (c : Dev nD) : Vec F S4x1024x256 .bf16 :=
  fun i => x (back false (i 0).val c) (ValueIdx.ix2 (i 1) (i 2))

theorem gathered_false (X : Blocks F) (h : Fin 4) (c : Dev nD) : gathered X false h c = gatherY (X false) c := rfl

/-- The first product, and the contents after it. -/
abbrev call0 (d c : Dev nD) : Dat τ (Elt F) Unit ℕ UU ℕ (cfg0 (F := F) adm0) c := mm0 adm0 c (V1 m d) (keep (F := F) d 0 c) (O₀ c)
def R0 (c : Dev nD) : Valuation τ sig (Elt F) := Function.update (V1 m c) main_v12 ((call0 m c c).arrAt (2 : Fin 3) (cfg0 (F := F) adm0).N)
def W15 (c : Dev nD) : Valuation τ sig (Elt F) := host1 (R0 m c)

/-- What the devices put into the exchange. -/
def xblocks : XBlocks F
  | 0, _, c => W15 m c main_v89
  | 1, 0, c => W15 m c main_v20
  | 1, 1, c => W15 m c main_v38
  | 1, 2, c => W15 m c main_v48
  | 1, 3, c => W15 m c main_v58
  | 2, 0, c => W15 m c main_v28
  | 2, 1, c => W15 m c main_v68
  | 2, 2, c => W15 m c main_v78
  | 2, 3, c => W15 m c main_v88

def R1 (c : Dev nD) : Valuation τ sig (Elt F) :=
  Function.update (Function.update (Function.update (W15 m c) main_v90_0 (xgathered (xblocks m) 0 0 c)) main_v90_1 (xgathered (xblocks m) 1 0 c))
    main_v90_2 (xgathered (xblocks m) 2 0 c)
def W17 (c : Dev nD) : Valuation τ sig (Elt F) := StableHlo.after hostOps2 (R1 m c)

abbrev call2 (d c : Dev nD) : Dat τ (Elt F) Unit ℕ UU ℕ (cfg2 (F := F) adm2) c := mm2 adm2 c (W17 m d) (keep (F := F) d 2 c) (dueR c)
def R2 (c : Dev nD) : Valuation τ sig (Elt F) := Function.update (W17 m c) main_v97 ((call2 m c c).arrAt (2 : Fin 3) (cfg2 (F := F) adm2).N)
def W19 (c : Dev nD) : Valuation τ sig (Elt F) := StableHlo.after hostOps3 (R2 m c)

abbrev call3 (d c : Dev nD) : Dat τ (Elt F) Unit ℕ UU ℕ (cfg3 (F := F) adm3) c := mm3 adm3 c (W19 m d) (keep (F := F) d 3 c) (dueR c)
def R3 (c : Dev nD) : Valuation τ sig (Elt F) := Function.update (W19 m c) main_v100 ((call3 m c c).arrAt (2 : Fin 3) (cfg3 (F := F) adm3).N)
def W23 (c : Dev nD) : Valuation τ sig (Elt F) := host4 (R3 m c)

abbrev call4 (d c : Dev nD) : Dat τ (Elt F) Unit ℕ UU ℕ (cfg4 (F := F) (adm4 d)) c := mm4 (adm4 d) c (W23 m d) (keep (F := F) d 4 c) (dueR c)
def R4 (c : Dev nD) : Valuation τ sig (Elt F) := Function.update (W23 m c) main_v106 ((call4 m c c).arrAt (2 : Fin 3) (cfg4 (F := F) (adm4 c)).N)
def W27 (c : Dev nD) : Valuation τ sig (Elt F) := host5 (R4 m c)

abbrev call5 (d c : Dev nD) : Dat τ (Elt F) Unit ℕ UU ℕ (cfg5 (F := F) (adm5 d)) c := mm5 (adm5 d) c (W27 m d) (keep (F := F) d 5 c) (dueR c)
def R5 (c : Dev nD) : Valuation τ sig (Elt F) := Function.update (W27 m c) main_v112 ((call5 m c c).arrAt (2 : Fin 3) (cfg5 (F := F) (adm5 c)).N)
def W29 (c : Dev nD) : Valuation τ sig (Elt F) := StableHlo.after hostOps6 (R5 m c)

abbrev call6 (d c : Dev nD) : Dat τ (Elt F) Unit ℕ UU ℕ (cfg6 (F := F) adm6) c := mm6 adm6 c (W29 m d) (keep (F := F) d 6 c) (dueR c)
def R6 (c : Dev nD) : Valuation τ sig (Elt F) := Function.update (W29 m c) main_v115 ((call6 m c c).arrAt (2 : Fin 3) (cfg6 (F := F) adm6).N)

abbrev call7 (d c : Dev nD) : Dat τ (Elt F) Unit ℕ UU ℕ cfg7 c := attn c (R6 m d) (bare (F := F) d 7 c) (dueR c)
def R7 (c : Dev nD) : Valuation τ sig (Elt F) := Function.update (R6 m c) main_v116 ((call7 m c c).arrAt (5 : Fin 6) cfg7.N)

def R8 (c : Dev nD) : Valuation τ sig (Elt F) := Function.update (R7 m c) main_v117 (gatherY (fun d => R7 m d main_v116) c)
def W33 (c : Dev nD) : Valuation τ sig (Elt F) := StableHlo.after hostOps9 (R8 m c)

/-- What the devices put into the two rings. -/
def blocks : Blocks F
  | false, c => R7 m c main_v116
  | true, c => W33 m c main_v119

/-- The last operand. -/
abbrev wo (c : Dev nD) : Vec F S4096x4096 .f32 := W33 m c main_arg7

def R9 (c : Dev nD) : Valuation τ sig (Elt F) := Function.update (W33 m c) main_v120 (accB (blocks m) c (wo m c) 3)

/-- What every call leaves. -/
def outs : Outs (F := F) := fun J r c => match J with
  | 2 => R0 m c r
  | 16 => R1 m c r
  | 18 => R2 m c r
  | 20 => R3 m c r
  | 24 => R4 m c r
  | 28 => R5 m c r
  | 30 => R6 m c r
  | 31 => R7 m c r
  | 32 => R8 m c r
  | _ => R9 m c r

/-! ## The chain is the generated one -/

theorem update_again (V : Valuation τ sig (Elt F)) (r : DevRef τ sig) (v : r.ty.Contents (Elt F)) :
    Function.update V r (Function.update V r v r) = Function.update V r v := by rw [Function.update_self]

theorem V2_eq (c : Dev nD) : V2 m (outs m) c = R0 m c := update_again _ _ _
theorem V15_eq (c : Dev nD) : V15 m (outs m) c = W15 m c := congrArg host1 (V2_eq m c)
theorem V16_eq (c : Dev nD) : V16 m (outs m) c = R1 m c := by
  have h : V16 m (outs m) c = Function.update (Function.update (Function.update (V15 m (outs m) c) main_v90_0 (R1 m c main_v90_0)) main_v90_1 (R1 m c main_v90_1)) main_v90_2 (R1 m c main_v90_2) := rfl
  rw [h, V15_eq]
  have h0 : R1 m c main_v90_0 = xgathered (xblocks m) 0 0 c := by
    unfold R1
    rw [Function.update_of_ne (by decide), Function.update_of_ne (by decide)]; exact Function.update_self ..
  have h1 : R1 m c main_v90_1 = xgathered (xblocks m) 1 0 c := by
    unfold R1
    rw [Function.update_of_ne (by decide)]; exact Function.update_self ..
  have h2 : R1 m c main_v90_2 = xgathered (xblocks m) 2 0 c := Function.update_self ..
  rw [h0, h1, h2]; rfl
theorem V17_eq (c : Dev nD) : V17 m (outs m) c = W17 m c := congrArg (StableHlo.after hostOps2) (V16_eq m c)
theorem V18_eq (c : Dev nD) : V18 m (outs m) c = R2 m c :=
  (congrArg (fun V => Function.update V (Proc.devRef .tc main_v97) (R2 m c main_v97)) (V17_eq m c)).trans (update_again _ _ _)
theorem V19_eq (c : Dev nD) : V19 m (outs m) c = W19 m c := congrArg (StableHlo.after hostOps3) (V18_eq m c)
theorem V20_eq (c : Dev nD) : V20 m (outs m) c = R3 m c :=
  (congrArg (fun V => Function.update V (Proc.devRef .tc main_v100) (R3 m c main_v100)) (V19_eq m c)).trans (update_again _ _ _)
theorem V23_eq (c : Dev nD) : V23 m (outs m) c = W23 m c := congrArg host4 (V20_eq m c)
theorem V24_eq (c : Dev nD) : V24 m (outs m) c = R4 m c :=
  (congrArg (fun V => Function.update V (Proc.devRef .tc main_v106) (R4 m c main_v106)) (V23_eq m c)).trans (update_again _ _ _)
theorem V27_eq (c : Dev nD) : V27 m (outs m) c = W27 m c := congrArg host5 (V24_eq m c)
theorem V28_eq (c : Dev nD) : V28 m (outs m) c = R5 m c :=
  (congrArg (fun V => Function.update V (Proc.devRef .tc main_v112) (R5 m c main_v112)) (V27_eq m c)).trans (update_again _ _ _)
theorem V29_eq (c : Dev nD) : V29 m (outs m) c = W29 m c := congrArg (StableHlo.after hostOps6) (V28_eq m c)
theorem V30_eq (c : Dev nD) : V30 m (outs m) c = R6 m c :=
  (congrArg (fun V => Function.update V (Proc.devRef .tc main_v115) (R6 m c main_v115)) (V29_eq m c)).trans (update_again _ _ _)
theorem V31_eq (c : Dev nD) : V31 m (outs m) c = R7 m c :=
  (congrArg (fun V => Function.update V (Proc.devRef .tc main_v116) (R7 m c main_v116)) (V30_eq m c)).trans (update_again _ _ _)
theorem V32_eq (c : Dev nD) : V32 m (outs m) c = R8 m c :=
  (congrArg (fun V => Function.update V (Proc.devRef .tc main_v117) (R8 m c main_v117)) (V31_eq m c)).trans (update_again _ _ _)
theorem V33_eq (c : Dev nD) : V33 m (outs m) c = W33 m c := congrArg (StableHlo.after hostOps9) (V32_eq m c)
theorem V34_eq (c : Dev nD) : V34 m (outs m) c = R9 m c :=
  (congrArg (fun V => Function.update V (Proc.devRef .tc main_v120) (R9 m c main_v120)) (V33_eq m c)).trans (update_again _ _ _)

end Cert.KernelIdeal.Gen

end
-- ==== Proof.Ideal.Talk.lean ====
module

public import proofs.«01_k».proof.Proof.Ideal.Chain

/-!
# The three calls that communicate

Each one's proof data, and its body with its windows.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

namespace Cert.KernelIdeal.Gen

variable {F : FTy → Type} [FloatOps F]

local notation "𝕄" => MT nD τ sig Unit (Elt F) ℕ UU ℕ

variable (m : (ℓ : Loc nD τ sig) → Buf (Elt F) ℓ)

/-! ## The proof data -/

/-- Before the first call: the ring's cells open, the levels, the buffers of no window. -/
def Φ8in (c : Dev nD) : sProp 𝕄 :=
  iprop((∃ κ, records (blocks m) κ ∗ opened false c) ∗ levAts L lv ∗ Pipeline.scopedRest spec8 c ∗ ∃ r, prngReg c r)
/-- After it: the counters back at zero. -/
def Φ8out (c : Dev nD) : sProp 𝕄 := iprop(counters false c ∗ Pipeline.scopedRest spec8 c ∗ ∃ r, prngReg c r)

/-- The counters of the copies of the last operand. -/
def woZeros (c : Dev nD) : sProp 𝕄 := iprop(semVal (woCell 0 c) 0 ∗ semVal (woCell 1 c) 0 ∗ semVal (woCell 2 c) 0 ∗ semVal (woCell 3 c) 0)

def Φ9in (c : Dev nD) : sProp 𝕄 :=
  iprop((∃ κ, records (blocks m) κ ∗ opened true c) ∗ levAts L lv ∗ woZeros c ∗ woPts (wo m c) c fullShare ∗ Pipeline.scopedRest spec9 c ∗ ∃ r, prngReg c r)
def Φ9out (c : Dev nD) : sProp 𝕄 :=
  iprop(counters true c ∗ woZeros c ∗ woPts (wo m c) c fullShare ∗ Pipeline.scopedRest spec9 c ∗ ∃ r, prngReg c r)

def dat8 (c : Dev nD) : Dat τ (Elt F) Unit ℕ UU ℕ cfg8 c where
  A w := R7 m c (Proc.devRef .tc (Pipeline.arrRef spec8 w))
  after w _ := match w with
    | ⟨0, _⟩ => blocks m false c
    | ⟨1, _⟩ => gatherY (blocks m false) c
  Φ t := match t with
    | ⟨0, _⟩ => Φ8in m c
    | ⟨_ + 1, _⟩ => Φ8out c
  q _ := fullShare
  owed t := match t with
    | ⟨0, _⟩ => dueR c
    | ⟨_ + 1, _⟩ => dueB c

def dat9 (c : Dev nD) : Dat τ (Elt F) Unit ℕ UU ℕ cfg9 c where
  A w := W33 m c (Proc.devRef .tc (Pipeline.arrRef spec9 w))
  after w _ := match w with
    | ⟨0, _⟩ => blocks m true c
    | ⟨1, _⟩ => accB (blocks m) c (wo m c) 3
  Φ t := match t with
    | ⟨0, _⟩ => Φ9in m c
    | ⟨_ + 1, _⟩ => Φ9out m c
  q _ := fullShare
  owed t := match t with
    | ⟨0, _⟩ => dueB c
    | ⟨_ + 1, _⟩ => 0

/-! ## The windows -/

theorem index8_0 : ∀ a, win8_0.index t8_0 a = 0 := by decide +kernel
theorem index9_0 : ∀ a, win9_0.index t9_0 a = 0 := by decide +kernel

theorem before8 (c : Dev nD) (d) : (dat8 m c).before (0 : Fin 2) t8_0 d = blocks m false c := by
  rw [Dat.before, if_pos (fetch8_0 t8_0)]
  funext y
  refine congrArg (R7 m c main_v116) ?_
  funext a
  refine Fin.ext ?_
  blk_simp
  rw [index8_0 a, Nat.zero_mul, Nat.zero_add]

theorem before9 (c : Dev nD) (d) : (dat9 m c).before (0 : Fin 2) t9_0 d = blocks m true c := by
  rw [Dat.before, if_pos (fetch9_0 t9_0)]
  funext y
  refine congrArg (W33 m c main_v119) ?_
  funext a
  refine Fin.ext ?_
  blk_simp
  rw [index9_0 a, Nat.zero_mul, Nat.zero_add]

theorem arr8 (c : Dev nD) : (dat8 m c).arrAt (1 : Fin 2) cfg8.N = gatherY (blocks m false) c := by
  refine (dat8 m c).arrAt_eq_of_after_last (1 : Fin 2) t8_0 (by decide +kernel) _ fun j => ?_
  rfl

theorem arr9 (c : Dev nD) : (dat9 m c).arrAt (1 : Fin 2) cfg9.N = accB (blocks m) c (wo m c) 3 := by
  refine (dat9 m c).arrAt_eq_of_after_last (1 : Fin 2) t9_0 (by decide +kernel) _ fun j => ?_
  rfl

/-! ## The bodies -/

theorem owesAt_intro {cfg : Pipeline.Cfg sig Λ₀} {c : Dev nD} (dat : Dat τ (Elt F) Unit ℕ UU ℕ cfg c) (t : Fin (cfg.N + 1))
    (O : CellTallies nD τ sig Unit) (h : dat.owed t = O) (hr : dat.recorded t = Set.univ) : owing c O ⊢ (dat.owesAt () t : sProp 𝕄) := by
  unfold owing Dat.owesAt Pipeline.owesWithin Dat.bound
  rw [h, hr]
  iintro ⟨%W, HO⟩
  iexists W
  isplitr; · ipureintro; exact fun _ _ => Or.inl trivial
  iexact HO
theorem owesAt_elim {cfg : Pipeline.Cfg sig Λ₀} {c : Dev nD} (dat : Dat τ (Elt F) Unit ℕ UU ℕ cfg c) (t : Fin (cfg.N + 1))
    (O : CellTallies nD τ sig Unit) (h : dat.owed t = O) : (dat.owesAt () t : sProp 𝕄) ⊢ owing c O := by
  unfold owing Dat.owesAt Pipeline.owesWithin
  rw [h]
  iintro ⟨%W, -, HO⟩
  iexists W
  iexact HO

theorem above_dueB (c : Dev nD) : Above (dueB c) 6 := above_ringDue true c 6 (above_zero _) (by decide)
theorem dueR_eq (c : Dev nD) : dueR c = ringDue (dueB c) false c := (ringDue_eq _ _ _).symm

theorem body8 (c : Dev nD) : BodyObligation (dat8 (F := F) m c) (defs₀ (F := F)) 𝒱₀ () Set.univ := fun t => by
  rw [fin_N8 t, bigSep_W8, bigSep_W8]
  simp only [owns_whole]
  show iprop(Φ8in m c ∗ (dat8 m c).owesAt () t8_0.castSucc
      ∗ (∃ d, ((c : Thread nD τ).loc cc8_stg0_0) ↦{fullShare} (dat8 m c).before (0 : Fin 2) t8_0 d)
      ∗ ∃ d, ((c : Thread nD τ).loc cc8_stg1_0) ↦{fullShare} (dat8 m c).before (1 : Fin 2) t8_0 d)
    ⊢ wp frame (wpE (defs₀ (F := F)) 𝒱₀ (c : Thread nD τ) none) Set.univ
      (cc8__yag_body (Memref.whole cc8_stg0_0) (Memref.isWhole_whole _) (Memref.whole cc8_stg1_0) (Memref.isWhole_whole _) cc8_scratch0 cc8_scratch1)
      fun _ => iprop(Φ8out c ∗ (dat8 m c).owesAt () t8_0.succ
        ∗ (((c : Thread nD τ).loc cc8_stg0_0) ↦{fullShare} (blocks m false c)) ∗ ((c : Thread nD τ).loc cc8_stg1_0) ↦{fullShare} (gatherY (blocks m false) c))
  unfold Φ8in Φ8out
  iintro ⟨⟨⟨%κ, HR, Ho⟩, HL, Hs, Hp⟩, HO, ⟨%d, Hx⟩, ⟨%d', Hy⟩⟩
  iapply (runA (blocks m) κ c (dueB c) (above_dueB c))
  unfold preA postA
  isplitl [HR Ho HL HO Hx Hy]
  · isplitl [HR]; · iexact HR
    isplitl [HL]; · iexact HL
    isplitl [Ho]; · iexact Ho
    isplitl [HO]; · iapply (owesAt_elim (dat8 m c) t8_0.castSucc _ (dueR_eq c)) $$ HO
    isplitl [Hx]; · rw [before8]; iexact Hx
    iexists _; iexact Hy
  iintro ⟨Hc, HO, Hx, Hy⟩
  isplitl [Hc Hs Hp]
  · isplitl [Hc]; · iexact Hc
    isplitl [Hs]; · iexact Hs
    iexact Hp
  isplitl [HO]; · iapply (owesAt_intro (dat8 m c) t8_0.succ (dueB c) rfl rfl) $$ HO
  isplitl [Hx]; · iexact Hx
  iexact Hy

/-- The second call's two scratch buffers apart from the rest. -/
theorem rest9_eq (c : Dev nD) : (Pipeline.scopedRest spec9 c : sProp 𝕄)
    = iprop(((∃ f : Vec F S4x1024x1024 .bf16, ((c : Thread nD τ).loc cc9_scratch0) ↦{fullShare} f)
        ∗ (∃ f : Vec F S1024x4096 .f32, ((c : Thread nD τ).loc cc9_scratch1) ↦{fullShare} f))
      ∗ Pipeline.scopedRestBut spec9 c [cc9_scratch0, cc9_scratch1]) :=
  Pipeline.scopedRest_split_of_list spec9 c [cc9_scratch0, cc9_scratch1] (by decide) (by decide)

theorem body9 (c : Dev nD) : BodyObligation (dat9 (F := F) m c) (defs₀ (F := F)) 𝒱₀ () Set.univ := fun t => by
  rw [fin_N9 t, bigSep_W9, bigSep_W9]
  simp only [owns_whole]
  show iprop(Φ9in m c ∗ (dat9 m c).owesAt () t9_0.castSucc
      ∗ (∃ d, ((c : Thread nD τ).loc cc9_stg0_0) ↦{fullShare} (dat9 m c).before (0 : Fin 2) t9_0 d)
      ∗ ∃ d, ((c : Thread nD τ).loc cc9_stg1_0) ↦{fullShare} (dat9 m c).before (1 : Fin 2) t9_0 d)
    ⊢ wp frame (wpE (defs₀ (F := F)) 𝒱₀ (c : Thread nD τ) none) Set.univ
      (cc9__agwo_body (Memref.whole cc9_stg0_0) (Memref.isWhole_whole _) (Memref.whole main_arg7) (Memref.isWhole_whole _)
        (Memref.whole cc9_stg1_0) (Memref.isWhole_whole _) (Memref.whole cc9_scratch0) (Memref.isWhole_whole _)
        (Memref.whole cc9_scratch1) (Memref.isWhole_whole _) cc9_scratch2 cc9_scratch3 cc9_scratch4)
      fun _ => iprop(Φ9out m c ∗ (dat9 m c).owesAt () t9_0.succ
        ∗ (((c : Thread nD τ).loc cc9_stg0_0) ↦{fullShare} (blocks m true c)) ∗ ((c : Thread nD τ).loc cc9_stg1_0) ↦{fullShare} (accB (blocks m) c (wo m c) 3))
  unfold Φ9in Φ9out woZeros
  rw [rest9_eq]
  iintro ⟨⟨⟨%κ, HR, Ho⟩, HL, ⟨Hw0, Hw1, Hw2, Hw3⟩, Hw, ⟨⟨⟨%g, Hg⟩, ⟨%v, Hv⟩⟩, Hb⟩, Hp⟩, HO, ⟨%d, Hx⟩, ⟨%d', Hy⟩⟩
  iapply (runB (blocks m) κ c (wo m c) 0 (above_zero _))
  unfold preB postB woRest
  isplitl [HR Ho HL HO Hx Hy Hg Hv Hw Hw0 Hw1 Hw2 Hw3]
  · isplitl [HR]; · iexact HR
    isplitl [HL]; · iexact HL
    isplitl [Ho]; · iexact Ho
    isplitl [HO]; · iapply (owesAt_elim (dat9 m c) t9_0.castSucc _ rfl) $$ HO
    isplitl [Hx]; · rw [before9]; iexact Hx
    isplitl [Hy]; · iexists _; iexact Hy
    isplitl [Hg]; · iexists g; iexact Hg
    iexists v
    isplitl [Hw]; · iexact Hw
    isplitl [Hv]; · iexact Hv
    isplitl [Hw0]; · iexact Hw0
    isplitl [Hw1]; · iexact Hw1
    isplitl [Hw2]; · iexact Hw2
    iexact Hw3
  iintro ⟨Hc, HO, Hx, Hy, Hg, ⟨%v', Hw, Hv, Hw0, Hw1, Hw2, Hw3⟩⟩
  isplitl [Hc Hp Hb Hg Hv Hw Hw0 Hw1 Hw2 Hw3]
  · isplitl [Hc]; · iexact Hc
    isplitl [Hw0 Hw1 Hw2 Hw3]
    · isplitl [Hw0]; · iexact Hw0
      isplitl [Hw1]; · iexact Hw1
      isplitl [Hw2]; · iexact Hw2
      iexact Hw3
    isplitl [Hw]; · iexact Hw
    isplitr [Hp]
    · isplitr [Hb]
      · isplitl [Hg]; · iexact Hg
        iexists v'; iexact Hv
      iexact Hb
    iexact Hp
  isplitl [HO]; · iapply (owesAt_intro (dat9 m c) t9_0.succ 0 rfl rfl) $$ HO
  isplitl [Hx]; · iexact Hx
  iexact Hy

/-! ## The exchange -/

def Φ1in (c : Dev nD) : sProp 𝕄 :=
  iprop((∃ κ, xrecords (xblocks m) κ ∗ xopened c) ∗ levAts L lv ∗ Pipeline.scopedRest spec1 c ∗ ∃ r, prngReg c r)
def Φ1out (c : Dev nD) : sProp 𝕄 := iprop(xcounters c ∗ Pipeline.scopedRest spec1 c ∗ ∃ r, prngReg c r)

def dat1 (c : Dev nD) : Dat τ (Elt F) Unit ℕ UU ℕ cfg1 c where
  A w := W15 m c (Proc.devRef .tc (Pipeline.arrRef spec1 w))
  after w _ := match w with
    | ⟨0, _⟩ => xblocks m 0 0 c
    | ⟨1, _⟩ => xblocks m 1 0 c
    | ⟨2, _⟩ => xblocks m 2 0 c
    | ⟨3, _⟩ => xblocks m 1 1 c
    | ⟨4, _⟩ => xblocks m 1 2 c
    | ⟨5, _⟩ => xblocks m 1 3 c
    | ⟨6, _⟩ => xblocks m 2 1 c
    | ⟨7, _⟩ => xblocks m 2 2 c
    | ⟨8, _⟩ => xblocks m 2 3 c
    | ⟨9, _⟩ => xgathered (xblocks m) 0 0 c
    | ⟨10, _⟩ => xgathered (xblocks m) 1 0 c
    | ⟨11, _⟩ => xgathered (xblocks m) 2 0 c
  Φ t := match t with
    | ⟨0, _⟩ => Φ1in m c
    | ⟨_ + 1, _⟩ => Φ1out c
  q _ := fullShare
  owed t := match t with
    | ⟨0, _⟩ => O₀ c
    | ⟨_ + 1, _⟩ => dueR c

theorem index1_0 : ∀ a, win1_0.index t1_0 a = 0 := by decide +kernel
theorem before1_0 (c : Dev nD) (d) : (dat1 m c).before (0 : Fin 12) t1_0 d = xblocks m 0 0 c := by
  rw [Dat.before, if_pos (fetch1_0 t1_0)]
  funext y
  refine congrArg (W15 m c main_v89) ?_
  funext a
  refine Fin.ext ?_
  blk_simp
  rw [index1_0 a, Nat.zero_mul, Nat.zero_add]

theorem index1_1 : ∀ a, win1_1.index t1_0 a = 0 := by decide +kernel
theorem before1_1 (c : Dev nD) (d) : (dat1 m c).before (1 : Fin 12) t1_0 d = xblocks m 1 0 c := by
  rw [Dat.before, if_pos (fetch1_1 t1_0)]
  funext y
  refine congrArg (W15 m c main_v20) ?_
  funext a
  refine Fin.ext ?_
  blk_simp
  rw [index1_1 a, Nat.zero_mul, Nat.zero_add]

theorem index1_2 : ∀ a, win1_2.index t1_0 a = 0 := by decide +kernel
theorem before1_2 (c : Dev nD) (d) : (dat1 m c).before (2 : Fin 12) t1_0 d = xblocks m 2 0 c := by
  rw [Dat.before, if_pos (fetch1_2 t1_0)]
  funext y
  refine congrArg (W15 m c main_v28) ?_
  funext a
  refine Fin.ext ?_
  blk_simp
  rw [index1_2 a, Nat.zero_mul, Nat.zero_add]

theorem index1_3 : ∀ a, win1_3.index t1_0 a = 0 := by decide +kernel
theorem before1_3 (c : Dev nD) (d) : (dat1 m c).before (3 : Fin 12) t1_0 d = xblocks m 1 1 c := by
  rw [Dat.before, if_pos (fetch1_3 t1_0)]
  funext y
  refine congrArg (W15 m c main_v38) ?_
  funext a
  refine Fin.ext ?_
  blk_simp
  rw [index1_3 a, Nat.zero_mul, Nat.zero_add]

theorem index1_4 : ∀ a, win1_4.index t1_0 a = 0 := by decide +kernel
theorem before1_4 (c : Dev nD) (d) : (dat1 m c).before (4 : Fin 12) t1_0 d = xblocks m 1 2 c := by
  rw [Dat.before, if_pos (fetch1_4 t1_0)]
  funext y
  refine congrArg (W15 m c main_v48) ?_
  funext a
  refine Fin.ext ?_
  blk_simp
  rw [index1_4 a, Nat.zero_mul, Nat.zero_add]

theorem index1_5 : ∀ a, win1_5.index t1_0 a = 0 := by decide +kernel
theorem before1_5 (c : Dev nD) (d) : (dat1 m c).before (5 : Fin 12) t1_0 d = xblocks m 1 3 c := by
  rw [Dat.before, if_pos (fetch1_5 t1_0)]
  funext y
  refine congrArg (W15 m c main_v58) ?_
  funext a
  refine Fin.ext ?_
  blk_simp
  rw [index1_5 a, Nat.zero_mul, Nat.zero_add]

theorem index1_6 : ∀ a, win1_6.index t1_0 a = 0 := by decide +kernel
theorem before1_6 (c : Dev nD) (d) : (dat1 m c).before (6 : Fin 12) t1_0 d = xblocks m 2 1 c := by
  rw [Dat.before, if_pos (fetch1_6 t1_0)]
  funext y
  refine congrArg (W15 m c main_v68) ?_
  funext a
  refine Fin.ext ?_
  blk_simp
  rw [index1_6 a, Nat.zero_mul, Nat.zero_add]

theorem index1_7 : ∀ a, win1_7.index t1_0 a = 0 := by decide +kernel
theorem before1_7 (c : Dev nD) (d) : (dat1 m c).before (7 : Fin 12) t1_0 d = xblocks m 2 2 c := by
  rw [Dat.before, if_pos (fetch1_7 t1_0)]
  funext y
  refine congrArg (W15 m c main_v78) ?_
  funext a
  refine Fin.ext ?_
  blk_simp
  rw [index1_7 a, Nat.zero_mul, Nat.zero_add]

theorem index1_8 : ∀ a, win1_8.index t1_0 a = 0 := by decide +kernel
theorem before1_8 (c : Dev nD) (d) : (dat1 m c).before (8 : Fin 12) t1_0 d = xblocks m 2 3 c := by
  rw [Dat.before, if_pos (fetch1_8 t1_0)]
  funext y
  refine congrArg (W15 m c main_v88) ?_
  funext a
  refine Fin.ext ?_
  blk_simp
  rw [index1_8 a, Nat.zero_mul, Nat.zero_add]

theorem arr1_9 (c : Dev nD) : (dat1 m c).arrAt (9 : Fin 12) cfg1.N = xgathered (xblocks m) 0 0 c := by
  refine (dat1 m c).arrAt_eq_of_after_last (9 : Fin 12) t1_0 (by decide +kernel) _ fun j => ?_
  rfl
theorem arr1_10 (c : Dev nD) : (dat1 m c).arrAt (10 : Fin 12) cfg1.N = xgathered (xblocks m) 1 0 c := by
  refine (dat1 m c).arrAt_eq_of_after_last (10 : Fin 12) t1_0 (by decide +kernel) _ fun j => ?_
  rfl
theorem arr1_11 (c : Dev nD) : (dat1 m c).arrAt (11 : Fin 12) cfg1.N = xgathered (xblocks m) 2 0 c := by
  refine (dat1 m c).arrAt_eq_of_after_last (11 : Fin 12) t1_0 (by decide +kernel) _ fun j => ?_
  rfl

theorem above_dueR (c : Dev nD) : Above (dueR c) 2 :=
  ((above_dueB c).mono (by decide)).add (above_ringDue false c 2 (above_zero _) (by decide))

set_option maxHeartbeats 3200000 in
theorem body1 (c : Dev nD) : BodyObligation (dat1 (F := F) m c) (defs₀ (F := F)) 𝒱₀ () Set.univ := fun t => by
  rw [fin_N1 t, bigSep_W1, bigSep_W1]
  simp only [owns_whole]
  show iprop(Φ1in m c ∗ (dat1 m c).owesAt () t1_0.castSucc
      ∗ (∃ d, ((c : Thread nD τ).loc cc1_stg0_0) ↦{fullShare} (dat1 m c).before (0 : Fin 12) t1_0 d)
      ∗ (∃ d, ((c : Thread nD τ).loc cc1_stg1_0) ↦{fullShare} (dat1 m c).before (1 : Fin 12) t1_0 d)
      ∗ (∃ d, ((c : Thread nD τ).loc cc1_stg2_0) ↦{fullShare} (dat1 m c).before (2 : Fin 12) t1_0 d)
      ∗ (∃ d, ((c : Thread nD τ).loc cc1_stg3_0) ↦{fullShare} (dat1 m c).before (3 : Fin 12) t1_0 d)
      ∗ (∃ d, ((c : Thread nD τ).loc cc1_stg4_0) ↦{fullShare} (dat1 m c).before (4 : Fin 12) t1_0 d)
      ∗ (∃ d, ((c : Thread nD τ).loc cc1_stg5_0) ↦{fullShare} (dat1 m c).before (5 : Fin 12) t1_0 d)
      ∗ (∃ d, ((c : Thread nD τ).loc cc1_stg6_0) ↦{fullShare} (dat1 m c).before (6 : Fin 12) t1_0 d)
      ∗ (∃ d, ((c : Thread nD τ).loc cc1_stg7_0) ↦{fullShare} (dat1 m c).before (7 : Fin 12) t1_0 d)
      ∗ (∃ d, ((c : Thread nD τ).loc cc1_stg8_0) ↦{fullShare} (dat1 m c).before (8 : Fin 12) t1_0 d)
      ∗ (∃ d, ((c : Thread nD τ).loc cc1_stg9_0) ↦{fullShare} (dat1 m c).before (9 : Fin 12) t1_0 d)
      ∗ (∃ d, ((c : Thread nD τ).loc cc1_stg10_0) ↦{fullShare} (dat1 m c).before (10 : Fin 12) t1_0 d)
      ∗ (∃ d, ((c : Thread nD τ).loc cc1_stg11_0) ↦{fullShare} (dat1 m c).before (11 : Fin 12) t1_0 d))
    ⊢ wp frame (wpE (defs₀ (F := F)) 𝒱₀ (c : Thread nD τ) none) Set.univ
      (cc1__exch_body (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole cc1_stg8_0) (Memref.isWhole_whole _) (Memref.whole cc1_stg9_0) (Memref.isWhole_whole _) (Memref.whole cc1_stg10_0) (Memref.isWhole_whole _) (Memref.whole cc1_stg11_0) (Memref.isWhole_whole _) cc1_scratch0 cc1_scratch1)
      fun _ => iprop(Φ1out c ∗ (dat1 m c).owesAt () t1_0.succ
        ∗ (((c : Thread nD τ).loc cc1_stg0_0) ↦{fullShare} (xblocks m 0 0 c))
        ∗ (((c : Thread nD τ).loc cc1_stg1_0) ↦{fullShare} (xblocks m 1 0 c))
        ∗ (((c : Thread nD τ).loc cc1_stg2_0) ↦{fullShare} (xblocks m 2 0 c))
        ∗ (((c : Thread nD τ).loc cc1_stg3_0) ↦{fullShare} (xblocks m 1 1 c))
        ∗ (((c : Thread nD τ).loc cc1_stg4_0) ↦{fullShare} (xblocks m 1 2 c))
        ∗ (((c : Thread nD τ).loc cc1_stg5_0) ↦{fullShare} (xblocks m 1 3 c))
        ∗ (((c : Thread nD τ).loc cc1_stg6_0) ↦{fullShare} (xblocks m 2 1 c))
        ∗ (((c : Thread nD τ).loc cc1_stg7_0) ↦{fullShare} (xblocks m 2 2 c))
        ∗ (((c : Thread nD τ).loc cc1_stg8_0) ↦{fullShare} (xblocks m 2 3 c))
        ∗ (((c : Thread nD τ).loc cc1_stg9_0) ↦{fullShare} (xgathered (xblocks m) 0 0 c))
        ∗ (((c : Thread nD τ).loc cc1_stg10_0) ↦{fullShare} (xgathered (xblocks m) 1 0 c))
        ∗ (((c : Thread nD τ).loc cc1_stg11_0) ↦{fullShare} (xgathered (xblocks m) 2 0 c)))
  unfold Φ1in Φ1out
  iintro ⟨⟨⟨%κ, HR, Ho⟩, HL, Hs, Hp⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runX (xblocks m) κ c (fun e => rfl) (dueR c) (above_dueR c))
  unfold preX postX xins
  isplitl [HR Ho HL HO H0 H1 H2 H3 H4 H5 H6 H7 H8 H9 H10 H11]
  · isplitl [HR]; · iexact HR
    isplitl [HL]; · iexact HL
    isplitl [Ho]; · iexact Ho
    isplitl [HO]; · iapply (owesAt_elim (dat1 m c) t1_0.castSucc _ (exchDue_eq (dueR c) c).symm) $$ HO
    isplitl [H0 H1 H2 H3 H4 H5 H6 H7 H8]
    · isplitl [H0]; · rw [before1_0]; iexact H0
      isplitl [H1]; · rw [before1_1]; iexact H1
      isplitl [H2]; · rw [before1_2]; iexact H2
      isplitl [H3]; · rw [before1_3]; iexact H3
      isplitl [H4]; · rw [before1_4]; iexact H4
      isplitl [H5]; · rw [before1_5]; iexact H5
      isplitl [H6]; · rw [before1_6]; iexact H6
      isplitl [H7]; · rw [before1_7]; iexact H7
      rw [before1_8]; iexact H8
    isplitl [H9]; · iexists _; iexact H9
    isplitl [H10]; · iexists _; iexact H10
    iexists _; iexact H11
  iintro ⟨Hc, HO, ⟨H0, H1, H2, H3, H4, H5, H6, H7, H8⟩, H9, H10, H11⟩
  isplitl [Hc Hs Hp]
  · isplitl [Hc]; · iexact Hc
    isplitl [Hs]; · iexact Hs
    iexact Hp
  isplitl [HO]; · iapply (owesAt_intro (dat1 m c) t1_0.succ (dueR c) rfl rfl) $$ HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Gen

end
-- ==== Proof.Ideal.Tabs.lean ====
module

public import proofs.«01_k».proof.Proof.Ideal.Chain

/-!
# What the tables hold

Each table is written by the host just before its call.
-/

@[expose] public section

noncomputable section

open Idealize.ShloMosaic Idealize.ShloMosaic.TcCoe Idealize.ShloMosaic.StableHlo

namespace Cert.KernelIdeal.Gen

variable {F : FTy → Type} [FloatOps F]
variable (m : (ℓ : Loc nD τ sig) → Buf (Elt F) ℓ)

theorem tab0 (V : Valuation τ sig (Elt F)) (d : Dev nD) : StableHlo.after (hostOps0 d) V (Proc.devRef .tc main_v11) = fun _ => 0#32 := by
  after_results
  rfl
theorem tab2 (V : Valuation τ sig (Elt F)) : StableHlo.after hostOps2 V (Proc.devRef .tc main_v96) = fun _ => 0#32 := by
  after_results
  rfl
theorem tab3 (V : Valuation τ sig (Elt F)) : StableHlo.after hostOps3 V (Proc.devRef .tc main_v99) = fun _ => 0#32 := by
  after_results
  rfl
theorem tab6 (V : Valuation τ sig (Elt F)) : StableHlo.after hostOps6 V (Proc.devRef .tc main_v114) = fun _ => 0#32 := by
  after_results
  rfl

/-! ## The device's coordinates -/

theorem coord_z (d : Dev nD) : IntOp.remui .host (IntOp.divui .host (Dev.word d) 1#32) 4#32 = BitVec.ofNat 32 (d.val % 4) := by
  revert d; decide
theorem coord_y (d : Dev nD) : IntOp.remui .host (IntOp.divui .host (Dev.word d) 4#32) 4#32 = BitVec.ofNat 32 (d.val / 4 % 4) := by
  revert d; decide

theorem v8_eq (d : Dev nD) : V1 m d main_v8 = fun _ => BitVec.ofNat 32 (d.val % 4) := by
  show StableHlo.after (hostOps0 d) (V0 m d) (Proc.devRef .tc main_v8) = _
  after_results
  generalize V0 m d = V
  funext i
  exact coord_z d

theorem v4_eq (d : Dev nD) : V1 m d main_v4 = fun _ => BitVec.ofNat 32 (d.val / 4 % 4) := by
  show StableHlo.after (hostOps0 d) (V0 m d) (Proc.devRef .tc main_v4) = _
  after_results
  generalize V0 m d = V
  funext i
  exact coord_y d

/-! ## The query products' tables -/

/-- The sign of a word. -/
def sgn (n : BitVec 32) : BitVec 32 := if n = 0 then 0 else if n.msb then -1 else 1
/-- The host's quotient rounded down. -/
def fdiv (n k : BitVec 32) : BitVec 32 :=
  Scalar.select (IntOp.andi (IntOp.cmpi .ne (sgn n) (sgn k)) (IntOp.cmpi .ne (IntOp.remsi .host n k) 0#32))
    (IntOp.subi (IntOp.divsi .host n k) 1#32) (IntOp.divsi .host n k)

theorem fdiv_place (z y : Fin 4) :
    fdiv (IntOp.addi (IntOp.muli (BitVec.ofNat 32 z.val) 1024#32) (IntOp.muli (BitVec.ofNat 32 y.val) 256#32)) 256#32
      = BitVec.ofNat 32 (4 * z.val + y.val) := by
  revert z y; decide +kernel
theorem fdiv_place' (z y : Fin 4) :
    fdiv (IntOp.addi (IntOp.muli (BitVec.ofNat 32 z.val) 512#32) (IntOp.muli (BitVec.ofNat 32 y.val) 128#32)) 128#32
      = BitVec.ofNat 32 (4 * z.val + y.val) := by
  revert z y; decide +kernel

theorem tab4 (V : Valuation τ sig (Elt F)) (z y : Fin 4) (h8 : V (Proc.devRef .tc main_v8) = fun _ => BitVec.ofNat 32 z.val)
    (h4 : V (Proc.devRef .tc main_v4) = fun _ => BitVec.ofNat 32 y.val) :
    host4 V (Proc.devRef .tc main_v105) = fun _ => BitVec.ofNat 32 (4 * z.val + y.val) := by
  after_results
  simp only [StableHlo.TRef.toBuf, StableHlo.TRef.ofBuf, cast_cast, cast_eq]
  rw [h8, h4]
  funext i
  exact fdiv_place z y

theorem tab5 (V : Valuation τ sig (Elt F)) (z y : Fin 4) (h8 : V (Proc.devRef .tc main_v8) = fun _ => BitVec.ofNat 32 z.val)
    (h4 : V (Proc.devRef .tc main_v4) = fun _ => BitVec.ofNat 32 y.val) :
    host5 V (Proc.devRef .tc main_v111) = fun _ => BitVec.ofNat 32 (4 * z.val + y.val) := by
  after_results
  simp only [StableHlo.TRef.toBuf, StableHlo.TRef.ofBuf, cast_cast, cast_eq]
  rw [h8, h4]
  funext i
  exact fdiv_place' z y

theorem R3_v8 (c : Dev nD) : R3 m c main_v8 = V1 m c main_v8 :=
  (congrFun (V20_eq m c) _).symm.trans <| (V20_of m (outs m) c main_v8 (by decide)).trans <| (V19_of m (outs m) c main_v8 (by decide)).trans <| (V18_of m (outs m) c main_v8 (by decide)).trans <| (V17_of m (outs m) c main_v8 (by decide)).trans <| (V16_of m (outs m) c main_v8 (by decide)).trans <| (V15_of m (outs m) c main_v8 (by decide)).trans <| (V14_of m (outs m) c main_v8 (by decide)).trans <| (V13_of m (outs m) c main_v8 (by decide)).trans <| (V12_of m (outs m) c main_v8 (by decide)).trans <| (V11_of m (outs m) c main_v8 (by decide)).trans <| (V10_of m (outs m) c main_v8 (by decide)).trans <| (V9_of m (outs m) c main_v8 (by decide)).trans <| (V8_of m (outs m) c main_v8 (by decide)).trans <| (V7_of m (outs m) c main_v8 (by decide)).trans <| (V6_of m (outs m) c main_v8 (by decide)).trans <| (V5_of m (outs m) c main_v8 (by decide)).trans <| (V4_of m (outs m) c main_v8 (by decide)).trans <| (V3_of m (outs m) c main_v8 (by decide)).trans <| V2_of m (outs m) c main_v8 (by decide)
theorem R3_v4 (c : Dev nD) : R3 m c main_v4 = V1 m c main_v4 :=
  (congrFun (V20_eq m c) _).symm.trans <| (V20_of m (outs m) c main_v4 (by decide)).trans <| (V19_of m (outs m) c main_v4 (by decide)).trans <| (V18_of m (outs m) c main_v4 (by decide)).trans <| (V17_of m (outs m) c main_v4 (by decide)).trans <| (V16_of m (outs m) c main_v4 (by decide)).trans <| (V15_of m (outs m) c main_v4 (by decide)).trans <| (V14_of m (outs m) c main_v4 (by decide)).trans <| (V13_of m (outs m) c main_v4 (by decide)).trans <| (V12_of m (outs m) c main_v4 (by decide)).trans <| (V11_of m (outs m) c main_v4 (by decide)).trans <| (V10_of m (outs m) c main_v4 (by decide)).trans <| (V9_of m (outs m) c main_v4 (by decide)).trans <| (V8_of m (outs m) c main_v4 (by decide)).trans <| (V7_of m (outs m) c main_v4 (by decide)).trans <| (V6_of m (outs m) c main_v4 (by decide)).trans <| (V5_of m (outs m) c main_v4 (by decide)).trans <| (V4_of m (outs m) c main_v4 (by decide)).trans <| (V3_of m (outs m) c main_v4 (by decide)).trans <| V2_of m (outs m) c main_v4 (by decide)
theorem R4_v8 (c : Dev nD) : R4 m c main_v8 = V1 m c main_v8 :=
  (congrFun (V24_eq m c) _).symm.trans <| (V24_of m (outs m) c main_v8 (by decide)).trans <| (V23_of m (outs m) c main_v8 (by decide)).trans <| (V22_of m (outs m) c main_v8 (by decide)).trans <| (V21_of m (outs m) c main_v8 (by decide)).trans <| (V20_of m (outs m) c main_v8 (by decide)).trans <| (V19_of m (outs m) c main_v8 (by decide)).trans <| (V18_of m (outs m) c main_v8 (by decide)).trans <| (V17_of m (outs m) c main_v8 (by decide)).trans <| (V16_of m (outs m) c main_v8 (by decide)).trans <| (V15_of m (outs m) c main_v8 (by decide)).trans <| (V14_of m (outs m) c main_v8 (by decide)).trans <| (V13_of m (outs m) c main_v8 (by decide)).trans <| (V12_of m (outs m) c main_v8 (by decide)).trans <| (V11_of m (outs m) c main_v8 (by decide)).trans <| (V10_of m (outs m) c main_v8 (by decide)).trans <| (V9_of m (outs m) c main_v8 (by decide)).trans <| (V8_of m (outs m) c main_v8 (by decide)).trans <| (V7_of m (outs m) c main_v8 (by decide)).trans <| (V6_of m (outs m) c main_v8 (by decide)).trans <| (V5_of m (outs m) c main_v8 (by decide)).trans <| (V4_of m (outs m) c main_v8 (by decide)).trans <| (V3_of m (outs m) c main_v8 (by decide)).trans <| V2_of m (outs m) c main_v8 (by decide)
theorem R4_v4 (c : Dev nD) : R4 m c main_v4 = V1 m c main_v4 :=
  (congrFun (V24_eq m c) _).symm.trans <| (V24_of m (outs m) c main_v4 (by decide)).trans <| (V23_of m (outs m) c main_v4 (by decide)).trans <| (V22_of m (outs m) c main_v4 (by decide)).trans <| (V21_of m (outs m) c main_v4 (by decide)).trans <| (V20_of m (outs m) c main_v4 (by decide)).trans <| (V19_of m (outs m) c main_v4 (by decide)).trans <| (V18_of m (outs m) c main_v4 (by decide)).trans <| (V17_of m (outs m) c main_v4 (by decide)).trans <| (V16_of m (outs m) c main_v4 (by decide)).trans <| (V15_of m (outs m) c main_v4 (by decide)).trans <| (V14_of m (outs m) c main_v4 (by decide)).trans <| (V13_of m (outs m) c main_v4 (by decide)).trans <| (V12_of m (outs m) c main_v4 (by decide)).trans <| (V11_of m (outs m) c main_v4 (by decide)).trans <| (V10_of m (outs m) c main_v4 (by decide)).trans <| (V9_of m (outs m) c main_v4 (by decide)).trans <| (V8_of m (outs m) c main_v4 (by decide)).trans <| (V7_of m (outs m) c main_v4 (by decide)).trans <| (V6_of m (outs m) c main_v4 (by decide)).trans <| (V5_of m (outs m) c main_v4 (by decide)).trans <| (V4_of m (outs m) c main_v4 (by decide)).trans <| (V3_of m (outs m) c main_v4 (by decide)).trans <| V2_of m (outs m) c main_v4 (by decide)

theorem hT0 (d : Dev nD) : ∀ k : Fin pre0.K, (adm0 (F := F)).1 k = V1 m d (Proc.devRef .tc (pre0.ref k)) :=
  fun | ⟨0, _⟩ => (tab0 _ d).symm
theorem hT2 (d : Dev nD) : ∀ k : Fin pre2.K, (adm2 (F := F)).1 k = W17 m d (Proc.devRef .tc (pre2.ref k)) :=
  fun | ⟨0, _⟩ => (tab2 _).symm
theorem hT3 (d : Dev nD) : ∀ k : Fin pre3.K, (adm3 (F := F)).1 k = W19 m d (Proc.devRef .tc (pre3.ref k)) :=
  fun | ⟨0, _⟩ => (tab3 _).symm
theorem hT4 (d : Dev nD) : ∀ k : Fin pre4.K, (adm4 (F := F) d).1 k = W23 m d (Proc.devRef .tc (pre4.ref k)) :=
  fun | ⟨0, _⟩ => (tab4 (R3 m d) ⟨d.val % 4, Nat.mod_lt _ (by decide)⟩ ⟨d.val / 4 % 4, Nat.mod_lt _ (by decide)⟩
    ((R3_v8 m d).trans (v8_eq m d)) ((R3_v4 m d).trans (v4_eq m d))).symm
theorem hT5 (d : Dev nD) : ∀ k : Fin pre5.K, (adm5 (F := F) d).1 k = W27 m d (Proc.devRef .tc (pre5.ref k)) :=
  fun | ⟨0, _⟩ => (tab5 (R4 m d) ⟨d.val % 4, Nat.mod_lt _ (by decide)⟩ ⟨d.val / 4 % 4, Nat.mod_lt _ (by decide)⟩
    ((R4_v8 m d).trans (v8_eq m d)) ((R4_v4 m d).trans (v4_eq m d))).symm
theorem hT6 (d : Dev nD) : ∀ k : Fin pre6.K, (adm6 (F := F)).1 k = W29 m d (Proc.devRef .tc (pre6.ref k)) :=
  fun | ⟨0, _⟩ => (tab6 _).symm

end Cert.KernelIdeal.Gen

end
-- ==== Proof.Ideal.Base.lean ====
module

public import proofs.«01_k».proof.Proof.Ideal.Talk
public import proofs.«01_k».proof.Proof.Ideal.Tabs
public import Idealize.ShloMosaic.Lib.Pipeline.RegionArraysTS
public import Idealize.ShloMosaic.Lib.Pipeline.RegionArraysS
public import Idealize.ShloMosaic.Lib.Pipeline.RegionTalk

/-!
# The proof data of the ten calls together

A call's table may differ from device to device, so the calls' records are made once for every device's tables and then read at the device itself.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat HostSeg RegionSeg afterRegion afterRegion_arr afterRegion_off)

namespace Cert.KernelIdeal.Gen

variable {F : FTy → Type} [FloatOps F]

local notation "𝕄" => MT nD τ sig Unit (Elt F) ℕ UU ℕ

variable (m : (ℓ : Loc nD τ sig) → Buf (Elt F) ℓ)

/-! ## The proof data -/

/-- The calls' proof data with device `d`'s tables. -/
def pdU (d : Dev nD) : (p : Fin 10) → (c : Dev nD) → Dat τ (Elt F) Unit ℕ UU ℕ (Pipeline.pin (pcfgs (F := F)) (adm d) p) c
  | 0 => call0 m d
  | 1 => dat1 m
  | 2 => call2 m d
  | 3 => call3 m d
  | 4 => call4 m d
  | 5 => call5 m d
  | 6 => call6 m d
  | 7 => call7 m d
  | 8 => dat8 m
  | 9 => dat9 m
  | ⟨_ + 10, h⟩ => absurd h (Nat.not_lt.2 (Nat.le_add_left _ _))

/-- Each device's own. -/
def pdats (p : Fin 10) (c : Dev nD) : Dat τ (Elt F) Unit ℕ UU ℕ (Pipeline.pinD (pcfgs (F := F)) adm c p) c := pdU m c p c

/-- A call's record, read at each device with that device's tables. -/
def perCore {p : Fin 10} {K : Type} [Fintype K] (osem : K → SemLoc sig) (ho : Pipeline.OwnSemFacts (pcfgs (F := F) p).spec osem)
    (R : (d : Dev nD) → RegionSeg (pcfgs (F := F)) (adm d) (pdU m d) () defs₀ 𝒱₀ L lv p)
    (h1 : ∀ c, iprop((R c).pre c ∗ Pipeline.ownSems0 osem c ∗ levAts L lv)
      ⊢ |={Set.univ}=> iprop((pdU m c p c).arrays ((pdU m c p c).arrAt · 0) ∗ Pipeline.prefHeld (pcfgs (F := F) p).pre c (fun _ => fullShare) (adm c p).1
        ∗ (pdU m c p c).owesAt () 0 ∗ (R c).X c ∗ (R c).Z c))
    (h2 : ∀ c, (pdU m c p c).Φ (Fin.last (Pipeline.pin (pcfgs (F := F)) (adm c) p).N)
      ⊢ iprop((R c).Y c ∗ Pipeline.ownSems0 osem c ∗ Pipeline.scopedRest (pcfgs (F := F) p).spec c)) :
    Pipeline.PerCore.RegionSeg (pcfgs (F := F)) adm (pdats m) () defs₀ 𝒱₀ L lv p where
  win := (R 0).win
  block_pos := (R 0).block_pos
  stage_whole := (R 0).stage_whole
  K := K
  osem := osem
  ho := ho
  hbody c := (R c).hbody c
  hwaits c := (R c).hwaits c
  pre c := (R c).pre c
  post c := (R c).post c
  X c := (R c).X c
  Y c := (R c).Y c
  Z c := (R c).Z c
  hentry := h1
  hin c := (R c).hin c
  hout := h2
  hexit c := (R c).hexit c

/-- Staging cells do not depend on the tables. -/
theorem cells_inj : Function.Injective (Pipeline.PerCore.cellOf (nD := nD) (τ := τ) (Pipeline.pinD (pcfgs (F := F)) adm)) :=
  cellOf_inj (adm 0)

/-! ## A call with one output -/

/-- Such a call leaves its output, and every other buffer as it was. -/
theorem after_call {cfg : Pipeline.Cfg sig Λ₀} {c : Dev nD} (dat : Dat τ (Elt F) Unit ℕ UU ℕ cfg c) (V : Valuation τ sig (Elt F))
    (hinj : Function.Injective (Pipeline.arrRef cfg.spec)) (hA : ∀ w, dat.A w = V (Proc.devRef .tc (Pipeline.arrRef cfg.spec w)))
    (w : Fin cfg.W) (hw : ∀ w', w' ≠ w → (cfg.win w').isOut = false) :
    afterRegion dat V = Function.update V (Proc.devRef .tc (Pipeline.arrRef cfg.spec w)) (dat.arrAt w cfg.N) := by
  funext b
  by_cases hb : b = Proc.devRef .tc (Pipeline.arrRef cfg.spec w)
  · subst hb
    rw [afterRegion_arr dat V hinj w, Function.update_self]
  · rw [Function.update_of_ne hb]
    by_cases h : ∃ w', b = Proc.devRef .tc (Pipeline.arrRef cfg.spec w')
    · obtain ⟨w', rfl⟩ := h
      have hne : w' ≠ w := fun e => hb (by rw [e])
      rw [afterRegion_arr dat V hinj w', dat.arrAt_in w' (hw w' hne), hA]
    · unfold afterRegion
      rw [dif_neg h]

/-! ## The states between the items -/

/-- What the launch keeps for a ring. -/
def kept (b : Bool) (c : Dev nD) : sProp 𝕄 := iprop(∃ κ, records (blocks m) κ ∗ carried b c)
/-- What it keeps for the exchange. -/
def keptX (c : Dev nD) : sProp 𝕄 := iprop(∃ κ, xrecords (xblocks m) κ ∗ xcarried c)

/-- What rides beside the first product. -/
def side0 (c : Dev nD) : sProp 𝕄 := iprop((∃ r, prngReg c r) ∗ keptX m c ∗ kept m false c ∗ kept m true c)
/-- What rides beside the calls between the exchange and the rings. -/
def side1 (c : Dev nD) : sProp 𝕄 := iprop((∃ r, prngReg c r) ∗ semVal (xbarCell c) 0 ∗ kept m false c ∗ kept m true c)

/-- What rides beside the buffers, by the number of calls done. -/
def E : Fin 11 → Dev nD → sProp 𝕄
  | 0, c | 1, c => iprop(side0 m c ∗ owing c (O₀ c))
  | 9, c => iprop((∃ r, prngReg c r) ∗ semVal (xbarCell c) 0 ∗ semVal (barCell false c) 0 ∗ kept m true c ∗ owing c (dueB c))
  | 10, c => iprop(semVal (xbarCell c) 0 ∗ semVal (barCell false c) 0 ∗ semVal (barCell true c) 0 ∗ owing c 0)
  | _, c => iprop(side1 m c ∗ owing c (dueR c))

theorem above_O₀ (c : Dev nD) : Above (O₀ c) 0 := by
  have h := above_exchDue (D := dueR c) (c := c) ((above_dueR c).mono (by decide))
  rwa [exchDue_eq] at h
theorem above_dueR' (c : Dev nD) : Above (dueR c) 0 := (above_dueR c).mono (Nat.zero_le _)

end Cert.KernelIdeal.Gen

end
-- ==== Proof.Ideal.Segs.lean ====
module

public import proofs.«01_k».proof.Proof.Ideal.Base

/-!
# The communicating calls as segments

Each is entered with what the launch kept for it, and left with its barrier's counter back at zero.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat HostSeg RegionSeg)

namespace Cert.KernelIdeal.Gen

variable {F : FTy → Type} [FloatOps F]

local notation "𝕄" => MT nD τ sig Unit (Elt F) ℕ UU ℕ

variable (m : (ℓ : Loc nD τ sig) → Buf (Elt F) ℓ)

/-! ## The counters of each call -/

/-- The exchange's own semaphores. -/
abbrev osem1 : Fin 18 → SemLoc sig := fun k => .dma ⟨18 + k.val, by have := k.isLt; simp [sig]; omega⟩
/-- The first ring's. -/
abbrev osem8 : Fin 6 → SemLoc sig := fun k => .dma ⟨78 + k.val, by have := k.isLt; simp [sig]; omega⟩
/-- The second's. -/
abbrev osem9 : Fin 10 → SemLoc sig := fun k => .dma ⟨86 + k.val, by have := k.isLt; simp [sig]; omega⟩

/-- The six counters of a ring at zero. -/
def ringZeros (b : Bool) (c : Dev nD) : sProp 𝕄 :=
  iprop((tri fun h => semVal (sendCell b h c) 0) ∗ (tri fun h => semVal (recvCell b h c) 0))

theorem ownSems8_eq (c : Dev nD) : (Pipeline.ownSems0 osem8 c : sProp 𝕄) ⊣⊢ ringZeros false c := by
  rw [show (Pipeline.ownSems0 osem8 c : sProp 𝕄) = iprop(semVal (sendCell false 0 c) 0 ∗ semVal (sendCell false 1 c) 0 ∗ semVal (sendCell false 2 c) 0
      ∗ semVal (recvCell false 0 c) 0 ∗ semVal (recvCell false 1 c) 0 ∗ semVal (recvCell false 2 c) 0) from
    bigSep_univ_eq_bigSepL [(0 : Fin 6), 1, 2, 3, 4, 5] (by decide) (by decide) _]
  unfold ringZeros
  constructor
  · iintro ⟨H0, H1, H2, H3, H4, H5⟩
    isplitl [H0 H1 H2]
    · isplitl [H0]; · iexact H0
      isplitl [H1] <;> iassumption
    isplitl [H3]; · iexact H3
    isplitl [H4] <;> iassumption
  · iintro ⟨⟨H0, H1, H2⟩, H3, H4, H5⟩
    isplitl [H0]; · iexact H0
    isplitl [H1]; · iexact H1
    isplitl [H2]; · iexact H2
    isplitl [H3]; · iexact H3
    isplitl [H4] <;> iassumption

theorem ownSems9_eq (c : Dev nD) : (Pipeline.ownSems0 osem9 c : sProp 𝕄) ⊣⊢ iprop(ringZeros true c ∗ woZeros c) := by
  rw [show (Pipeline.ownSems0 osem9 c : sProp 𝕄) = iprop(semVal (sendCell true 0 c) 0 ∗ semVal (sendCell true 1 c) 0 ∗ semVal (sendCell true 2 c) 0
      ∗ semVal (recvCell true 0 c) 0 ∗ semVal (recvCell true 1 c) 0 ∗ semVal (recvCell true 2 c) 0 ∗ woZeros c) from
    bigSep_univ_eq_bigSepL [(0 : Fin 10), 1, 2, 3, 4, 5, 6, 7, 8, 9] (by decide) (by decide) _]
  unfold ringZeros
  constructor
  · iintro ⟨H0, H1, H2, H3, H4, H5, Hw⟩
    isplitr [Hw]
    · isplitl [H0 H1 H2]
      · isplitl [H0]; · iexact H0
        isplitl [H1] <;> iassumption
      isplitl [H3]; · iexact H3
      isplitl [H4] <;> iassumption
    iexact Hw
  · iintro ⟨⟨⟨H0, H1, H2⟩, H3, H4, H5⟩, Hw⟩
    isplitl [H0]; · iexact H0
    isplitl [H1]; · iexact H1
    isplitl [H2]; · iexact H2
    isplitl [H3]; · iexact H3
    isplitl [H4]; · iexact H4
    isplitl [H5] <;> iassumption

/-! ## Opening a ring's cells -/

section OpenR
variable (X : Blocks F) (κ : GSem nD τ sig → ℕ)

theorem open_cell (g : GSem nD τ sig) (hg : g ∈ (barCells ∪ scCells : Finset (GSem nD τ sig))) :
    iprop(records X κ ∗ openTok ER g ∗ semVal g 0) ⊢ (|={Set.univ}=> iprop(atPos ER g 0 ∅ 0 ∗ reached ER g 0) : sProp 𝕄) := by
  iintro ⟨#HR, Ht, Hv⟩
  iapply (Rounds.cell_open ER (ringRd X) (g := g) (Set.mem_univ (κ g))) $$ [Ht Hv]
  isplitr; · iapply (inv_at X κ hg) $$ HR
  isplitl [Ht] <;> iassumption

theorem open_hop (b : Bool) (h : Fin 3) (c : Dev nD) :
    iprop(records X κ ∗ (openTok ER (sendCell b h c) ∗ semVal (sendCell b h c) 0) ∗ (openTok ER (recvCell b h c) ∗ semVal (recvCell b h c) 0)
        ∗ dutyTok ER (sendCell b h c) 0 false ∗ dutyTok ER (recvCell b h (nxt b c)) 0 false ∗ cred (tallyAt (recvCell b h c) () (N b)))
      ⊢ (|={Set.univ}=> iprop(reached ER (recvCell b h c) 0 ∗ hopKit b c h) : sProp 𝕄) := by
  unfold hopKit
  iintro ⟨#HR, ⟨Hs, Hs0⟩, ⟨Hr, Hr0⟩, Hts, Htr, Hc⟩
  imod (open_cell X κ (sendCell b h c) (send_mem b h c)) $$ [Hs Hs0] with ⟨Has, Hrs⟩
  · isplitr; · iexact HR
    isplitl [Hs] <;> iassumption
  imod (open_cell X κ (recvCell b h c) (recv_mem b h c)) $$ [Hr Hr0] with ⟨Har, #Hrr⟩
  · isplitr; · iexact HR
    isplitl [Hr] <;> iassumption
  imodintro
  isplitr; · iexact Hrr
  isplitl [Has]; · iexact Has
  isplitl [Hrs]; · iexact Hrs
  isplitl [Har]; · iexact Har
  isplitl [Hts]; · iexact Hts
  isplitl [Htr] <;> iassumption

theorem open_ring (b : Bool) (c : Dev nD) :
    iprop(records X κ ∗ carried b c ∗ ringZeros b c) ⊢ (|={Set.univ}=> opened b c : sProp 𝕄) := by
  unfold carried ringZeros opened
  iintro ⟨#HR, ⟨Ha, ⟨Hs0, Hs1, Hs2⟩, ⟨Hr0, Hr1, Hr2⟩, HtP, HtN, ⟨Hd0, Hd1, Hd2⟩, ⟨He0, He1, He2⟩, Hcb, ⟨Hc0, Hc1, Hc2⟩⟩, ⟨Hu0, Hu1, Hu2⟩, ⟨Hv0, Hv1, Hv2⟩⟩
  imod (open_hop X κ b 0 c) $$ [Hs0 Hu0 Hr0 Hv0 Hd0 He0 Hc0] with ⟨R0, K0⟩
  · isplitr; · iexact HR
    isplitl [Hs0 Hu0]; · isplitl [Hs0] <;> iassumption
    isplitl [Hr0 Hv0]; · isplitl [Hr0] <;> iassumption
    isplitl [Hd0]; · iexact Hd0
    isplitl [He0] <;> iassumption
  imod (open_hop X κ b 1 c) $$ [Hs1 Hu1 Hr1 Hv1 Hd1 He1 Hc1] with ⟨R1, K1⟩
  · isplitr; · iexact HR
    isplitl [Hs1 Hu1]; · isplitl [Hs1] <;> iassumption
    isplitl [Hr1 Hv1]; · isplitl [Hr1] <;> iassumption
    isplitl [Hd1]; · iexact Hd1
    isplitl [He1] <;> iassumption
  imod (open_hop X κ b 2 c) $$ [Hs2 Hu2 Hr2 Hv2 Hd2 He2 Hc2] with ⟨R2, K2⟩
  · isplitr; · iexact HR
    isplitl [Hs2 Hu2]; · isplitl [Hs2] <;> iassumption
    isplitl [Hr2 Hv2]; · isplitl [Hr2] <;> iassumption
    isplitl [Hd2]; · iexact Hd2
    isplitl [He2] <;> iassumption
  imodintro
  isplitl [Ha]; · iexact Ha
  isplitl [R0 R1 R2]
  · isplitl [R0]; · iexact R0
    isplitl [R1] <;> iassumption
  isplitl [HtP]; · iexact HtP
  isplitl [HtN]; · iexact HtN
  isplitl [Hcb]; · iexact Hcb
  isplitl [K0]; · iexact K0
  isplitl [K1] <;> iassumption

end OpenR

/-- The eighteen counters of the exchange at zero. -/
def xZeros (c : Dev nD) : sProp 𝕄 := iprop((nine fun d t => semVal (xsendCell d t c) 0) ∗ nine fun d t => semVal (xrecvCell d t c) 0)

theorem ownSems1_eq (c : Dev nD) : (Pipeline.ownSems0 osem1 c : sProp 𝕄) ⊣⊢ xZeros c := by
  rw [show (Pipeline.ownSems0 osem1 c : sProp 𝕄) = iprop(semVal (xsendCell 0 0 c) 0
      ∗ semVal (xsendCell 0 1 c) 0
      ∗ semVal (xsendCell 0 2 c) 0
      ∗ semVal (xsendCell 1 0 c) 0
      ∗ semVal (xsendCell 1 1 c) 0
      ∗ semVal (xsendCell 1 2 c) 0
      ∗ semVal (xsendCell 2 0 c) 0
      ∗ semVal (xsendCell 2 1 c) 0
      ∗ semVal (xsendCell 2 2 c) 0
      ∗ semVal (xrecvCell 0 0 c) 0
      ∗ semVal (xrecvCell 0 1 c) 0
      ∗ semVal (xrecvCell 0 2 c) 0
      ∗ semVal (xrecvCell 1 0 c) 0
      ∗ semVal (xrecvCell 1 1 c) 0
      ∗ semVal (xrecvCell 1 2 c) 0
      ∗ semVal (xrecvCell 2 0 c) 0
      ∗ semVal (xrecvCell 2 1 c) 0
      ∗ semVal (xrecvCell 2 2 c) 0) from
    bigSep_univ_eq_bigSepL [(0 : Fin 18), 1, 2, 3, 4, 5, 6, 7, 8, 9, 10, 11, 12, 13, 14, 15, 16, 17] (by decide) (by decide) _]
  unfold xZeros
  dsimp only [nine, tri]
  constructor
  · iintro ⟨A0, A1, A2, A3, A4, A5, A6, A7, A8, B0, B1, B2, B3, B4, B5, B6, B7, B8⟩
    isplitl [A0 A1 A2 A3 A4 A5 A6 A7 A8]
    · isplitl [A0 A1 A2]
      · isplitl [A0]; · iexact A0
        isplitl [A1] <;> iassumption
      isplitl [A3 A4 A5]
      · isplitl [A3]; · iexact A3
        isplitl [A4] <;> iassumption
      isplitl [A6]; · iexact A6
      isplitl [A7] <;> iassumption
    isplitl [B0 B1 B2]
    · isplitl [B0]; · iexact B0
      isplitl [B1] <;> iassumption
    isplitl [B3 B4 B5]
    · isplitl [B3]; · iexact B3
      isplitl [B4] <;> iassumption
    isplitl [B6]; · iexact B6
    isplitl [B7] <;> iassumption
  · iintro ⟨⟨⟨A0, A1, A2⟩, ⟨A3, A4, A5⟩, ⟨A6, A7, A8⟩⟩, ⟨⟨B0, B1, B2⟩, ⟨B3, B4, B5⟩, ⟨B6, B7, B8⟩⟩⟩
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7] <;> iassumption

/-! ## Opening the exchange's cells -/

section OpenX
variable (X : XBlocks F) (κ : GSem nD τ sig → ℕ)

theorem open_xcell (g : GSem nD τ sig) (hg : g ∈ (xbarCells ∪ xscCells : Finset (GSem nD τ sig))) :
    iprop(xrecords X κ ∗ openTok EX g ∗ semVal g 0) ⊢ (|={Set.univ}=> iprop(atPos EX g 0 ∅ 0 ∗ reached EX g 0) : sProp 𝕄) := by
  iintro ⟨#HR, Ht, Hv⟩
  iapply (Rounds.cell_open EX (xRd X) (g := g) (Set.mem_univ (κ g))) $$ [Ht Hv]
  isplitr; · iapply (xinv_at X κ hg) $$ HR
  isplitl [Ht] <;> iassumption

theorem open_copy (d t : Fin 3) (c : Dev nD) :
    iprop(xrecords X κ ∗ (openTok EX (xsendCell d t c) ∗ semVal (xsendCell d t c) 0) ∗ (openTok EX (xrecvCell d t c) ∗ semVal (xrecvCell d t c) 0)
        ∗ dutyTok EX (xsendCell d t c) 0 0 ∗ dutyTok EX (xrecvCell d t (pz d c)) 0 0 ∗ cred (tallyAt (xrecvCell d t c) () (NX t)))
      ⊢ (|={Set.univ}=> iprop(reached EX (xrecvCell d t c) 0 ∗ copyKit c d t) : sProp 𝕄) := by
  unfold copyKit
  iintro ⟨#HR, ⟨Hs, Hs0⟩, ⟨Hr, Hr0⟩, Hts, Htr, Hc⟩
  imod (open_xcell X κ (xsendCell d t c) (xsend_mem d t c)) $$ [Hs Hs0] with ⟨Has, Hrs⟩
  · isplitr; · iexact HR
    isplitl [Hs] <;> iassumption
  imod (open_xcell X κ (xrecvCell d t c) (xrecv_mem d t c)) $$ [Hr Hr0] with ⟨Har, #Hrr⟩
  · isplitr; · iexact HR
    isplitl [Hr] <;> iassumption
  imodintro
  isplitr; · iexact Hrr
  isplitl [Has]; · iexact Has
  isplitl [Hrs]; · iexact Hrs
  isplitl [Har]; · iexact Har
  isplitl [Hts]; · iexact Hts
  isplitl [Htr] <;> iassumption

theorem open_exchange (c : Dev nD) :
    iprop(xrecords X κ ∗ xcarried c ∗ xZeros c) ⊢ (|={Set.univ}=> xopened c : sProp 𝕄) := by
  unfold xcarried xZeros xopened
  dsimp only [nine, tri]
  iintro ⟨#HR, ⟨Ha, ⟨⟨S0, S1, S2⟩, ⟨S3, S4, S5⟩, ⟨S6, S7, S8⟩⟩, ⟨⟨T0, T1, T2⟩, ⟨T3, T4, T5⟩, ⟨T6, T7, T8⟩⟩, ⟨P0, P1, P2⟩, ⟨⟨D0, D1, D2⟩, ⟨D3, D4, D5⟩, ⟨D6, D7, D8⟩⟩, ⟨⟨G0, G1, G2⟩, ⟨G3, G4, G5⟩, ⟨G6, G7, G8⟩⟩, Hcb, ⟨⟨C0, C1, C2⟩, ⟨C3, C4, C5⟩, ⟨C6, C7, C8⟩⟩⟩, ⟨⟨U0, U1, U2⟩, ⟨U3, U4, U5⟩, ⟨U6, U7, U8⟩⟩, ⟨⟨V0, V1, V2⟩, ⟨V3, V4, V5⟩, ⟨V6, V7, V8⟩⟩⟩
  imod (open_copy X κ 0 0 c) $$ [S0 U0 T0 V0 D0 G0 C0] with ⟨R0, K0⟩
  · isplitr; · iexact HR
    isplitl [S0 U0]; · isplitl [S0] <;> iassumption
    isplitl [T0 V0]; · isplitl [T0] <;> iassumption
    isplitl [D0]; · iexact D0
    isplitl [G0] <;> iassumption
  imod (open_copy X κ 0 1 c) $$ [S1 U1 T1 V1 D1 G1 C1] with ⟨R1, K1⟩
  · isplitr; · iexact HR
    isplitl [S1 U1]; · isplitl [S1] <;> iassumption
    isplitl [T1 V1]; · isplitl [T1] <;> iassumption
    isplitl [D1]; · iexact D1
    isplitl [G1] <;> iassumption
  imod (open_copy X κ 0 2 c) $$ [S2 U2 T2 V2 D2 G2 C2] with ⟨R2, K2⟩
  · isplitr; · iexact HR
    isplitl [S2 U2]; · isplitl [S2] <;> iassumption
    isplitl [T2 V2]; · isplitl [T2] <;> iassumption
    isplitl [D2]; · iexact D2
    isplitl [G2] <;> iassumption
  imod (open_copy X κ 1 0 c) $$ [S3 U3 T3 V3 D3 G3 C3] with ⟨R3, K3⟩
  · isplitr; · iexact HR
    isplitl [S3 U3]; · isplitl [S3] <;> iassumption
    isplitl [T3 V3]; · isplitl [T3] <;> iassumption
    isplitl [D3]; · iexact D3
    isplitl [G3] <;> iassumption
  imod (open_copy X κ 1 1 c) $$ [S4 U4 T4 V4 D4 G4 C4] with ⟨R4, K4⟩
  · isplitr; · iexact HR
    isplitl [S4 U4]; · isplitl [S4] <;> iassumption
    isplitl [T4 V4]; · isplitl [T4] <;> iassumption
    isplitl [D4]; · iexact D4
    isplitl [G4] <;> iassumption
  imod (open_copy X κ 1 2 c) $$ [S5 U5 T5 V5 D5 G5 C5] with ⟨R5, K5⟩
  · isplitr; · iexact HR
    isplitl [S5 U5]; · isplitl [S5] <;> iassumption
    isplitl [T5 V5]; · isplitl [T5] <;> iassumption
    isplitl [D5]; · iexact D5
    isplitl [G5] <;> iassumption
  imod (open_copy X κ 2 0 c) $$ [S6 U6 T6 V6 D6 G6 C6] with ⟨R6, K6⟩
  · isplitr; · iexact HR
    isplitl [S6 U6]; · isplitl [S6] <;> iassumption
    isplitl [T6 V6]; · isplitl [T6] <;> iassumption
    isplitl [D6]; · iexact D6
    isplitl [G6] <;> iassumption
  imod (open_copy X κ 2 1 c) $$ [S7 U7 T7 V7 D7 G7 C7] with ⟨R7, K7⟩
  · isplitr; · iexact HR
    isplitl [S7 U7]; · isplitl [S7] <;> iassumption
    isplitl [T7 V7]; · isplitl [T7] <;> iassumption
    isplitl [D7]; · iexact D7
    isplitl [G7] <;> iassumption
  imod (open_copy X κ 2 2 c) $$ [S8 U8 T8 V8 D8 G8 C8] with ⟨R8, K8⟩
  · isplitr; · iexact HR
    isplitl [S8 U8]; · isplitl [S8] <;> iassumption
    isplitl [T8 V8]; · isplitl [T8] <;> iassumption
    isplitl [D8]; · iexact D8
    isplitl [G8] <;> iassumption
  imodintro
  isplitl [Ha]; · iexact Ha
  isplitl [R0 R1 R2 R3 R4 R5 R6 R7 R8]
  · isplitl [R0 R1 R2]
    · isplitl [R0]; · iexact R0
      isplitl [R1] <;> iassumption
    isplitl [R3 R4 R5]
    · isplitl [R3]; · iexact R3
      isplitl [R4] <;> iassumption
    isplitl [R6]; · iexact R6
    isplitl [R7] <;> iassumption
  isplitl [P0 P1 P2]
  · isplitl [P0]; · iexact P0
    isplitl [P1] <;> iassumption
  isplitl [Hcb]; · iexact Hcb
  isplitl [K0 K1 K2]
  · isplitl [K0]; · iexact K0
    isplitl [K1] <;> iassumption
  isplitl [K3 K4 K5]
  · isplitl [K3]; · iexact K3
    isplitl [K4] <;> iassumption
  isplitl [K6]; · iexact K6
  isplitl [K7] <;> iassumption

end OpenX

/-! ## The buffers of each call -/

abbrev rest1 : Finset (DevRef τ sig) := Pipeline.ucRefs τ sig \ Pipeline.arrRefs (τ := τ) spec1
abbrev rest8 : Finset (DevRef τ sig) := Pipeline.ucRefs τ sig \ Pipeline.arrRefs (τ := τ) spec8
abbrev rest9 : Finset (DevRef τ sig) := Pipeline.ucRefs τ sig \ Pipeline.arrRefs (τ := τ) spec9

theorem arr_sub1 : Pipeline.arrRefs (τ := τ) spec1 ⊆ Pipeline.ucRefs τ sig := by decide
theorem arr_sub8 : Pipeline.arrRefs (τ := τ) spec8 ⊆ Pipeline.ucRefs τ sig := by decide
theorem arr_sub9 : Pipeline.arrRefs (τ := τ) spec9 ⊆ Pipeline.ucRefs τ sig := by decide
theorem wo_rest : ({Proc.devRef .tc main_arg7} : Finset (DevRef τ sig)) ⊆ rest9 := by decide
theorem out1_0 : Proc.devRef .tc main_v90_0 ∈ Pipeline.arrRefs (τ := τ) spec1 := by decide
theorem out1_1 : Proc.devRef .tc main_v90_1 ∈ Pipeline.arrRefs (τ := τ) spec1 := by decide
theorem out1_2 : Proc.devRef .tc main_v90_2 ∈ Pipeline.arrRefs (τ := τ) spec1 := by decide
theorem out8_0 : Proc.devRef .tc main_v117 ∈ Pipeline.arrRefs (τ := τ) spec8 := by decide
theorem out9_0 : Proc.devRef .tc main_v120 ∈ Pipeline.arrRefs (τ := τ) spec9 := by decide

theorem ownFacts1 : Pipeline.OwnSemFacts spec1 osem1 := by decide
theorem ownFacts8 : Pipeline.OwnSemFacts spec8 osem8 := by decide
theorem ownFacts9 : Pipeline.OwnSemFacts spec9 osem9 := by decide

theorem share1 (c : Dev nD) (w : Fin 12) : (dat1 m c).share w = fullShare := by unfold Dat.share; split <;> rfl
theorem lv_stage1 (c : Dev nD) : ∀ (w : Fin 12) (s : Fin (spec1 w).nbuf), lv ((c : Thread nD τ), .dma ((spec1 w).sem s)) () ≤ 0 := by
  have h : ∀ (w : Fin 12) (s : Fin (spec1 w).nbuf), roleLevel (role (.dma ((spec1 w).sem s))) ≤ 0 := by decide
  exact h
theorem share8 (c : Dev nD) (w : Fin 2) : (dat8 m c).share w = fullShare := by unfold Dat.share; split <;> rfl
theorem lv_stage8 (c : Dev nD) : ∀ (w : Fin 2) (s : Fin (spec8 w).nbuf), lv ((c : Thread nD τ), .dma ((spec8 w).sem s)) () ≤ 0 := by
  have h : ∀ (w : Fin 2) (s : Fin (spec8 w).nbuf), roleLevel (role (.dma ((spec8 w).sem s))) ≤ 0 := by decide
  exact h
theorem share9 (c : Dev nD) (w : Fin 2) : (dat9 m c).share w = fullShare := by unfold Dat.share; split <;> rfl
theorem lv_stage9 (c : Dev nD) : ∀ (w : Fin 2) (s : Fin (spec9 w).nbuf), lv ((c : Thread nD τ), .dma ((spec9 w).sem s)) () ≤ 0 := by
  have h : ∀ (w : Fin 2) (s : Fin (spec9 w).nbuf), roleLevel (role (.dma ((spec9 w).sem s))) ≤ 0 := by decide
  exact h

theorem above_owed1 (c : Dev nD) (t : Fin (cfg1.N + 1)) : Above ((dat1 m c).owed t) 0 := by
  obtain ⟨k, hk⟩ := t
  cases k with
  | zero => exact above_O₀ c
  | succ k => exact above_dueR' c
theorem above_owed8 (c : Dev nD) (t : Fin (cfg8.N + 1)) : Above ((dat8 m c).owed t) 0 := by
  obtain ⟨k, hk⟩ := t
  cases k with
  | zero => exact above_dueR' c
  | succ k => exact (above_dueB c).mono (Nat.zero_le _)
theorem above_owed9 (c : Dev nD) (t : Fin (cfg9.N + 1)) : Above ((dat9 m c).owed t) 0 := by
  obtain ⟨k, hk⟩ := t
  cases k with
  | zero => exact (above_dueB c).mono (Nat.zero_le _)
  | succ k => exact above_zero _

theorem last1 (c : Dev nD) : (dat1 m c).owed (Fin.last _) = dueR c := rfl
theorem last8 (c : Dev nD) : (dat8 m c).owed (Fin.last _) = dueB c := rfl
theorem last9 (c : Dev nD) : (dat9 m c).owed (Fin.last _) = 0 := rfl

theorem ne_of_rest {S T : Finset (DevRef τ sig)} {b r : DevRef τ sig} {H : Finset (DevRef τ sig)} (hb : b ∈ (S \ T) \ H) (hr : r ∈ T) : b ≠ r :=
  fun e => (Finset.mem_sdiff.1 (Finset.mem_sdiff.1 hb).1).2 (e ▸ hr)

theorem off1 (c : Dev nD) : ∀ b ∈ rest1 \ ∅, R1 m c b = W15 m c b := fun b hb => by
  unfold R1
  rw [Function.update_of_ne (ne_of_rest hb out1_2), Function.update_of_ne (ne_of_rest hb out1_1), Function.update_of_ne (ne_of_rest hb out1_0)]
theorem off8 (c : Dev nD) : ∀ b ∈ rest8 \ ∅, R8 m c b = R7 m c b := fun b hb => Function.update_of_ne (ne_of_rest hb out8_0) _ _
theorem off9 (c : Dev nD) : ∀ b ∈ rest9 \ {Proc.devRef .tc main_arg7}, R9 m c b = W33 m c b := fun b hb =>
  Function.update_of_ne (ne_of_rest hb out9_0) _ _

theorem final8 (c : Dev nD) : ∀ w : Fin 2, (dat8 m c).arrAt w cfg8.N = R8 m c (Proc.devRef .tc (Pipeline.arrRef spec8 w))
  | 0 => ((dat8 m c).arrAt_in (0 : Fin 2) rfl _).trans (Function.update_of_ne (show Proc.devRef .tc main_v116 ≠ Proc.devRef .tc main_v117 by decide) _ (R7 m c)).symm
  | 1 => (arr8 m c).trans (Function.update_self (Proc.devRef .tc main_v117) _ (R7 m c)).symm
theorem final9 (c : Dev nD) : ∀ w : Fin 2, (dat9 m c).arrAt w cfg9.N = R9 m c (Proc.devRef .tc (Pipeline.arrRef spec9 w))
  | 0 => ((dat9 m c).arrAt_in (0 : Fin 2) rfl _).trans (Function.update_of_ne (show Proc.devRef .tc main_v119 ≠ Proc.devRef .tc main_v120 by decide) _ (W33 m c)).symm
  | 1 => (arr9 m c).trans (Function.update_self (Proc.devRef .tc main_v120) _ (W33 m c)).symm
/-- The exchange's inputs stay. -/
theorem in_stays (c : Dev nD) (r : DevRef τ sig) (h0 : r ≠ Proc.devRef .tc main_v90_0) (h1 : r ≠ Proc.devRef .tc main_v90_1)
    (h2 : r ≠ Proc.devRef .tc main_v90_2) : W15 m c r = R1 m c r := by
  unfold R1
  rw [Function.update_of_ne h2, Function.update_of_ne h1, Function.update_of_ne h0]
theorem R1_0 (c : Dev nD) : R1 m c (Proc.devRef .tc main_v90_0) = xgathered (xblocks m) 0 0 c := by
  unfold R1
  rw [Function.update_of_ne (by decide), Function.update_of_ne (by decide), Function.update_self]
theorem R1_1 (c : Dev nD) : R1 m c (Proc.devRef .tc main_v90_1) = xgathered (xblocks m) 1 0 c := by
  unfold R1
  rw [Function.update_of_ne (by decide), Function.update_self]
theorem R1_2 (c : Dev nD) : R1 m c (Proc.devRef .tc main_v90_2) = xgathered (xblocks m) 2 0 c := by
  unfold R1
  rw [Function.update_self]
set_option maxHeartbeats 1600000 in
theorem final1 (c : Dev nD) : ∀ w : Fin 12, (dat1 m c).arrAt w cfg1.N = R1 m c (Proc.devRef .tc (Pipeline.arrRef spec1 w))
  | 0 => ((dat1 m c).arrAt_in (0 : Fin 12) rfl _).trans (in_stays m c (Proc.devRef .tc main_v89) (by decide) (by decide) (by decide))
  | 1 => ((dat1 m c).arrAt_in (1 : Fin 12) rfl _).trans (in_stays m c (Proc.devRef .tc main_v20) (by decide) (by decide) (by decide))
  | 2 => ((dat1 m c).arrAt_in (2 : Fin 12) rfl _).trans (in_stays m c (Proc.devRef .tc main_v28) (by decide) (by decide) (by decide))
  | 3 => ((dat1 m c).arrAt_in (3 : Fin 12) rfl _).trans (in_stays m c (Proc.devRef .tc main_v38) (by decide) (by decide) (by decide))
  | 4 => ((dat1 m c).arrAt_in (4 : Fin 12) rfl _).trans (in_stays m c (Proc.devRef .tc main_v48) (by decide) (by decide) (by decide))
  | 5 => ((dat1 m c).arrAt_in (5 : Fin 12) rfl _).trans (in_stays m c (Proc.devRef .tc main_v58) (by decide) (by decide) (by decide))
  | 6 => ((dat1 m c).arrAt_in (6 : Fin 12) rfl _).trans (in_stays m c (Proc.devRef .tc main_v68) (by decide) (by decide) (by decide))
  | 7 => ((dat1 m c).arrAt_in (7 : Fin 12) rfl _).trans (in_stays m c (Proc.devRef .tc main_v78) (by decide) (by decide) (by decide))
  | 8 => ((dat1 m c).arrAt_in (8 : Fin 12) rfl _).trans (in_stays m c (Proc.devRef .tc main_v88) (by decide) (by decide) (by decide))
  | 9 => (arr1_9 m c).trans (R1_0 m c).symm
  | 10 => (arr1_10 m c).trans (R1_1 m c).symm
  | 11 => (arr1_11 m c).trans (R1_2 m c).symm

/-! ## Entering and leaving -/

theorem held_wo (c : Dev nD) (W : Valuation τ sig (Elt F)) (h : W (Proc.devRef .tc main_arg7) = wo m c) :
    (StableHlo.held (c.tc : Thread nD τ) {Proc.devRef .tc main_arg7} W : sProp 𝕄) = woPts (wo m c) c fullShare := by
  unfold StableHlo.held
  rw [bigSep_singleton, h]

theorem held_none (c : Dev nD) (W : Valuation τ sig (Elt F)) : (StableHlo.held (c.tc : Thread nD τ) ∅ W : sProp 𝕄) = BI.emp := bigSep_empty

theorem open8 (c : Dev nD) : iprop(kept m false c ∗ Pipeline.ownSems0 osem8 c ∗ levAts L lv)
    ⊢ (|={Set.univ}=> iprop((∃ κ, records (blocks m) κ ∗ opened false c) ∗ levAts L lv) : sProp 𝕄) := by
  unfold kept
  iintro ⟨⟨%κ, #HR, Hc⟩, Hz, HL⟩
  ihave Hz := (ownSems8_eq (F := F) c).1 $$ Hz
  imod (open_ring (blocks m) κ false c) $$ [Hc Hz] with Ho
  · isplitr; · iexact HR
    isplitl [Hc] <;> iassumption
  imodintro
  isplitl [Ho]
  · iexists κ
    isplitr; · iexact HR
    iexact Ho
  iexact HL

theorem open9 (c : Dev nD) : iprop(kept m true c ∗ Pipeline.ownSems0 osem9 c ∗ levAts L lv)
    ⊢ (|={Set.univ}=> iprop((∃ κ, records (blocks m) κ ∗ opened true c) ∗ levAts L lv ∗ woZeros c) : sProp 𝕄) := by
  unfold kept
  iintro ⟨⟨%κ, #HR, Hc⟩, Hz, HL⟩
  ihave Hz := (ownSems9_eq (F := F) c).1 $$ Hz
  icases Hz with ⟨Hz, Hw⟩
  imod (open_ring (blocks m) κ true c) $$ [Hc Hz] with Ho
  · isplitr; · iexact HR
    isplitl [Hc] <;> iassumption
  imodintro
  isplitl [Ho]
  · iexists κ
    isplitr; · iexact HR
    iexact Ho
  isplitl [HL] <;> iassumption

theorem in8 (c : Dev nD) : iprop(Pipeline.scopedRest spec8 c ∗ (∃ r, prngReg c r) ∗ StableHlo.held (c.tc : Thread nD τ) ∅ (R7 m c)
      ∗ (∃ κ, records (blocks m) κ ∗ opened false c) ∗ levAts L lv) ⊢ Φ8in m c := by
  unfold Φ8in
  iintro ⟨Hs, Hp, -, Ho, HL⟩
  isplitl [Ho]; · iexact Ho
  isplitl [HL]; · iexact HL
  isplitl [Hs] <;> iassumption

theorem out8 (c : Dev nD) (W : Valuation τ sig (Elt F)) : Φ8out c
    ⊢ (iprop(Pipeline.scopedRest spec8 c ∗ (∃ r, prngReg c r) ∗ StableHlo.held (c.tc : Thread nD τ) ∅ W
      ∗ Pipeline.ownSems0 osem8 c ∗ semVal (barCell false c) 0) : sProp 𝕄) := by
  rw [held_none]
  unfold Φ8out counters
  iintro ⟨⟨Hb, Hz⟩, Hs, Hp⟩
  isplitl [Hs]; · iexact Hs
  isplitl [Hp]; · iexact Hp
  isplitr; · iempintro
  isplitl [Hz]; · iapply (ownSems8_eq (F := F) c).2; unfold ringZeros; iexact Hz
  iexact Hb

theorem in9 (c : Dev nD) : iprop(Pipeline.scopedRest spec9 c ∗ (∃ r, prngReg c r)
      ∗ StableHlo.held (c.tc : Thread nD τ) {Proc.devRef .tc main_arg7} (W33 m c)
      ∗ (∃ κ, records (blocks m) κ ∗ opened true c) ∗ levAts L lv ∗ woZeros c) ⊢ Φ9in m c := by
  rw [held_wo m c _ rfl]
  unfold Φ9in
  iintro ⟨Hs, Hp, Hw, Ho, HL, Hz⟩
  isplitl [Ho]; · iexact Ho
  isplitl [HL]; · iexact HL
  isplitl [Hz]; · iexact Hz
  isplitl [Hw]; · iexact Hw
  isplitl [Hs] <;> iassumption

theorem out9 (c : Dev nD) : Φ9out m c
    ⊢ (iprop(Pipeline.scopedRest spec9 c ∗ (∃ r, prngReg c r)
      ∗ StableHlo.held (c.tc : Thread nD τ) {Proc.devRef .tc main_arg7} (R9 m c)
      ∗ Pipeline.ownSems0 osem9 c ∗ semVal (barCell true c) 0) : sProp 𝕄) := by
  rw [held_wo m c _ (show R9 m c (Proc.devRef .tc main_arg7) = _ from Function.update_of_ne (by decide) _ _)]
  unfold Φ9out counters
  iintro ⟨⟨Hb, Hz⟩, Hw, Hp1, Hs, Hp⟩
  isplitl [Hs]; · iexact Hs
  isplitl [Hp]; · iexact Hp
  isplitl [Hp1]; · iexact Hp1
  isplitl [Hz Hw]
  · iapply (ownSems9_eq (F := F) c).2
    isplitl [Hz]; · unfold ringZeros; iexact Hz
    iexact Hw
  iexact Hb

theorem open1 (c : Dev nD) : iprop(keptX m c ∗ Pipeline.ownSems0 osem1 c ∗ levAts L lv)
    ⊢ (|={Set.univ}=> iprop((∃ κ, xrecords (xblocks m) κ ∗ xopened c) ∗ levAts L lv) : sProp 𝕄) := by
  unfold keptX
  iintro ⟨⟨%κ, #HR, Hc⟩, Hz, HL⟩
  ihave Hz := (ownSems1_eq (F := F) c).1 $$ Hz
  imod (open_exchange (xblocks m) κ c) $$ [Hc Hz] with Ho
  · isplitr; · iexact HR
    isplitl [Hc] <;> iassumption
  imodintro
  isplitl [Ho]
  · iexists κ
    isplitr; · iexact HR
    iexact Ho
  iexact HL

theorem in1 (c : Dev nD) : iprop(Pipeline.scopedRest spec1 c ∗ (∃ r, prngReg c r) ∗ StableHlo.held (c.tc : Thread nD τ) ∅ (W15 m c)
      ∗ (∃ κ, xrecords (xblocks m) κ ∗ xopened c) ∗ levAts L lv) ⊢ Φ1in m c := by
  unfold Φ1in
  iintro ⟨Hs, Hp, -, Ho, HL⟩
  isplitl [Ho]; · iexact Ho
  isplitl [HL]; · iexact HL
  isplitl [Hs] <;> iassumption

theorem out1 (c : Dev nD) (W : Valuation τ sig (Elt F)) : Φ1out c
    ⊢ (iprop(Pipeline.scopedRest spec1 c ∗ (∃ r, prngReg c r) ∗ StableHlo.held (c.tc : Thread nD τ) ∅ W
      ∗ Pipeline.ownSems0 osem1 c ∗ semVal (xbarCell c) 0) : sProp 𝕄) := by
  rw [held_none]
  unfold Φ1out xcounters
  iintro ⟨⟨Hb, Hz⟩, Hs, Hp⟩
  isplitl [Hs]; · iexact Hs
  isplitl [Hp]; · iexact Hp
  isplitr; · iempintro
  isplitl [Hz]; · iapply (ownSems1_eq (F := F) c).2; unfold xZeros; iexact Hz
  iexact Hb

/-! ## The segments -/

set_option backward.isDefEq.respectTransparency.types false in
def regU1 (d : Dev nD) : RegionSeg (pcfgs (F := F)) (adm d) (pdU m d) () defs₀ 𝒱₀ L lv 1 :=
  RegionSeg.ofTalk (pcfgs (F := F)) (adm d) (pdU m d) () defs₀ 𝒱₀ L lv 1 osem1 ownFacts1 ∅ rest1 (Finset.empty_subset _) launch1 rfl
    (fun c => (body1 m c).loose) dueR (fun c => exchDue 0 c) (fun _ => rfl) (last1 m) (fun _ => rfl) (share1 m)
    (W15 m) (R1 m) (off1 m)
    (keptX m) (fun c => semVal (xbarCell c) 0) (fun c => iprop((∃ κ, xrecords (xblocks m) κ ∗ xopened c) ∗ levAts L lv))
    (fun c => semVal (xbarCell c) 0) (open1 m) (in1 m) (fun c => out1 c _)
    (fun c => by iintro H; imodintro; iexact H) (fun _ => 0)
    ⟨fun c w s => by rw [L_tc]; exact Finset.mem_singleton_self _, fun c w s => lv_stage1 c w s, fun c t g i h => above_owed1 m c t g i h⟩
    (fun c => iprop(kept m false c ∗ kept m true c)) (fun _ _ => rfl) (fun c w => final1 m c w)

set_option backward.isDefEq.respectTransparency.types false in
/-- The exchange over `z`. -/
def reg1 : Pipeline.PerCore.RegionSeg (pcfgs (F := F)) adm (pdats m) () defs₀ 𝒱₀ L lv 1 :=
  perCore m osem1 ownFacts1 (regU1 m) (fun c => (regU1 m c).hentry c) (fun c => (regU1 m c).hout c)

set_option backward.isDefEq.respectTransparency.types false in
def regU8 (d : Dev nD) : RegionSeg (pcfgs (F := F)) (adm d) (pdU m d) () defs₀ 𝒱₀ L lv 8 :=
  RegionSeg.ofTalk (pcfgs (F := F)) (adm d) (pdU m d) () defs₀ 𝒱₀ L lv 8 osem8 ownFacts8 ∅ rest8 (Finset.empty_subset _) launch8 rfl
    (fun c => (body8 m c).loose) dueB (fun c => ringDue 0 false c) (fun _ => rfl) (last8 m) (fun _ => rfl) (share8 m)
    (R7 m) (R8 m) (off8 m)
    (kept m false) (fun c => semVal (barCell false c) 0) (fun c => iprop((∃ κ, records (blocks m) κ ∗ opened false c) ∗ levAts L lv))
    (fun c => semVal (barCell false c) 0) (open8 m) (in8 m) (fun c => out8 c _)
    (fun c => by iintro H; imodintro; iexact H) (fun _ => 0)
    ⟨fun c w s => by rw [L_tc]; exact Finset.mem_singleton_self _, fun c w s => lv_stage8 c w s, fun c t g i h => above_owed8 m c t g i h⟩
    (fun c => iprop(semVal (xbarCell c) 0 ∗ kept m true c)) (fun _ _ => rfl) (fun c w => final8 m c w)

set_option backward.isDefEq.respectTransparency.types false in
/-- The gather over `y`. -/
def reg8 : Pipeline.PerCore.RegionSeg (pcfgs (F := F)) adm (pdats m) () defs₀ 𝒱₀ L lv 8 :=
  perCore m osem8 ownFacts8 (regU8 m) (fun c => (regU8 m c).hentry c) (fun c => (regU8 m c).hout c)

set_option backward.isDefEq.respectTransparency.types false in
def regU9 (d : Dev nD) : RegionSeg (pcfgs (F := F)) (adm d) (pdU m d) () defs₀ 𝒱₀ L lv 9 :=
  RegionSeg.ofTalk (pcfgs (F := F)) (adm d) (pdU m d) () defs₀ 𝒱₀ L lv 9 osem9 ownFacts9 {Proc.devRef .tc main_arg7} rest9 wo_rest launch9 rfl
    (fun c => (body9 m c).loose) (fun _ => 0) dueB (fun _ => (zero_add _).symm) (last9 m) (fun _ => rfl) (share9 m)
    (W33 m) (R9 m) (off9 m)
    (kept m true) (fun c => semVal (barCell true c) 0) (fun c => iprop((∃ κ, records (blocks m) κ ∗ opened true c) ∗ levAts L lv ∗ woZeros c))
    (fun c => semVal (barCell true c) 0) (open9 m) (in9 m) (out9 m)
    (fun c => by iintro H; imodintro; iexact H) (fun _ => 0)
    ⟨fun c w s => by rw [L_tc]; exact Finset.mem_singleton_self _, fun c w s => lv_stage9 c w s, fun c t g i h => above_owed9 m c t g i h⟩
    (fun c => iprop(semVal (xbarCell c) 0 ∗ semVal (barCell false c) 0)) (fun _ _ => rfl) (fun c w => final9 m c w)

set_option backward.isDefEq.respectTransparency.types false in
/-- The gather over `z` with its products. -/
def reg9 : Pipeline.PerCore.RegionSeg (pcfgs (F := F)) adm (pdats m) () defs₀ 𝒱₀ L lv 9 :=
  perCore m osem9 ownFacts9 (regU9 m) (fun c => (regU9 m c).hentry c) (fun c => (regU9 m c).hout c)

theorem pre1 (c : Dev nD) : iprop(StableHlo.held (c : Thread nD τ) (Pipeline.ucRefs τ sig) (W15 m c) ∗ E m 1 c) ⊢ (reg1 m).pre c := by
  show iprop(StableHlo.held (c : Thread nD τ) (Pipeline.ucRefs τ sig) (W15 m c) ∗ side0 m c ∗ owing c (O₀ c)) ⊢ iprop(StableHlo.held (c.tc : Thread nD τ) (Pipeline.arrRefs (τ := τ) spec1) (W15 m c) ∗ (∃ r, prngReg c r)
    ∗ (StableHlo.held (c.tc : Thread nD τ) rest1 (W15 m c) ∗ kept m false c ∗ kept m true c) ∗ keptX m c ∗ ∃ Wd, owes (c : Thread nD τ) (dueR c + exchDue 0 c) Wd)
  rw [StableHlo.held_sub_split (c : Thread nD τ) arr_sub1 (W15 m c)]
  unfold side0 owing
  iintro ⟨⟨Ha, Hr⟩, ⟨Hp, HX, Hf, Ht⟩, HO⟩
  isplitl [Ha]; · iexact Ha
  isplitl [Hp]; · iexact Hp
  isplitl [Hr Hf Ht]
  · isplitl [Hr]; · iexact Hr
    isplitl [Hf] <;> iassumption
  isplitl [HX] <;> iassumption

theorem pre8 (c : Dev nD) : iprop(StableHlo.held (c : Thread nD τ) (Pipeline.ucRefs τ sig) (R7 m c) ∗ E m 8 c) ⊢ (reg8 m).pre c := by
  show iprop(StableHlo.held (c : Thread nD τ) (Pipeline.ucRefs τ sig) (R7 m c) ∗ side1 m c ∗ owing c (dueR c)) ⊢ iprop(StableHlo.held (c.tc : Thread nD τ) (Pipeline.arrRefs (τ := τ) spec8) (R7 m c) ∗ (∃ r, prngReg c r)
    ∗ (StableHlo.held (c.tc : Thread nD τ) rest8 (R7 m c) ∗ semVal (xbarCell c) 0 ∗ kept m true c) ∗ kept m false c ∗ ∃ Wd, owes (c : Thread nD τ) (dueB c + ringDue 0 false c) Wd)
  rw [StableHlo.held_sub_split (c : Thread nD τ) arr_sub8 (R7 m c)]
  unfold side1 owing
  iintro ⟨⟨Ha, Hr⟩, ⟨Hp, HX, Hf, Ht⟩, HO⟩
  isplitl [Ha]; · iexact Ha
  isplitl [Hp]; · iexact Hp
  isplitl [Hr HX Ht]
  · isplitl [Hr]; · iexact Hr
    isplitl [HX] <;> iassumption
  isplitl [Hf] <;> iassumption

theorem pre9 (c : Dev nD) : iprop(StableHlo.held (c : Thread nD τ) (Pipeline.ucRefs τ sig) (W33 m c) ∗ E m 9 c) ⊢ (reg9 m).pre c := by
  show iprop(StableHlo.held (c : Thread nD τ) (Pipeline.ucRefs τ sig) (W33 m c) ∗ (∃ r, prngReg c r) ∗ semVal (xbarCell c) 0 ∗ semVal (barCell false c) 0 ∗ kept m true c ∗ owing c (dueB c)) ⊢ iprop(StableHlo.held (c.tc : Thread nD τ) (Pipeline.arrRefs (τ := τ) spec9) (W33 m c) ∗ (∃ r, prngReg c r)
    ∗ (StableHlo.held (c.tc : Thread nD τ) rest9 (W33 m c) ∗ semVal (xbarCell c) 0 ∗ semVal (barCell false c) 0) ∗ kept m true c ∗ ∃ Wd, owes (c : Thread nD τ) (0 + dueB c) Wd)
  rw [StableHlo.held_sub_split (c : Thread nD τ) arr_sub9 (W33 m c), zero_add]
  unfold owing
  iintro ⟨⟨Ha, Hr⟩, Hp, HX, Hb, Ht, HO⟩
  isplitl [Ha]; · iexact Ha
  isplitl [Hp]; · iexact Hp
  isplitl [Hr HX Hb]
  · isplitl [Hr]; · iexact Hr
    isplitl [HX] <;> iassumption
  isplitl [Ht] <;> iassumption

theorem post1 (c : Dev nD) : (reg1 m).post c ⊢ iprop(StableHlo.held (c : Thread nD τ) (Pipeline.ucRefs τ sig) (R1 m c) ∗ E m 2 c) := by
  show iprop(StableHlo.held (c.tc : Thread nD τ) (Pipeline.arrRefs (τ := τ) spec1) (R1 m c) ∗ (∃ r, prngReg c r)
    ∗ (StableHlo.held (c.tc : Thread nD τ) rest1 (R1 m c) ∗ kept m false c ∗ kept m true c) ∗ semVal (xbarCell c) 0 ∗ ∃ Wd, owes (c : Thread nD τ) (dueR c) Wd)
    ⊢ iprop(StableHlo.held (c : Thread nD τ) (Pipeline.ucRefs τ sig) (R1 m c) ∗ side1 m c ∗ owing c (dueR c))
  rw [StableHlo.held_sub_split (c : Thread nD τ) arr_sub1 (R1 m c)]
  unfold side1 owing
  iintro ⟨Ha, Hp, ⟨Hr, Hf, Ht⟩, HX, HO⟩
  isplitl [Ha Hr]; · isplitl [Ha] <;> iassumption
  isplitr [HO]
  · isplitl [Hp]; · iexact Hp
    isplitl [HX]; · iexact HX
    isplitl [Hf] <;> iassumption
  iexact HO

theorem post8 (c : Dev nD) : (reg8 m).post c ⊢ iprop(StableHlo.held (c : Thread nD τ) (Pipeline.ucRefs τ sig) (R8 m c) ∗ E m 9 c) := by
  show iprop(StableHlo.held (c.tc : Thread nD τ) (Pipeline.arrRefs (τ := τ) spec8) (R8 m c) ∗ (∃ r, prngReg c r)
    ∗ (StableHlo.held (c.tc : Thread nD τ) rest8 (R8 m c) ∗ semVal (xbarCell c) 0 ∗ kept m true c) ∗ semVal (barCell false c) 0 ∗ ∃ Wd, owes (c : Thread nD τ) (dueB c) Wd)
    ⊢ iprop(StableHlo.held (c : Thread nD τ) (Pipeline.ucRefs τ sig) (R8 m c) ∗ (∃ r, prngReg c r) ∗ semVal (xbarCell c) 0 ∗ semVal (barCell false c) 0 ∗ kept m true c ∗ owing c (dueB c))
  rw [StableHlo.held_sub_split (c : Thread nD τ) arr_sub8 (R8 m c)]
  unfold owing
  iintro ⟨Ha, Hp, ⟨Hr, HX, Ht⟩, Hb, HO⟩
  isplitl [Ha Hr]; · isplitl [Ha] <;> iassumption
  isplitl [Hp]; · iexact Hp
  isplitl [HX]; · iexact HX
  isplitl [Hb]; · iexact Hb
  isplitl [Ht] <;> iassumption

theorem post9 (c : Dev nD) : (reg9 m).post c ⊢ iprop(StableHlo.held (c : Thread nD τ) (Pipeline.ucRefs τ sig) (R9 m c) ∗ E m 10 c) := by
  show iprop(StableHlo.held (c.tc : Thread nD τ) (Pipeline.arrRefs (τ := τ) spec9) (R9 m c) ∗ (∃ r, prngReg c r)
    ∗ (StableHlo.held (c.tc : Thread nD τ) rest9 (R9 m c) ∗ semVal (xbarCell c) 0 ∗ semVal (barCell false c) 0) ∗ semVal (barCell true c) 0 ∗ ∃ Wd, owes (c : Thread nD τ) (0) Wd)
    ⊢ iprop(StableHlo.held (c : Thread nD τ) (Pipeline.ucRefs τ sig) (R9 m c) ∗ semVal (xbarCell c) 0 ∗ semVal (barCell false c) 0 ∗ semVal (barCell true c) 0 ∗ owing c 0)
  rw [StableHlo.held_sub_split (c : Thread nD τ) arr_sub9 (R9 m c)]
  unfold owing
  iintro ⟨Ha, -, ⟨Hr, HX, Hb⟩, Ht, HO⟩
  isplitl [Ha Hr]; · isplitl [Ha] <;> iassumption
  isplitl [HX]; · iexact HX
  isplitl [Hb]; · iexact Hb
  isplitl [Ht] <;> iassumption

end Cert.KernelIdeal.Gen

end
-- ==== Proof.Ideal.SegsMm.lean ====
module

public import proofs.«01_k».proof.Proof.Ideal.Base

/-!
# The calls that do not communicate, as segments
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat HostSeg RegionSeg afterRegion)

namespace Cert.KernelIdeal.Gen

variable {F : FTy → Type} [FloatOps F]

local notation "𝕄" => MT nD τ sig Unit (Elt F) ℕ UU ℕ

variable (m : (ℓ : Loc nD τ sig) → Buf (Elt F) ℓ)

/-! ## Call 0 -/

theorem lv_stage0 (c : Dev nD) : ∀ (w : Fin 3) (s : Fin (spec0 w).nbuf), lv ((c : Thread nD τ), .dma ((spec0 w).sem s)) () ≤ 0 := by
  have h : ∀ (w : Fin 3) (s : Fin (spec0 w).nbuf), roleLevel (role (.dma ((spec0 w).sem s))) ≤ 0 := by decide
  exact h
theorem share0 (d c : Dev nD) (w : Fin 3) : (call0 m d c).share w = fullShare := by unfold Dat.share; split <;> rfl
theorem arr_sub0 : Pipeline.arrRefs (τ := τ) spec0 ⊆ Pipeline.ucRefs τ sig := by decide
theorem arrU0 : Pipeline.arrRefs (τ := τ) (pcfgs (F := F) 0).spec ⊆ Pipeline.ucRefs τ sig := arr_sub0
theorem tbl_sub0 : Pipeline.tblRefs (τ := τ) pre0 ⊆ Pipeline.ucRefs τ sig := by decide
theorem tblU0 : Pipeline.tblRefs (τ := τ) (pcfgs (F := F) 0).pre ⊆ Pipeline.ucRefs τ sig := tbl_sub0

set_option backward.isDefEq.respectTransparency.types false in
def regU0 (d : Dev nD) : RegionSeg (pcfgs (F := F)) (adm d) (pdU m d) () defs₀ 𝒱₀ L lv 0 :=
  RegionSeg.ofHeldInT (pcfgs (F := F)) (adm d) (pdU m d) () defs₀ 𝒱₀ L lv 0 O₀ (Pipeline.ucRefs τ sig) (fun _ => iprop(emp)) (fun _ => iprop(emp)) launch0
    (fun c => mm0_body adm0 c (V1 m d) (keep (F := F) d 0 c) (O₀ c)) (fun _ _ => rfl) (fun _ => rfl) (share0 m d) (fun _ => BI.Entails.refl _) (fun _ => BI.Entails.refl _)
    (fun _ => 0) ⟨fun c w s => by rw [L_tc]; exact Finset.mem_singleton_self _, fun c w s => lv_stage0 c w s, fun c g i h => above_O₀ c g i h⟩
    (side0 m) (fun _ => V1 m d) (fun _ _ => rfl) (fun _ k => hT0 m d k)

set_option backward.isDefEq.respectTransparency.types false in
/-- The call as a segment. -/
def reg0 : Pipeline.PerCore.RegionSeg (pcfgs (F := F)) adm (pdats m) () defs₀ 𝒱₀ L lv 0 :=
  perCore m (K := PEmpty) (fun k => k.elim) (regU0 m 0).ho (regU0 m) (fun c => (regU0 m c).hentry c) (fun c => (regU0 m c).hout c)

theorem left0 (c : Dev nD) : afterRegion (call0 m c c) (V1 m c) = R0 m c :=
  after_call (call0 m c c) (V1 m c) winFacts0.arr_inj (fun _ => rfl) (2 : Fin 3) (by
    have h : ∀ w' : Fin 3, w' ≠ 2 → (spec0 w').isOut = false := by decide
    exact h)

set_option backward.isDefEq.respectTransparency.types false in
theorem pre0 (c : Dev nD) : iprop(StableHlo.held (c : Thread nD τ) (Pipeline.ucRefs τ sig) (V1 m c) ∗ E m 0 c) ⊢ (reg0 m).pre c := by
  refine BI.Entails.trans ?_ (show iprop(StableHlo.held (c : Thread nD τ) (Pipeline.ucRefs τ sig) (V1 m c) ∗ (∃ Wd, owes (c : Thread nD τ) (O₀ c) Wd) ∗ emp ∗ side0 m c)
    ⊢ (regU0 m c).pre c from by unfold regU0; exact RegionSeg.ofHeldInT_pre (Ix := Unit) (Name := ℕ) (U := UU) (Lvl := ℕ) (a := adm c) (pdats := pdU m c) (D := O₀) (X := fun _ => iprop(emp)) (Y := fun _ => iprop(emp)) (R := side0 m) (W := fun _ => V1 m c) (p := 0) (pcs := pcfgs (F := F)) (arrU0 (F := F)) (tblU0 (F := F)) c)
  show iprop(StableHlo.held (c : Thread nD τ) (Pipeline.ucRefs τ sig) (V1 m c) ∗ side0 m c ∗ owing c (O₀ c)) ⊢ _
  unfold owing
  iintro ⟨Hh, Hs, HO⟩
  isplitl [Hh]; · iexact Hh
  isplitl [HO]; · iexact HO
  isplitr; · iempintro
  iexact Hs

set_option backward.isDefEq.respectTransparency.types false in
theorem post0 (c : Dev nD) : (reg0 m).post c ⊢ iprop(StableHlo.held (c : Thread nD τ) (Pipeline.ucRefs τ sig) (R0 m c) ∗ E m 1 c) := by
  refine BI.Entails.trans (show (regU0 m c).post c ⊢ iprop(StableHlo.held (c : Thread nD τ) (Pipeline.ucRefs τ sig) (afterRegion (pdU m c 0 c) (V1 m c))
    ∗ (∃ Wd, owes (c : Thread nD τ) (O₀ c) Wd) ∗ emp ∗ side0 m c) from by unfold regU0; exact RegionSeg.ofHeldInT_post (p := 0) (pcs := pcfgs (F := F)) (arrU0 (F := F)) (tblU0 (F := F)) c) ?_
  show iprop(StableHlo.held (c : Thread nD τ) (Pipeline.ucRefs τ sig) (afterRegion (call0 m c c) (V1 m c)) ∗ (∃ Wd, owes (c : Thread nD τ) (O₀ c) Wd) ∗ emp ∗ side0 m c)
    ⊢ iprop(StableHlo.held (c : Thread nD τ) (Pipeline.ucRefs τ sig) (R0 m c) ∗ side0 m c ∗ owing c (O₀ c))
  rw [left0]
  unfold owing
  iintro ⟨Hh, HO, -, Hs⟩
  isplitl [Hh]; · iexact Hh
  isplitl [Hs] <;> iassumption

/-! ## Call 2 -/

theorem lv_stage2 (c : Dev nD) : ∀ (w : Fin 3) (s : Fin (spec2 w).nbuf), lv ((c : Thread nD τ), .dma ((spec2 w).sem s)) () ≤ 0 := by
  have h : ∀ (w : Fin 3) (s : Fin (spec2 w).nbuf), roleLevel (role (.dma ((spec2 w).sem s))) ≤ 0 := by decide
  exact h
theorem share2 (d c : Dev nD) (w : Fin 3) : (call2 m d c).share w = fullShare := by unfold Dat.share; split <;> rfl
theorem arr_sub2 : Pipeline.arrRefs (τ := τ) spec2 ⊆ Pipeline.ucRefs τ sig := by decide
theorem arrU2 : Pipeline.arrRefs (τ := τ) (pcfgs (F := F) 2).spec ⊆ Pipeline.ucRefs τ sig := arr_sub2
theorem tbl_sub2 : Pipeline.tblRefs (τ := τ) pre2 ⊆ Pipeline.ucRefs τ sig := by decide
theorem tblU2 : Pipeline.tblRefs (τ := τ) (pcfgs (F := F) 2).pre ⊆ Pipeline.ucRefs τ sig := tbl_sub2

set_option backward.isDefEq.respectTransparency.types false in
def regU2 (d : Dev nD) : RegionSeg (pcfgs (F := F)) (adm d) (pdU m d) () defs₀ 𝒱₀ L lv 2 :=
  RegionSeg.ofHeldInT (pcfgs (F := F)) (adm d) (pdU m d) () defs₀ 𝒱₀ L lv 2 dueR (Pipeline.ucRefs τ sig) (fun _ => iprop(emp)) (fun _ => iprop(emp)) launch2
    (fun c => mm2_body adm2 c (W17 m d) (keep (F := F) d 2 c) (dueR c)) (fun _ _ => rfl) (fun _ => rfl) (share2 m d) (fun _ => BI.Entails.refl _) (fun _ => BI.Entails.refl _)
    (fun _ => 0) ⟨fun c w s => by rw [L_tc]; exact Finset.mem_singleton_self _, fun c w s => lv_stage2 c w s, fun c g i h => above_dueR' c g i h⟩
    (side1 m) (fun _ => W17 m d) (fun _ _ => rfl) (fun _ k => hT2 m d k)

set_option backward.isDefEq.respectTransparency.types false in
/-- The call as a segment. -/
def reg2 : Pipeline.PerCore.RegionSeg (pcfgs (F := F)) adm (pdats m) () defs₀ 𝒱₀ L lv 2 :=
  perCore m (K := PEmpty) (fun k => k.elim) (regU2 m 0).ho (regU2 m) (fun c => (regU2 m c).hentry c) (fun c => (regU2 m c).hout c)

theorem left2 (c : Dev nD) : afterRegion (call2 m c c) (W17 m c) = R2 m c :=
  after_call (call2 m c c) (W17 m c) winFacts2.arr_inj (fun _ => rfl) (2 : Fin 3) (by
    have h : ∀ w' : Fin 3, w' ≠ 2 → (spec2 w').isOut = false := by decide
    exact h)

set_option backward.isDefEq.respectTransparency.types false in
theorem pre2 (c : Dev nD) : iprop(StableHlo.held (c : Thread nD τ) (Pipeline.ucRefs τ sig) (W17 m c) ∗ E m 2 c) ⊢ (reg2 m).pre c := by
  refine BI.Entails.trans ?_ (show iprop(StableHlo.held (c : Thread nD τ) (Pipeline.ucRefs τ sig) (W17 m c) ∗ (∃ Wd, owes (c : Thread nD τ) (dueR c) Wd) ∗ emp ∗ side1 m c)
    ⊢ (regU2 m c).pre c from by unfold regU2; exact RegionSeg.ofHeldInT_pre (Ix := Unit) (Name := ℕ) (U := UU) (Lvl := ℕ) (a := adm c) (pdats := pdU m c) (D := dueR) (X := fun _ => iprop(emp)) (Y := fun _ => iprop(emp)) (R := side1 m) (W := fun _ => W17 m c) (p := 2) (pcs := pcfgs (F := F)) (arrU2 (F := F)) (tblU2 (F := F)) c)
  show iprop(StableHlo.held (c : Thread nD τ) (Pipeline.ucRefs τ sig) (W17 m c) ∗ side1 m c ∗ owing c (dueR c)) ⊢ _
  unfold owing
  iintro ⟨Hh, Hs, HO⟩
  isplitl [Hh]; · iexact Hh
  isplitl [HO]; · iexact HO
  isplitr; · iempintro
  iexact Hs

set_option backward.isDefEq.respectTransparency.types false in
theorem post2 (c : Dev nD) : (reg2 m).post c ⊢ iprop(StableHlo.held (c : Thread nD τ) (Pipeline.ucRefs τ sig) (R2 m c) ∗ E m 3 c) := by
  refine BI.Entails.trans (show (regU2 m c).post c ⊢ iprop(StableHlo.held (c : Thread nD τ) (Pipeline.ucRefs τ sig) (afterRegion (pdU m c 2 c) (W17 m c))
    ∗ (∃ Wd, owes (c : Thread nD τ) (dueR c) Wd) ∗ emp ∗ side1 m c) from by unfold regU2; exact RegionSeg.ofHeldInT_post (p := 2) (pcs := pcfgs (F := F)) (arrU2 (F := F)) (tblU2 (F := F)) c) ?_
  show iprop(StableHlo.held (c : Thread nD τ) (Pipeline.ucRefs τ sig) (afterRegion (call2 m c c) (W17 m c)) ∗ (∃ Wd, owes (c : Thread nD τ) (dueR c) Wd) ∗ emp ∗ side1 m c)
    ⊢ iprop(StableHlo.held (c : Thread nD τ) (Pipeline.ucRefs τ sig) (R2 m c) ∗ side1 m c ∗ owing c (dueR c))
  rw [left2]
  unfold owing
  iintro ⟨Hh, HO, -, Hs⟩
  isplitl [Hh]; · iexact Hh
  isplitl [Hs] <;> iassumption

/-! ## Call 3 -/

theorem lv_stage3 (c : Dev nD) : ∀ (w : Fin 3) (s : Fin (spec3 w).nbuf), lv ((c : Thread nD τ), .dma ((spec3 w).sem s)) () ≤ 0 := by
  have h : ∀ (w : Fin 3) (s : Fin (spec3 w).nbuf), roleLevel (role (.dma ((spec3 w).sem s))) ≤ 0 := by decide
  exact h
theorem share3 (d c : Dev nD) (w : Fin 3) : (call3 m d c).share w = fullShare := by unfold Dat.share; split <;> rfl
theorem arr_sub3 : Pipeline.arrRefs (τ := τ) spec3 ⊆ Pipeline.ucRefs τ sig := by decide
theorem arrU3 : Pipeline.arrRefs (τ := τ) (pcfgs (F := F) 3).spec ⊆ Pipeline.ucRefs τ sig := arr_sub3
theorem tbl_sub3 : Pipeline.tblRefs (τ := τ) pre3 ⊆ Pipeline.ucRefs τ sig := by decide
theorem tblU3 : Pipeline.tblRefs (τ := τ) (pcfgs (F := F) 3).pre ⊆ Pipeline.ucRefs τ sig := tbl_sub3

set_option backward.isDefEq.respectTransparency.types false in
def regU3 (d : Dev nD) : RegionSeg (pcfgs (F := F)) (adm d) (pdU m d) () defs₀ 𝒱₀ L lv 3 :=
  RegionSeg.ofHeldInT (pcfgs (F := F)) (adm d) (pdU m d) () defs₀ 𝒱₀ L lv 3 dueR (Pipeline.ucRefs τ sig) (fun _ => iprop(emp)) (fun _ => iprop(emp)) launch3
    (fun c => mm3_body adm3 c (W19 m d) (keep (F := F) d 3 c) (dueR c)) (fun _ _ => rfl) (fun _ => rfl) (share3 m d) (fun _ => BI.Entails.refl _) (fun _ => BI.Entails.refl _)
    (fun _ => 0) ⟨fun c w s => by rw [L_tc]; exact Finset.mem_singleton_self _, fun c w s => lv_stage3 c w s, fun c g i h => above_dueR' c g i h⟩
    (side1 m) (fun _ => W19 m d) (fun _ _ => rfl) (fun _ k => hT3 m d k)

set_option backward.isDefEq.respectTransparency.types false in
/-- The call as a segment. -/
def reg3 : Pipeline.PerCore.RegionSeg (pcfgs (F := F)) adm (pdats m) () defs₀ 𝒱₀ L lv 3 :=
  perCore m (K := PEmpty) (fun k => k.elim) (regU3 m 0).ho (regU3 m) (fun c => (regU3 m c).hentry c) (fun c => (regU3 m c).hout c)

theorem left3 (c : Dev nD) : afterRegion (call3 m c c) (W19 m c) = R3 m c :=
  after_call (call3 m c c) (W19 m c) winFacts3.arr_inj (fun _ => rfl) (2 : Fin 3) (by
    have h : ∀ w' : Fin 3, w' ≠ 2 → (spec3 w').isOut = false := by decide
    exact h)

set_option backward.isDefEq.respectTransparency.types false in
theorem pre3 (c : Dev nD) : iprop(StableHlo.held (c : Thread nD τ) (Pipeline.ucRefs τ sig) (W19 m c) ∗ E m 3 c) ⊢ (reg3 m).pre c := by
  refine BI.Entails.trans ?_ (show iprop(StableHlo.held (c : Thread nD τ) (Pipeline.ucRefs τ sig) (W19 m c) ∗ (∃ Wd, owes (c : Thread nD τ) (dueR c) Wd) ∗ emp ∗ side1 m c)
    ⊢ (regU3 m c).pre c from by unfold regU3; exact RegionSeg.ofHeldInT_pre (Ix := Unit) (Name := ℕ) (U := UU) (Lvl := ℕ) (a := adm c) (pdats := pdU m c) (D := dueR) (X := fun _ => iprop(emp)) (Y := fun _ => iprop(emp)) (R := side1 m) (W := fun _ => W19 m c) (p := 3) (pcs := pcfgs (F := F)) (arrU3 (F := F)) (tblU3 (F := F)) c)
  show iprop(StableHlo.held (c : Thread nD τ) (Pipeline.ucRefs τ sig) (W19 m c) ∗ side1 m c ∗ owing c (dueR c)) ⊢ _
  unfold owing
  iintro ⟨Hh, Hs, HO⟩
  isplitl [Hh]; · iexact Hh
  isplitl [HO]; · iexact HO
  isplitr; · iempintro
  iexact Hs

set_option backward.isDefEq.respectTransparency.types false in
theorem post3 (c : Dev nD) : (reg3 m).post c ⊢ iprop(StableHlo.held (c : Thread nD τ) (Pipeline.ucRefs τ sig) (R3 m c) ∗ E m 4 c) := by
  refine BI.Entails.trans (show (regU3 m c).post c ⊢ iprop(StableHlo.held (c : Thread nD τ) (Pipeline.ucRefs τ sig) (afterRegion (pdU m c 3 c) (W19 m c))
    ∗ (∃ Wd, owes (c : Thread nD τ) (dueR c) Wd) ∗ emp ∗ side1 m c) from by unfold regU3; exact RegionSeg.ofHeldInT_post (p := 3) (pcs := pcfgs (F := F)) (arrU3 (F := F)) (tblU3 (F := F)) c) ?_
  show iprop(StableHlo.held (c : Thread nD τ) (Pipeline.ucRefs τ sig) (afterRegion (call3 m c c) (W19 m c)) ∗ (∃ Wd, owes (c : Thread nD τ) (dueR c) Wd) ∗ emp ∗ side1 m c)
    ⊢ iprop(StableHlo.held (c : Thread nD τ) (Pipeline.ucRefs τ sig) (R3 m c) ∗ side1 m c ∗ owing c (dueR c))
  rw [left3]
  unfold owing
  iintro ⟨Hh, HO, -, Hs⟩
  isplitl [Hh]; · iexact Hh
  isplitl [Hs] <;> iassumption

/-! ## Call 4 -/

theorem lv_stage4 (c : Dev nD) : ∀ (w : Fin 3) (s : Fin (spec4 w).nbuf), lv ((c : Thread nD τ), .dma ((spec4 w).sem s)) () ≤ 0 := by
  have h : ∀ (w : Fin 3) (s : Fin (spec4 w).nbuf), roleLevel (role (.dma ((spec4 w).sem s))) ≤ 0 := by decide
  exact h
theorem share4 (d c : Dev nD) (w : Fin 3) : (call4 m d c).share w = fullShare := by unfold Dat.share; split <;> rfl
theorem arr_sub4 : Pipeline.arrRefs (τ := τ) spec4 ⊆ Pipeline.ucRefs τ sig := by decide
theorem arrU4 : Pipeline.arrRefs (τ := τ) (pcfgs (F := F) 4).spec ⊆ Pipeline.ucRefs τ sig := arr_sub4
theorem tbl_sub4 : Pipeline.tblRefs (τ := τ) pre4 ⊆ Pipeline.ucRefs τ sig := by decide
theorem tblU4 : Pipeline.tblRefs (τ := τ) (pcfgs (F := F) 4).pre ⊆ Pipeline.ucRefs τ sig := tbl_sub4

set_option backward.isDefEq.respectTransparency.types false in
def regU4 (d : Dev nD) : RegionSeg (pcfgs (F := F)) (adm d) (pdU m d) () defs₀ 𝒱₀ L lv 4 :=
  RegionSeg.ofHeldInT (pcfgs (F := F)) (adm d) (pdU m d) () defs₀ 𝒱₀ L lv 4 dueR (Pipeline.ucRefs τ sig) (fun _ => iprop(emp)) (fun _ => iprop(emp)) launch4
    (fun c => mm4_body (adm4 d) c (W23 m d) (keep (F := F) d 4 c) (dueR c)) (fun _ _ => rfl) (fun _ => rfl) (share4 m d) (fun _ => BI.Entails.refl _) (fun _ => BI.Entails.refl _)
    (fun _ => 0) ⟨fun c w s => by rw [L_tc]; exact Finset.mem_singleton_self _, fun c w s => lv_stage4 c w s, fun c g i h => above_dueR' c g i h⟩
    (side1 m) (fun _ => W23 m d) (fun _ _ => rfl) (fun _ k => hT4 m d k)

set_option backward.isDefEq.respectTransparency.types false in
/-- The call as a segment. -/
def reg4 : Pipeline.PerCore.RegionSeg (pcfgs (F := F)) adm (pdats m) () defs₀ 𝒱₀ L lv 4 :=
  perCore m (K := PEmpty) (fun k => k.elim) (regU4 m 0).ho (regU4 m) (fun c => (regU4 m c).hentry c) (fun c => (regU4 m c).hout c)

theorem left4 (c : Dev nD) : afterRegion (call4 m c c) (W23 m c) = R4 m c :=
  after_call (call4 m c c) (W23 m c) winFacts4.arr_inj (fun _ => rfl) (2 : Fin 3) (by
    have h : ∀ w' : Fin 3, w' ≠ 2 → (spec4 w').isOut = false := by decide
    exact h)

set_option backward.isDefEq.respectTransparency.types false in
theorem pre4 (c : Dev nD) : iprop(StableHlo.held (c : Thread nD τ) (Pipeline.ucRefs τ sig) (W23 m c) ∗ E m 4 c) ⊢ (reg4 m).pre c := by
  refine BI.Entails.trans ?_ (show iprop(StableHlo.held (c : Thread nD τ) (Pipeline.ucRefs τ sig) (W23 m c) ∗ (∃ Wd, owes (c : Thread nD τ) (dueR c) Wd) ∗ emp ∗ side1 m c)
    ⊢ (regU4 m c).pre c from by unfold regU4; exact RegionSeg.ofHeldInT_pre (Ix := Unit) (Name := ℕ) (U := UU) (Lvl := ℕ) (a := adm c) (pdats := pdU m c) (D := dueR) (X := fun _ => iprop(emp)) (Y := fun _ => iprop(emp)) (R := side1 m) (W := fun _ => W23 m c) (p := 4) (pcs := pcfgs (F := F)) (arrU4 (F := F)) (tblU4 (F := F)) c)
  show iprop(StableHlo.held (c : Thread nD τ) (Pipeline.ucRefs τ sig) (W23 m c) ∗ side1 m c ∗ owing c (dueR c)) ⊢ _
  unfold owing
  iintro ⟨Hh, Hs, HO⟩
  isplitl [Hh]; · iexact Hh
  isplitl [HO]; · iexact HO
  isplitr; · iempintro
  iexact Hs

set_option backward.isDefEq.respectTransparency.types false in
theorem post4 (c : Dev nD) : (reg4 m).post c ⊢ iprop(StableHlo.held (c : Thread nD τ) (Pipeline.ucRefs τ sig) (R4 m c) ∗ E m 5 c) := by
  refine BI.Entails.trans (show (regU4 m c).post c ⊢ iprop(StableHlo.held (c : Thread nD τ) (Pipeline.ucRefs τ sig) (afterRegion (pdU m c 4 c) (W23 m c))
    ∗ (∃ Wd, owes (c : Thread nD τ) (dueR c) Wd) ∗ emp ∗ side1 m c) from by unfold regU4; exact RegionSeg.ofHeldInT_post (p := 4) (pcs := pcfgs (F := F)) (arrU4 (F := F)) (tblU4 (F := F)) c) ?_
  show iprop(StableHlo.held (c : Thread nD τ) (Pipeline.ucRefs τ sig) (afterRegion (call4 m c c) (W23 m c)) ∗ (∃ Wd, owes (c : Thread nD τ) (dueR c) Wd) ∗ emp ∗ side1 m c)
    ⊢ iprop(StableHlo.held (c : Thread nD τ) (Pipeline.ucRefs τ sig) (R4 m c) ∗ side1 m c ∗ owing c (dueR c))
  rw [left4]
  unfold owing
  iintro ⟨Hh, HO, -, Hs⟩
  isplitl [Hh]; · iexact Hh
  isplitl [Hs] <;> iassumption

/-! ## Call 5 -/

theorem lv_stage5 (c : Dev nD) : ∀ (w : Fin 3) (s : Fin (spec5 w).nbuf), lv ((c : Thread nD τ), .dma ((spec5 w).sem s)) () ≤ 0 := by
  have h : ∀ (w : Fin 3) (s : Fin (spec5 w).nbuf), roleLevel (role (.dma ((spec5 w).sem s))) ≤ 0 := by decide
  exact h
theorem share5 (d c : Dev nD) (w : Fin 3) : (call5 m d c).share w = fullShare := by unfold Dat.share; split <;> rfl
theorem arr_sub5 : Pipeline.arrRefs (τ := τ) spec5 ⊆ Pipeline.ucRefs τ sig := by decide
theorem arrU5 : Pipeline.arrRefs (τ := τ) (pcfgs (F := F) 5).spec ⊆ Pipeline.ucRefs τ sig := arr_sub5
theorem tbl_sub5 : Pipeline.tblRefs (τ := τ) pre5 ⊆ Pipeline.ucRefs τ sig := by decide
theorem tblU5 : Pipeline.tblRefs (τ := τ) (pcfgs (F := F) 5).pre ⊆ Pipeline.ucRefs τ sig := tbl_sub5

set_option backward.isDefEq.respectTransparency.types false in
def regU5 (d : Dev nD) : RegionSeg (pcfgs (F := F)) (adm d) (pdU m d) () defs₀ 𝒱₀ L lv 5 :=
  RegionSeg.ofHeldInT (pcfgs (F := F)) (adm d) (pdU m d) () defs₀ 𝒱₀ L lv 5 dueR (Pipeline.ucRefs τ sig) (fun _ => iprop(emp)) (fun _ => iprop(emp)) launch5
    (fun c => mm5_body (adm5 d) c (W27 m d) (keep (F := F) d 5 c) (dueR c)) (fun _ _ => rfl) (fun _ => rfl) (share5 m d) (fun _ => BI.Entails.refl _) (fun _ => BI.Entails.refl _)
    (fun _ => 0) ⟨fun c w s => by rw [L_tc]; exact Finset.mem_singleton_self _, fun c w s => lv_stage5 c w s, fun c g i h => above_dueR' c g i h⟩
    (side1 m) (fun _ => W27 m d) (fun _ _ => rfl) (fun _ k => hT5 m d k)

set_option backward.isDefEq.respectTransparency.types false in
/-- The call as a segment. -/
def reg5 : Pipeline.PerCore.RegionSeg (pcfgs (F := F)) adm (pdats m) () defs₀ 𝒱₀ L lv 5 :=
  perCore m (K := PEmpty) (fun k => k.elim) (regU5 m 0).ho (regU5 m) (fun c => (regU5 m c).hentry c) (fun c => (regU5 m c).hout c)

theorem left5 (c : Dev nD) : afterRegion (call5 m c c) (W27 m c) = R5 m c :=
  after_call (call5 m c c) (W27 m c) winFacts5.arr_inj (fun _ => rfl) (2 : Fin 3) (by
    have h : ∀ w' : Fin 3, w' ≠ 2 → (spec5 w').isOut = false := by decide
    exact h)

set_option backward.isDefEq.respectTransparency.types false in
theorem pre5 (c : Dev nD) : iprop(StableHlo.held (c : Thread nD τ) (Pipeline.ucRefs τ sig) (W27 m c) ∗ E m 5 c) ⊢ (reg5 m).pre c := by
  refine BI.Entails.trans ?_ (show iprop(StableHlo.held (c : Thread nD τ) (Pipeline.ucRefs τ sig) (W27 m c) ∗ (∃ Wd, owes (c : Thread nD τ) (dueR c) Wd) ∗ emp ∗ side1 m c)
    ⊢ (regU5 m c).pre c from by unfold regU5; exact RegionSeg.ofHeldInT_pre (Ix := Unit) (Name := ℕ) (U := UU) (Lvl := ℕ) (a := adm c) (pdats := pdU m c) (D := dueR) (X := fun _ => iprop(emp)) (Y := fun _ => iprop(emp)) (R := side1 m) (W := fun _ => W27 m c) (p := 5) (pcs := pcfgs (F := F)) (arrU5 (F := F)) (tblU5 (F := F)) c)
  show iprop(StableHlo.held (c : Thread nD τ) (Pipeline.ucRefs τ sig) (W27 m c) ∗ side1 m c ∗ owing c (dueR c)) ⊢ _
  unfold owing
  iintro ⟨Hh, Hs, HO⟩
  isplitl [Hh]; · iexact Hh
  isplitl [HO]; · iexact HO
  isplitr; · iempintro
  iexact Hs

set_option backward.isDefEq.respectTransparency.types false in
theorem post5 (c : Dev nD) : (reg5 m).post c ⊢ iprop(StableHlo.held (c : Thread nD τ) (Pipeline.ucRefs τ sig) (R5 m c) ∗ E m 6 c) := by
  refine BI.Entails.trans (show (regU5 m c).post c ⊢ iprop(StableHlo.held (c : Thread nD τ) (Pipeline.ucRefs τ sig) (afterRegion (pdU m c 5 c) (W27 m c))
    ∗ (∃ Wd, owes (c : Thread nD τ) (dueR c) Wd) ∗ emp ∗ side1 m c) from by unfold regU5; exact RegionSeg.ofHeldInT_post (p := 5) (pcs := pcfgs (F := F)) (arrU5 (F := F)) (tblU5 (F := F)) c) ?_
  show iprop(StableHlo.held (c : Thread nD τ) (Pipeline.ucRefs τ sig) (afterRegion (call5 m c c) (W27 m c)) ∗ (∃ Wd, owes (c : Thread nD τ) (dueR c) Wd) ∗ emp ∗ side1 m c)
    ⊢ iprop(StableHlo.held (c : Thread nD τ) (Pipeline.ucRefs τ sig) (R5 m c) ∗ side1 m c ∗ owing c (dueR c))
  rw [left5]
  unfold owing
  iintro ⟨Hh, HO, -, Hs⟩
  isplitl [Hh]; · iexact Hh
  isplitl [Hs] <;> iassumption

/-! ## Call 6 -/

theorem lv_stage6 (c : Dev nD) : ∀ (w : Fin 3) (s : Fin (spec6 w).nbuf), lv ((c : Thread nD τ), .dma ((spec6 w).sem s)) () ≤ 0 := by
  have h : ∀ (w : Fin 3) (s : Fin (spec6 w).nbuf), roleLevel (role (.dma ((spec6 w).sem s))) ≤ 0 := by decide
  exact h
theorem share6 (d c : Dev nD) (w : Fin 3) : (call6 m d c).share w = fullShare := by unfold Dat.share; split <;> rfl
theorem arr_sub6 : Pipeline.arrRefs (τ := τ) spec6 ⊆ Pipeline.ucRefs τ sig := by decide
theorem arrU6 : Pipeline.arrRefs (τ := τ) (pcfgs (F := F) 6).spec ⊆ Pipeline.ucRefs τ sig := arr_sub6
theorem tbl_sub6 : Pipeline.tblRefs (τ := τ) pre6 ⊆ Pipeline.ucRefs τ sig := by decide
theorem tblU6 : Pipeline.tblRefs (τ := τ) (pcfgs (F := F) 6).pre ⊆ Pipeline.ucRefs τ sig := tbl_sub6

set_option backward.isDefEq.respectTransparency.types false in
def regU6 (d : Dev nD) : RegionSeg (pcfgs (F := F)) (adm d) (pdU m d) () defs₀ 𝒱₀ L lv 6 :=
  RegionSeg.ofHeldInT (pcfgs (F := F)) (adm d) (pdU m d) () defs₀ 𝒱₀ L lv 6 dueR (Pipeline.ucRefs τ sig) (fun _ => iprop(emp)) (fun _ => iprop(emp)) launch6
    (fun c => mm6_body adm6 c (W29 m d) (keep (F := F) d 6 c) (dueR c)) (fun _ _ => rfl) (fun _ => rfl) (share6 m d) (fun _ => BI.Entails.refl _) (fun _ => BI.Entails.refl _)
    (fun _ => 0) ⟨fun c w s => by rw [L_tc]; exact Finset.mem_singleton_self _, fun c w s => lv_stage6 c w s, fun c g i h => above_dueR' c g i h⟩
    (side1 m) (fun _ => W29 m d) (fun _ _ => rfl) (fun _ k => hT6 m d k)

set_option backward.isDefEq.respectTransparency.types false in
/-- The call as a segment. -/
def reg6 : Pipeline.PerCore.RegionSeg (pcfgs (F := F)) adm (pdats m) () defs₀ 𝒱₀ L lv 6 :=
  perCore m (K := PEmpty) (fun k => k.elim) (regU6 m 0).ho (regU6 m) (fun c => (regU6 m c).hentry c) (fun c => (regU6 m c).hout c)

theorem left6 (c : Dev nD) : afterRegion (call6 m c c) (W29 m c) = R6 m c :=
  after_call (call6 m c c) (W29 m c) winFacts6.arr_inj (fun _ => rfl) (2 : Fin 3) (by
    have h : ∀ w' : Fin 3, w' ≠ 2 → (spec6 w').isOut = false := by decide
    exact h)

set_option backward.isDefEq.respectTransparency.types false in
theorem pre6 (c : Dev nD) : iprop(StableHlo.held (c : Thread nD τ) (Pipeline.ucRefs τ sig) (W29 m c) ∗ E m 6 c) ⊢ (reg6 m).pre c := by
  refine BI.Entails.trans ?_ (show iprop(StableHlo.held (c : Thread nD τ) (Pipeline.ucRefs τ sig) (W29 m c) ∗ (∃ Wd, owes (c : Thread nD τ) (dueR c) Wd) ∗ emp ∗ side1 m c)
    ⊢ (regU6 m c).pre c from by unfold regU6; exact RegionSeg.ofHeldInT_pre (Ix := Unit) (Name := ℕ) (U := UU) (Lvl := ℕ) (a := adm c) (pdats := pdU m c) (D := dueR) (X := fun _ => iprop(emp)) (Y := fun _ => iprop(emp)) (R := side1 m) (W := fun _ => W29 m c) (p := 6) (pcs := pcfgs (F := F)) (arrU6 (F := F)) (tblU6 (F := F)) c)
  show iprop(StableHlo.held (c : Thread nD τ) (Pipeline.ucRefs τ sig) (W29 m c) ∗ side1 m c ∗ owing c (dueR c)) ⊢ _
  unfold owing
  iintro ⟨Hh, Hs, HO⟩
  isplitl [Hh]; · iexact Hh
  isplitl [HO]; · iexact HO
  isplitr; · iempintro
  iexact Hs

set_option backward.isDefEq.respectTransparency.types false in
theorem post6 (c : Dev nD) : (reg6 m).post c ⊢ iprop(StableHlo.held (c : Thread nD τ) (Pipeline.ucRefs τ sig) (R6 m c) ∗ E m 7 c) := by
  refine BI.Entails.trans (show (regU6 m c).post c ⊢ iprop(StableHlo.held (c : Thread nD τ) (Pipeline.ucRefs τ sig) (afterRegion (pdU m c 6 c) (W29 m c))
    ∗ (∃ Wd, owes (c : Thread nD τ) (dueR c) Wd) ∗ emp ∗ side1 m c) from by unfold regU6; exact RegionSeg.ofHeldInT_post (p := 6) (pcs := pcfgs (F := F)) (arrU6 (F := F)) (tblU6 (F := F)) c) ?_
  show iprop(StableHlo.held (c : Thread nD τ) (Pipeline.ucRefs τ sig) (afterRegion (call6 m c c) (W29 m c)) ∗ (∃ Wd, owes (c : Thread nD τ) (dueR c) Wd) ∗ emp ∗ side1 m c)
    ⊢ iprop(StableHlo.held (c : Thread nD τ) (Pipeline.ucRefs τ sig) (R6 m c) ∗ side1 m c ∗ owing c (dueR c))
  rw [left6]
  unfold owing
  iintro ⟨Hh, HO, -, Hs⟩
  isplitl [Hh]; · iexact Hh
  isplitl [Hs] <;> iassumption

/-! ## Call 7 -/

theorem lv_stage7 (c : Dev nD) : ∀ (w : Fin 6) (s : Fin (spec7 w).nbuf), lv ((c : Thread nD τ), .dma ((spec7 w).sem s)) () ≤ 0 := by
  have h : ∀ (w : Fin 6) (s : Fin (spec7 w).nbuf), roleLevel (role (.dma ((spec7 w).sem s))) ≤ 0 := by decide
  exact h
theorem share7 (d c : Dev nD) (w : Fin 6) : (call7 m d c).share w = fullShare := by unfold Dat.share; split <;> rfl
theorem arr_sub7 : Pipeline.arrRefs (τ := τ) spec7 ⊆ Pipeline.ucRefs τ sig := by decide
theorem arrU7 : Pipeline.arrRefs (τ := τ) (pcfgs (F := F) 7).spec ⊆ Pipeline.ucRefs τ sig := arr_sub7

set_option backward.isDefEq.respectTransparency.types false in
def regU7 (d : Dev nD) : RegionSeg (pcfgs (F := F)) (adm d) (pdU m d) () defs₀ 𝒱₀ L lv 7 :=
  RegionSeg.ofHeldIn (pcfgs (F := F)) (adm d) (pdU m d) () defs₀ 𝒱₀ L lv 7 dueR (Pipeline.ucRefs τ sig) (fun _ => iprop(emp)) (fun _ => iprop(emp)) launch7 rfl
    (fun c => attn_body  c (R6 m d) (bare (F := F) d 7 c) (dueR c)) (fun _ _ => rfl) (fun _ => rfl) (share7 m d) (fun _ => BI.Entails.refl _) (fun _ => BI.Entails.refl _)
    (fun _ => 0) ⟨fun c w s => by rw [L_tc]; exact Finset.mem_singleton_self _, fun c w s => lv_stage7 c w s, fun c g i h => above_dueR' c g i h⟩
    (side1 m) (fun _ => R6 m d) (fun _ _ => rfl)

set_option backward.isDefEq.respectTransparency.types false in
/-- The call as a segment. -/
def reg7 : Pipeline.PerCore.RegionSeg (pcfgs (F := F)) adm (pdats m) () defs₀ 𝒱₀ L lv 7 :=
  perCore m (K := PEmpty) (fun k => k.elim) (regU7 m 0).ho (regU7 m) (fun c => (regU7 m c).hentry c) (fun c => (regU7 m c).hout c)

theorem left7 (c : Dev nD) : afterRegion (call7 m c c) (R6 m c) = R7 m c :=
  after_call (call7 m c c) (R6 m c) winFacts7.arr_inj (fun _ => rfl) (5 : Fin 6) (by
    have h : ∀ w' : Fin 6, w' ≠ 5 → (spec7 w').isOut = false := by decide
    exact h)

set_option backward.isDefEq.respectTransparency.types false in
theorem pre7 (c : Dev nD) : iprop(StableHlo.held (c : Thread nD τ) (Pipeline.ucRefs τ sig) (R6 m c) ∗ E m 7 c) ⊢ (reg7 m).pre c := by
  refine BI.Entails.trans ?_ (show iprop(StableHlo.held (c : Thread nD τ) (Pipeline.ucRefs τ sig) (R6 m c) ∗ (∃ Wd, owes (c : Thread nD τ) (dueR c) Wd) ∗ emp ∗ side1 m c)
    ⊢ (regU7 m c).pre c from by unfold regU7; exact RegionSeg.ofHeldIn_pre (Ix := Unit) (Name := ℕ) (U := UU) (Lvl := ℕ) (a := adm c) (pdats := pdU m c) (D := dueR) (X := fun _ => iprop(emp)) (Y := fun _ => iprop(emp)) (R := side1 m) (W := fun _ => R6 m c) (p := 7) (pcs := pcfgs (F := F)) (arrU7 (F := F)) c)
  show iprop(StableHlo.held (c : Thread nD τ) (Pipeline.ucRefs τ sig) (R6 m c) ∗ side1 m c ∗ owing c (dueR c)) ⊢ _
  unfold owing
  iintro ⟨Hh, Hs, HO⟩
  isplitl [Hh]; · iexact Hh
  isplitl [HO]; · iexact HO
  isplitr; · iempintro
  iexact Hs

set_option backward.isDefEq.respectTransparency.types false in
theorem post7 (c : Dev nD) : (reg7 m).post c ⊢ iprop(StableHlo.held (c : Thread nD τ) (Pipeline.ucRefs τ sig) (R7 m c) ∗ E m 8 c) := by
  refine BI.Entails.trans (show (regU7 m c).post c ⊢ iprop(StableHlo.held (c : Thread nD τ) (Pipeline.ucRefs τ sig) (afterRegion (pdU m c 7 c) (R6 m c))
    ∗ (∃ Wd, owes (c : Thread nD τ) (dueR c) Wd) ∗ emp ∗ side1 m c) from by unfold regU7; exact RegionSeg.ofHeldIn_post (p := 7) (pcs := pcfgs (F := F)) (arrU7 (F := F)) c) ?_
  show iprop(StableHlo.held (c : Thread nD τ) (Pipeline.ucRefs τ sig) (afterRegion (call7 m c c) (R6 m c)) ∗ (∃ Wd, owes (c : Thread nD τ) (dueR c) Wd) ∗ emp ∗ side1 m c)
    ⊢ iprop(StableHlo.held (c : Thread nD τ) (Pipeline.ucRefs τ sig) (R7 m c) ∗ side1 m c ∗ owing c (dueR c))
  rw [left7]
  unfold owing
  iintro ⟨Hh, HO, -, Hs⟩
  isplitl [Hh]; · iexact Hh
  isplitl [Hs] <;> iassumption

end Cert.KernelIdeal.Gen

end
-- ==== Proof.Ideal.Deal.lean ====
module

public import proofs.«01_k».proof.Proof.Ideal.Chain

/-!
# What the launch deals

Every token goes to the device that pays the duty, every credit to the device that waits: for the two rings, and for the exchange.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Gen

variable {F : FTy → Type} [FloatOps F]

local notation "𝕄" => MT nD τ sig Unit (Elt F) ℕ UU ℕ

/-! ## Small families -/

theorem fam_bool (Φ : Bool → sProp 𝕄) : bigSep Finset.univ Φ = iprop(Φ false ∗ Φ true) :=
  bigSep_univ_eq_bigSepL [false, true] (by decide) (by decide) Φ
theorem fam_three (Φ : Fin 3 → sProp 𝕄) : bigSep Finset.univ Φ = tri Φ :=
  bigSep_univ_eq_bigSepL [0, 1, 2] (by decide) (by decide) Φ
theorem fam_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem fam_pair {Φ Ψ : Dev nD → sProp 𝕄} :
    (bigSep Finset.univ fun c => iprop(Φ c ∗ Ψ c)) ⊣⊢ iprop(bigSep Finset.univ Φ ∗ bigSep Finset.univ Ψ) := by
  rw [bigSep_sep']

/-! ## Tokens -/

/-- The duties of a device's cells of one ring: on its barrier (by either neighbour), on its three sends, on its three arrivals. -/
abbrev tokSem (b : Bool) : Bool × Fin 4 → SemLoc sig
  | (_, 0) => .reg (barS b)
  | (false, 1) => .dma (sendS b 0)
  | (false, 2) => .dma (sendS b 1)
  | (false, 3) => .dma (sendS b 2)
  | (true, 1) => .dma (recvS b 0)
  | (true, 2) => .dma (recvS b 1)
  | (true, 3) => .dma (recvS b 2)
abbrev tokWho : Bool × Fin 4 → Bool
  | (w, 0) => w
  | _ => false
theorem tok_inj : Function.Injective fun k : Bool × (Bool × Fin 4) => (tokSem k.1 k.2, tokWho k.2) := by decide
def tokEmb : Dev nD × (Bool × (Bool × Fin 4)) ↪ GSem nD τ sig × ℕ × Bool :=
  ⟨fun ck => (((ck.1 : Thread nD τ), tokSem ck.2.1 ck.2.2), 0, tokWho ck.2.2), fun _ _ h =>
    Prod.ext (congrArg (fun t : GSem nD τ sig × ℕ × Bool => t.1.1.1) h)
      (tok_inj (Prod.ext (congrArg (fun t : GSem nD τ sig × ℕ × Bool => t.1.2) h) (congrArg (fun t : GSem nD τ sig × ℕ × Bool => t.2.2) h)))⟩
abbrev allToks : Finset (GSem nD τ sig × ℕ × Bool) := Finset.univ.map tokEmb

def sendToks (b : Bool) (c : Dev nD) : sProp 𝕄 := tri fun h => dutyTok ER (sendCell b h c) 0 false
def recvToks (b : Bool) (c : Dev nD) : sProp 𝕄 := tri fun h => dutyTok ER (recvCell b h c) 0 false
/-- The tokens of the cells of device `c`. -/
def ownToks (b : Bool) (c : Dev nD) : sProp 𝕄 :=
  iprop((dutyTok ER (barCell b c) 0 false ∗ sendToks b c) ∗ (dutyTok ER (barCell b c) 0 true ∗ recvToks b c))
/-- The tokens of the duties device `c` pays. -/
def paidToks (b : Bool) (c : Dev nD) : sProp 𝕄 :=
  iprop((dutyTok ER (barCell b (nxt b c)) 0 false ∗ sendToks b c) ∗ (dutyTok ER (barCell b (prv b c)) 0 true ∗ recvToks b (nxt b c)))

theorem toks_dealt : bigSep allToks (fun x => (dutyTok ER x.1 x.2.1 x.2.2 : sProp 𝕄))
    = bigSep Finset.univ fun c : Dev nD => iprop(ownToks false c ∗ ownToks true c) := by
  rw [bigSep_map, bigSep_univ_prod]
  refine bigSep_congr fun c _ => ?_
  rw [bigSep_univ_prod, fam_bool]
  unfold ownToks
  simp only [bigSep_univ_prod, fam_bool, fam_four]
  rfl

theorem toks_around (b : Bool) : (bigSep Finset.univ fun c : Dev nD => (ownToks b c : sProp 𝕄)) ⊢ bigSep Finset.univ fun c : Dev nD => paidToks b c := by
  unfold ownToks paidToks
  rw [bigSep_sep', bigSep_sep', bigSep_sep', bigSep_sep', bigSep_sep', bigSep_sep',
    bigSep_univ_equiv (ringEquiv b) (fun c : Dev nD => (dutyTok ER (barCell b c) 0 false : sProp 𝕄)),
    bigSep_univ_equiv (ringEquiv b).symm (fun c : Dev nD => (dutyTok ER (barCell b c) 0 true : sProp 𝕄)),
    bigSep_univ_equiv (ringEquiv b) (fun c : Dev nD => (recvToks b c : sProp 𝕄))]
  exact BI.Entails.refl _

/-- The duties of a device's cells of the exchange: for each number of steps, one on its barrier, three sends, three arrivals. -/
abbrev xtokSem : Fin 3 × Option (Bool × Fin 3) → SemLoc sig
  | (_, none) => .reg barrier0
  | (d, some (false, t)) => .dma (xsendS d t)
  | (d, some (true, t)) => .dma (xrecvS d t)
abbrev xtokWho : Fin 3 × Option (Bool × Fin 3) → Fin 3
  | (d, none) => d.rev
  | _ => 0
theorem xtok_inj : Function.Injective fun k : Fin 3 × Option (Bool × Fin 3) => (xtokSem k, xtokWho k) := by decide
def xtokEmb : Dev nD × (Fin 3 × Option (Bool × Fin 3)) ↪ GSem nD τ sig × ℕ × Fin 3 :=
  ⟨fun ck => (((ck.1 : Thread nD τ), xtokSem ck.2), 0, xtokWho ck.2), fun _ _ h =>
    Prod.ext (congrArg (fun t : GSem nD τ sig × ℕ × Fin 3 => t.1.1.1) h)
      (xtok_inj (Prod.ext (congrArg (fun t : GSem nD τ sig × ℕ × Fin 3 => t.1.2) h) (congrArg (fun t : GSem nD τ sig × ℕ × Fin 3 => t.2.2) h)))⟩
abbrev allXToks : Finset (GSem nD τ sig × ℕ × Fin 3) := Finset.univ.map xtokEmb

def xsendToks (d : Fin 3) (c : Dev nD) : sProp 𝕄 := tri fun t => dutyTok EX (xsendCell d t c) 0 0
def xrecvToks (d : Fin 3) (c : Dev nD) : sProp 𝕄 := tri fun t => dutyTok EX (xrecvCell d t c) 0 0
/-- The tokens of the cells of device `c`, for `d + 1` steps. -/
def xownToks (d : Fin 3) (c : Dev nD) : sProp 𝕄 := iprop(dutyTok EX (xbarCell c) 0 d.rev ∗ xsendToks d c ∗ xrecvToks d c)
/-- The tokens of the duties device `c` pays, for `d + 1` steps. -/
def xpaidToks (d : Fin 3) (c : Dev nD) : sProp 𝕄 := iprop(dutyTok EX (xbarCell (pz d c)) 0 d.rev ∗ xsendToks d c ∗ xrecvToks d (pz d c))

theorem fam_seven (Φ : Option (Bool × Fin 3) → sProp 𝕄) :
    bigSep Finset.univ Φ = iprop(Φ none ∗ (Φ (some (false, 0)) ∗ Φ (some (false, 1)) ∗ Φ (some (false, 2)) ∗ Φ (some (true, 0)) ∗ Φ (some (true, 1)) ∗ Φ (some (true, 2)))) :=
  bigSep_univ_eq_bigSepL [none, some (false, 0), some (false, 1), some (false, 2), some (true, 0), some (true, 1), some (true, 2)] (by decide) (by decide) Φ

theorem xrow_dealt (d : Fin 3) (c : Dev nD) :
    iprop(dutyTok EX (xbarCell c) 0 d.rev ∗ (dutyTok EX (xsendCell d 0 c) 0 0 ∗ dutyTok EX (xsendCell d 1 c) 0 0 ∗ dutyTok EX (xsendCell d 2 c) 0 0
      ∗ dutyTok EX (xrecvCell d 0 c) 0 0 ∗ dutyTok EX (xrecvCell d 1 c) 0 0 ∗ dutyTok EX (xrecvCell d 2 c) 0 0)) ⊢ (xownToks d c : sProp 𝕄) := by
  unfold xownToks xsendToks xrecvToks
  dsimp only [tri]
  iintro ⟨Hb, H0, H1, H2, H3⟩
  isplitl [Hb]; · iexact Hb
  isplitl [H0 H1 H2]
  · isplitl [H0]; · iexact H0
    isplitl [H1] <;> iassumption
  iexact H3

theorem xtoks_dealt : bigSep allXToks (fun x => (dutyTok EX x.1 x.2.1 x.2.2 : sProp 𝕄))
    ⊢ bigSep Finset.univ fun c : Dev nD => tri fun d => xownToks d c := by
  rw [bigSep_map, bigSep_univ_prod]
  refine bigSep_mono fun c _ => ?_
  rw [bigSep_univ_prod, fam_three]
  dsimp only [tri]
  rw [fam_seven, fam_seven, fam_seven]
  exact BI.sep_mono (xrow_dealt 0 c) (BI.sep_mono (xrow_dealt 1 c) (xrow_dealt 2 c))

theorem xtoks_around (d : Fin 3) : (bigSep Finset.univ fun c : Dev nD => (xownToks d c : sProp 𝕄)) ⊢ bigSep Finset.univ fun c : Dev nD => xpaidToks d c := by
  unfold xownToks xpaidToks
  rw [bigSep_sep', bigSep_sep', bigSep_sep', bigSep_sep',
    bigSep_univ_equiv (pzEquiv d) (fun c : Dev nD => (dutyTok EX (xbarCell c) 0 d.rev : sProp 𝕄)),
    bigSep_univ_equiv (pzEquiv d) (fun c : Dev nD => (xrecvToks d c : sProp 𝕄))]
  exact BI.Entails.refl _

/-! ## Credits -/

theorem tally_sum (e : Dev nD ≃ Dev nD) (sm sm' : SemLoc sig) (k : ℕ) (c : Dev nD) :
    ∑ d : Dev nD, (tallyAt ((e d : Thread nD τ), sm) () k : CellTallies nD τ sig Unit) ((c : Thread nD τ), sm') () = if sm = sm' then k else 0 := by
  rw [Equiv.sum_comp e fun d : Dev nD => (tallyAt ((d : Thread nD τ), sm) () k : CellTallies nD τ sig Unit) ((c : Thread nD τ), sm') ()]
  have e' (d : Dev nD) : (tallyAt ((d : Thread nD τ), sm) () k : CellTallies nD τ sig Unit) ((c : Thread nD τ), sm') ()
      = if d = c then (if sm = sm' then k else 0) else 0 := by
    rw [tallyAt_apply]
    by_cases hd : d = c
    · subst hd
      by_cases hs : sm = sm'
      · subst hs; rw [if_pos ⟨rfl, rfl⟩, if_pos rfl, if_pos rfl]
      · rw [if_neg (fun h => hs (congrArg Prod.snd h.1).symm), if_pos rfl, if_neg hs]
    · rw [if_neg (fun h => hd (congrArg (fun g : GSem nD τ sig => g.1.1) h.1).symm), if_neg hd]
  rw [Finset.sum_congr rfl fun d _ => e' d]
  generalize (if sm = sm' then k else 0) = x
  rw [Finset.sum_ite_eq', if_pos (Finset.mem_univ c)]

theorem due_sum (b : Bool) (sm : SemLoc sig) (c : Dev nD) :
    ∑ d : Dev nD, ringDue 0 b d ((c : Thread nD τ), sm) ()
      = (((if SemLoc.dma (recvS b 2) = sm then N b else 0) + (if SemLoc.dma (recvS b 1) = sm then N b else 0) + (if SemLoc.dma (recvS b 0) = sm then N b else 0))
        + (if SemLoc.reg (barS b) = sm then 1 else 0)) + (if SemLoc.reg (barS b) = sm then 1 else 0) := by
  rw [← tally_sum (ringEquiv b) (.dma (recvS b 2)) sm (N b) c, ← tally_sum (ringEquiv b) (.dma (recvS b 1)) sm (N b) c,
    ← tally_sum (ringEquiv b) (.dma (recvS b 0)) sm (N b) c]
  rw [show (∑ d : Dev nD, (tallyAt ((ringEquiv b d : Thread nD τ), SemLoc.dma (recvS b 2)) () (N b) : CellTallies nD τ sig Unit) ((c : Thread nD τ), sm) ()
      + ∑ d : Dev nD, (tallyAt ((ringEquiv b d : Thread nD τ), SemLoc.dma (recvS b 1)) () (N b) : CellTallies nD τ sig Unit) ((c : Thread nD τ), sm) ()
      + ∑ d : Dev nD, (tallyAt ((ringEquiv b d : Thread nD τ), SemLoc.dma (recvS b 0)) () (N b) : CellTallies nD τ sig Unit) ((c : Thread nD τ), sm) ()
      + (if SemLoc.reg (barS b) = sm then 1 else 0)) + (if SemLoc.reg (barS b) = sm then 1 else 0)
    = (∑ d : Dev nD, (tallyAt ((ringEquiv b d : Thread nD τ), SemLoc.dma (recvS b 2)) () (N b) : CellTallies nD τ sig Unit) ((c : Thread nD τ), sm) ()
      + ∑ d : Dev nD, (tallyAt ((ringEquiv b d : Thread nD τ), SemLoc.dma (recvS b 1)) () (N b) : CellTallies nD τ sig Unit) ((c : Thread nD τ), sm) ()
      + ∑ d : Dev nD, (tallyAt ((ringEquiv b d : Thread nD τ), SemLoc.dma (recvS b 0)) () (N b) : CellTallies nD τ sig Unit) ((c : Thread nD τ), sm) ()
      + ∑ d : Dev nD, (tallyAt ((ringEquiv b d : Thread nD τ), SemLoc.reg (barS b)) () 1 : CellTallies nD τ sig Unit) ((c : Thread nD τ), sm) ())
      + ∑ d : Dev nD, (tallyAt (((ringEquiv b).symm d : Thread nD τ), SemLoc.reg (barS b)) () 1 : CellTallies nD τ sig Unit) ((c : Thread nD τ), sm) ()
    from by rw [tally_sum (ringEquiv b) (.reg (barS b)), tally_sum (ringEquiv b).symm (.reg (barS b))]]
  rw [← Finset.sum_add_distrib, ← Finset.sum_add_distrib, ← Finset.sum_add_distrib, ← Finset.sum_add_distrib]
  refine Finset.sum_congr rfl fun d _ => ?_
  unfold ringDue hopsLeft
  rw [zero_add]
  rfl

theorem exch_split (d : Dev nD) (g : GSem nD τ sig) :
    exchDue 0 d g () = (∑ e : Fin 3, ∑ t : Fin 3, xDue e t d g ()) + ∑ e : Fin 3, xTell e d g () := by
  have h : exchDue 0 d g () = (((0 + xDue 2 2 d g () + xDue 2 1 d g () + xDue 2 0 d g ()) + xDue 1 2 d g () + xDue 1 1 d g () + xDue 1 0 d g ())
      + xDue 0 2 d g () + xDue 0 1 d g () + xDue 0 0 d g ()) + xTell 2 d g () + xTell 1 d g () + xTell 0 d g () := rfl
  rw [h, Fin.sum_univ_three, Fin.sum_univ_three, Fin.sum_univ_three, Fin.sum_univ_three, Fin.sum_univ_three]
  generalize xDue 0 0 d g () = a; generalize xDue 0 1 d g () = a'; generalize xDue 0 2 d g () = a''
  generalize xDue 1 0 d g () = b; generalize xDue 1 1 d g () = b'; generalize xDue 1 2 d g () = b''
  generalize xDue 2 0 d g () = e; generalize xDue 2 1 d g () = e'; generalize xDue 2 2 d g () = e''
  generalize xTell 0 d g () = t; generalize xTell 1 d g () = t'; generalize xTell 2 d g () = t''
  omega

theorem exch_sum (sm : SemLoc sig) (c : Dev nD) :
    ∑ d : Dev nD, exchDue 0 d ((c : Thread nD τ), sm) ()
      = (∑ e : Fin 3, ∑ t : Fin 3, if SemLoc.dma (xrecvS e t) = sm then NX t else 0) + ∑ _e : Fin 3, if SemLoc.reg barrier0 = sm then 1 else 0 := by
  rw [Finset.sum_congr rfl fun d _ => exch_split d _, Finset.sum_add_distrib, Finset.sum_comm, Finset.sum_comm (s := (Finset.univ : Finset (Dev nD)))]
  refine congrArg₂ (· + ·) (Finset.sum_congr rfl fun e _ => ?_) (Finset.sum_congr rfl fun e _ => ?_)
  · rw [Finset.sum_comm]
    exact Finset.sum_congr rfl fun t _ => tally_sum (pzEquiv e) (.dma (xrecvS e t)) sm (NX t) c
  · exact tally_sum (pzEquiv e) (.reg barrier0) sm 1 c

theorem dma_ne_bar : ∀ (b b' : Bool) (h : Fin 3), SemLoc.dma (recvS b h) ≠ (SemLoc.reg (barS b') : SemLoc sig) := by decide
theorem bar_ne_dma : ∀ (b b' : Bool) (h : Fin 3), (SemLoc.reg (barS b') : SemLoc sig) ≠ SemLoc.dma (recvS b h) := by decide
theorem bar_iff : ∀ b b' : Bool, (SemLoc.reg (barS b) : SemLoc sig) = SemLoc.reg (barS b') ↔ b = b' := by decide
theorem dma_iff : ∀ (b b' : Bool) (h h' : Fin 3), (SemLoc.dma (recvS b h) : SemLoc sig) = SemLoc.dma (recvS b' h') ↔ b = b' ∧ h = h' := by decide

theorem xdma_ne_bar : ∀ (b : Bool) (e t : Fin 3), SemLoc.dma (xrecvS e t) ≠ (SemLoc.reg (barS b) : SemLoc sig) := by decide
theorem xbar_ne_bar : ∀ b : Bool, (SemLoc.reg barrier0 : SemLoc sig) ≠ SemLoc.reg (barS b) := by decide
theorem bar_ne_xbar : ∀ b : Bool, (SemLoc.reg (barS b) : SemLoc sig) ≠ SemLoc.reg barrier0 := by decide
theorem xdma_ne_dma : ∀ (b : Bool) (h e t : Fin 3), SemLoc.dma (xrecvS e t) ≠ (SemLoc.dma (recvS b h) : SemLoc sig) := by decide
theorem dma_ne_xdma : ∀ (b : Bool) (h e t : Fin 3), SemLoc.dma (recvS b h) ≠ (SemLoc.dma (xrecvS e t) : SemLoc sig) := by decide
theorem xbar_ne_dma : ∀ (b : Bool) (h : Fin 3), (SemLoc.reg barrier0 : SemLoc sig) ≠ SemLoc.dma (recvS b h) := by decide
theorem dma_ne_xbar : ∀ (b : Bool) (h : Fin 3), SemLoc.dma (recvS b h) ≠ (SemLoc.reg barrier0 : SemLoc sig) := by decide
theorem bar_ne_xdma : ∀ (b : Bool) (e t : Fin 3), (SemLoc.reg (barS b) : SemLoc sig) ≠ SemLoc.dma (xrecvS e t) := by decide
theorem xdma_ne_xbar : ∀ e t : Fin 3, SemLoc.dma (xrecvS e t) ≠ (SemLoc.reg barrier0 : SemLoc sig) := by decide
theorem xbar_ne_xdma : ∀ e t : Fin 3, (SemLoc.reg barrier0 : SemLoc sig) ≠ SemLoc.dma (xrecvS e t) := by decide
theorem xdma_iff : ∀ e t e' t' : Fin 3, (SemLoc.dma (xrecvS e t) : SemLoc sig) = SemLoc.dma (xrecvS e' t') ↔ e = e' ∧ t = t' := by decide

/-- What all devices owe one cell, ring by ring and for the exchange. -/
theorem owed_sum (g : GSem nD τ sig) : ∑ d : Dev nD, O₀ d g ()
    = (∑ d : Dev nD, ringDue 0 true d g () + ∑ d : Dev nD, ringDue 0 false d g ()) + ∑ d : Dev nD, exchDue 0 d g () := by
  have e (d : Dev nD) : O₀ d g () = (ringDue 0 true d g () + ringDue 0 false d g ()) + exchDue 0 d g () := rfl
  rw [Finset.sum_congr rfl fun d _ => e d, Finset.sum_add_distrib, Finset.sum_add_distrib]

theorem owed_bar (b : Bool) (c : Dev nD) : ∑ d : Dev nD, O₀ d (barCell b c) () = 2 := by
  rw [owed_sum, due_sum, due_sum, exch_sum]
  simp only [if_neg (dma_ne_bar _ _ _), bar_iff, if_neg (xdma_ne_bar _ _ _), if_neg (xbar_ne_bar _), Finset.sum_const_zero]
  cases b <;> rfl

theorem owed_recv (b : Bool) (h : Fin 3) (c : Dev nD) : ∑ d : Dev nD, O₀ d (recvCell b h c) () = N b := by
  rw [owed_sum, due_sum, due_sum, exch_sum]
  simp only [if_neg (bar_ne_dma _ _ _), dma_iff, if_neg (xdma_ne_dma _ _ _ _), if_neg (xbar_ne_dma _ _), Finset.sum_const_zero]
  generalize hx : N true = x
  generalize hy : N false = y
  cases b
  · rw [hy]; match h with
    | 0 => simp
    | 1 => simp
    | 2 => simp
  · rw [hx]; match h with
    | 0 => simp
    | 1 => simp
    | 2 => simp

theorem owed_xbar (c : Dev nD) : ∑ d : Dev nD, O₀ d (xbarCell c) () = 3 := by
  rw [owed_sum, due_sum, due_sum, exch_sum]
  simp only [if_neg (dma_ne_xbar _ _), if_neg (bar_ne_xbar _), if_neg (xdma_ne_xbar _ _), Finset.sum_const_zero, if_true]
  rfl

theorem pick (f : Fin 3 → ℕ) (e t : Fin 3) : (∑ e' : Fin 3, ∑ t' : Fin 3, if e' = e ∧ t' = t then f t' else 0) = f t := by
  fin_cases e <;> fin_cases t <;> simp [Fin.sum_univ_three]

theorem owed_xrecv (e t : Fin 3) (c : Dev nD) : ∑ d : Dev nD, O₀ d (xrecvCell e t c) () = NX t := by
  rw [owed_sum, due_sum, due_sum, exch_sum]
  simp only [if_neg (dma_ne_xdma _ _ _ _), if_neg (bar_ne_xdma _ _ _), if_neg (xbar_ne_xdma _ _), Finset.sum_const_zero, xdma_iff]
  rw [show (∑ e' : Fin 3, ∑ t' : Fin 3, if e' = e ∧ t' = t then NX t' else 0) = NX t from pick NX e t]
  simp only [Nat.add_zero, Nat.zero_add]

theorem launch_at (c : Dev nD) (sm : SemLoc sig) (k : ℕ) (h : ∑ d : Dev nD, O₀ d ((c : Thread nD τ), sm) () = k) :
    tallyOn ((c : Thread nD τ), sm) (launchCredit (Pipeline.owing O₀) 0 ((c : Thread nD τ), sm)) = (tallyAt ((c : Thread nD τ), sm) () k : CellTallies nD τ sig Unit) := by
  unfold tallyAt; refine congrArg _ (Finsupp.ext fun u => ?_); cases u
  rw [Pipeline.launchCredit_owing, Finsupp.single_eq_same, h]

/-- The semaphores a device waits on for others: its barriers and its arrivals. -/
abbrev waitS (k : Fin 18) : SemLoc sig := match k.1 with
  | 0 => .reg (barS false)
  | 1 => .dma (recvS false 0)
  | 2 => .dma (recvS false 1)
  | 3 => .dma (recvS false 2)
  | 4 => .reg (barS true)
  | 5 => .dma (recvS true 0)
  | 6 => .dma (recvS true 1)
  | 7 => .dma (recvS true 2)
  | 8 => .reg barrier0
  | 9 => .dma (xrecvS 0 0)
  | 10 => .dma (xrecvS 0 1)
  | 11 => .dma (xrecvS 0 2)
  | 12 => .dma (xrecvS 1 0)
  | 13 => .dma (xrecvS 1 1)
  | 14 => .dma (xrecvS 1 2)
  | 15 => .dma (xrecvS 2 0)
  | 16 => .dma (xrecvS 2 1)
  | _ => .dma (xrecvS 2 2)
/-- What arrives on each. -/
abbrev waitN (k : Fin 18) : ℕ := match k.1 with
  | 0 => 2
  | 1 => N false
  | 2 => N false
  | 3 => N false
  | 4 => 2
  | 5 => N true
  | 6 => N true
  | 7 => N true
  | 8 => 3
  | 9 => NX 0
  | 10 => NX 1
  | 11 => NX 2
  | 12 => NX 0
  | 13 => NX 1
  | 14 => NX 2
  | 15 => NX 0
  | 16 => NX 1
  | _ => NX 2
def waitEmb : Fin 18 ↪ SemLoc sig := ⟨waitS, by decide⟩

theorem owed_wait (c : Dev nD) (k : Fin 18) : ∑ d : Dev nD, O₀ d ((c : Thread nD τ), waitS k) () = waitN k := by
  fin_cases k
  · exact owed_bar false c
  · exact owed_recv false 0 c
  · exact owed_recv false 1 c
  · exact owed_recv false 2 c
  · exact owed_bar true c
  · exact owed_recv true 0 c
  · exact owed_recv true 1 c
  · exact owed_recv true 2 c
  · exact owed_xbar c
  · exact owed_xrecv 0 0 c
  · exact owed_xrecv 0 1 c
  · exact owed_xrecv 0 2 c
  · exact owed_xrecv 1 0 c
  · exact owed_xrecv 1 1 c
  · exact owed_xrecv 1 2 c
  · exact owed_xrecv 2 0 c
  · exact owed_xrecv 2 1 c
  · exact owed_xrecv 2 2 c

/-- The credit of ring `b`. -/
def credB (b : Bool) (c : Dev nD) : sProp 𝕄 :=
  iprop(cred (tallyAt (barCell b c) () 2) ∗ (tri fun h => cred (tallyAt (recvCell b h c) () (N b))))
/-- The credit of the exchange. -/
def credX (c : Dev nD) : sProp 𝕄 :=
  iprop(cred (tallyAt (xbarCell c) () 3) ∗ (nine fun d t => cred (tallyAt (xrecvCell d t c) () (NX t))))

theorem fam_wait (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

theorem regroup (Φ : Fin 18 → sProp 𝕄) : bigSep Finset.univ Φ ⊢ iprop((Φ 0 ∗ Φ 1 ∗ Φ 2 ∗ Φ 3) ∗ (Φ 4 ∗ Φ 5 ∗ Φ 6 ∗ Φ 7) ∗ Φ 8 ∗ (Φ 9 ∗ Φ 10 ∗ Φ 11) ∗ (Φ 12 ∗ Φ 13 ∗ Φ 14) ∗ Φ 15 ∗ Φ 16 ∗ Φ 17) := by
  rw [fam_wait]
  iintro ⟨H0, H1, H2, H3, H4, H5, H6, H7, H8, H9, H10, H11, H12, H13, H14, H15, H16, H17⟩
  isplitl [H0 H1 H2 H3]
  · isplitl [H0]
    · iexact H0
    isplitl [H1]
    · iexact H1
    isplitl [H2]
    · iexact H2
    iexact H3
  isplitl [H4 H5 H6 H7]
  · isplitl [H4]
    · iexact H4
    isplitl [H5]
    · iexact H5
    isplitl [H6]
    · iexact H6
    iexact H7
  isplitl [H8]
  · iexact H8
  isplitl [H9 H10 H11]
  · isplitl [H9]
    · iexact H9
    isplitl [H10]
    · iexact H10
    iexact H11
  isplitl [H12 H13 H14]
  · isplitl [H12]
    · iexact H12
    isplitl [H13]
    · iexact H13
    iexact H14
  isplitl [H15]
  · iexact H15
  isplitl [H16]
  · iexact H16
  iexact H17

theorem creds (c : Dev nD) : (Pipeline.launchCred O₀ c : sProp 𝕄) ⊢ iprop(credB false c ∗ credB true c ∗ credX c) := by
  unfold Pipeline.launchCred
  refine (bigSep_subset (Finset.subset_univ (Finset.univ.map waitEmb))).trans ?_
  rw [bigSep_map, bigSep_congr (Ψ := fun k : Fin 18 => (cred (tallyAt ((c : Thread nD τ), waitS k) () (waitN k)) : sProp 𝕄))
    (fun k _ => congrArg cred (launch_at c _ _ (owed_wait c k)) : ∀ k ∈ (Finset.univ : Finset (Fin 18)), (cred (tallyOn ((c : Thread nD τ), waitEmb k)
      (launchCredit (Pipeline.owing O₀) 0 ((c : Thread nD τ), waitEmb k))) : sProp 𝕄) = _)]
  unfold credB credX
  exact regroup fun k : Fin 18 => (cred (tallyAt ((c : Thread nD τ), waitS k) () (waitN k)) : sProp 𝕄)

end Cert.KernelIdeal.Gen

end
-- ==== Proof.Ideal.Launch.lean ====
module

public import proofs.«01_k».proof.Proof.Ideal.Segs
public import proofs.«01_k».proof.Proof.Ideal.SegsMm
public import proofs.«01_k».proof.Proof.Ideal.Deal

/-!
# The launch, and the whole run

The cells of the exchange and of both rings get their invariants, the launch deals its tokens and credits, and the items of the program follow one another.
-/

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (HostSeg)
open Idealize.ShloMosaic.Pipeline.PerCore (Seg RegionSeg)

namespace Cert.KernelIdeal.Gen

variable {F : FTy → Type} [FloatOps F]

local notation "𝕄" => MT nD τ sig Unit (Elt F) ℕ UU ℕ

/-! ## Everything dealt -/

variable (m : (ℓ : Loc nD τ sig) → Buf (Elt F) ℓ)

theorem disjoint_cells : Disjoint (barCells : Finset (GSem nD τ sig)) scCells := by
  rw [Finset.disjoint_left]
  rintro g h₁ h₂
  obtain ⟨cb, -, rfl⟩ := Finset.mem_map.mp h₁
  obtain ⟨ck, -, h⟩ := Finset.mem_map.mp h₂
  exact scSem_ne_bar ck.2 cb.2 (congrArg Prod.snd h)

theorem disjoint_xcells : Disjoint (xbarCells : Finset (GSem nD τ sig)) xscCells := by
  rw [Finset.disjoint_left]
  rintro g h₁ h₂
  obtain ⟨cb, -, rfl⟩ := Finset.mem_map.mp h₁
  obtain ⟨ck, -, h⟩ := Finset.mem_map.mp h₂
  exact xscSem_ne_bar ck.2 (congrArg Prod.snd h)

theorem unscopedSems0_eq (c : Dev nD) : (unscopedSems0 c : sProp 𝕄)
    = iprop(semVal (barCell false c) 0 ∗ semVal (barCell true c) 0 ∗ semVal (xbarCell c) 0) := by
  unfold unscopedSems0
  rw [show (Finset.univ.filter fun sm : SemLoc sig => ¬ sm.isScoped .tc) = {SemLoc.reg (barS false), SemLoc.reg (barS true), SemLoc.reg barrier0} from by decide,
    bigSep_insert (by decide), bigSep_insert (by decide), bigSep_singleton]
  rfl

/-- The ghost state at launch. -/
def u₀ : UU :=
  (initOf (Pipeline.PerCore.cells (Pipeline.pinD (pcfgs (F := F)) adm) cells_inj)
      (Pipeline.PerCore.launchToks (Pipeline.pinD (pcfgs (F := F)) adm) cells_inj),
    ((launchOf barCells scCells allToks, launchOf xbarCells xscCells allXToks), 1))

/-- A resource parked on one device. -/
def parked (c₀ : Dev nD) (P : sProp 𝕄) (c : Dev nD) : sProp 𝕄 := if c = c₀ then P else iprop(emp)
theorem bigSep_parked (c₀ : Dev nD) (P : sProp 𝕄) : bigSep Finset.univ (parked c₀ P) = P := by
  have e : bigSep (Finset.univ.erase c₀) (parked c₀ P) = (BI.emp : sProp 𝕄) := by
    rw [bigSep_congr (Ψ := fun _ => (BI.emp : sProp 𝕄)) fun c hc => by unfold parked; rw [if_neg (Finset.ne_of_mem_erase hc)]; rfl]
    exact BI.bigSep_emp_const _
  rw [bigSep_univ_at _ c₀, e]
  unfold parked; rw [if_pos rfl]
  exact BI.equiv_iff.mp sep_emp

/-- The two protocols' ghost state. -/
def GG : sProp 𝕄 := iprop(BI.own (ER (launchOf barCells scCells allToks)) ∗ BI.own (EX (launchOf xbarCells xscCells allXToks)))
def G : Dev nD → sProp 𝕄 := parked 0 GG

/-- The rights to open the six cells of a ring. -/
def opens (b : Bool) (c : Dev nD) : sProp 𝕄 := iprop((tri fun h => openTok ER (sendCell b h c)) ∗ (tri fun h => openTok ER (recvCell b h c)))

/-- The rights to open the eighteen cells of the exchange. -/
def xopens (c : Dev nD) : sProp 𝕄 := iprop((nine fun d t => openTok EX (xsendCell d t c)) ∗ (nine fun d t => openTok EX (xrecvCell d t c)))

/-- What of the rings' ghost state goes to device `c`. -/
def linear (c : Dev nD) : sProp 𝕄 :=
  iprop((atPos ER (barCell false c) 0 ∅ 0 ∗ atPos ER (barCell true c) 0 ∅ 0) ∗ (opens false c ∗ opens true c) ∗ (paidToks false c ∗ paidToks true c))
/-- What of the exchange's. -/
def xlinear (c : Dev nD) : sProp 𝕄 :=
  iprop(atPos EX (xbarCell c) 0 ∅ 0 ∗ xopens c ∗ (xpaidToks 0 c ∗ xpaidToks 1 c ∗ xpaidToks 2 c))
/-- What else it has at launch. -/
def bundle (ρ : Dev nD → PrngReg) (c : Dev nD) : sProp 𝕄 :=
  iprop(StableHlo.held (c : Thread nD τ) (Pipeline.ucRefs τ sig) (V0 m c) ∗ (credB false c ∗ credB true c ∗ credX c) ∗ owes (c : Thread nD τ) (O₀ c) ∅ ∗ prngReg c (ρ c))

theorem carried_intro (b : Bool) (c : Dev nD) : iprop(atPos ER (barCell b c) 0 ∅ 0 ∗ opens b c ∗ paidToks b c ∗ credB b c) ⊢ (carried b c : sProp 𝕄) := by
  unfold carried opens paidToks credB sendToks recvToks
  iintro ⟨Ha, ⟨Hs, Hr⟩, ⟨⟨HN, Hts⟩, HP, Htr⟩, Hb, Hc⟩
  isplitl [Ha]; · iexact Ha
  isplitl [Hs]; · iexact Hs
  isplitl [Hr]; · iexact Hr
  isplitl [HP]; · iexact HP
  isplitl [HN]; · iexact HN
  isplitl [Hts]; · iexact Hts
  isplitl [Htr]; · iexact Htr
  isplitl [Hb] <;> iassumption

theorem xcarried_intro (c : Dev nD) : iprop(xlinear c ∗ credX c) ⊢ (xcarried c : sProp 𝕄) := by
  unfold xlinear xcarried xopens xpaidToks credX xsendToks xrecvToks
  dsimp only [nine, tri]
  iintro ⟨⟨Ha, ⟨Hs, Hr⟩, ⟨HB0, HS0, HR0⟩, ⟨HB1, HS1, HR1⟩, HB2, HS2, HR2⟩, Hb, Hc⟩
  isplitl [Ha]; · iexact Ha
  isplitl [Hs]; · iexact Hs
  isplitl [Hr]; · iexact Hr
  isplitl [HB0 HB1 HB2]
  · isplitl [HB0]; · iexact HB0
    isplitl [HB1] <;> iassumption
  isplitl [HS0 HS1 HS2]
  · isplitl [HS0]; · iexact HS0
    isplitl [HS1] <;> iassumption
  isplitl [HR0 HR1 HR2]
  · isplitl [HR0]; · iexact HR0
    isplitl [HR1] <;> iassumption
  isplitl [Hb] <;> iassumption

/-- The state before the first item. -/
abbrev T₀ (c : Dev nD) : sProp 𝕄 := iprop(StableHlo.held (c : Thread nD τ) (Pipeline.ucRefs τ sig) (V0 m c) ∗ E m 0 c)

theorem T₀_intro (ρ : Dev nD → PrngReg) (κ κ' : GSem nD τ sig → ℕ) (c : Dev nD) :
    iprop((records (blocks m) κ ∗ xrecords (xblocks m) κ') ∗ (linear c ∗ xlinear c ∗ bundle m ρ c)) ⊢ T₀ m c := by
  show _ ⊢ iprop(StableHlo.held (c : Thread nD τ) (Pipeline.ucRefs τ sig) (V0 m c) ∗ side0 m c ∗ owing c (O₀ c))
  unfold linear bundle side0 kept keptX owing
  iintro ⟨⟨#HR, #HR'⟩, ⟨⟨Ha, Ha'⟩, ⟨Ho, Ho'⟩, Hp, Hp'⟩, Hx, Hh, ⟨Hc, Hc', Hcx⟩, HO, Hr⟩
  isplitl [Hh]; · iexact Hh
  isplitr [HO]
  · isplitl [Hr]; · iexists (ρ c); iexact Hr
    isplitl [Hx Hcx]
    · iexists κ'
      isplitr; · iexact HR'
      iapply (xcarried_intro c)
      isplitl [Hx] <;> iassumption
    isplitl [Ha Ho Hp Hc]
    · iexists κ
      isplitr; · iexact HR
      iapply (carried_intro false c)
      isplitl [Ha]; · iexact Ha
      isplitl [Ho]; · iexact Ho
      isplitl [Hp] <;> iassumption
    · iexists κ
      isplitr; · iexact HR
      iapply (carried_intro true c)
      isplitl [Ha']; · iexact Ha'
      isplitl [Ho']; · iexact Ho'
      isplitl [Hp'] <;> iassumption
  iexists ∅; iexact HO

theorem bars_out (Φ : GSem nD τ sig → sProp 𝕄) : bigSep barCells Φ = bigSep Finset.univ fun c : Dev nD => iprop(Φ (barCell false c) ∗ Φ (barCell true c)) := by
  rw [bigSep_map, bigSep_univ_prod]
  exact bigSep_congr fun c _ => fam_bool _

theorem opens_out : bigSep scCells (fun g => (openTok ER g : sProp 𝕄)) = bigSep Finset.univ fun c : Dev nD => iprop(opens false c ∗ opens true c) := by
  rw [bigSep_map, bigSep_univ_prod]
  refine bigSep_congr fun c _ => ?_
  unfold opens
  simp only [bigSep_univ_prod, fam_bool, fam_three]
  rfl

theorem xbars_out (Φ : GSem nD τ sig → sProp 𝕄) : bigSep xbarCells Φ = bigSep Finset.univ fun c : Dev nD => Φ (xbarCell c) := by
  rw [bigSep_map]; rfl

theorem fam_six (Φ : Bool × Fin 3 × Fin 3 → sProp 𝕄) :
    bigSep Finset.univ Φ = iprop((nine fun d t => Φ (false, d, t)) ∗ (nine fun d t => Φ (true, d, t))) := by
  simp only [bigSep_univ_prod, fam_bool, fam_three]

theorem xopens_out : bigSep xscCells (fun g => (openTok EX g : sProp 𝕄)) = bigSep Finset.univ fun c : Dev nD => xopens c := by
  rw [bigSep_map, bigSep_univ_prod]
  refine bigSep_congr fun c _ => ?_
  rw [fam_six]
  rfl

/-- What a device has at launch, its ghost share apart. -/
theorem dealt (ρ : Dev nD → PrngReg) (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m ρ c ∗ ((semVal (barCell false c) 0 ∗ semVal (barCell true c) 0) ∗ (semVal (xbarCell c) 0 ∗ G c))) : sProp 𝕄) := by
  rw [show unscopedBufs c (fun b => m ((c : Thread nD τ).loc b)) = StableHlo.held (c : Thread nD τ) (Pipeline.ucRefs τ sig) (V0 m c) from
    Pipeline.unscopedBufs_held c (V0 m c), unscopedSems0_eq]
  unfold bundle
  iintro ⟨Hh, ⟨Hs, Hs', Hx⟩, HO, Hcr, Hp, HG⟩
  ihave Hc := (creds (F := F) c) $$ Hcr
  isplitl [Hh Hc HO Hp]
  · isplitl [Hh]; · iexact Hh
    isplitl [Hc]; · iexact Hc
    isplitl [HO] <;> iassumption
  isplitl [Hs Hs']
  · isplitl [Hs] <;> iassumption
  isplitl [Hx] <;> iassumption

theorem xtoks_out : bigSep allXToks (fun x => (dutyTok EX x.1 x.2.1 x.2.2 : sProp 𝕄))
    ⊢ bigSep Finset.univ fun c : Dev nD => iprop(xpaidToks 0 c ∗ xpaidToks 1 c ∗ xpaidToks 2 c) := by
  refine (xtoks_dealt (F := F)).trans ?_
  dsimp only [tri]
  iintro H
  ihave H' := (fam_pair (F := F)).1 $$ H; icases H' with ⟨H0, H2⟩
  ihave H' := (fam_pair (F := F)).1 $$ H2; icases H' with ⟨H1, H2⟩
  iapply (fam_pair (F := F)).2
  isplitl [H0]; · iapply (xtoks_around (F := F) 0) $$ H0
  iapply (fam_pair (F := F)).2
  isplitl [H1]
  · iapply (xtoks_around (F := F) 1) $$ H1
  · iapply (xtoks_around (F := F) 2) $$ H2

theorem init (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv := Entails.of_eq (bars_out (F := F) (fun g => semVal g 0)).symm
  have hat := Entails.of_eq (bars_out (F := F) (fun g => atPos ER g 0 ∅ 0))
  have hxv := Entails.of_eq (xbars_out (F := F) (fun g => semVal g 0)).symm
  have hxat := Entails.of_eq (xbars_out (F := F) (fun g => atPos EX g 0 ∅ 0))
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD =>
          iprop(bundle m ρ c ∗ ((semVal (barCell false c) 0 ∗ semVal (barCell true c) 0) ∗ (semVal (xbarCell c) 0 ∗ G c))) : sProp 𝕄) :=
    bigSep_mono fun c _ => dealt m ρ c
  have hpark : bigSep Finset.univ (G (F := F)) ⊢ iprop(BI.own (ER (launchOf barCells scCells allToks)) ∗ BI.own (EX (launchOf xbarCells xscCells allXToks))) :=
    Entails.of_eq (bigSep_parked (F := F) 0 GG)
  iintro ⟨H, -⟩
  ihave H' := hall $$ H
  ihave H2 := (fam_pair (F := F)).1 $$ H'; icases H2 with ⟨HB, H3⟩
  ihave H4 := (fam_pair (F := F)).1 $$ H3; icases H4 with ⟨Hv, H5⟩
  ihave H6 := (fam_pair (F := F)).1 $$ H5; icases H6 with ⟨Hxv, HG⟩
  ihave Hu := hpark $$ HG
  icases Hu with ⟨Hu, Hxu⟩
  imod (Rounds.fund_launch ER (ringRd (blocks m)) disjoint_cells (fun g _ h => h) allToks) $$ [Hv Hu] with ⟨%κ, -, #Hinv, #Hr, Hat, Hopen, Htok⟩
  · isplitl [Hv]
    · iapply hv $$ Hv
    · iexact Hu
  imod (Rounds.fund_launch EX (xRd (xblocks m)) disjoint_xcells (fun g _ h => h) allXToks) $$ [Hxv Hxu] with ⟨%κ', -, #Hxinv, #Hxr, Hxat, Hxopen, Hxtok⟩
  · isplitl [Hxv]
    · iapply hxv $$ Hxv
    · iexact Hxu
  imodintro
  iapply (bigSep_with_persistent (R := iprop(records (blocks m) κ ∗ xrecords (xblocks m) κ'))
    (Φ := fun c => iprop(linear c ∗ xlinear c ∗ bundle m ρ c)) fun c _ => T₀_intro m ρ κ κ' c)
  isplitr
  · unfold records xrecords
    isplitr
    · isplitr; · iexact Hinv
      iexact Hr
    · isplitr; · iexact Hxinv
      iexact Hxr
  iapply (fam_pair (F := F)).2
  isplitl [Hat Hopen Htok]
  · unfold linear
    iapply (fam_pair (F := F)).2; isplitl [Hat]; · iapply hat $$ Hat
    iapply (fam_pair (F := F)).2; isplitl [Hopen]; · iapply (Entails.of_eq (opens_out (F := F))) $$ Hopen
    ihave Ht := (Entails.of_eq (toks_dealt (F := F))) $$ Htok
    ihave Ht := (fam_pair (F := F)).1 $$ Ht; icases Ht with ⟨Ht, Ht'⟩
    iapply (fam_pair (F := F)).2
    isplitl [Ht]
    · iapply (toks_around (F := F) false) $$ Ht
    · iapply (toks_around (F := F) true) $$ Ht'
  iapply (fam_pair (F := F)).2
  isplitr [HB]
  · unfold xlinear
    iapply (fam_pair (F := F)).2; isplitl [Hxat]; · iapply hxat $$ Hxat
    iapply (fam_pair (F := F)).2; isplitl [Hxopen]; · iapply (Entails.of_eq (xopens_out (F := F))) $$ Hxopen
    iapply (xtoks_out (F := F)) $$ Hxtok
  · iexact HB

/-! ## The run -/

theorem unscoped_eq : ∀ sm : SemLoc sig, sm.isScoped .tc = false → sm = .reg barrier0 ∨ ∃ b, sm = .reg (barS b) := by decide

/-- The state at the end. -/
abbrev Tₙ (c : Dev nD) : sProp 𝕄 :=
  iprop(StableHlo.held (c : Thread nD τ) (Pipeline.ucRefs τ sig) (V35 m (outs m) c) ∗ semVal (xbarCell c) 0 ∗ semVal (barCell false c) 0 ∗ semVal (barCell true c) 0)

/-- The items of the program as device `c` runs them. -/
def items (c : Dev nD) : List (Seg (pcfgs (F := F)) adm (pdats m) () defs₀ 𝒱₀ L lv) :=
  [ .host (seg0 m 𝒱₀ L lv (E m) c),
    .region (reg0 m),
    .host (seg2 m (outs m) 𝒱₀ L lv (E m)),
    .host (seg3 m (outs m) 𝒱₀ L lv (E m)),
    .host (seg4 m (outs m) 𝒱₀ L lv (E m)),
    .host (seg5 m (outs m) 𝒱₀ L lv (E m)),
    .host (seg6 m (outs m) 𝒱₀ L lv (E m)),
    .host (seg7 m (outs m) 𝒱₀ L lv (E m)),
    .host (seg8 m (outs m) 𝒱₀ L lv (E m)),
    .host (seg9 m (outs m) 𝒱₀ L lv (E m)),
    .host (seg10 m (outs m) 𝒱₀ L lv (E m)),
    .host (seg11 m (outs m) 𝒱₀ L lv (E m)),
    .host (seg12 m (outs m) 𝒱₀ L lv (E m)),
    .host (seg13 m (outs m) 𝒱₀ L lv (E m)),
    .host (seg14 m (outs m) 𝒱₀ L lv (E m)),
    .region (reg1 m),
    .host (seg16 m (outs m) 𝒱₀ L lv (E m)),
    .region (reg2 m),
    .host (seg18 m (outs m) 𝒱₀ L lv (E m)),
    .region (reg3 m),
    .host (seg20 m (outs m) 𝒱₀ L lv (E m)),
    .host (seg21 m (outs m) 𝒱₀ L lv (E m)),
    .host (seg22 m (outs m) 𝒱₀ L lv (E m)),
    .region (reg4 m),
    .host (seg24 m (outs m) 𝒱₀ L lv (E m)),
    .host (seg25 m (outs m) 𝒱₀ L lv (E m)),
    .host (seg26 m (outs m) 𝒱₀ L lv (E m)),
    .region (reg5 m),
    .host (seg28 m (outs m) 𝒱₀ L lv (E m)),
    .region (reg6 m),
    .region (reg7 m),
    .region (reg8 m),
    .host (seg32 m (outs m) 𝒱₀ L lv (E m)),
    .region (reg9 m),
    .host (seg34 m (outs m) 𝒱₀ L lv (E m)) ]

/-! ## Between the items -/

theorem enter0 (c : Dev nD) : iprop(StableHlo.held (c : Thread nD τ) (Pipeline.ucRefs τ sig) (V1 m c) ∗ E m 0 c) ⊢ (reg0 m).pre c := by
  exact pre0 m c
theorem after0 (c : Dev nD) : (reg0 m).post c ⊢ iprop(StableHlo.held (c : Thread nD τ) (Pipeline.ucRefs τ sig) (V2 m (outs m) c) ∗ E m 1 c) := by
  rw [V2_eq]; exact post0 m c
theorem enter1 (c : Dev nD) : iprop(StableHlo.held (c : Thread nD τ) (Pipeline.ucRefs τ sig) (V15 m (outs m) c) ∗ E m 1 c) ⊢ (reg1 m).pre c := by
  rw [V15_eq]; exact pre1 m c
theorem after1 (c : Dev nD) : (reg1 m).post c ⊢ iprop(StableHlo.held (c : Thread nD τ) (Pipeline.ucRefs τ sig) (V16 m (outs m) c) ∗ E m 2 c) := by
  rw [V16_eq]; exact post1 m c
theorem enter2 (c : Dev nD) : iprop(StableHlo.held (c : Thread nD τ) (Pipeline.ucRefs τ sig) (V17 m (outs m) c) ∗ E m 2 c) ⊢ (reg2 m).pre c := by
  rw [V17_eq]; exact pre2 m c
theorem after2 (c : Dev nD) : (reg2 m).post c ⊢ iprop(StableHlo.held (c : Thread nD τ) (Pipeline.ucRefs τ sig) (V18 m (outs m) c) ∗ E m 3 c) := by
  rw [V18_eq]; exact post2 m c
theorem enter3 (c : Dev nD) : iprop(StableHlo.held (c : Thread nD τ) (Pipeline.ucRefs τ sig) (V19 m (outs m) c) ∗ E m 3 c) ⊢ (reg3 m).pre c := by
  rw [V19_eq]; exact pre3 m c
theorem after3 (c : Dev nD) : (reg3 m).post c ⊢ iprop(StableHlo.held (c : Thread nD τ) (Pipeline.ucRefs τ sig) (V20 m (outs m) c) ∗ E m 4 c) := by
  rw [V20_eq]; exact post3 m c
theorem enter4 (c : Dev nD) : iprop(StableHlo.held (c : Thread nD τ) (Pipeline.ucRefs τ sig) (V23 m (outs m) c) ∗ E m 4 c) ⊢ (reg4 m).pre c := by
  rw [V23_eq]; exact pre4 m c
theorem after4 (c : Dev nD) : (reg4 m).post c ⊢ iprop(StableHlo.held (c : Thread nD τ) (Pipeline.ucRefs τ sig) (V24 m (outs m) c) ∗ E m 5 c) := by
  rw [V24_eq]; exact post4 m c
theorem enter5 (c : Dev nD) : iprop(StableHlo.held (c : Thread nD τ) (Pipeline.ucRefs τ sig) (V27 m (outs m) c) ∗ E m 5 c) ⊢ (reg5 m).pre c := by
  rw [V27_eq]; exact pre5 m c
theorem after5 (c : Dev nD) : (reg5 m).post c ⊢ iprop(StableHlo.held (c : Thread nD τ) (Pipeline.ucRefs τ sig) (V28 m (outs m) c) ∗ E m 6 c) := by
  rw [V28_eq]; exact post5 m c
theorem enter6 (c : Dev nD) : iprop(StableHlo.held (c : Thread nD τ) (Pipeline.ucRefs τ sig) (V29 m (outs m) c) ∗ E m 6 c) ⊢ (reg6 m).pre c := by
  rw [V29_eq]; exact pre6 m c
theorem after6 (c : Dev nD) : (reg6 m).post c ⊢ iprop(StableHlo.held (c : Thread nD τ) (Pipeline.ucRefs τ sig) (V30 m (outs m) c) ∗ E m 7 c) := by
  rw [V30_eq]; exact post6 m c
theorem enter7 (c : Dev nD) : iprop(StableHlo.held (c : Thread nD τ) (Pipeline.ucRefs τ sig) (V30 m (outs m) c) ∗ E m 7 c) ⊢ (reg7 m).pre c := by
  rw [V30_eq]; exact pre7 m c
theorem after7 (c : Dev nD) : (reg7 m).post c ⊢ iprop(StableHlo.held (c : Thread nD τ) (Pipeline.ucRefs τ sig) (V31 m (outs m) c) ∗ E m 8 c) := by
  rw [V31_eq]; exact post7 m c
theorem enter8 (c : Dev nD) : iprop(StableHlo.held (c : Thread nD τ) (Pipeline.ucRefs τ sig) (V31 m (outs m) c) ∗ E m 8 c) ⊢ (reg8 m).pre c := by
  rw [V31_eq]; exact pre8 m c
theorem after8 (c : Dev nD) : (reg8 m).post c ⊢ iprop(StableHlo.held (c : Thread nD τ) (Pipeline.ucRefs τ sig) (V32 m (outs m) c) ∗ E m 9 c) := by
  rw [V32_eq]; exact post8 m c
theorem enter9 (c : Dev nD) : iprop(StableHlo.held (c : Thread nD τ) (Pipeline.ucRefs τ sig) (V33 m (outs m) c) ∗ E m 9 c) ⊢ (reg9 m).pre c := by
  rw [V33_eq]; exact pre9 m c
theorem after9 (c : Dev nD) : (reg9 m).post c ⊢ iprop(StableHlo.held (c : Thread nD τ) (Pipeline.ucRefs τ sig) (V34 m (outs m) c) ∗ E m 10 c) := by
  rw [V34_eq]; exact post9 m c

theorem leave (c : Dev nD) : iprop(StableHlo.held (c : Thread nD τ) (Pipeline.ucRefs τ sig) (V35 m (outs m) c) ∗ E m 10 c) ⊢ iprop(Tₙ m c ∗ ∃ W, owes (c : Thread nD τ) (0 : CellTallies nD τ sig Unit) W) := by
  show iprop(StableHlo.held (c : Thread nD τ) (Pipeline.ucRefs τ sig) (V35 m (outs m) c) ∗ semVal (xbarCell c) 0 ∗ semVal (barCell false c) 0 ∗ semVal (barCell true c) 0 ∗ owing c 0) ⊢ _
  unfold owing
  iintro ⟨Hh, Hx, Hb, Hb', HO⟩
  isplitr [HO]
  · isplitl [Hh]; · iexact Hh
    isplitl [Hx]; · iexact Hx
    isplitl [Hb] <;> iassumption
  · iexact HO

theorem chained (c : Dev nD) : Seg.ChainsAt c (T₀ m) (items m c)
    fun c => iprop(Tₙ m c ∗ ∃ W, owes (c : Thread nD τ) (0 : CellTallies nD τ sig Unit) W) :=
  ⟨.rfl, enter0 m c, after0 m c, .rfl, .rfl, .rfl, .rfl, .rfl, .rfl, .rfl, .rfl, .rfl, .rfl, .rfl, .rfl, enter1 m c, after1 m c, enter2 m c, after2 m c, enter3 m c, after3 m c, .rfl, .rfl, enter4 m c, after4 m c, .rfl, .rfl, enter5 m c, after5 m c, enter6 m c, (after6 m c).trans (enter7 m c), (after7 m c).trans (enter8 m c), after8 m c, enter9 m c, after9 m c, leave m c⟩

set_option backward.isDefEq.respectTransparency.types false in
/-- From any memory with zero counters every run ends; the operands are unchanged, the result is what the last item left, and every counter is zero. -/
theorem run_main (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_v121) = V35 m (outs m) c main_v121) ∧ r.2.sem = fun _ => 0) :=
  Pipeline.PerCore.θ_run_regions_kit_sems (pcfgs (F := F)) adm (pdats m) () cells_inj EP defs₀ 𝒱₀ L lv m ρ main (items m)
    (fun c Q => by
      rewrite [main_chain c, Seg.run_eq_chain,
        show (items m c).map Seg.prog = [
          StableHlo.seq (hostOps0 c),
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()),
          Prog.lift (.customCall (Pipeline.entry 7) ()),
          Prog.lift (.customCall (Pipeline.entry 8) ()),
          StableHlo.seq hostOps9,
          Prog.lift (.customCall (Pipeline.entry 9) ()),
          StableHlo.seq hostOps10 ] from rfl]
      dsimp (config := { failIfUnchanged := false }) only
      exact .rfl)
    (fun c => by simp only [items, Seg.pipes_host, Seg.pipes_region, Seg.pipes_nil]; decide)
    (O₀ := O₀) (hL := L_of_ne) (G := G) (u₀ := u₀ (F := F))
    (hu₀ := by
      unfold u₀ G
      rw [bigSep_parked]
      unfold GG
      iintro Hu
      ihave H := (ownU_pair _ _) $$ Hu
      icases H with ⟨HP, HX⟩
      ihave H' := (own_pair_emb _ _ _) $$ HX
      icases H' with ⟨HX, -⟩
      ihave H'' := (own_pair_emb _ _ _) $$ HX
      icases H'' with ⟨HR, HX⟩
      imodintro
      isplitl [HP]; · iexact HP
      isplitl [HR]
      · iexact HR
      · iexact HX)
    (T₀ := T₀ m) (Tₙ := Tₙ m)
    (hch := chained m)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_arg3) = m ((c : Thread nD τ).loc main_arg3)
        ∧ s.mem ((c : Thread nD τ).loc main_arg4) = m ((c : Thread nD τ).loc main_arg4)
        ∧ s.mem ((c : Thread nD τ).loc main_arg5) = m ((c : Thread nD τ).loc main_arg5)
        ∧ s.mem ((c : Thread nD τ).loc main_arg6) = m ((c : Thread nD τ).loc main_arg6)
        ∧ s.mem ((c : Thread nD τ).loc main_arg7) = m ((c : Thread nD τ).loc main_arg7)
        ∧ s.mem ((c : Thread nD τ).loc main_v121) = V35 m (outs m) c main_v121)
      ∧ (∀ b, s.sem (barCell b c) = 0) ∧ s.sem (xbarCell c) = 0)
    (hfin := fun c s' => by
      dsimp only [Tₙ]
      unfold StableHlo.held
      iintro ⟨⟨Hh, Hx, Hb, Hb'⟩, HSI⟩
      icombine HSI Hx gives %hx
      icombine HSI Hb gives %hb
      icombine HSI Hb' gives %hb'
      ihave Hr := (pointsTo_read_all (Pipeline.ucRefs τ sig) (fun b => ((c : Thread nD τ).1, b)) (V35 m (outs m) c) s') $$ [Hh HSI]
      · isplitl [Hh] <;> iassumption
      icases Hr with ⟨%h, HSI⟩
      imodintro
      isplitr
      · ipureintro
        refine ⟨⟨(h (Proc.devRef .tc main_arg0) (Finset.mem_filter.mpr ⟨StableHlo.devRef_mem_tcRefs main_arg0, by decide⟩)).trans (V35_main_arg0 m (outs m) c),
          (h (Proc.devRef .tc main_arg1) (Finset.mem_filter.mpr ⟨StableHlo.devRef_mem_tcRefs main_arg1, by decide⟩)).trans (V35_main_arg1 m (outs m) c),
          (h (Proc.devRef .tc main_arg2) (Finset.mem_filter.mpr ⟨StableHlo.devRef_mem_tcRefs main_arg2, by decide⟩)).trans (V35_main_arg2 m (outs m) c),
          (h (Proc.devRef .tc main_arg3) (Finset.mem_filter.mpr ⟨StableHlo.devRef_mem_tcRefs main_arg3, by decide⟩)).trans (V35_main_arg3 m (outs m) c),
          (h (Proc.devRef .tc main_arg4) (Finset.mem_filter.mpr ⟨StableHlo.devRef_mem_tcRefs main_arg4, by decide⟩)).trans (V35_main_arg4 m (outs m) c),
          (h (Proc.devRef .tc main_arg5) (Finset.mem_filter.mpr ⟨StableHlo.devRef_mem_tcRefs main_arg5, by decide⟩)).trans (V35_main_arg5 m (outs m) c),
          (h (Proc.devRef .tc main_arg6) (Finset.mem_filter.mpr ⟨StableHlo.devRef_mem_tcRefs main_arg6, by decide⟩)).trans (V35_main_arg6 m (outs m) c),
          (h (Proc.devRef .tc main_arg7) (Finset.mem_filter.mpr ⟨StableHlo.devRef_mem_tcRefs main_arg7, by decide⟩)).trans (V35_main_arg7 m (outs m) c),
          h (Proc.devRef .tc main_v121) (Finset.mem_filter.mpr ⟨StableHlo.devRef_mem_tcRefs main_v121, by decide⟩)⟩, fun b => ?_, by simpa using hx⟩
        cases b
        · simpa using hb
        · simpa using hb'
      iexact HSI)
    (hQ := fun s h hs => ⟨fun c => (h c).1,
      sem_eq_zero hs fun c sm hsm => by
        rcases unscoped_eq sm hsm with rfl | ⟨b, rfl⟩
        · exact (h c).2.2
        · exact (h c).2.1 b⟩)

end Cert.KernelIdeal.Gen

end
-- ==== Proof.Same.lean ====
module

public import proofs.«01_k».proof.Proof.Gen.Kernel
public import proofs.«01_k».proof.Proof.Gen.KernelIdeal

/-!
The two printed kernels are one text in two namespaces. What is proved of the runs of the one, in either
float semantics, is carried here to the other: their label signatures, tables of pipelines and bodies are
equal, and the host program is the same function of them.
-/

@[expose] public section

noncomputable section

open Idealize.ShloMosaic Idealize.SL.Sem Cert.Kernel

namespace Cert.Same

variable {F : FTy → Type} [FloatOps F]

set_option maxHeartbeats 0

theorem labels_eq : Cert.Kernel.Λ₀ = Cert.KernelIdeal.Λ₀ := (rfl)

theorem pcfgs_heq : HEq (Cert.Kernel.pcfgs (F := F)) (Cert.KernelIdeal.pcfgs (F := F)) := (HEq.refl _)

theorem pcfgs_eq : (Cert.Kernel.pcfgs (F := F)) = (Cert.KernelIdeal.pcfgs (F := F)) := eq_of_heq pcfgs_heq

theorem adms_eq : (fun p => (Cert.Kernel.pcfgs (F := F) p).Adm) = (fun p => (Cert.KernelIdeal.pcfgs (F := F) p).Adm) :=
  congrArg (fun (f : Fin 10 → Pipeline.PCfg Cert.KernelIdeal.sig Cert.KernelIdeal.Λ₀ (Elt F)) => fun p => (f p).Adm) pcfgs_eq

/-- A statement about the host program, at any label signature, holds of the one as of the other. -/
theorem main_of (P : (Λ : Labels) → (A : Fin 10 → Type) → (Dev Cert.Kernel.nD → Prog (TpuEff Cert.Kernel.nD Cert.Kernel.τ Cert.Kernel.sig (Elt F) (Pipeline.Sig Λ (Fin 10) A) .tc) PUnit) → Prop)
    (h : P Cert.KernelIdeal.Λ₀ (fun p => (Cert.KernelIdeal.pcfgs (F := F) p).Adm) (Cert.KernelIdeal.main (F := F))) :
    P Cert.Kernel.Λ₀ (fun p => (Cert.Kernel.pcfgs (F := F) p).Adm) (Cert.Kernel.main (F := F)) := by
  unfold Cert.Kernel.main Cert.Kernel.main_part0 Cert.Kernel.main_part1 Cert.Kernel.main_part2 Cert.Kernel.main_part3
    Cert.Kernel.fn_remainder.body Cert.Kernel.fn_floor_divide.body Cert.Kernel.fn_where.body
  rw [adms_eq]
  rw [labels_eq]
  exact h

set_option backward.isDefEq.respectTransparency.types false in
theorem bodies_eq : (Cert.Kernel.defs₀ (F := F)) = (Cert.KernelIdeal.defs₀ (F := F)) := by
  unfold Cert.Kernel.defs₀ Cert.KernelIdeal.defs₀
  refine congrArg Defs.onTc (funext fun l => ?_)
  rcases l with ⟨l, hl⟩
  match l, hl with
  | 0, _ => exact funext fun a => rfl
  | 1, _ => exact funext fun a => rfl
  | 2, _ => exact funext fun a => rfl
  | 3, _ => exact funext fun a => rfl
  | 4, _ => exact funext fun a => rfl
  | 5, _ => exact funext fun a => rfl
  | 6, _ => exact funext fun a => rfl
  | 7, _ => exact funext fun a => rfl
  | 8, _ => exact funext fun a => rfl
  | 9, _ => exact funext fun a => rfl
  | n + 10, h => exact absurd h (by omega)

theorem table_congr {nD : Nat} {τ : Topo} {sig : RefSig} {Λ : Labels} {pcs pcs' : Fin 10 → Pipeline.PCfg sig Λ (Elt F)} {d d' : Defs nD τ sig (Elt F) Λ}
    (hp : pcs = pcs') (hd : d = d') : HEq (Pipeline.defs pcs d) (Pipeline.defs pcs' d') := by
  subst hp hd; rfl

theorem defs_heq : HEq (Cert.Kernel.defs (F := F)) (Cert.KernelIdeal.defs (F := F)) := by
  unfold Cert.Kernel.defs Cert.KernelIdeal.defs
  exact table_congr (pcfgs_eq (F := F)) (bodies_eq (F := F))

/-- Every run of the one from a state is a run of the other from it. -/
theorem run_of (s : MemSt Cert.Kernel.nD Cert.Kernel.τ Cert.Kernel.sig (Elt F)) (Φ : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) s Φ) :
    θ_run (Cert.Kernel.defs (F := F)) (onTc (τ := Cert.Kernel.τ) (Cert.Kernel.main (F := F))) s Φ :=
  main_of (fun Λ A M => ∀ D : Defs Cert.Kernel.nD Cert.Kernel.τ Cert.Kernel.sig (Elt F) (Pipeline.Sig Λ (Fin 10) A),
      HEq D (Cert.KernelIdeal.defs (F := F)) → θ_run D (onTc (τ := Cert.Kernel.τ) M) s Φ)
    (fun D hD => by cases (eq_of_heq hD); exact h) (Cert.Kernel.defs (F := F)) defs_heq

end Cert.Same
end
-- ==== Proof.Spec.lean ====
module

public import proofs.«01_k».proof.Proof.Gen.ReferenceIdeal.Run
public import Idealize.ShloMosaic.Lib.Pointwise

/-!
# What both programs compute, and the reference

Latent attention over the reals, index by index: five projections, a softmax of scaled scores for each head, and the output
projection. The reference's composed term is this at every index.
-/

@[expose] public section

noncomputable section

open Idealize.ShloMosaic Idealize.ShloMosaic.TcCoe

namespace Cert.Maths

/-- The sum of the products of two families. -/
def mulSum {K : ℕ} (f g : Fin K → EReal) : EReal := ∑ k, f k * g k

/-! ## One head -/

section
variable (Q K : Fin 256 → Fin 128 → EReal) (V : Fin 256 → Fin 128 → EReal) (Qr Kr : Fin 256 → Fin 64 → EReal)

/-- The scaled score of query `s` at key `t`. -/
def score (s t : Fin 256) : EReal := (∑ x, Q s x * K t x + ∑ x, Qr s x * Kr t x) * Ideal.ofBits .f32 0x3D93CD3A#32

/-- The exponential of a score less the greatest score of its query. -/
def weight (s t : Fin 256) : EReal :=
  Ideal.exp (score Q K Qr Kr s t - Finset.fold max (Ideal.ofBits .f32 0xFF800000#32) (fun t => score Q K Qr Kr s t) Finset.univ)

/-- The head's output. -/
def att (s : Fin 256) (d : Fin 128) : EReal :=
  ∑ t, Ideal.div (weight Q K Qr Kr s t) (∑ t, weight Q K Qr Kr s t) * V t d

end

theorem att_congr {Q Q' K K' V V' : Fin 256 → Fin 128 → EReal} {Qr Qr' Kr Kr' : Fin 256 → Fin 64 → EReal} {s s' : Fin 256} {d d' : Fin 128}
    (hQ : ∀ t x, Q t x = Q' t x) (hK : ∀ t x, K t x = K' t x) (hV : ∀ t x, V t x = V' t x) (hQr : ∀ t x, Qr t x = Qr' t x)
    (hKr : ∀ t x, Kr t x = Kr' t x) (hs : s = s') (hd : d = d') : att Q K V Qr Kr s d = att Q' K' V' Qr' Kr' s' d' := by
  have eQ : Q = Q' := funext fun t => funext fun x => hQ t x
  have eK : K = K' := funext fun t => funext fun x => hK t x
  have eV : V = V' := funext fun t => funext fun x => hV t x
  have eQr : Qr = Qr' := funext fun t => funext fun x => hQr t x
  have eKr : Kr = Kr' := funext fun t => funext fun x => hKr t x
  rw [eQ, eK, eV, eQr, eKr, hs, hd]

/-! ## The whole -/

/-- The arrays computed with: the input, the latent's down-projection, the keys' and the values' up-projections, the three
    projections of the queries and of the shared rotary key, and the output projection. -/
structure Operands where
  x : (⟨3, ![4, 256, 4096]⟩ : Shape).Idx → EReal
  down : (⟨2, ![4096, 512]⟩ : Shape).Idx → EReal
  upK : (⟨2, ![512, 4096]⟩ : Shape).Idx → EReal
  upV : (⟨2, ![512, 4096]⟩ : Shape).Idx → EReal
  q : (⟨2, ![4096, 4096]⟩ : Shape).Idx → EReal
  qr : (⟨2, ![4096, 2048]⟩ : Shape).Idx → EReal
  kr : (⟨2, ![4096, 64]⟩ : Shape).Idx → EReal
  o : (⟨2, ![4096, 4096]⟩ : Shape).Idx → EReal

namespace Operands
variable (a : Operands)

/-- The input's product with a matrix. -/
def proj {N : ℕ} (w : (⟨2, ![4096, N]⟩ : Shape).Idx → EReal) (b : Fin 4) (s : Fin 256) (n : Fin N) : EReal :=
  mulSum (fun k => a.x (ValueIdx.ix3 b s k)) (fun k => w (ValueIdx.ix2 k n))

/-- The latent's product with a matrix. -/
def up (w : (⟨2, ![512, 4096]⟩ : Shape).Idx → EReal) (b : Fin 4) (s : Fin 256) (n : Fin 4096) : EReal :=
  mulSum (fun k => a.proj a.down b s k) (fun k => w (ValueIdx.ix2 k n))

/-- Every head's output, side by side. -/
def heads (b : Fin 4) (s : Fin 256) (n : Fin 4096) : EReal :=
  att (fun t x => a.proj a.q b t ⟨n.val / 128 * 128 + x.val, by omega⟩) (fun t x => a.up a.upK b t ⟨n.val / 128 * 128 + x.val, by omega⟩)
    (fun t x => a.up a.upV b t ⟨n.val / 128 * 128 + x.val, by omega⟩) (fun t x => a.proj a.qr b t ⟨n.val / 128 * 64 + x.val, by omega⟩)
    (fun t x => a.proj a.kr b t x) s ⟨n.val % 128, Nat.mod_lt _ (by decide)⟩

/-- The result. -/
def out (b : Fin 4) (s : Fin 256) (n : Fin 4096) : EReal := mulSum (fun k => a.heads b s k) (fun k => a.o (ValueIdx.ix2 k n))

end Operands

end Cert.Maths

namespace Cert.ReferenceIdeal.Value
open Cert.ReferenceIdeal Cert.ReferenceIdeal.Facts₀ Cert.Maths

/-- The scores, as the reference forms them. -/
def refScores (Q K : FVec Ideal S4x256x32x128 .f32) (Qr Kr : FVec Ideal S4x256x32x64 .f32) : FVec Ideal S4x32x256x256 .f32 :=
  mulf (addf (Host.dotGeneral dot_S4x256x32x128_S4x256x32x128_S4x32x256x256_3_3_1_1_02_02 none Q K)
      (Host.dotGeneral dot_S4x256x32x64_S4x256x32x64_S4x32x256x256_3_3_1_1_02_02 none Qr Kr))
    (broadcastInDim S4x32x256x256 ![] bcast_S_S4x32x256x256 (constant S_ .f32 0x3D93CD3A#32))

/-- The exponentials, as the reference forms them. -/
def refExp (x : FVec Ideal S4x32x256x256 .f32) : FVec Ideal S4x32x256x256 .f32 :=
  Host.exp (subf x (broadcastInDim S4x32x256x256 ![0, 1, 2, 3] bcast_S4x32x256x1_S4x32x256x256_0_1_2_3
    (broadcastInDim S4x32x256x1 ![0, 1, 2] bcast_S4x32x256_S4x32x256x1_0_1_2
      (Host.reduce FloatOps.maximumf x (constant S_ .f32 0xFF800000#32) reducesTo_S4x32x256x256_S4x32x256_d3 h_S_))))

/-- The heads' outputs, as the reference forms them. -/
def refHeads (e : FVec Ideal S4x32x256x256 .f32) (V : FVec Ideal S4x256x32x128 .f32) : FVec Ideal S4x256x32x128 .f32 :=
  transpose S4x256x32x128 [0, 3, 1, 2] (Host.dotGeneral dot_S4x256x32x128_S4x32x256x256_S4x32x128x256_1_3_3_2_02_01 none V
    (Host.divf e (broadcastInDim S4x32x256x256 ![0, 1, 2, 3] bcast_S4x32x256x1_S4x32x256x256_0_1_2_3
      (broadcastInDim S4x32x256x1 ![0, 1, 2] bcast_S4x32x256_S4x32x256x1_0_1_2
        (Host.reduceAdd e (constant S_ .f32 0x00000000#32) reducesTo_S4x32x256x256_S4x32x256_d3 h_S_)))))
    transposes_S4x32x128x256_S4x256x32x128_0_3_1_2

theorem refScores_val (Q K Qr Kr) (b : Fin 4) (j : Fin 32) (s t : Fin 256) : refScores Q K Qr Kr (ValueIdx.ix4 b j s t)
    = score (fun t x => Q (ValueIdx.ix4 b t j x)) (fun t x => K (ValueIdx.ix4 b t j x)) (fun t x => Qr (ValueIdx.ix4 b t j x)) (fun t x => Kr (ValueIdx.ix4 b t j x)) s t := by
  unfold refScores
  pointwise
  rfl

theorem refExp_val (x) (b : Fin 4) (j : Fin 32) (s t : Fin 256) : refExp x (ValueIdx.ix4 b j s t)
    = Ideal.exp (x (ValueIdx.ix4 b j s t) - Finset.fold max (Ideal.ofBits .f32 0xFF800000#32) (fun t => x (ValueIdx.ix4 b j s t)) Finset.univ) := by
  unfold refExp
  pointwise
  rfl

theorem refHeads_val (e V) (b : Fin 4) (s : Fin 256) (j : Fin 32) (d : Fin 128) : refHeads e V (ValueIdx.ix4 b s j d)
    = ∑ t : Fin 256, Ideal.div (e (ValueIdx.ix4 b j s t) : EReal) (∑ t : Fin 256, (e (ValueIdx.ix4 b j s t) : EReal)) * (V (ValueIdx.ix4 b t j d) : EReal) := by
  unfold refHeads
  simp only [pointwise, Ideal.hostReduceAdd_def]
  refine (zero_add _).trans (Finset.sum_congr rfl fun t _ => ?_)
  rw [zero_add]
  exact mul_comm _ _

variable (m : (ℓ : Loc nD τ sig) → Buf (Elt Ideal) ℓ) (c : Dev nD)

/-- The reference's arguments. -/
def operands : Operands where
  x := m ((c.tc : Thread nD τ).loc main_arg0)
  down := m ((c.tc : Thread nD τ).loc main_arg1)
  upK := m ((c.tc : Thread nD τ).loc main_arg2)
  upV := m ((c.tc : Thread nD τ).loc main_arg3)
  q := m ((c.tc : Thread nD τ).loc main_arg4)
  qr := m ((c.tc : Thread nD τ).loc main_arg5)
  kr := m ((c.tc : Thread nD τ).loc main_arg6)
  o := m ((c.tc : Thread nD τ).loc main_arg7)

section
variable (x : FVec Ideal S4x256x4096 .f32)

def refQ (w : FVec Ideal S4096x4096 .f32) : FVec Ideal S4x256x32x128 .f32 :=
  shapeCast _ (Host.dotGeneral dot_S4x256x4096_S4096x4096_S4x256x4096_2_0_01_1_n_n none x w) shapeCasts_S4x256x4096_S4x256x32x128
def refUp (d : FVec Ideal S4096x512 .f32) (w : FVec Ideal S512x4096 .f32) : FVec Ideal S4x256x32x128 .f32 :=
  shapeCast _ (Host.dotGeneral dot_S4x256x512_S512x4096_S4x256x4096_2_0_01_1_n_n none
    (Host.dotGeneral dot_S4x256x4096_S4096x512_S4x256x512_2_0_01_1_n_n none x d) w) shapeCasts_S4x256x4096_S4x256x32x128
def refQr (w : FVec Ideal S4096x2048 .f32) : FVec Ideal S4x256x32x64 .f32 :=
  shapeCast _ (Host.dotGeneral dot_S4x256x4096_S4096x2048_S4x256x2048_2_0_01_1_n_n none x w) shapeCasts_S4x256x2048_S4x256x32x64
def refKr (w : FVec Ideal S4096x64 .f32) : FVec Ideal S4x256x32x64 .f32 :=
  broadcastInDim S4x256x32x64 ![0, 1, 2, 3] bcast_S4x256x1x64_S4x256x32x64_0_1_2_3
    (shapeCast _ (Host.dotGeneral dot_S4x256x4096_S4096x64_S4x256x64_2_0_01_1_n_n none x w) shapeCasts_S4x256x64_S4x256x1x64)

theorem refQ_val (w) (b : Fin 4) (t : Fin 256) (j : Fin 32) (d : Fin 128) : refQ x w (ValueIdx.ix4 b t j d)
    = mulSum (fun k => x (ValueIdx.ix3 b t k)) (fun k => w (ValueIdx.ix2 k (⟨j.val * 128 + d.val, by omega⟩ : Fin 4096))) := by
  unfold refQ
  rw [shapeCast_apply _ _ _ (ValueIdx.ix3 b t (⟨j.val * 128 + d.val, by omega⟩ : Fin 4096))
    (by rw [Shape.rowMajor_val_three, Shape.rowMajor_val_four]; show (b.val * 256 + t.val) * 4096 + (j.val * 128 + d.val) = ((b.val * 256 + t.val) * 32 + j.val) * 128 + d.val; omega)]
  pointwise
  rfl

theorem refUp_val (dn w) (b : Fin 4) (t : Fin 256) (j : Fin 32) (d : Fin 128) : refUp x dn w (ValueIdx.ix4 b t j d)
    = mulSum (fun l => mulSum (fun k => x (ValueIdx.ix3 b t k)) (fun k => dn (ValueIdx.ix2 k l)))
      (fun l => w (ValueIdx.ix2 l (⟨j.val * 128 + d.val, by omega⟩ : Fin 4096))) := by
  unfold refUp
  rw [shapeCast_apply _ _ _ (ValueIdx.ix3 b t (⟨j.val * 128 + d.val, by omega⟩ : Fin 4096))
    (by rw [Shape.rowMajor_val_three, Shape.rowMajor_val_four]; show (b.val * 256 + t.val) * 4096 + (j.val * 128 + d.val) = ((b.val * 256 + t.val) * 32 + j.val) * 128 + d.val; omega)]
  pointwise
  rfl

theorem refQr_val (w) (b : Fin 4) (t : Fin 256) (j : Fin 32) (d : Fin 64) : refQr x w (ValueIdx.ix4 b t j d)
    = mulSum (fun k => x (ValueIdx.ix3 b t k)) (fun k => w (ValueIdx.ix2 k (⟨j.val * 64 + d.val, by omega⟩ : Fin 2048))) := by
  unfold refQr
  rw [shapeCast_apply _ _ _ (ValueIdx.ix3 b t (⟨j.val * 64 + d.val, by omega⟩ : Fin 2048))
    (by rw [Shape.rowMajor_val_three, Shape.rowMajor_val_four]; show (b.val * 256 + t.val) * 2048 + (j.val * 64 + d.val) = ((b.val * 256 + t.val) * 32 + j.val) * 64 + d.val; omega)]
  pointwise
  rfl

theorem refKr_val (w) (b : Fin 4) (t : Fin 256) (j : Fin 32) (d : Fin 64) : refKr x w (ValueIdx.ix4 b t j d)
    = mulSum (fun k => x (ValueIdx.ix3 b t k)) (fun k => w (ValueIdx.ix2 k d)) := by
  unfold refKr
  have e : (broadcastInDim S4x256x32x64 ![0, 1, 2, 3] bcast_S4x256x1x64_S4x256x32x64_0_1_2_3
      (shapeCast S4x256x1x64 (Host.dotGeneral dot_S4x256x4096_S4096x64_S4x256x64_2_0_01_1_n_n none x w) shapeCasts_S4x256x64_S4x256x1x64)) (ValueIdx.ix4 b t j d)
      = shapeCast S4x256x1x64 (Host.dotGeneral dot_S4x256x4096_S4096x64_S4x256x64_2_0_01_1_n_n none x w) shapeCasts_S4x256x64_S4x256x1x64 (ValueIdx.ix4 b t (0 : Fin 1) d) := by
    simp only [pointwise]
    rfl
  rw [e, shapeCast_apply _ _ _ (ValueIdx.ix3 b t d)
    (by rw [Shape.rowMajor_val_three, Shape.rowMajor_val_four]; show (b.val * 256 + t.val) * 64 + d.val = ((b.val * 256 + t.val) * 1 + 0) * 64 + d.val; omega)]
  pointwise
  rfl

end

theorem res_parts : res_main_v29 m c = Host.dotGeneral (F := Ideal) (φ₁ := .f32) (φ₂ := .f32) dot_S4x256x4096_S4096x4096_S4x256x4096_2_0_01_1_n_n none
    (shapeCast _ (refHeads (refExp (refScores (refQ (m ((c.tc : Thread nD τ).loc main_arg0)) (m ((c.tc : Thread nD τ).loc main_arg4)))
        (refUp (m ((c.tc : Thread nD τ).loc main_arg0)) (m ((c.tc : Thread nD τ).loc main_arg1)) (m ((c.tc : Thread nD τ).loc main_arg2)))
        (refQr (m ((c.tc : Thread nD τ).loc main_arg0)) (m ((c.tc : Thread nD τ).loc main_arg5)))
        (refKr (m ((c.tc : Thread nD τ).loc main_arg0)) (m ((c.tc : Thread nD τ).loc main_arg6)))))
      (refUp (m ((c.tc : Thread nD τ).loc main_arg0)) (m ((c.tc : Thread nD τ).loc main_arg1)) (m ((c.tc : Thread nD τ).loc main_arg3))))
      shapeCasts_S4x256x32x128_S4x256x4096) (m ((c.tc : Thread nD τ).loc main_arg7)) := (rfl)

/-- The reference's result at an index. -/
theorem res_val (b : Fin 4) (s : Fin 256) (n : Fin 4096) : res_main_v29 m c (ValueIdx.ix3 b s n) = (operands m c).out b s n := by
  rw [res_parts]
  refine Eq.trans (b := mulSum (fun k : Fin 4096 => shapeCast S4x256x4096 _ shapeCasts_S4x256x32x128_S4x256x4096 (ValueIdx.ix3 b s k)) _) (by pointwise; rfl) ?_
  refine congrArg (mulSum · _) (funext fun k => ?_)
  rw [shapeCast_apply _ _ _ (ValueIdx.ix4 b s (⟨k.val / 128, by omega⟩ : Fin 32) (⟨k.val % 128, Nat.mod_lt _ (by decide)⟩ : Fin 128))
    (by rw [Shape.rowMajor_val_three, Shape.rowMajor_val_four]; show ((b.val * 256 + s.val) * 32 + k.val / 128) * 128 + k.val % 128 = (b.val * 256 + s.val) * 4096 + k.val; omega),
    refHeads_val]
  simp only [refExp_val, refScores_val, refQ_val, refUp_val, refQr_val, refKr_val]
  rfl

end Cert.ReferenceIdeal.Value
end
-- ==== Proof.Ideal.ValMm.lean ====
module

public import proofs.«01_k».proof.Proof.Ideal.Launch
public import proofs.«01_k».proof.Proof.Spec

/-!
# The blocked products over the reals

Each product is accumulated over blocks of its inner dimension; over the reals its result is the whole product.
-/

@[expose] public section

noncomputable section

open Idealize.ShloMosaic Idealize.ShloMosaic.TcCoe
open Idealize.ShloMosaic.Pipeline (heldIn)
open Cert.Maths (mulSum)

namespace Cert.KernelIdeal.Gen

/-! ## In general -/

/-- What an operand's buffer holds, told from what each point's block is. -/
theorem heldIn_told {Λ : Idealize.SL.Sem.Labels} {Val : EltTy → Type} [∀ e, Nonempty (Val e)] (cfg : Pipeline.Cfg sig Λ) {c : Dev nD}
    (A : (w : Fin cfg.W) → Buf Val ((cfg.win w).arr.view.loc (c.tc : Thread nD τ))) (w : Fin cfg.W) (hw : (cfg.win w).isOut = false)
    (G : (n : ℕ) → n < cfg.N → ((cfg.win w).block.Idx → Val (cfg.win w).elt))
    (hG : ∀ t : Fin cfg.N, (cfg.win w).fill (cfg.grid.coords t) (fun _ => Classical.arbitrary _) (((cfg.win w).blk t).view.read Val (A w)) = G t.val t.isLt)
    (hs : ∀ (n : ℕ) (h : n + 1 < cfg.N), (cfg.win w).index ⟨n + 1, h⟩ = (cfg.win w).index ⟨n, Nat.lt_of_succ_lt h⟩ → G (n + 1) h = G n (Nat.lt_of_succ_lt h)) :
    ∀ (n : ℕ) (h : n < cfg.N), heldIn cfg A w n h = G n h := by
  intro n
  induction n with
  | zero => exact fun h => hG ⟨0, h⟩
  | succ n ih =>
    intro h
    by_cases hf : (cfg.win w).fetch ⟨n + 1, h⟩ = true
    · rw [Pipeline.heldIn_of_fetch A w ⟨n + 1, h⟩ hf]; exact hG ⟨n + 1, h⟩
    · rw [Pipeline.heldIn_of_not_fetch A w n h (Bool.eq_false_iff.mpr hf), ih]
      refine (hs n h ?_).symm
      by_contra hne
      refine hf ?_
      unfold Pipeline.Window.fetch
      rw [hw]
      have : decide (∃ h' : 0 < n + 1, (cfg.win w).index ⟨n + 1, h⟩ ≠ (cfg.win w).index ⟨n + 1 - 1, Nat.lt_of_succ_lt h⟩) = true :=
        decide_eq_true ⟨Nat.succ_pos n, hne⟩
      simp only [Bool.not_false, Bool.true_and]
      exact (congrArg (_ || ·) this).trans (Bool.or_true _)

/-- A sum started afresh every `B` points. -/
theorem run_sum {N B : ℕ} (f g : (n : ℕ) → n < N → EReal)
    (hf : ∀ n h, f n h = (if n % B = 0 then 0 else f (n - 1) (Nat.lt_of_le_of_lt (Nat.sub_le _ _) h)) + g n h) (i : ℕ) :
    ∀ (j : ℕ) (hj : j < B) (h : i * B + j < N),
      f (i * B + j) h = ∑ s : Fin (j + 1), g (i * B + s.val) (lt_of_le_of_lt (Nat.add_le_add_left (Nat.le_of_lt_succ s.isLt) _) h) := by
  intro j
  induction j with
  | zero =>
    intro hj h
    rw [hf, if_pos (show (i * B + 0) % B = 0 from Nat.mul_mod_left i B), zero_add, Fin.sum_univ_one]
    rfl
  | succ j ih =>
    intro hj h
    have e : (i * B + (j + 1)) % B ≠ 0 := by
      rw [Nat.mul_comm, Nat.mul_add_mod, Nat.mod_eq_of_lt hj]; exact Nat.succ_ne_zero j
    rw [hf, if_neg e, Fin.sum_univ_castSucc]
    exact congrArg (· + _) (ih (Nat.lt_of_succ_lt hj) (Nat.lt_of_succ_lt h))

/-! ## Call 0 -/

theorem gridN0 : grid0.N = 16 := by decide

/-- The blocks of a point. -/
theorem rows0 : ∀ t : Fin grid0.N, cc0_transform_0 (grid0.coords t) = ![t.val / 8, t.val % 8] := by decide +kernel
theorem cols0 : ∀ t : Fin grid0.N, blk0 0#32 (grid0.coords t) = ![t.val % 8, 0] := by decide +kernel
theorem outs0 : ∀ t : Fin grid0.N, cc0_transform_2 (grid0.coords t) = ![t.val / 8, 0] := by decide +kernel

theorem covers0 : ((cfg0 (F := Ideal) adm0).win (2 : Fin 3)).Covers := by
  decide +kernel

section
variable (c : Dev nD) (W : Valuation τ sig (Elt Ideal))

theorem lhs0_val (n : ℕ) (h : n < grid0.N) (y : S512x512.Idx) : lhs0 (F := Ideal) adm0 c W n h y
    = W (Proc.devRef .tc main_v9) (ValueIdx.ix2 (⟨n / 8 * 512 + (y 0).val, by have h1 : (y 0).val < 512 := (y 0).isLt; have := gridN0; omega⟩ : Fin 1024)
        (⟨n % 8 * 512 + (y 1).val, by have h1 : (y 1).val < 512 := (y 1).isLt; omega⟩ : Fin 4096)) := by
  unfold lhs0
  refine (congrFun (heldIn_told (c := c) (cfg0 (F := Ideal) adm0) _ (0 : Fin 3) rfl (fun n h => fun y : S512x512.Idx => W (Proc.devRef .tc main_v9)
      (ValueIdx.ix2 (⟨n / 8 * 512 + (y 0).val, by have h1 : (y 0).val < 512 := (y 0).isLt; have := gridN0; have : n < grid0.N := h; omega⟩ : Fin 1024)
        (⟨n % 8 * 512 + (y 1).val, by have h1 : (y 1).val < 512 := (y 1).isLt; omega⟩ : Fin 4096))) ?_ ?_ n h) y).trans rfl
  · intro t
    funext y
    refine (Pipeline.Window.fill_xinj _ _ _ _ y).trans ?_
    refine congrArg (W (Proc.devRef .tc main_v9)) (funext fun b => Fin.ext ?_)
    refine (Pipeline.Window.rect_emb_val ((cfg0 (F := Ideal) adm0).win (0 : Fin 3)) t y b).trans ?_
    show cc0_transform_0 (grid0.coords t) b * S512x512.size b + (y b).val = _
    rw [rows0]
    match b with
    | ⟨0, _⟩ => rfl
    | ⟨1, _⟩ => rfl
  · intro n h e
    have e' : cc0_transform_0 (grid0.coords ⟨n + 1, h⟩) = cc0_transform_0 (grid0.coords ⟨n, Nat.lt_of_succ_lt h⟩) := e
    rw [rows0, rows0] at e'
    have e0 : (n + 1) / 8 = n / 8 := congrFun e' 0
    have e1 : (n + 1) % 8 = n % 8 := congrFun e' 1
    simp only [e0, e1]

theorem rhs0_val (n : ℕ) (h : n < grid0.N) (y : S512x128.Idx) : rhs0 (F := Ideal) adm0 c W n h y
    = W (Proc.devRef .tc main_arg1) (ValueIdx.ix2 (⟨n % 8 * 512 + (y 0).val, by have h1 : (y 0).val < 512 := (y 0).isLt; omega⟩ : Fin 4096)
        (⟨(y 1).val, (y 1).isLt⟩ : Fin 128)) := by
  unfold rhs0
  refine (congrFun (heldIn_told (c := c) (cfg0 (F := Ideal) adm0) _ (1 : Fin 3) rfl (fun n h => fun y : S512x128.Idx => W (Proc.devRef .tc main_arg1)
      (ValueIdx.ix2 (⟨n % 8 * 512 + (y 0).val, by have h1 : (y 0).val < 512 := (y 0).isLt; omega⟩ : Fin 4096)
        (⟨(y 1).val, (y 1).isLt⟩ : Fin 128))) ?_ ?_ n h) y).trans rfl
  · intro t
    funext y
    refine (Pipeline.Window.fill_xinj _ _ _ _ y).trans ?_
    refine congrArg (W (Proc.devRef .tc main_arg1)) (funext fun b => Fin.ext ?_)
    refine (Pipeline.Window.rect_emb_val ((cfg0 (F := Ideal) adm0).win (1 : Fin 3)) t y b).trans ?_
    show blk0 0#32 (grid0.coords t) b * S512x128.size b + (y b).val = _
    rw [cols0]
    match b with
    | ⟨0, _⟩ => rfl
    | ⟨1, _⟩ => exact (congrArg (· + (y 1).val) (Nat.zero_mul _)).trans (Nat.zero_add _)
  · intro n h e
    have e' : blk0 0#32 (grid0.coords ⟨n + 1, h⟩) = blk0 0#32 (grid0.coords ⟨n, Nat.lt_of_succ_lt h⟩) := e
    rw [cols0, cols0] at e'
    have e1 : (n + 1) % 8 = n % 8 := congrFun e' 0
    simp only [e1]

theorem step0_val (l : Vec Ideal S512x512 .f32) (r : Vec Ideal S512x128 .f32) (o : Vec Ideal S512x128 .f32) (y : S512x128.Idx) :
    k0_pay2 l r o y = o y + ∑ k : Fin 512, l (ValueIdx.ix2 (y 0) k) * r (ValueIdx.ix2 k (y 1)) := by
  unfold k0_pay2
  pointwise
  rfl

theorem zero0_val (y : S512x128.Idx) : (k0_pay1 (F := Ideal)) y = 0 := by
  unfold k0_pay1
  pointwise

/-- The product's result at an index. -/
theorem prod0_val (Ψ) (D) : (mm0 (F := Ideal) adm0 c W Ψ D).arrAt (2 : Fin 3) (cfg0 (F := Ideal) adm0).N
    = fun i : S1024x128.Idx => mulSum (K := 4096) (fun k => W (Proc.devRef .tc main_v9) (ValueIdx.ix2 (i 0) k))
        (fun k => W (Proc.devRef .tc main_arg1) (ValueIdx.ix2 k (⟨(i 1).val, (i 1).isLt⟩ : Fin 128))) := by
  refine (mm0 (F := Ideal) adm0 c W Ψ D).arrAt_eq_of_emb (2 : Fin 3) _ (fun t hf y => ?_) ((covers0 ).cover _ (Memref.isWhole_whole _))
  rw [flush0] at hf
  have ht : t.val % 8 = 7 := of_decide_eq_true hf
  obtain ⟨t, h⟩ := t
  obtain ⟨i, rfl⟩ : ∃ i, t = i * 8 + 7 := ⟨t / 8, by have : t % 8 = 7 := ht; omega⟩
  have hi : i < 2 := by have := gridN0; have : i * 8 + 7 < grid0.N := h; omega
  have hy0 : (y 0).val < 512 := (y 0).isLt
  have hrow : ((((cfg0 (F := Ideal) adm0).win (2 : Fin 3)).blk ⟨i * 8 + 7, h⟩).view.emb y : S1024x128.Idx)
      = ValueIdx.ix2 (⟨i * 512 + (y 0).val, by omega⟩ : Fin 1024) (⟨(y 1).val, (y 1).isLt⟩ : Fin 128) := by
    refine funext fun b => Fin.ext ?_
    refine (Pipeline.Window.rect_emb_val ((cfg0 (F := Ideal) adm0).win (2 : Fin 3)) ⟨i * 8 + 7, h⟩ y b).trans ?_
    show cc0_transform_2 (grid0.coords ⟨i * 8 + 7, h⟩) b * S512x128.size b + (y b).val = _
    rw [outs0]
    match b with
    | ⟨0, _⟩ => show (i * 8 + 7) / 8 * 512 + (y 0).val = i * 512 + (y 0).val; omega
    | ⟨1, _⟩ => exact (congrArg (· + (y 1).val) (Nat.zero_mul _)).trans (Nat.zero_add _)
  rw [hrow]
  show acc0 (F := Ideal) adm0 c W (i * 8 + 7) h (y : S512x128.Idx) = _
  refine (run_sum (B := 8) (fun n h => acc0 (F := Ideal) adm0 c W n h y)
    (fun n h => ∑ k : Fin 512, lhs0 (F := Ideal) adm0 c W n h (ValueIdx.ix2 (y 0) k) * rhs0 (F := Ideal) adm0 c W n h (ValueIdx.ix2 k (y 1)))
    (fun n h => ?_) i 7 (by decide) h).trans ?_
  · rw [acc0_eq, step0_val]
    refine congrArg (· + _) ?_
    split
    · exact zero0_val y
    · rfl
  · unfold mulSum
    refine Eq.trans ?_ (Fin.sum_univ_tiles (N := 4096) 8 512 (by decide) _).symm
    refine Finset.sum_congr rfl fun s _ => Finset.sum_congr rfl fun k _ => ?_
    have hs : s.val < 8 := s.isLt
    refine congrArg₂ (· * ·) ((lhs0_val c W _ _ _).trans ?_) ((rhs0_val c W _ _ _).trans ?_)
    · refine congrArg (W (Proc.devRef .tc main_v9)) ?_
      refine funext fun b => Fin.ext ?_
      match b with
      | ⟨0, _⟩ => show (i * 8 + s.val) / 8 * 512 + (y 0).val = i * 512 + (y 0).val; omega
      | ⟨1, _⟩ => show (i * 8 + s.val) % 8 * 512 + k.val = s.val * 512 + k.val; omega
    · refine congrArg (W (Proc.devRef .tc main_arg1)) ?_
      refine funext fun b => Fin.ext ?_
      match b with
      | ⟨0, _⟩ => show (i * 8 + s.val) % 8 * 512 + k.val = s.val * 512 + k.val; omega
      | ⟨1, _⟩ => rfl

end

/-! ## Call 2 -/

theorem gridN2 : grid2.N = 2 := by decide

/-- The blocks of a point. -/
theorem rows2 : ∀ t : Fin grid2.N, cc2_transform_0 (grid2.coords t) = ![t.val / 1, t.val % 1] := by decide +kernel
theorem cols2 : ∀ t : Fin grid2.N, blk2 0#32 (grid2.coords t) = ![t.val % 1, 0] := by decide +kernel
theorem outs2 : ∀ t : Fin grid2.N, cc2_transform_2 (grid2.coords t) = ![t.val / 1, 0] := by decide +kernel

theorem covers2 : ((cfg2 (F := Ideal) adm2).win (2 : Fin 3)).Covers := by
  decide +kernel

section
variable (c : Dev nD) (W : Valuation τ sig (Elt Ideal))

theorem lhs2_val (n : ℕ) (h : n < grid2.N) (y : S512x512.Idx) : lhs2 (F := Ideal) adm2 c W n h y
    = W (Proc.devRef .tc main_v92) (ValueIdx.ix2 (⟨n / 1 * 512 + (y 0).val, by have h1 : (y 0).val < 512 := (y 0).isLt; have := gridN2; omega⟩ : Fin 1024)
        (⟨n % 1 * 512 + (y 1).val, by have h1 : (y 1).val < 512 := (y 1).isLt; omega⟩ : Fin 512)) := by
  unfold lhs2
  refine (congrFun (heldIn_told (c := c) (cfg2 (F := Ideal) adm2) _ (0 : Fin 3) rfl (fun n h => fun y : S512x512.Idx => W (Proc.devRef .tc main_v92)
      (ValueIdx.ix2 (⟨n / 1 * 512 + (y 0).val, by have h1 : (y 0).val < 512 := (y 0).isLt; have := gridN2; have : n < grid2.N := h; omega⟩ : Fin 1024)
        (⟨n % 1 * 512 + (y 1).val, by have h1 : (y 1).val < 512 := (y 1).isLt; omega⟩ : Fin 512))) ?_ ?_ n h) y).trans rfl
  · intro t
    funext y
    refine (Pipeline.Window.fill_xinj _ _ _ _ y).trans ?_
    refine congrArg (W (Proc.devRef .tc main_v92)) (funext fun b => Fin.ext ?_)
    refine (Pipeline.Window.rect_emb_val ((cfg2 (F := Ideal) adm2).win (0 : Fin 3)) t y b).trans ?_
    show cc2_transform_0 (grid2.coords t) b * S512x512.size b + (y b).val = _
    rw [rows2]
    match b with
    | ⟨0, _⟩ => rfl
    | ⟨1, _⟩ => rfl
  · intro n h e
    have e' : cc2_transform_0 (grid2.coords ⟨n + 1, h⟩) = cc2_transform_0 (grid2.coords ⟨n, Nat.lt_of_succ_lt h⟩) := e
    rw [rows2, rows2] at e'
    have e0 : (n + 1) / 1 = n / 1 := congrFun e' 0
    have e1 : (n + 1) % 1 = n % 1 := congrFun e' 1
    simp only [e0, e1]

theorem rhs2_val (n : ℕ) (h : n < grid2.N) (y : S512x256.Idx) : rhs2 (F := Ideal) adm2 c W n h y
    = W (Proc.devRef .tc main_v93) (ValueIdx.ix2 (⟨n % 1 * 512 + (y 0).val, by have h1 : (y 0).val < 512 := (y 0).isLt; omega⟩ : Fin 512)
        (⟨(y 1).val, (y 1).isLt⟩ : Fin 256)) := by
  unfold rhs2
  refine (congrFun (heldIn_told (c := c) (cfg2 (F := Ideal) adm2) _ (1 : Fin 3) rfl (fun n h => fun y : S512x256.Idx => W (Proc.devRef .tc main_v93)
      (ValueIdx.ix2 (⟨n % 1 * 512 + (y 0).val, by have h1 : (y 0).val < 512 := (y 0).isLt; omega⟩ : Fin 512)
        (⟨(y 1).val, (y 1).isLt⟩ : Fin 256))) ?_ ?_ n h) y).trans rfl
  · intro t
    funext y
    refine (Pipeline.Window.fill_xinj _ _ _ _ y).trans ?_
    refine congrArg (W (Proc.devRef .tc main_v93)) (funext fun b => Fin.ext ?_)
    refine (Pipeline.Window.rect_emb_val ((cfg2 (F := Ideal) adm2).win (1 : Fin 3)) t y b).trans ?_
    show blk2 0#32 (grid2.coords t) b * S512x256.size b + (y b).val = _
    rw [cols2]
    match b with
    | ⟨0, _⟩ => rfl
    | ⟨1, _⟩ => exact (congrArg (· + (y 1).val) (Nat.zero_mul _)).trans (Nat.zero_add _)
  · intro n h e
    have e' : blk2 0#32 (grid2.coords ⟨n + 1, h⟩) = blk2 0#32 (grid2.coords ⟨n, Nat.lt_of_succ_lt h⟩) := e
    rw [cols2, cols2] at e'
    have e1 : (n + 1) % 1 = n % 1 := congrFun e' 0
    simp only [e1]

theorem step2_val (l : Vec Ideal S512x512 .bf16) (r : Vec Ideal S512x256 .bf16) (o : Vec Ideal S512x256 .f32) (y : S512x256.Idx) :
    k2_pay2 l r o y = o y + ∑ k : Fin 512, l (ValueIdx.ix2 (y 0) k) * r (ValueIdx.ix2 k (y 1)) := by
  unfold k2_pay2
  pointwise
  rfl

theorem zero2_val (y : S512x256.Idx) : (k2_pay1 (F := Ideal)) y = 0 := by
  unfold k2_pay1
  pointwise

/-- The product's result at an index. -/
theorem prod2_val (Ψ) (D) : (mm2 (F := Ideal) adm2 c W Ψ D).arrAt (2 : Fin 3) (cfg2 (F := Ideal) adm2).N
    = fun i : S1024x256.Idx => mulSum (K := 512) (fun k => W (Proc.devRef .tc main_v92) (ValueIdx.ix2 (i 0) k))
        (fun k => W (Proc.devRef .tc main_v93) (ValueIdx.ix2 k (⟨(i 1).val, (i 1).isLt⟩ : Fin 256))) := by
  refine (mm2 (F := Ideal) adm2 c W Ψ D).arrAt_eq_of_emb (2 : Fin 3) _ (fun t hf y => ?_) ((covers2 ).cover _ (Memref.isWhole_whole _))
  rw [flush2] at hf
  have ht : t.val % 1 = 0 := of_decide_eq_true hf
  obtain ⟨t, h⟩ := t
  obtain ⟨i, rfl⟩ : ∃ i, t = i * 1 + 0 := ⟨t / 1, by have : t % 1 = 0 := ht; omega⟩
  have hi : i < 2 := by have := gridN2; have : i * 1 + 0 < grid2.N := h; omega
  have hy0 : (y 0).val < 512 := (y 0).isLt
  have hrow : ((((cfg2 (F := Ideal) adm2).win (2 : Fin 3)).blk ⟨i * 1 + 0, h⟩).view.emb y : S1024x256.Idx)
      = ValueIdx.ix2 (⟨i * 512 + (y 0).val, by omega⟩ : Fin 1024) (⟨(y 1).val, (y 1).isLt⟩ : Fin 256) := by
    refine funext fun b => Fin.ext ?_
    refine (Pipeline.Window.rect_emb_val ((cfg2 (F := Ideal) adm2).win (2 : Fin 3)) ⟨i * 1 + 0, h⟩ y b).trans ?_
    show cc2_transform_2 (grid2.coords ⟨i * 1 + 0, h⟩) b * S512x256.size b + (y b).val = _
    rw [outs2]
    match b with
    | ⟨0, _⟩ => show (i * 1 + 0) / 1 * 512 + (y 0).val = i * 512 + (y 0).val; omega
    | ⟨1, _⟩ => exact (congrArg (· + (y 1).val) (Nat.zero_mul _)).trans (Nat.zero_add _)
  rw [hrow]
  show acc2 (F := Ideal) adm2 c W (i * 1 + 0) h (y : S512x256.Idx) = _
  refine (run_sum (B := 1) (fun n h => acc2 (F := Ideal) adm2 c W n h y)
    (fun n h => ∑ k : Fin 512, lhs2 (F := Ideal) adm2 c W n h (ValueIdx.ix2 (y 0) k) * rhs2 (F := Ideal) adm2 c W n h (ValueIdx.ix2 k (y 1)))
    (fun n h => ?_) i 0 (by decide) h).trans ?_
  · rw [acc2_eq, step2_val]
    refine congrArg (· + _) ?_
    split
    · exact zero2_val y
    · rfl
  · unfold mulSum
    refine Eq.trans ?_ (Fin.sum_univ_tiles (N := 512) 1 512 (by decide) _).symm
    refine Finset.sum_congr rfl fun s _ => Finset.sum_congr rfl fun k _ => ?_
    have hs : s.val < 1 := s.isLt
    refine congrArg₂ (· * ·) ((lhs2_val c W _ _ _).trans ?_) ((rhs2_val c W _ _ _).trans ?_)
    · refine congrArg (W (Proc.devRef .tc main_v92)) ?_
      refine funext fun b => Fin.ext ?_
      match b with
      | ⟨0, _⟩ => show (i * 1 + s.val) / 1 * 512 + (y 0).val = i * 512 + (y 0).val; omega
      | ⟨1, _⟩ => show (i * 1 + s.val) % 1 * 512 + k.val = s.val * 512 + k.val; omega
    · refine congrArg (W (Proc.devRef .tc main_v93)) ?_
      refine funext fun b => Fin.ext ?_
      match b with
      | ⟨0, _⟩ => show (i * 1 + s.val) % 1 * 512 + k.val = s.val * 512 + k.val; omega
      | ⟨1, _⟩ => rfl

end

/-! ## Call 3 -/

theorem gridN3 : grid3.N = 2 := by decide

/-- The blocks of a point. -/
theorem rows3 : ∀ t : Fin grid3.N, cc3_transform_0 (grid3.coords t) = ![t.val / 1, t.val % 1] := by decide +kernel
theorem cols3 : ∀ t : Fin grid3.N, blk3 0#32 (grid3.coords t) = ![t.val % 1, 0] := by decide +kernel
theorem outs3 : ∀ t : Fin grid3.N, cc3_transform_2 (grid3.coords t) = ![t.val / 1, 0] := by decide +kernel

theorem covers3 : ((cfg3 (F := Ideal) adm3).win (2 : Fin 3)).Covers := by
  decide +kernel

section
variable (c : Dev nD) (W : Valuation τ sig (Elt Ideal))

theorem lhs3_val (n : ℕ) (h : n < grid3.N) (y : S512x512.Idx) : lhs3 (F := Ideal) adm3 c W n h y
    = W (Proc.devRef .tc main_v92) (ValueIdx.ix2 (⟨n / 1 * 512 + (y 0).val, by have h1 : (y 0).val < 512 := (y 0).isLt; have := gridN3; omega⟩ : Fin 1024)
        (⟨n % 1 * 512 + (y 1).val, by have h1 : (y 1).val < 512 := (y 1).isLt; omega⟩ : Fin 512)) := by
  unfold lhs3
  refine (congrFun (heldIn_told (c := c) (cfg3 (F := Ideal) adm3) _ (0 : Fin 3) rfl (fun n h => fun y : S512x512.Idx => W (Proc.devRef .tc main_v92)
      (ValueIdx.ix2 (⟨n / 1 * 512 + (y 0).val, by have h1 : (y 0).val < 512 := (y 0).isLt; have := gridN3; have : n < grid3.N := h; omega⟩ : Fin 1024)
        (⟨n % 1 * 512 + (y 1).val, by have h1 : (y 1).val < 512 := (y 1).isLt; omega⟩ : Fin 512))) ?_ ?_ n h) y).trans rfl
  · intro t
    funext y
    refine (Pipeline.Window.fill_xinj _ _ _ _ y).trans ?_
    refine congrArg (W (Proc.devRef .tc main_v92)) (funext fun b => Fin.ext ?_)
    refine (Pipeline.Window.rect_emb_val ((cfg3 (F := Ideal) adm3).win (0 : Fin 3)) t y b).trans ?_
    show cc3_transform_0 (grid3.coords t) b * S512x512.size b + (y b).val = _
    rw [rows3]
    match b with
    | ⟨0, _⟩ => rfl
    | ⟨1, _⟩ => rfl
  · intro n h e
    have e' : cc3_transform_0 (grid3.coords ⟨n + 1, h⟩) = cc3_transform_0 (grid3.coords ⟨n, Nat.lt_of_succ_lt h⟩) := e
    rw [rows3, rows3] at e'
    have e0 : (n + 1) / 1 = n / 1 := congrFun e' 0
    have e1 : (n + 1) % 1 = n % 1 := congrFun e' 1
    simp only [e0, e1]

theorem rhs3_val (n : ℕ) (h : n < grid3.N) (y : S512x256.Idx) : rhs3 (F := Ideal) adm3 c W n h y
    = W (Proc.devRef .tc main_v94) (ValueIdx.ix2 (⟨n % 1 * 512 + (y 0).val, by have h1 : (y 0).val < 512 := (y 0).isLt; omega⟩ : Fin 512)
        (⟨(y 1).val, (y 1).isLt⟩ : Fin 256)) := by
  unfold rhs3
  refine (congrFun (heldIn_told (c := c) (cfg3 (F := Ideal) adm3) _ (1 : Fin 3) rfl (fun n h => fun y : S512x256.Idx => W (Proc.devRef .tc main_v94)
      (ValueIdx.ix2 (⟨n % 1 * 512 + (y 0).val, by have h1 : (y 0).val < 512 := (y 0).isLt; omega⟩ : Fin 512)
        (⟨(y 1).val, (y 1).isLt⟩ : Fin 256))) ?_ ?_ n h) y).trans rfl
  · intro t
    funext y
    refine (Pipeline.Window.fill_xinj _ _ _ _ y).trans ?_
    refine congrArg (W (Proc.devRef .tc main_v94)) (funext fun b => Fin.ext ?_)
    refine (Pipeline.Window.rect_emb_val ((cfg3 (F := Ideal) adm3).win (1 : Fin 3)) t y b).trans ?_
    show blk3 0#32 (grid3.coords t) b * S512x256.size b + (y b).val = _
    rw [cols3]
    match b with
    | ⟨0, _⟩ => rfl
    | ⟨1, _⟩ => exact (congrArg (· + (y 1).val) (Nat.zero_mul _)).trans (Nat.zero_add _)
  · intro n h e
    have e' : blk3 0#32 (grid3.coords ⟨n + 1, h⟩) = blk3 0#32 (grid3.coords ⟨n, Nat.lt_of_succ_lt h⟩) := e
    rw [cols3, cols3] at e'
    have e1 : (n + 1) % 1 = n % 1 := congrFun e' 0
    simp only [e1]

theorem step3_val (l : Vec Ideal S512x512 .bf16) (r : Vec Ideal S512x256 .bf16) (o : Vec Ideal S512x256 .f32) (y : S512x256.Idx) :
    k3_pay2 l r o y = o y + ∑ k : Fin 512, l (ValueIdx.ix2 (y 0) k) * r (ValueIdx.ix2 k (y 1)) := by
  unfold k3_pay2
  pointwise
  rfl

theorem zero3_val (y : S512x256.Idx) : (k3_pay1 (F := Ideal)) y = 0 := by
  unfold k3_pay1
  pointwise

/-- The product's result at an index. -/
theorem prod3_val (Ψ) (D) : (mm3 (F := Ideal) adm3 c W Ψ D).arrAt (2 : Fin 3) (cfg3 (F := Ideal) adm3).N
    = fun i : S1024x256.Idx => mulSum (K := 512) (fun k => W (Proc.devRef .tc main_v92) (ValueIdx.ix2 (i 0) k))
        (fun k => W (Proc.devRef .tc main_v94) (ValueIdx.ix2 k (⟨(i 1).val, (i 1).isLt⟩ : Fin 256))) := by
  refine (mm3 (F := Ideal) adm3 c W Ψ D).arrAt_eq_of_emb (2 : Fin 3) _ (fun t hf y => ?_) ((covers3 ).cover _ (Memref.isWhole_whole _))
  rw [flush3] at hf
  have ht : t.val % 1 = 0 := of_decide_eq_true hf
  obtain ⟨t, h⟩ := t
  obtain ⟨i, rfl⟩ : ∃ i, t = i * 1 + 0 := ⟨t / 1, by have : t % 1 = 0 := ht; omega⟩
  have hi : i < 2 := by have := gridN3; have : i * 1 + 0 < grid3.N := h; omega
  have hy0 : (y 0).val < 512 := (y 0).isLt
  have hrow : ((((cfg3 (F := Ideal) adm3).win (2 : Fin 3)).blk ⟨i * 1 + 0, h⟩).view.emb y : S1024x256.Idx)
      = ValueIdx.ix2 (⟨i * 512 + (y 0).val, by omega⟩ : Fin 1024) (⟨(y 1).val, (y 1).isLt⟩ : Fin 256) := by
    refine funext fun b => Fin.ext ?_
    refine (Pipeline.Window.rect_emb_val ((cfg3 (F := Ideal) adm3).win (2 : Fin 3)) ⟨i * 1 + 0, h⟩ y b).trans ?_
    show cc3_transform_2 (grid3.coords ⟨i * 1 + 0, h⟩) b * S512x256.size b + (y b).val = _
    rw [outs3]
    match b with
    | ⟨0, _⟩ => show (i * 1 + 0) / 1 * 512 + (y 0).val = i * 512 + (y 0).val; omega
    | ⟨1, _⟩ => exact (congrArg (· + (y 1).val) (Nat.zero_mul _)).trans (Nat.zero_add _)
  rw [hrow]
  show acc3 (F := Ideal) adm3 c W (i * 1 + 0) h (y : S512x256.Idx) = _
  refine (run_sum (B := 1) (fun n h => acc3 (F := Ideal) adm3 c W n h y)
    (fun n h => ∑ k : Fin 512, lhs3 (F := Ideal) adm3 c W n h (ValueIdx.ix2 (y 0) k) * rhs3 (F := Ideal) adm3 c W n h (ValueIdx.ix2 k (y 1)))
    (fun n h => ?_) i 0 (by decide) h).trans ?_
  · rw [acc3_eq, step3_val]
    refine congrArg (· + _) ?_
    split
    · exact zero3_val y
    · rfl
  · unfold mulSum
    refine Eq.trans ?_ (Fin.sum_univ_tiles (N := 512) 1 512 (by decide) _).symm
    refine Finset.sum_congr rfl fun s _ => Finset.sum_congr rfl fun k _ => ?_
    have hs : s.val < 1 := s.isLt
    refine congrArg₂ (· * ·) ((lhs3_val c W _ _ _).trans ?_) ((rhs3_val c W _ _ _).trans ?_)
    · refine congrArg (W (Proc.devRef .tc main_v92)) ?_
      refine funext fun b => Fin.ext ?_
      match b with
      | ⟨0, _⟩ => show (i * 1 + s.val) / 1 * 512 + (y 0).val = i * 512 + (y 0).val; omega
      | ⟨1, _⟩ => show (i * 1 + s.val) % 1 * 512 + k.val = s.val * 512 + k.val; omega
    · refine congrArg (W (Proc.devRef .tc main_v94)) ?_
      refine funext fun b => Fin.ext ?_
      match b with
      | ⟨0, _⟩ => show (i * 1 + s.val) % 1 * 512 + k.val = s.val * 512 + k.val; omega
      | ⟨1, _⟩ => rfl

end

/-! ## Call 4 -/

theorem gridN4 : grid4.N = 16 := by decide

/-- The blocks of a point. -/
theorem rows4 : ∀ t : Fin grid4.N, cc4_transform_0 (grid4.coords t) = ![t.val / 8, t.val % 8] := by decide +kernel
theorem cols4 : ∀ (d : Dev nD), ∀ t : Fin grid4.N, blk4 (BitVec.ofNat 32 (place d)) (grid4.coords t) = ![t.val % 8, place d] := by decide +kernel
theorem outs4 : ∀ t : Fin grid4.N, cc4_transform_2 (grid4.coords t) = ![t.val / 8, 0] := by decide +kernel

theorem covers4 (d : Dev nD) : ((cfg4 (F := Ideal) (adm4 d)).win (2 : Fin 3)).Covers := by
  revert d; decide +kernel

section
variable (d : Dev nD) (c : Dev nD) (W : Valuation τ sig (Elt Ideal))

theorem lhs4_val (n : ℕ) (h : n < grid4.N) (y : S512x512.Idx) : lhs4 (F := Ideal) (adm4 d) c W n h y
    = W (Proc.devRef .tc main_v9) (ValueIdx.ix2 (⟨n / 8 * 512 + (y 0).val, by have h1 : (y 0).val < 512 := (y 0).isLt; have := gridN4; omega⟩ : Fin 1024)
        (⟨n % 8 * 512 + (y 1).val, by have h1 : (y 1).val < 512 := (y 1).isLt; omega⟩ : Fin 4096)) := by
  unfold lhs4
  refine (congrFun (heldIn_told (c := c) (cfg4 (F := Ideal) (adm4 d)) _ (0 : Fin 3) rfl (fun n h => fun y : S512x512.Idx => W (Proc.devRef .tc main_v9)
      (ValueIdx.ix2 (⟨n / 8 * 512 + (y 0).val, by have h1 : (y 0).val < 512 := (y 0).isLt; have := gridN4; have : n < grid4.N := h; omega⟩ : Fin 1024)
        (⟨n % 8 * 512 + (y 1).val, by have h1 : (y 1).val < 512 := (y 1).isLt; omega⟩ : Fin 4096))) ?_ ?_ n h) y).trans rfl
  · intro t
    funext y
    refine (Pipeline.Window.fill_xinj _ _ _ _ y).trans ?_
    refine congrArg (W (Proc.devRef .tc main_v9)) (funext fun b => Fin.ext ?_)
    refine (Pipeline.Window.rect_emb_val ((cfg4 (F := Ideal) (adm4 d)).win (0 : Fin 3)) t y b).trans ?_
    show cc4_transform_0 (grid4.coords t) b * S512x512.size b + (y b).val = _
    rw [rows4]
    match b with
    | ⟨0, _⟩ => rfl
    | ⟨1, _⟩ => rfl
  · intro n h e
    have e' : cc4_transform_0 (grid4.coords ⟨n + 1, h⟩) = cc4_transform_0 (grid4.coords ⟨n, Nat.lt_of_succ_lt h⟩) := e
    rw [rows4, rows4] at e'
    have e0 : (n + 1) / 8 = n / 8 := congrFun e' 0
    have e1 : (n + 1) % 8 = n % 8 := congrFun e' 1
    simp only [e0, e1]

theorem rhs4_val (n : ℕ) (h : n < grid4.N) (y : S512x256.Idx) : rhs4 (F := Ideal) (adm4 d) c W n h y
    = W (Proc.devRef .tc main_arg4) (ValueIdx.ix2 (⟨n % 8 * 512 + (y 0).val, by have h1 : (y 0).val < 512 := (y 0).isLt; omega⟩ : Fin 4096)
        (⟨place d * 256 + (y 1).val, by have := place_lt d; have h1 : (y 1).val < 256 := (y 1).isLt; omega⟩ : Fin 4096)) := by
  unfold rhs4
  refine (congrFun (heldIn_told (c := c) (cfg4 (F := Ideal) (adm4 d)) _ (1 : Fin 3) rfl (fun n h => fun y : S512x256.Idx => W (Proc.devRef .tc main_arg4)
      (ValueIdx.ix2 (⟨n % 8 * 512 + (y 0).val, by have h1 : (y 0).val < 512 := (y 0).isLt; omega⟩ : Fin 4096)
        (⟨place d * 256 + (y 1).val, by have := place_lt d; have h1 : (y 1).val < 256 := (y 1).isLt; omega⟩ : Fin 4096))) ?_ ?_ n h) y).trans rfl
  · intro t
    funext y
    refine (Pipeline.Window.fill_xinj _ _ _ _ y).trans ?_
    refine congrArg (W (Proc.devRef .tc main_arg4)) (funext fun b => Fin.ext ?_)
    refine (Pipeline.Window.rect_emb_val ((cfg4 (F := Ideal) (adm4 d)).win (1 : Fin 3)) t y b).trans ?_
    show blk4 (BitVec.ofNat 32 (place d)) (grid4.coords t) b * S512x256.size b + (y b).val = _
    rw [cols4]
    match b with
    | ⟨0, _⟩ => rfl
    | ⟨1, _⟩ => rfl
  · intro n h e
    have e' : blk4 (BitVec.ofNat 32 (place d)) (grid4.coords ⟨n + 1, h⟩) = blk4 (BitVec.ofNat 32 (place d)) (grid4.coords ⟨n, Nat.lt_of_succ_lt h⟩) := e
    rw [cols4, cols4] at e'
    have e1 : (n + 1) % 8 = n % 8 := congrFun e' 0
    simp only [e1]

theorem step4_val (l : Vec Ideal S512x512 .f32) (r : Vec Ideal S512x256 .f32) (o : Vec Ideal S512x256 .f32) (y : S512x256.Idx) :
    k4_pay2 l r o y = o y + ∑ k : Fin 512, l (ValueIdx.ix2 (y 0) k) * r (ValueIdx.ix2 k (y 1)) := by
  unfold k4_pay2
  pointwise
  rfl

theorem zero4_val (y : S512x256.Idx) : (k4_pay1 (F := Ideal)) y = 0 := by
  unfold k4_pay1
  pointwise

/-- The product's result at an index. -/
theorem prod4_val (Ψ) (D) : (mm4 (F := Ideal) (adm4 d) c W Ψ D).arrAt (2 : Fin 3) (cfg4 (F := Ideal) (adm4 d)).N
    = fun i : S1024x256.Idx => mulSum (K := 4096) (fun k => W (Proc.devRef .tc main_v9) (ValueIdx.ix2 (i 0) k))
        (fun k => W (Proc.devRef .tc main_arg4) (ValueIdx.ix2 k (⟨place d * 256 + (i 1).val, by have := place_lt d; have h1 : (i 1).val < 256 := (i 1).isLt; omega⟩ : Fin 4096))) := by
  refine (mm4 (F := Ideal) (adm4 d) c W Ψ D).arrAt_eq_of_emb (2 : Fin 3) _ (fun t hf y => ?_) ((covers4 d ).cover _ (Memref.isWhole_whole _))
  rw [flush4] at hf
  have ht : t.val % 8 = 7 := of_decide_eq_true hf
  obtain ⟨t, h⟩ := t
  obtain ⟨i, rfl⟩ : ∃ i, t = i * 8 + 7 := ⟨t / 8, by have : t % 8 = 7 := ht; omega⟩
  have hi : i < 2 := by have := gridN4; have : i * 8 + 7 < grid4.N := h; omega
  have hy0 : (y 0).val < 512 := (y 0).isLt
  have hrow : ((((cfg4 (F := Ideal) (adm4 d)).win (2 : Fin 3)).blk ⟨i * 8 + 7, h⟩).view.emb y : S1024x256.Idx)
      = ValueIdx.ix2 (⟨i * 512 + (y 0).val, by omega⟩ : Fin 1024) (⟨(y 1).val, (y 1).isLt⟩ : Fin 256) := by
    refine funext fun b => Fin.ext ?_
    refine (Pipeline.Window.rect_emb_val ((cfg4 (F := Ideal) (adm4 d)).win (2 : Fin 3)) ⟨i * 8 + 7, h⟩ y b).trans ?_
    show cc4_transform_2 (grid4.coords ⟨i * 8 + 7, h⟩) b * S512x256.size b + (y b).val = _
    rw [outs4]
    match b with
    | ⟨0, _⟩ => show (i * 8 + 7) / 8 * 512 + (y 0).val = i * 512 + (y 0).val; omega
    | ⟨1, _⟩ => exact (congrArg (· + (y 1).val) (Nat.zero_mul _)).trans (Nat.zero_add _)
  rw [hrow]
  show acc4 (F := Ideal) (adm4 d) c W (i * 8 + 7) h (y : S512x256.Idx) = _
  refine (run_sum (B := 8) (fun n h => acc4 (F := Ideal) (adm4 d) c W n h y)
    (fun n h => ∑ k : Fin 512, lhs4 (F := Ideal) (adm4 d) c W n h (ValueIdx.ix2 (y 0) k) * rhs4 (F := Ideal) (adm4 d) c W n h (ValueIdx.ix2 k (y 1)))
    (fun n h => ?_) i 7 (by decide) h).trans ?_
  · rw [acc4_eq, step4_val]
    refine congrArg (· + _) ?_
    split
    · exact zero4_val y
    · rfl
  · unfold mulSum
    refine Eq.trans ?_ (Fin.sum_univ_tiles (N := 4096) 8 512 (by decide) _).symm
    refine Finset.sum_congr rfl fun s _ => Finset.sum_congr rfl fun k _ => ?_
    have hs : s.val < 8 := s.isLt
    refine congrArg₂ (· * ·) ((lhs4_val d c W _ _ _).trans ?_) ((rhs4_val d c W _ _ _).trans ?_)
    · refine congrArg (W (Proc.devRef .tc main_v9)) ?_
      refine funext fun b => Fin.ext ?_
      match b with
      | ⟨0, _⟩ => show (i * 8 + s.val) / 8 * 512 + (y 0).val = i * 512 + (y 0).val; omega
      | ⟨1, _⟩ => show (i * 8 + s.val) % 8 * 512 + k.val = s.val * 512 + k.val; omega
    · refine congrArg (W (Proc.devRef .tc main_arg4)) ?_
      refine funext fun b => Fin.ext ?_
      match b with
      | ⟨0, _⟩ => show (i * 8 + s.val) % 8 * 512 + k.val = s.val * 512 + k.val; omega
      | ⟨1, _⟩ => rfl

end

/-! ## Call 5 -/

theorem gridN5 : grid5.N = 16 := by decide

/-- The blocks of a point. -/
theorem rows5 : ∀ t : Fin grid5.N, cc5_transform_0 (grid5.coords t) = ![t.val / 8, t.val % 8] := by decide +kernel
theorem cols5 : ∀ (d : Dev nD), ∀ t : Fin grid5.N, blk5 (BitVec.ofNat 32 (place d)) (grid5.coords t) = ![t.val % 8, place d] := by decide +kernel
theorem outs5 : ∀ t : Fin grid5.N, cc5_transform_2 (grid5.coords t) = ![t.val / 8, 0] := by decide +kernel

theorem covers5 (d : Dev nD) : ((cfg5 (F := Ideal) (adm5 d)).win (2 : Fin 3)).Covers := by
  revert d; decide +kernel

section
variable (d : Dev nD) (c : Dev nD) (W : Valuation τ sig (Elt Ideal))

theorem lhs5_val (n : ℕ) (h : n < grid5.N) (y : S512x512.Idx) : lhs5 (F := Ideal) (adm5 d) c W n h y
    = W (Proc.devRef .tc main_v9) (ValueIdx.ix2 (⟨n / 8 * 512 + (y 0).val, by have h1 : (y 0).val < 512 := (y 0).isLt; have := gridN5; omega⟩ : Fin 1024)
        (⟨n % 8 * 512 + (y 1).val, by have h1 : (y 1).val < 512 := (y 1).isLt; omega⟩ : Fin 4096)) := by
  unfold lhs5
  refine (congrFun (heldIn_told (c := c) (cfg5 (F := Ideal) (adm5 d)) _ (0 : Fin 3) rfl (fun n h => fun y : S512x512.Idx => W (Proc.devRef .tc main_v9)
      (ValueIdx.ix2 (⟨n / 8 * 512 + (y 0).val, by have h1 : (y 0).val < 512 := (y 0).isLt; have := gridN5; have : n < grid5.N := h; omega⟩ : Fin 1024)
        (⟨n % 8 * 512 + (y 1).val, by have h1 : (y 1).val < 512 := (y 1).isLt; omega⟩ : Fin 4096))) ?_ ?_ n h) y).trans rfl
  · intro t
    funext y
    refine (Pipeline.Window.fill_xinj _ _ _ _ y).trans ?_
    refine congrArg (W (Proc.devRef .tc main_v9)) (funext fun b => Fin.ext ?_)
    refine (Pipeline.Window.rect_emb_val ((cfg5 (F := Ideal) (adm5 d)).win (0 : Fin 3)) t y b).trans ?_
    show cc5_transform_0 (grid5.coords t) b * S512x512.size b + (y b).val = _
    rw [rows5]
    match b with
    | ⟨0, _⟩ => rfl
    | ⟨1, _⟩ => rfl
  · intro n h e
    have e' : cc5_transform_0 (grid5.coords ⟨n + 1, h⟩) = cc5_transform_0 (grid5.coords ⟨n, Nat.lt_of_succ_lt h⟩) := e
    rw [rows5, rows5] at e'
    have e0 : (n + 1) / 8 = n / 8 := congrFun e' 0
    have e1 : (n + 1) % 8 = n % 8 := congrFun e' 1
    simp only [e0, e1]

theorem rhs5_val (n : ℕ) (h : n < grid5.N) (y : S512x128.Idx) : rhs5 (F := Ideal) (adm5 d) c W n h y
    = W (Proc.devRef .tc main_arg5) (ValueIdx.ix2 (⟨n % 8 * 512 + (y 0).val, by have h1 : (y 0).val < 512 := (y 0).isLt; omega⟩ : Fin 4096)
        (⟨place d * 128 + (y 1).val, by have := place_lt d; have h1 : (y 1).val < 128 := (y 1).isLt; omega⟩ : Fin 2048)) := by
  unfold rhs5
  refine (congrFun (heldIn_told (c := c) (cfg5 (F := Ideal) (adm5 d)) _ (1 : Fin 3) rfl (fun n h => fun y : S512x128.Idx => W (Proc.devRef .tc main_arg5)
      (ValueIdx.ix2 (⟨n % 8 * 512 + (y 0).val, by have h1 : (y 0).val < 512 := (y 0).isLt; omega⟩ : Fin 4096)
        (⟨place d * 128 + (y 1).val, by have := place_lt d; have h1 : (y 1).val < 128 := (y 1).isLt; omega⟩ : Fin 2048))) ?_ ?_ n h) y).trans rfl
  · intro t
    funext y
    refine (Pipeline.Window.fill_xinj _ _ _ _ y).trans ?_
    refine congrArg (W (Proc.devRef .tc main_arg5)) (funext fun b => Fin.ext ?_)
    refine (Pipeline.Window.rect_emb_val ((cfg5 (F := Ideal) (adm5 d)).win (1 : Fin 3)) t y b).trans ?_
    show blk5 (BitVec.ofNat 32 (place d)) (grid5.coords t) b * S512x128.size b + (y b).val = _
    rw [cols5]
    match b with
    | ⟨0, _⟩ => rfl
    | ⟨1, _⟩ => rfl
  · intro n h e
    have e' : blk5 (BitVec.ofNat 32 (place d)) (grid5.coords ⟨n + 1, h⟩) = blk5 (BitVec.ofNat 32 (place d)) (grid5.coords ⟨n, Nat.lt_of_succ_lt h⟩) := e
    rw [cols5, cols5] at e'
    have e1 : (n + 1) % 8 = n % 8 := congrFun e' 0
    simp only [e1]

theorem step5_val (l : Vec Ideal S512x512 .f32) (r : Vec Ideal S512x128 .f32) (o : Vec Ideal S512x128 .f32) (y : S512x128.Idx) :
    k5_pay2 l r o y = o y + ∑ k : Fin 512, l (ValueIdx.ix2 (y 0) k) * r (ValueIdx.ix2 k (y 1)) := by
  unfold k5_pay2
  pointwise
  rfl

theorem zero5_val (y : S512x128.Idx) : (k5_pay1 (F := Ideal)) y = 0 := by
  unfold k5_pay1
  pointwise

/-- The product's result at an index. -/
theorem prod5_val (Ψ) (D) : (mm5 (F := Ideal) (adm5 d) c W Ψ D).arrAt (2 : Fin 3) (cfg5 (F := Ideal) (adm5 d)).N
    = fun i : S1024x128.Idx => mulSum (K := 4096) (fun k => W (Proc.devRef .tc main_v9) (ValueIdx.ix2 (i 0) k))
        (fun k => W (Proc.devRef .tc main_arg5) (ValueIdx.ix2 k (⟨place d * 128 + (i 1).val, by have := place_lt d; have h1 : (i 1).val < 128 := (i 1).isLt; omega⟩ : Fin 2048))) := by
  refine (mm5 (F := Ideal) (adm5 d) c W Ψ D).arrAt_eq_of_emb (2 : Fin 3) _ (fun t hf y => ?_) ((covers5 d ).cover _ (Memref.isWhole_whole _))
  rw [flush5] at hf
  have ht : t.val % 8 = 7 := of_decide_eq_true hf
  obtain ⟨t, h⟩ := t
  obtain ⟨i, rfl⟩ : ∃ i, t = i * 8 + 7 := ⟨t / 8, by have : t % 8 = 7 := ht; omega⟩
  have hi : i < 2 := by have := gridN5; have : i * 8 + 7 < grid5.N := h; omega
  have hy0 : (y 0).val < 512 := (y 0).isLt
  have hrow : ((((cfg5 (F := Ideal) (adm5 d)).win (2 : Fin 3)).blk ⟨i * 8 + 7, h⟩).view.emb y : S1024x128.Idx)
      = ValueIdx.ix2 (⟨i * 512 + (y 0).val, by omega⟩ : Fin 1024) (⟨(y 1).val, (y 1).isLt⟩ : Fin 128) := by
    refine funext fun b => Fin.ext ?_
    refine (Pipeline.Window.rect_emb_val ((cfg5 (F := Ideal) (adm5 d)).win (2 : Fin 3)) ⟨i * 8 + 7, h⟩ y b).trans ?_
    show cc5_transform_2 (grid5.coords ⟨i * 8 + 7, h⟩) b * S512x128.size b + (y b).val = _
    rw [outs5]
    match b with
    | ⟨0, _⟩ => show (i * 8 + 7) / 8 * 512 + (y 0).val = i * 512 + (y 0).val; omega
    | ⟨1, _⟩ => exact (congrArg (· + (y 1).val) (Nat.zero_mul _)).trans (Nat.zero_add _)
  rw [hrow]
  show acc5 (F := Ideal) (adm5 d) c W (i * 8 + 7) h (y : S512x128.Idx) = _
  refine (run_sum (B := 8) (fun n h => acc5 (F := Ideal) (adm5 d) c W n h y)
    (fun n h => ∑ k : Fin 512, lhs5 (F := Ideal) (adm5 d) c W n h (ValueIdx.ix2 (y 0) k) * rhs5 (F := Ideal) (adm5 d) c W n h (ValueIdx.ix2 k (y 1)))
    (fun n h => ?_) i 7 (by decide) h).trans ?_
  · rw [acc5_eq, step5_val]
    refine congrArg (· + _) ?_
    split
    · exact zero5_val y
    · rfl
  · unfold mulSum
    refine Eq.trans ?_ (Fin.sum_univ_tiles (N := 4096) 8 512 (by decide) _).symm
    refine Finset.sum_congr rfl fun s _ => Finset.sum_congr rfl fun k _ => ?_
    have hs : s.val < 8 := s.isLt
    refine congrArg₂ (· * ·) ((lhs5_val d c W _ _ _).trans ?_) ((rhs5_val d c W _ _ _).trans ?_)
    · refine congrArg (W (Proc.devRef .tc main_v9)) ?_
      refine funext fun b => Fin.ext ?_
      match b with
      | ⟨0, _⟩ => show (i * 8 + s.val) / 8 * 512 + (y 0).val = i * 512 + (y 0).val; omega
      | ⟨1, _⟩ => show (i * 8 + s.val) % 8 * 512 + k.val = s.val * 512 + k.val; omega
    · refine congrArg (W (Proc.devRef .tc main_arg5)) ?_
      refine funext fun b => Fin.ext ?_
      match b with
      | ⟨0, _⟩ => show (i * 8 + s.val) % 8 * 512 + k.val = s.val * 512 + k.val; omega
      | ⟨1, _⟩ => rfl

end

/-! ## Call 6 -/

theorem gridN6 : grid6.N = 16 := by decide

/-- The blocks of a point. -/
theorem rows6 : ∀ t : Fin grid6.N, cc6_transform_0 (grid6.coords t) = ![t.val / 8, t.val % 8] := by decide +kernel
theorem cols6 : ∀ t : Fin grid6.N, blk6 0#32 (grid6.coords t) = ![t.val % 8, 0] := by decide +kernel
theorem outs6 : ∀ t : Fin grid6.N, cc6_transform_2 (grid6.coords t) = ![t.val / 8, 0] := by decide +kernel

theorem covers6 : ((cfg6 (F := Ideal) adm6).win (2 : Fin 3)).Covers := by
  decide +kernel

section
variable (c : Dev nD) (W : Valuation τ sig (Elt Ideal))

theorem lhs6_val (n : ℕ) (h : n < grid6.N) (y : S512x512.Idx) : lhs6 (F := Ideal) adm6 c W n h y
    = W (Proc.devRef .tc main_v9) (ValueIdx.ix2 (⟨n / 8 * 512 + (y 0).val, by have h1 : (y 0).val < 512 := (y 0).isLt; have := gridN6; omega⟩ : Fin 1024)
        (⟨n % 8 * 512 + (y 1).val, by have h1 : (y 1).val < 512 := (y 1).isLt; omega⟩ : Fin 4096)) := by
  unfold lhs6
  refine (congrFun (heldIn_told (c := c) (cfg6 (F := Ideal) adm6) _ (0 : Fin 3) rfl (fun n h => fun y : S512x512.Idx => W (Proc.devRef .tc main_v9)
      (ValueIdx.ix2 (⟨n / 8 * 512 + (y 0).val, by have h1 : (y 0).val < 512 := (y 0).isLt; have := gridN6; have : n < grid6.N := h; omega⟩ : Fin 1024)
        (⟨n % 8 * 512 + (y 1).val, by have h1 : (y 1).val < 512 := (y 1).isLt; omega⟩ : Fin 4096))) ?_ ?_ n h) y).trans rfl
  · intro t
    funext y
    refine (Pipeline.Window.fill_xinj _ _ _ _ y).trans ?_
    refine congrArg (W (Proc.devRef .tc main_v9)) (funext fun b => Fin.ext ?_)
    refine (Pipeline.Window.rect_emb_val ((cfg6 (F := Ideal) adm6).win (0 : Fin 3)) t y b).trans ?_
    show cc6_transform_0 (grid6.coords t) b * S512x512.size b + (y b).val = _
    rw [rows6]
    match b with
    | ⟨0, _⟩ => rfl
    | ⟨1, _⟩ => rfl
  · intro n h e
    have e' : cc6_transform_0 (grid6.coords ⟨n + 1, h⟩) = cc6_transform_0 (grid6.coords ⟨n, Nat.lt_of_succ_lt h⟩) := e
    rw [rows6, rows6] at e'
    have e0 : (n + 1) / 8 = n / 8 := congrFun e' 0
    have e1 : (n + 1) % 8 = n % 8 := congrFun e' 1
    simp only [e0, e1]

theorem rhs6_val (n : ℕ) (h : n < grid6.N) (y : S512x64.Idx) : rhs6 (F := Ideal) adm6 c W n h y
    = W (Proc.devRef .tc main_arg6) (ValueIdx.ix2 (⟨n % 8 * 512 + (y 0).val, by have h1 : (y 0).val < 512 := (y 0).isLt; omega⟩ : Fin 4096)
        (⟨(y 1).val, (y 1).isLt⟩ : Fin 64)) := by
  unfold rhs6
  refine (congrFun (heldIn_told (c := c) (cfg6 (F := Ideal) adm6) _ (1 : Fin 3) rfl (fun n h => fun y : S512x64.Idx => W (Proc.devRef .tc main_arg6)
      (ValueIdx.ix2 (⟨n % 8 * 512 + (y 0).val, by have h1 : (y 0).val < 512 := (y 0).isLt; omega⟩ : Fin 4096)
        (⟨(y 1).val, (y 1).isLt⟩ : Fin 64))) ?_ ?_ n h) y).trans rfl
  · intro t
    funext y
    refine (Pipeline.Window.fill_xinj _ _ _ _ y).trans ?_
    refine congrArg (W (Proc.devRef .tc main_arg6)) (funext fun b => Fin.ext ?_)
    refine (Pipeline.Window.rect_emb_val ((cfg6 (F := Ideal) adm6).win (1 : Fin 3)) t y b).trans ?_
    show blk6 0#32 (grid6.coords t) b * S512x64.size b + (y b).val = _
    rw [cols6]
    match b with
    | ⟨0, _⟩ => rfl
    | ⟨1, _⟩ => exact (congrArg (· + (y 1).val) (Nat.zero_mul _)).trans (Nat.zero_add _)
  · intro n h e
    have e' : blk6 0#32 (grid6.coords ⟨n + 1, h⟩) = blk6 0#32 (grid6.coords ⟨n, Nat.lt_of_succ_lt h⟩) := e
    rw [cols6, cols6] at e'
    have e1 : (n + 1) % 8 = n % 8 := congrFun e' 0
    simp only [e1]

theorem step6_val (l : Vec Ideal S512x512 .f32) (r : Vec Ideal S512x64 .f32) (o : Vec Ideal S512x64 .f32) (y : S512x64.Idx) :
    k6_pay2 l r o y = o y + ∑ k : Fin 512, l (ValueIdx.ix2 (y 0) k) * r (ValueIdx.ix2 k (y 1)) := by
  unfold k6_pay2
  pointwise
  rfl

theorem zero6_val (y : S512x64.Idx) : (k6_pay1 (F := Ideal)) y = 0 := by
  unfold k6_pay1
  pointwise

/-- The product's result at an index. -/
theorem prod6_val (Ψ) (D) : (mm6 (F := Ideal) adm6 c W Ψ D).arrAt (2 : Fin 3) (cfg6 (F := Ideal) adm6).N
    = fun i : S1024x64.Idx => mulSum (K := 4096) (fun k => W (Proc.devRef .tc main_v9) (ValueIdx.ix2 (i 0) k))
        (fun k => W (Proc.devRef .tc main_arg6) (ValueIdx.ix2 k (⟨(i 1).val, (i 1).isLt⟩ : Fin 64))) := by
  refine (mm6 (F := Ideal) adm6 c W Ψ D).arrAt_eq_of_emb (2 : Fin 3) _ (fun t hf y => ?_) ((covers6 ).cover _ (Memref.isWhole_whole _))
  rw [flush6] at hf
  have ht : t.val % 8 = 7 := of_decide_eq_true hf
  obtain ⟨t, h⟩ := t
  obtain ⟨i, rfl⟩ : ∃ i, t = i * 8 + 7 := ⟨t / 8, by have : t % 8 = 7 := ht; omega⟩
  have hi : i < 2 := by have := gridN6; have : i * 8 + 7 < grid6.N := h; omega
  have hy0 : (y 0).val < 512 := (y 0).isLt
  have hrow : ((((cfg6 (F := Ideal) adm6).win (2 : Fin 3)).blk ⟨i * 8 + 7, h⟩).view.emb y : S1024x64.Idx)
      = ValueIdx.ix2 (⟨i * 512 + (y 0).val, by omega⟩ : Fin 1024) (⟨(y 1).val, (y 1).isLt⟩ : Fin 64) := by
    refine funext fun b => Fin.ext ?_
    refine (Pipeline.Window.rect_emb_val ((cfg6 (F := Ideal) adm6).win (2 : Fin 3)) ⟨i * 8 + 7, h⟩ y b).trans ?_
    show cc6_transform_2 (grid6.coords ⟨i * 8 + 7, h⟩) b * S512x64.size b + (y b).val = _
    rw [outs6]
    match b with
    | ⟨0, _⟩ => show (i * 8 + 7) / 8 * 512 + (y 0).val = i * 512 + (y 0).val; omega
    | ⟨1, _⟩ => exact (congrArg (· + (y 1).val) (Nat.zero_mul _)).trans (Nat.zero_add _)
  rw [hrow]
  show acc6 (F := Ideal) adm6 c W (i * 8 + 7) h (y : S512x64.Idx) = _
  refine (run_sum (B := 8) (fun n h => acc6 (F := Ideal) adm6 c W n h y)
    (fun n h => ∑ k : Fin 512, lhs6 (F := Ideal) adm6 c W n h (ValueIdx.ix2 (y 0) k) * rhs6 (F := Ideal) adm6 c W n h (ValueIdx.ix2 k (y 1)))
    (fun n h => ?_) i 7 (by decide) h).trans ?_
  · rw [acc6_eq, step6_val]
    refine congrArg (· + _) ?_
    split
    · exact zero6_val y
    · rfl
  · unfold mulSum
    refine Eq.trans ?_ (Fin.sum_univ_tiles (N := 4096) 8 512 (by decide) _).symm
    refine Finset.sum_congr rfl fun s _ => Finset.sum_congr rfl fun k _ => ?_
    have hs : s.val < 8 := s.isLt
    refine congrArg₂ (· * ·) ((lhs6_val c W _ _ _).trans ?_) ((rhs6_val c W _ _ _).trans ?_)
    · refine congrArg (W (Proc.devRef .tc main_v9)) ?_
      refine funext fun b => Fin.ext ?_
      match b with
      | ⟨0, _⟩ => show (i * 8 + s.val) / 8 * 512 + (y 0).val = i * 512 + (y 0).val; omega
      | ⟨1, _⟩ => show (i * 8 + s.val) % 8 * 512 + k.val = s.val * 512 + k.val; omega
    · refine congrArg (W (Proc.devRef .tc main_arg6)) ?_
      refine funext fun b => Fin.ext ?_
      match b with
      | ⟨0, _⟩ => show (i * 8 + s.val) % 8 * 512 + k.val = s.val * 512 + k.val; omega
      | ⟨1, _⟩ => rfl

end

end Cert.KernelIdeal.Gen

end
-- ==== Proof.Ideal.ValAttn.lean ====
module

public import proofs.«01_k».proof.Proof.Ideal.ValMm

/-!
# The attention over the reals

Each half of a device's columns is one head, and each batch entry is one point of the grid.
-/

@[expose] public section

noncomputable section

open Idealize.ShloMosaic Idealize.ShloMosaic.TcCoe
open Idealize.ShloMosaic.Pipeline (heldIn)
open Cert.Maths

namespace Cert.KernelIdeal.Gen

/-! ## One point -/

section
variable (q k v : Vec Ideal S256x256 .f32) (qr : Vec Ideal S256x128 .f32) (kr : Vec Ideal S256x64 .f32) (s : Fin 256) (d : Fin 128)

theorem first_val : k7_pay7 q k v qr kr (ValueIdx.ix2 s d)
    = att (fun t x => q (ValueIdx.ix2 t (⟨x.val, by omega⟩ : Fin 256))) (fun t x => k (ValueIdx.ix2 t (⟨x.val, by omega⟩ : Fin 256)))
        (fun t x => v (ValueIdx.ix2 t (⟨x.val, by omega⟩ : Fin 256))) (fun t x => qr (ValueIdx.ix2 t (⟨x.val, by omega⟩ : Fin 128)))
        (fun t x => kr (ValueIdx.ix2 t x)) s d := by
  unfold k7_pay7 k7_pay2 k7_pay3 k7_pay4 k7_pay5 k7_pay6
  pointwise
  rfl

theorem second_val : head1 q k v qr kr (ValueIdx.ix2 s d)
    = att (fun t x => q (ValueIdx.ix2 t (⟨128 + x.val, by omega⟩ : Fin 256))) (fun t x => k (ValueIdx.ix2 t (⟨128 + x.val, by omega⟩ : Fin 256)))
        (fun t x => v (ValueIdx.ix2 t (⟨128 + x.val, by omega⟩ : Fin 256))) (fun t x => qr (ValueIdx.ix2 t (⟨64 + x.val, by omega⟩ : Fin 128)))
        (fun t x => kr (ValueIdx.ix2 t x)) s d := by
  unfold head1 k7_pay1 k7_pay4 k7_pay5 k7_pay6 k7_pay8 k7_pay9 k7_pay2 k7_pay3
  pointwise
  rfl

theorem heads_val (y : S256x256.Idx) : heads q k v qr kr y
    = att (fun t x => q (ValueIdx.ix2 t (⟨(y 1).val / 128 * 128 + x.val, by have : (y 1).val < 256 := (y 1).isLt; omega⟩ : Fin 256)))
        (fun t x => k (ValueIdx.ix2 t (⟨(y 1).val / 128 * 128 + x.val, by have : (y 1).val < 256 := (y 1).isLt; omega⟩ : Fin 256)))
        (fun t x => v (ValueIdx.ix2 t (⟨(y 1).val / 128 * 128 + x.val, by have : (y 1).val < 256 := (y 1).isLt; omega⟩ : Fin 256)))
        (fun t x => qr (ValueIdx.ix2 t (⟨(y 1).val / 128 * 64 + x.val, by have : (y 1).val < 256 := (y 1).isLt; omega⟩ : Fin 128)))
        (fun t x => kr (ValueIdx.ix2 t x)) (y 0) ⟨(y 1).val % 128, Nat.mod_lt _ (by decide)⟩ := by
  have hy : (y 1).val < 256 := (y 1).isLt
  unfold heads beside
  split_ifs with h
  · refine (first_val q k v qr kr (y 0) ⟨(y 1).val, h⟩).trans ?_
    have e : (y 1).val / 128 = 0 := by omega
    have e2 : (y 1).val % 128 = (y 1).val := Nat.mod_eq_of_lt h
    simp only [e, e2, Nat.zero_mul, Nat.zero_add]
  · refine (second_val q k v qr kr (y 0) ⟨(y 1).val - 128, by omega⟩).trans ?_
    have e : (y 1).val / 128 = 1 := by omega
    have e2 : (y 1).val % 128 = (y 1).val - 128 := by omega
    simp only [e, e2, Nat.one_mul]

end

/-! ## The call -/

theorem gridN7 : grid7.N = 4 := by decide

theorem rows7_0 : ∀ t : Fin grid7.N, cc7_transform_0 (grid7.coords t) = ![t.val, 0] := by decide +kernel
theorem rows7_1 : ∀ t : Fin grid7.N, cc7_transform_1 (grid7.coords t) = ![t.val, 0] := by decide +kernel
theorem rows7_2 : ∀ t : Fin grid7.N, cc7_transform_2 (grid7.coords t) = ![t.val, 0] := by decide +kernel
theorem rows7_3 : ∀ t : Fin grid7.N, cc7_transform_3 (grid7.coords t) = ![t.val, 0] := by decide +kernel
theorem rows7_4 : ∀ t : Fin grid7.N, cc7_transform_4 (grid7.coords t) = ![t.val, 0] := by decide +kernel
theorem rows7_5 : ∀ t : Fin grid7.N, cc7_transform_5 (grid7.coords t) = ![t.val, 0] := by decide +kernel

theorem covers7 : (cfg7.win (5 : Fin 6)).Covers := by decide +kernel
theorem flush7 (t : Fin grid7.N) : (cfg7.win (5 : Fin 6)).flush t = true := by revert t; decide +kernel

section
variable (c : Dev nD) (W : Valuation τ sig (Elt Ideal))

theorem got7_0 (n : ℕ) (h : n < grid7.N) : got7 c W 0 n h = fun y : S256x256.Idx => W (Proc.devRef .tc main_v106) (ValueIdx.ix2 (⟨n * 256 + (y 0).val, by have h1 : (y 0).val < 256 := (y 0).isLt; have := gridN7; have : n < grid7.N := h; omega⟩ : Fin 1024)
        (⟨(y 1).val, (y 1).isLt⟩ : Fin 256)) := by
  unfold got7
  refine heldIn_told (c := c) cfg7 _ (0 : Fin 6) rfl (fun n h => fun y : S256x256.Idx => W (Proc.devRef .tc main_v106) (ValueIdx.ix2 (⟨n * 256 + (y 0).val, by have h1 : (y 0).val < 256 := (y 0).isLt; have := gridN7; have : n < grid7.N := h; omega⟩ : Fin 1024)
        (⟨(y 1).val, (y 1).isLt⟩ : Fin 256))) ?_ ?_ n h
  · intro t
    funext y
    refine (Pipeline.Window.fill_xinj _ _ _ _ y).trans ?_
    refine congrArg (W (Proc.devRef .tc main_v106)) (funext fun b => Fin.ext ?_)
    refine (Pipeline.Window.rect_emb_val (cfg7.win (0 : Fin 6)) t y b).trans ?_
    show cc7_transform_0 (grid7.coords t) b * S256x256.size b + (y b).val = _
    rw [rows7_0]
    match b with
    | ⟨0, _⟩ => rfl
    | ⟨1, _⟩ => exact (congrArg (· + (y 1).val) (Nat.zero_mul _)).trans (Nat.zero_add _)
  · intro n h e
    have e' : cc7_transform_0 (grid7.coords ⟨n + 1, h⟩) = cc7_transform_0 (grid7.coords ⟨n, Nat.lt_of_succ_lt h⟩) := e
    rw [rows7_0, rows7_0] at e'
    have e0 : n + 1 = n := congrFun e' 0
    omega

theorem got7_1 (n : ℕ) (h : n < grid7.N) : got7 c W 1 n h = fun y : S256x256.Idx => W (Proc.devRef .tc main_v97) (ValueIdx.ix2 (⟨n * 256 + (y 0).val, by have h1 : (y 0).val < 256 := (y 0).isLt; have := gridN7; have : n < grid7.N := h; omega⟩ : Fin 1024)
        (⟨(y 1).val, (y 1).isLt⟩ : Fin 256)) := by
  unfold got7
  refine heldIn_told (c := c) cfg7 _ (1 : Fin 6) rfl (fun n h => fun y : S256x256.Idx => W (Proc.devRef .tc main_v97) (ValueIdx.ix2 (⟨n * 256 + (y 0).val, by have h1 : (y 0).val < 256 := (y 0).isLt; have := gridN7; have : n < grid7.N := h; omega⟩ : Fin 1024)
        (⟨(y 1).val, (y 1).isLt⟩ : Fin 256))) ?_ ?_ n h
  · intro t
    funext y
    refine (Pipeline.Window.fill_xinj _ _ _ _ y).trans ?_
    refine congrArg (W (Proc.devRef .tc main_v97)) (funext fun b => Fin.ext ?_)
    refine (Pipeline.Window.rect_emb_val (cfg7.win (1 : Fin 6)) t y b).trans ?_
    show cc7_transform_1 (grid7.coords t) b * S256x256.size b + (y b).val = _
    rw [rows7_1]
    match b with
    | ⟨0, _⟩ => rfl
    | ⟨1, _⟩ => exact (congrArg (· + (y 1).val) (Nat.zero_mul _)).trans (Nat.zero_add _)
  · intro n h e
    have e' : cc7_transform_1 (grid7.coords ⟨n + 1, h⟩) = cc7_transform_1 (grid7.coords ⟨n, Nat.lt_of_succ_lt h⟩) := e
    rw [rows7_1, rows7_1] at e'
    have e0 : n + 1 = n := congrFun e' 0
    omega

theorem got7_2 (n : ℕ) (h : n < grid7.N) : got7 c W 2 n h = fun y : S256x256.Idx => W (Proc.devRef .tc main_v100) (ValueIdx.ix2 (⟨n * 256 + (y 0).val, by have h1 : (y 0).val < 256 := (y 0).isLt; have := gridN7; have : n < grid7.N := h; omega⟩ : Fin 1024)
        (⟨(y 1).val, (y 1).isLt⟩ : Fin 256)) := by
  unfold got7
  refine heldIn_told (c := c) cfg7 _ (2 : Fin 6) rfl (fun n h => fun y : S256x256.Idx => W (Proc.devRef .tc main_v100) (ValueIdx.ix2 (⟨n * 256 + (y 0).val, by have h1 : (y 0).val < 256 := (y 0).isLt; have := gridN7; have : n < grid7.N := h; omega⟩ : Fin 1024)
        (⟨(y 1).val, (y 1).isLt⟩ : Fin 256))) ?_ ?_ n h
  · intro t
    funext y
    refine (Pipeline.Window.fill_xinj _ _ _ _ y).trans ?_
    refine congrArg (W (Proc.devRef .tc main_v100)) (funext fun b => Fin.ext ?_)
    refine (Pipeline.Window.rect_emb_val (cfg7.win (2 : Fin 6)) t y b).trans ?_
    show cc7_transform_2 (grid7.coords t) b * S256x256.size b + (y b).val = _
    rw [rows7_2]
    match b with
    | ⟨0, _⟩ => rfl
    | ⟨1, _⟩ => exact (congrArg (· + (y 1).val) (Nat.zero_mul _)).trans (Nat.zero_add _)
  · intro n h e
    have e' : cc7_transform_2 (grid7.coords ⟨n + 1, h⟩) = cc7_transform_2 (grid7.coords ⟨n, Nat.lt_of_succ_lt h⟩) := e
    rw [rows7_2, rows7_2] at e'
    have e0 : n + 1 = n := congrFun e' 0
    omega

theorem got7_3 (n : ℕ) (h : n < grid7.N) : got7 c W 3 n h = fun y : S256x128.Idx => W (Proc.devRef .tc main_v112) (ValueIdx.ix2 (⟨n * 256 + (y 0).val, by have h1 : (y 0).val < 256 := (y 0).isLt; have := gridN7; have : n < grid7.N := h; omega⟩ : Fin 1024)
        (⟨(y 1).val, (y 1).isLt⟩ : Fin 128)) := by
  unfold got7
  refine heldIn_told (c := c) cfg7 _ (3 : Fin 6) rfl (fun n h => fun y : S256x128.Idx => W (Proc.devRef .tc main_v112) (ValueIdx.ix2 (⟨n * 256 + (y 0).val, by have h1 : (y 0).val < 256 := (y 0).isLt; have := gridN7; have : n < grid7.N := h; omega⟩ : Fin 1024)
        (⟨(y 1).val, (y 1).isLt⟩ : Fin 128))) ?_ ?_ n h
  · intro t
    funext y
    refine (Pipeline.Window.fill_xinj _ _ _ _ y).trans ?_
    refine congrArg (W (Proc.devRef .tc main_v112)) (funext fun b => Fin.ext ?_)
    refine (Pipeline.Window.rect_emb_val (cfg7.win (3 : Fin 6)) t y b).trans ?_
    show cc7_transform_3 (grid7.coords t) b * S256x128.size b + (y b).val = _
    rw [rows7_3]
    match b with
    | ⟨0, _⟩ => rfl
    | ⟨1, _⟩ => exact (congrArg (· + (y 1).val) (Nat.zero_mul _)).trans (Nat.zero_add _)
  · intro n h e
    have e' : cc7_transform_3 (grid7.coords ⟨n + 1, h⟩) = cc7_transform_3 (grid7.coords ⟨n, Nat.lt_of_succ_lt h⟩) := e
    rw [rows7_3, rows7_3] at e'
    have e0 : n + 1 = n := congrFun e' 0
    omega

theorem got7_4 (n : ℕ) (h : n < grid7.N) : got7 c W 4 n h = fun y : S256x64.Idx => W (Proc.devRef .tc main_v115) (ValueIdx.ix2 (⟨n * 256 + (y 0).val, by have h1 : (y 0).val < 256 := (y 0).isLt; have := gridN7; have : n < grid7.N := h; omega⟩ : Fin 1024)
        (⟨(y 1).val, (y 1).isLt⟩ : Fin 64)) := by
  unfold got7
  refine heldIn_told (c := c) cfg7 _ (4 : Fin 6) rfl (fun n h => fun y : S256x64.Idx => W (Proc.devRef .tc main_v115) (ValueIdx.ix2 (⟨n * 256 + (y 0).val, by have h1 : (y 0).val < 256 := (y 0).isLt; have := gridN7; have : n < grid7.N := h; omega⟩ : Fin 1024)
        (⟨(y 1).val, (y 1).isLt⟩ : Fin 64))) ?_ ?_ n h
  · intro t
    funext y
    refine (Pipeline.Window.fill_xinj _ _ _ _ y).trans ?_
    refine congrArg (W (Proc.devRef .tc main_v115)) (funext fun b => Fin.ext ?_)
    refine (Pipeline.Window.rect_emb_val (cfg7.win (4 : Fin 6)) t y b).trans ?_
    show cc7_transform_4 (grid7.coords t) b * S256x64.size b + (y b).val = _
    rw [rows7_4]
    match b with
    | ⟨0, _⟩ => rfl
    | ⟨1, _⟩ => exact (congrArg (· + (y 1).val) (Nat.zero_mul _)).trans (Nat.zero_add _)
  · intro n h e
    have e' : cc7_transform_4 (grid7.coords ⟨n + 1, h⟩) = cc7_transform_4 (grid7.coords ⟨n, Nat.lt_of_succ_lt h⟩) := e
    rw [rows7_4, rows7_4] at e'
    have e0 : n + 1 = n := congrFun e' 0
    omega

/-- The attention's result at an index. -/
theorem attn_val (Ψ) (D) : (attn (F := Ideal) c W Ψ D).arrAt (5 : Fin 6) cfg7.N
    = fun i : S1024x256.Idx => att
        (fun t x => W (Proc.devRef .tc main_v106) (ValueIdx.ix2 (⟨(i 0).val / 256 * 256 + t.val, by have : (i 0).val < 1024 := (i 0).isLt; omega⟩ : Fin 1024) (⟨(i 1).val / 128 * 128 + x.val, by have : (i 1).val < 256 := (i 1).isLt; omega⟩ : Fin 256)))
        (fun t x => W (Proc.devRef .tc main_v97) (ValueIdx.ix2 (⟨(i 0).val / 256 * 256 + t.val, by have : (i 0).val < 1024 := (i 0).isLt; omega⟩ : Fin 1024) (⟨(i 1).val / 128 * 128 + x.val, by have : (i 1).val < 256 := (i 1).isLt; omega⟩ : Fin 256)))
        (fun t x => W (Proc.devRef .tc main_v100) (ValueIdx.ix2 (⟨(i 0).val / 256 * 256 + t.val, by have : (i 0).val < 1024 := (i 0).isLt; omega⟩ : Fin 1024) (⟨(i 1).val / 128 * 128 + x.val, by have : (i 1).val < 256 := (i 1).isLt; omega⟩ : Fin 256)))
        (fun t x => W (Proc.devRef .tc main_v112) (ValueIdx.ix2 (⟨(i 0).val / 256 * 256 + t.val, by have : (i 0).val < 1024 := (i 0).isLt; omega⟩ : Fin 1024) (⟨(i 1).val / 128 * 64 + x.val, by have : (i 1).val < 256 := (i 1).isLt; omega⟩ : Fin 128)))
        (fun t x => W (Proc.devRef .tc main_v115) (ValueIdx.ix2 (⟨(i 0).val / 256 * 256 + t.val, by have : (i 0).val < 1024 := (i 0).isLt; omega⟩ : Fin 1024) x))
        ⟨(i 0).val % 256, Nat.mod_lt _ (by decide)⟩ ⟨(i 1).val % 128, Nat.mod_lt _ (by decide)⟩ := by
  refine (attn (F := Ideal) c W Ψ D).arrAt_eq_of_emb (5 : Fin 6) _ (fun t hf y => ?_) (covers7.cover _ (Memref.isWhole_whole _))
  obtain ⟨t, h⟩ := t
  have ht : t < 4 := by have := gridN7; have : t < grid7.N := h; omega
  have hy0 : (y 0).val < 256 := (y 0).isLt
  have hrow : (((cfg7.win (5 : Fin 6)).blk ⟨t, h⟩).view.emb y : S1024x256.Idx)
      = ValueIdx.ix2 (⟨t * 256 + (y 0).val, by omega⟩ : Fin 1024) (⟨(y 1).val, (y 1).isLt⟩ : Fin 256) := by
    refine funext fun b => Fin.ext ?_
    refine (Pipeline.Window.rect_emb_val (cfg7.win (5 : Fin 6)) ⟨t, h⟩ y b).trans ?_
    show cc7_transform_5 (grid7.coords ⟨t, h⟩) b * S256x256.size b + (y b).val = _
    rw [rows7_5]
    match b with
    | ⟨0, _⟩ => rfl
    | ⟨1, _⟩ => exact (congrArg (· + (y 1).val) (Nat.zero_mul _)).trans (Nat.zero_add _)
  rw [hrow]
  show acc7 (F := Ideal) c W t h (y : S256x256.Idx) = _
  unfold acc7
  rw [heads_val, got7_0, got7_1, got7_2, got7_3, got7_4]
  have e0 : (t * 256 + (y 0).val) / 256 = t := by omega
  have e1 : (t * 256 + (y 0).val) % 256 = (y 0).val := by omega
  show _ = att _ _ _ _ _ (⟨(t * 256 + (y 0).val) % 256, _⟩ : Fin 256) (⟨(y 1).val % 128, _⟩ : Fin 128)
  simp only [ValueIdx.ix2, e0, e1]
  rfl

end

end Cert.KernelIdeal.Gen

end
-- ==== Proof.Ideal.ValSlice.lean ====
module

public import proofs.«01_k».proof.Proof.Ideal.ValAttn

/-!
# The columns which the host slices for the exchange

For each device of its own row of the mesh a device slices that device's columns out of both up-projections.
-/

@[expose] public section

noncomputable section

open Idealize.ShloMosaic Idealize.ShloMosaic.TcCoe Idealize.ShloMosaic.StableHlo

namespace Cert.KernelIdeal.Gen

/-- The host's remainder of a division rounded down. -/
def fmod (n k : BitVec 32) : BitVec 32 :=
  Scalar.select (IntOp.andi (IntOp.cmpi .ne (IntOp.cmpi .slt (IntOp.remsi .host n (Scalar.select (IntOp.cmpi .eq k 0#32) 1#32 k)) 0#32)
      (IntOp.cmpi .slt (Scalar.select (IntOp.cmpi .eq k 0#32) 1#32 k) 0#32))
      (IntOp.cmpi .ne (IntOp.remsi .host n (Scalar.select (IntOp.cmpi .eq k 0#32) 1#32 k)) 0#32))
    (IntOp.addi (IntOp.remsi .host n (Scalar.select (IntOp.cmpi .eq k 0#32) 1#32 k)) (Scalar.select (IntOp.cmpi .eq k 0#32) 1#32 k))
    (IntOp.remsi .host n (Scalar.select (IntOp.cmpi .eq k 0#32) 1#32 k))

/-- A column of the slice's start, counted from the end where negative. -/
def wrapped (b : BitVec 32) : BitVec 32 := Scalar.select (IntOp.cmpi .slt b 0#32) (IntOp.addi b 4096#32) b

/-- Where the columns of the device at `z`, `y` start. -/
def startOf (z y : BitVec 32) : BitVec 32 := wrapped (IntOp.addi (IntOp.muli z 1024#32) (IntOp.muli y 256#32))

theorem startOf_own (z y : Fin 4) : (startOf (BitVec.ofNat 32 z.val) (BitVec.ofNat 32 y.val)).toInt = ((z.val * 1024 + y.val * 256 : ℕ) : ℤ) := by
  revert z y; decide +kernel
theorem startOf_next (z y : Fin 4) (j : Fin 4) : (startOf (fmod (IntOp.addi (BitVec.ofNat 32 z.val) (BitVec.ofNat 32 j.val)) 4#32) (BitVec.ofNat 32 y.val)).toInt
    = (((z.val + j.val) % 4 * 1024 + y.val * 256 : ℕ) : ℤ) := by
  revert z y j; decide +kernel

theorem slice_at (x : S128x4096.Idx → EReal) (f : Fin 2 → ℤ) (n : ℕ) (h0 : f 0 = 0) (h1 : f 1 = (n : ℤ)) (hn : n + 256 ≤ 4096) :
    (Host.dynamicSlice S128x256 x f Facts₀.sliceFits_S128x4096_S128x256 : S128x256.Idx → EReal)
      = fun i : S128x256.Idx => x (ValueIdx.ix2 (⟨(i 0).val, (i 0).isLt⟩ : Fin 128) (⟨n + (i 1).val, by have h : (i 1).val < 256 := (i 1).isLt; omega⟩ : Fin 4096)) := by
  funext i
  refine (Host.dynamicSlice_apply _ _ _ _).trans (congrArg x (funext fun b => Fin.ext ?_))
  match b with
  | ⟨0, _⟩ =>
    show Host.clampedStart S128x4096 S128x256 _ f 0 + (i 0).val = (i 0).val
    exact (congrArg (· + (i 0).val) (Host.clampedStart_of_le (s := S128x4096) (t := S128x256) rfl f 0 0 h0 (by decide))).trans (Nat.zero_add _)
  | ⟨1, _⟩ =>
    show Host.clampedStart S128x4096 S128x256 _ f 1 + (i 1).val = n + (i 1).val
    exact congrArg (· + (i 1).val) (Host.clampedStart_of_le (s := S128x4096) (t := S128x256) rfl f 1 n h1 hn)

/-- An index operand of a slice, read. -/
theorem read_first (a b : Ref sig .tc) (hT : ∀ k : Fin 2, ((![a, b] : Fin 2 → Ref sig .tc) k).ty = ⟨S_, .i32⟩)
    (G : Valuation τ sig (Elt Ideal)) (w : BitVec 32) (j : S_.Idx)
    (h : HEq (G (Proc.devRef .tc a)) (fun _ : S_.Idx => w)) :
    (cast (congrArg (fun U : BufTy => U.Contents (Elt Ideal)) (hT 0)) (G (Proc.devRef .tc ((![a, b] : Fin 2 → Ref sig .tc) 0))) : S_.Idx → BitVec 32) j = w :=
  congrFun (eq_of_heq ((cast_heq _ _).trans h)) j
theorem read_second (a b : Ref sig .tc) (hT : ∀ k : Fin 2, ((![a, b] : Fin 2 → Ref sig .tc) k).ty = ⟨S_, .i32⟩)
    (G : Valuation τ sig (Elt Ideal)) (w : BitVec 32) (j : S_.Idx)
    (h : HEq (G (Proc.devRef .tc b)) (fun _ : S_.Idx => w)) :
    (cast (congrArg (fun U : BufTy => U.Contents (Elt Ideal)) (hT 1)) (G (Proc.devRef .tc ((![a, b] : Fin 2 → Ref sig .tc) 1))) : S_.Idx → BitVec 32) j = w :=
  congrFun (eq_of_heq ((cast_heq _ _).trans h)) j

variable (V : Valuation τ sig (Elt Ideal)) (z y : Fin 4) (h8 : V (Proc.devRef .tc main_v8) = fun _ => BitVec.ofNat 32 z.val)
    (h4 : V (Proc.devRef .tc main_v4) = fun _ => BitVec.ofNat 32 y.val)
include h8 h4

theorem slice_v20 : host1 V (Proc.devRef .tc main_v20) = fun i : S128x256.Idx => V (Proc.devRef .tc main_arg2)
    (ValueIdx.ix2 (⟨(i 0).val, (i 0).isLt⟩ : Fin 128) (⟨(z.val + 0) % 4 * 1024 + y.val * 256 + (i 1).val, by have h : (i 1).val < 256 := (i 1).isLt; omega⟩ : Fin 4096)) := by
  after_results
  refine Eq.trans ?_ (slice_at (V (Proc.devRef .tc main_arg2)) (![0, (startOf (BitVec.ofNat 32 z.val) (BitVec.ofNat 32 y.val)).toInt])
    ((z.val + 0) % 4 * 1024 + y.val * 256) rfl ((startOf_own z y).trans (by rw [Nat.add_zero, Nat.mod_eq_of_lt z.isLt])) (by omega))
  funext i
  refine congrArg (fun f => (Host.dynamicSlice S128x256 (V (Proc.devRef .tc main_arg2)) f Facts₀.sliceFits_S128x4096_S128x256 : S128x256.Idx → EReal) i) (funext fun b => ?_)
  revert b
  refine Fin.forall_fin_two.mpr ⟨?_, ?_⟩
  · refine (congrArg BitVec.toInt (read_first _ _ (Fin.forall_fin_two.mpr ⟨rfl, rfl⟩) _ 0#32 _ (heq_of_eq ?_))).trans rfl
    after_results_simp
    rfl
  · refine congrArg BitVec.toInt (read_second _ _ (Fin.forall_fin_two.mpr ⟨rfl, rfl⟩) _ (startOf (BitVec.ofNat 32 z.val) (BitVec.ofNat 32 y.val)) _ (heq_of_eq ?_))
    after_results_simp
    try simp only [StableHlo.TRef.toBuf, StableHlo.TRef.ofBuf, cast_cast, cast_eq]
    rw [h8, h4]
    rfl

theorem slice_v38 : host1 V (Proc.devRef .tc main_v38) = fun i : S128x256.Idx => V (Proc.devRef .tc main_arg2)
    (ValueIdx.ix2 (⟨(i 0).val, (i 0).isLt⟩ : Fin 128) (⟨(z.val + 1) % 4 * 1024 + y.val * 256 + (i 1).val, by have h : (i 1).val < 256 := (i 1).isLt; omega⟩ : Fin 4096)) := by
  after_results
  refine Eq.trans ?_ (slice_at (V (Proc.devRef .tc main_arg2)) (![0, (startOf (fmod (IntOp.addi (BitVec.ofNat 32 z.val) (BitVec.ofNat 32 1)) 4#32) (BitVec.ofNat 32 y.val)).toInt])
    ((z.val + 1) % 4 * 1024 + y.val * 256) rfl (startOf_next z y ⟨1, by decide⟩) (by omega))
  funext i
  refine congrArg (fun f => (Host.dynamicSlice S128x256 (V (Proc.devRef .tc main_arg2)) f Facts₀.sliceFits_S128x4096_S128x256 : S128x256.Idx → EReal) i) (funext fun b => ?_)
  revert b
  refine Fin.forall_fin_two.mpr ⟨?_, ?_⟩
  · refine (congrArg BitVec.toInt (read_first _ _ (Fin.forall_fin_two.mpr ⟨rfl, rfl⟩) _ 0#32 _ (heq_of_eq ?_))).trans rfl
    after_results_simp
    rfl
  · refine congrArg BitVec.toInt (read_second _ _ (Fin.forall_fin_two.mpr ⟨rfl, rfl⟩) _ (startOf (fmod (IntOp.addi (BitVec.ofNat 32 z.val) (BitVec.ofNat 32 1)) 4#32) (BitVec.ofNat 32 y.val)) _ (heq_of_eq ?_))
    after_results_simp
    try simp only [StableHlo.TRef.toBuf, StableHlo.TRef.ofBuf, cast_cast, cast_eq]
    rw [h8, h4]
    rfl

theorem slice_v48 : host1 V (Proc.devRef .tc main_v48) = fun i : S128x256.Idx => V (Proc.devRef .tc main_arg2)
    (ValueIdx.ix2 (⟨(i 0).val, (i 0).isLt⟩ : Fin 128) (⟨(z.val + 2) % 4 * 1024 + y.val * 256 + (i 1).val, by have h : (i 1).val < 256 := (i 1).isLt; omega⟩ : Fin 4096)) := by
  after_results
  refine Eq.trans ?_ (slice_at (V (Proc.devRef .tc main_arg2)) (![0, (startOf (fmod (IntOp.addi (BitVec.ofNat 32 z.val) (BitVec.ofNat 32 2)) 4#32) (BitVec.ofNat 32 y.val)).toInt])
    ((z.val + 2) % 4 * 1024 + y.val * 256) rfl (startOf_next z y ⟨2, by decide⟩) (by omega))
  funext i
  refine congrArg (fun f => (Host.dynamicSlice S128x256 (V (Proc.devRef .tc main_arg2)) f Facts₀.sliceFits_S128x4096_S128x256 : S128x256.Idx → EReal) i) (funext fun b => ?_)
  revert b
  refine Fin.forall_fin_two.mpr ⟨?_, ?_⟩
  · refine (congrArg BitVec.toInt (read_first _ _ (Fin.forall_fin_two.mpr ⟨rfl, rfl⟩) _ 0#32 _ (heq_of_eq ?_))).trans rfl
    after_results_simp
    rfl
  · refine congrArg BitVec.toInt (read_second _ _ (Fin.forall_fin_two.mpr ⟨rfl, rfl⟩) _ (startOf (fmod (IntOp.addi (BitVec.ofNat 32 z.val) (BitVec.ofNat 32 2)) 4#32) (BitVec.ofNat 32 y.val)) _ (heq_of_eq ?_))
    after_results_simp
    try simp only [StableHlo.TRef.toBuf, StableHlo.TRef.ofBuf, cast_cast, cast_eq]
    rw [h8, h4]
    rfl

theorem slice_v58 : host1 V (Proc.devRef .tc main_v58) = fun i : S128x256.Idx => V (Proc.devRef .tc main_arg2)
    (ValueIdx.ix2 (⟨(i 0).val, (i 0).isLt⟩ : Fin 128) (⟨(z.val + 3) % 4 * 1024 + y.val * 256 + (i 1).val, by have h : (i 1).val < 256 := (i 1).isLt; omega⟩ : Fin 4096)) := by
  after_results
  refine Eq.trans ?_ (slice_at (V (Proc.devRef .tc main_arg2)) (![0, (startOf (fmod (IntOp.addi (BitVec.ofNat 32 z.val) (BitVec.ofNat 32 3)) 4#32) (BitVec.ofNat 32 y.val)).toInt])
    ((z.val + 3) % 4 * 1024 + y.val * 256) rfl (startOf_next z y ⟨3, by decide⟩) (by omega))
  funext i
  refine congrArg (fun f => (Host.dynamicSlice S128x256 (V (Proc.devRef .tc main_arg2)) f Facts₀.sliceFits_S128x4096_S128x256 : S128x256.Idx → EReal) i) (funext fun b => ?_)
  revert b
  refine Fin.forall_fin_two.mpr ⟨?_, ?_⟩
  · refine (congrArg BitVec.toInt (read_first _ _ (Fin.forall_fin_two.mpr ⟨rfl, rfl⟩) _ 0#32 _ (heq_of_eq ?_))).trans rfl
    after_results_simp
    rfl
  · refine congrArg BitVec.toInt (read_second _ _ (Fin.forall_fin_two.mpr ⟨rfl, rfl⟩) _ (startOf (fmod (IntOp.addi (BitVec.ofNat 32 z.val) (BitVec.ofNat 32 3)) 4#32) (BitVec.ofNat 32 y.val)) _ (heq_of_eq ?_))
    after_results_simp
    try simp only [StableHlo.TRef.toBuf, StableHlo.TRef.ofBuf, cast_cast, cast_eq]
    rw [h8, h4]
    rfl

theorem slice_v28 : host1 V (Proc.devRef .tc main_v28) = fun i : S128x256.Idx => V (Proc.devRef .tc main_arg3)
    (ValueIdx.ix2 (⟨(i 0).val, (i 0).isLt⟩ : Fin 128) (⟨(z.val + 0) % 4 * 1024 + y.val * 256 + (i 1).val, by have h : (i 1).val < 256 := (i 1).isLt; omega⟩ : Fin 4096)) := by
  after_results
  refine Eq.trans ?_ (slice_at (V (Proc.devRef .tc main_arg3)) (![0, (startOf (BitVec.ofNat 32 z.val) (BitVec.ofNat 32 y.val)).toInt])
    ((z.val + 0) % 4 * 1024 + y.val * 256) rfl ((startOf_own z y).trans (by rw [Nat.add_zero, Nat.mod_eq_of_lt z.isLt])) (by omega))
  funext i
  refine congrArg (fun f => (Host.dynamicSlice S128x256 (V (Proc.devRef .tc main_arg3)) f Facts₀.sliceFits_S128x4096_S128x256 : S128x256.Idx → EReal) i) (funext fun b => ?_)
  revert b
  refine Fin.forall_fin_two.mpr ⟨?_, ?_⟩
  · refine (congrArg BitVec.toInt (read_first _ _ (Fin.forall_fin_two.mpr ⟨rfl, rfl⟩) _ 0#32 _ (heq_of_eq ?_))).trans rfl
    after_results_simp
    rfl
  · refine congrArg BitVec.toInt (read_second _ _ (Fin.forall_fin_two.mpr ⟨rfl, rfl⟩) _ (startOf (BitVec.ofNat 32 z.val) (BitVec.ofNat 32 y.val)) _ (heq_of_eq ?_))
    after_results_simp
    try simp only [StableHlo.TRef.toBuf, StableHlo.TRef.ofBuf, cast_cast, cast_eq]
    rw [h8, h4]
    rfl

theorem slice_v68 : host1 V (Proc.devRef .tc main_v68) = fun i : S128x256.Idx => V (Proc.devRef .tc main_arg3)
    (ValueIdx.ix2 (⟨(i 0).val, (i 0).isLt⟩ : Fin 128) (⟨(z.val + 1) % 4 * 1024 + y.val * 256 + (i 1).val, by have h : (i 1).val < 256 := (i 1).isLt; omega⟩ : Fin 4096)) := by
  after_results
  refine Eq.trans ?_ (slice_at (V (Proc.devRef .tc main_arg3)) (![0, (startOf (fmod (IntOp.addi (BitVec.ofNat 32 z.val) (BitVec.ofNat 32 1)) 4#32) (BitVec.ofNat 32 y.val)).toInt])
    ((z.val + 1) % 4 * 1024 + y.val * 256) rfl (startOf_next z y ⟨1, by decide⟩) (by omega))
  funext i
  refine congrArg (fun f => (Host.dynamicSlice S128x256 (V (Proc.devRef .tc main_arg3)) f Facts₀.sliceFits_S128x4096_S128x256 : S128x256.Idx → EReal) i) (funext fun b => ?_)
  revert b
  refine Fin.forall_fin_two.mpr ⟨?_, ?_⟩
  · refine (congrArg BitVec.toInt (read_first _ _ (Fin.forall_fin_two.mpr ⟨rfl, rfl⟩) _ 0#32 _ (heq_of_eq ?_))).trans rfl
    after_results_simp
    rfl
  · refine congrArg BitVec.toInt (read_second _ _ (Fin.forall_fin_two.mpr ⟨rfl, rfl⟩) _ (startOf (fmod (IntOp.addi (BitVec.ofNat 32 z.val) (BitVec.ofNat 32 1)) 4#32) (BitVec.ofNat 32 y.val)) _ (heq_of_eq ?_))
    after_results_simp
    try simp only [StableHlo.TRef.toBuf, StableHlo.TRef.ofBuf, cast_cast, cast_eq]
    rw [h8, h4]
    rfl

theorem slice_v78 : host1 V (Proc.devRef .tc main_v78) = fun i : S128x256.Idx => V (Proc.devRef .tc main_arg3)
    (ValueIdx.ix2 (⟨(i 0).val, (i 0).isLt⟩ : Fin 128) (⟨(z.val + 2) % 4 * 1024 + y.val * 256 + (i 1).val, by have h : (i 1).val < 256 := (i 1).isLt; omega⟩ : Fin 4096)) := by
  after_results
  refine Eq.trans ?_ (slice_at (V (Proc.devRef .tc main_arg3)) (![0, (startOf (fmod (IntOp.addi (BitVec.ofNat 32 z.val) (BitVec.ofNat 32 2)) 4#32) (BitVec.ofNat 32 y.val)).toInt])
    ((z.val + 2) % 4 * 1024 + y.val * 256) rfl (startOf_next z y ⟨2, by decide⟩) (by omega))
  funext i
  refine congrArg (fun f => (Host.dynamicSlice S128x256 (V (Proc.devRef .tc main_arg3)) f Facts₀.sliceFits_S128x4096_S128x256 : S128x256.Idx → EReal) i) (funext fun b => ?_)
  revert b
  refine Fin.forall_fin_two.mpr ⟨?_, ?_⟩
  · refine (congrArg BitVec.toInt (read_first _ _ (Fin.forall_fin_two.mpr ⟨rfl, rfl⟩) _ 0#32 _ (heq_of_eq ?_))).trans rfl
    after_results_simp
    rfl
  · refine congrArg BitVec.toInt (read_second _ _ (Fin.forall_fin_two.mpr ⟨rfl, rfl⟩) _ (startOf (fmod (IntOp.addi (BitVec.ofNat 32 z.val) (BitVec.ofNat 32 2)) 4#32) (BitVec.ofNat 32 y.val)) _ (heq_of_eq ?_))
    after_results_simp
    try simp only [StableHlo.TRef.toBuf, StableHlo.TRef.ofBuf, cast_cast, cast_eq]
    rw [h8, h4]
    rfl

theorem slice_v88 : host1 V (Proc.devRef .tc main_v88) = fun i : S128x256.Idx => V (Proc.devRef .tc main_arg3)
    (ValueIdx.ix2 (⟨(i 0).val, (i 0).isLt⟩ : Fin 128) (⟨(z.val + 3) % 4 * 1024 + y.val * 256 + (i 1).val, by have h : (i 1).val < 256 := (i 1).isLt; omega⟩ : Fin 4096)) := by
  after_results
  refine Eq.trans ?_ (slice_at (V (Proc.devRef .tc main_arg3)) (![0, (startOf (fmod (IntOp.addi (BitVec.ofNat 32 z.val) (BitVec.ofNat 32 3)) 4#32) (BitVec.ofNat 32 y.val)).toInt])
    ((z.val + 3) % 4 * 1024 + y.val * 256) rfl (startOf_next z y ⟨3, by decide⟩) (by omega))
  funext i
  refine congrArg (fun f => (Host.dynamicSlice S128x256 (V (Proc.devRef .tc main_arg3)) f Facts₀.sliceFits_S128x4096_S128x256 : S128x256.Idx → EReal) i) (funext fun b => ?_)
  revert b
  refine Fin.forall_fin_two.mpr ⟨?_, ?_⟩
  · refine (congrArg BitVec.toInt (read_first _ _ (Fin.forall_fin_two.mpr ⟨rfl, rfl⟩) _ 0#32 _ (heq_of_eq ?_))).trans rfl
    after_results_simp
    rfl
  · refine congrArg BitVec.toInt (read_second _ _ (Fin.forall_fin_two.mpr ⟨rfl, rfl⟩) _ (startOf (fmod (IntOp.addi (BitVec.ofNat 32 z.val) (BitVec.ofNat 32 3)) 4#32) (BitVec.ofNat 32 y.val)) _ (heq_of_eq ?_))
    after_results_simp
    try simp only [StableHlo.TRef.toBuf, StableHlo.TRef.ofBuf, cast_cast, cast_eq]
    rw [h8, h4]
    rfl

omit h8 h4
theorem host1_v89 : host1 V (Proc.devRef .tc main_v89) = (truncf (s := S1024x128) (φ := .f32) .bf16 (V (Proc.devRef .tc main_v12)) Facts₀.bitsLt_bf16_f32 : FVec Ideal S1024x128 .bf16) := by
  after_results

end Cert.KernelIdeal.Gen

end
-- ==== Proof.Ideal.ValHost.lean ====
module

public import proofs.«01_k».proof.Proof.Ideal.ValSlice

/-!
# The heads' outputs, over the reals

What every product of the program is, in terms of the arrays computed with, up to a device's two heads.
-/

@[expose] public section

noncomputable section

open Idealize.ShloMosaic Idealize.ShloMosaic.TcCoe Idealize.ShloMosaic.StableHlo
open Cert.Maths

namespace Cert.KernelIdeal.Gen

variable (m : (ℓ : Loc nD τ sig) → Buf (Elt Ideal) ℓ)

/-- The arguments are the arrays computed with, the latent's columns and rows spread over the mesh's last axis. -/
structure Laid (a : Operands) : Prop where
  x (c : Dev nD) : m ((c : Thread nD τ).loc main_arg0) = a.x
  down (c : Dev nD) (r : Fin 4096) (n : Fin 128) : m ((c : Thread nD τ).loc main_arg1) (ValueIdx.ix2 r n) = a.down (ValueIdx.ix2 r (⟨c.val % 4 * 128 + n.val, by omega⟩ : Fin 512))
  upK (c : Dev nD) (r : Fin 128) (n : Fin 4096) : m ((c : Thread nD τ).loc main_arg2) (ValueIdx.ix2 r n) = a.upK (ValueIdx.ix2 (⟨c.val % 4 * 128 + r.val, by omega⟩ : Fin 512) n)
  upV (c : Dev nD) (r : Fin 128) (n : Fin 4096) : m ((c : Thread nD τ).loc main_arg3) (ValueIdx.ix2 r n) = a.upV (ValueIdx.ix2 (⟨c.val % 4 * 128 + r.val, by omega⟩ : Fin 512) n)
  q (c : Dev nD) : m ((c : Thread nD τ).loc main_arg4) = a.q
  qr (c : Dev nD) : m ((c : Thread nD τ).loc main_arg5) = a.qr
  kr (c : Dev nD) : m ((c : Thread nD τ).loc main_arg6) = a.kr
  o (c : Dev nD) : m ((c : Thread nD τ).loc main_arg7) = a.o

/-! ## Buffers carried through -/

section
variable (c : Dev nD)
theorem V1_arg1_V0 : V1 m c main_arg1 = m ((c : Thread nD τ).loc main_arg1) :=
  V1_of m c main_arg1 (by decide)
theorem R0_arg2_V0 : R0 m c main_arg2 = m ((c : Thread nD τ).loc main_arg2) :=
  ((congrFun (V2_eq m c) _).symm).trans <| (V2_of m (outs m) c main_arg2 (by decide)).trans <| V1_of m c main_arg2 (by decide)
theorem R0_arg3_V0 : R0 m c main_arg3 = m ((c : Thread nD τ).loc main_arg3) :=
  ((congrFun (V2_eq m c) _).symm).trans <| (V2_of m (outs m) c main_arg3 (by decide)).trans <| V1_of m c main_arg3 (by decide)
theorem R0_v8_V1 : R0 m c main_v8 = V1 m c main_v8 :=
  ((congrFun (V2_eq m c) _).symm).trans <| V2_of m (outs m) c main_v8 (by decide)
theorem R0_v4_V1 : R0 m c main_v4 = V1 m c main_v4 :=
  ((congrFun (V2_eq m c) _).symm).trans <| V2_of m (outs m) c main_v4 (by decide)
theorem W19_v92_W17 : W19 m c main_v92 = W17 m c main_v92 :=
  ((congrFun (V19_eq m c) _).symm).trans <| (V19_of m (outs m) c main_v92 (by decide)).trans <| (V18_of m (outs m) c main_v92 (by decide)).trans <| congrFun (V17_eq m c) _
theorem W19_v94_W17 : W19 m c main_v94 = W17 m c main_v94 :=
  ((congrFun (V19_eq m c) _).symm).trans <| (V19_of m (outs m) c main_v94 (by decide)).trans <| (V18_of m (outs m) c main_v94 (by decide)).trans <| congrFun (V17_eq m c) _
theorem W23_v9_V1 : W23 m c main_v9 = V1 m c main_v9 :=
  ((congrFun (V23_eq m c) _).symm).trans <| (V23_of m (outs m) c main_v9 (by decide)).trans <| (V22_of m (outs m) c main_v9 (by decide)).trans <| (V21_of m (outs m) c main_v9 (by decide)).trans <| (V20_of m (outs m) c main_v9 (by decide)).trans <| (V19_of m (outs m) c main_v9 (by decide)).trans <| (V18_of m (outs m) c main_v9 (by decide)).trans <| (V17_of m (outs m) c main_v9 (by decide)).trans <| (V16_of m (outs m) c main_v9 (by decide)).trans <| (V15_of m (outs m) c main_v9 (by decide)).trans <| (V14_of m (outs m) c main_v9 (by decide)).trans <| (V13_of m (outs m) c main_v9 (by decide)).trans <| (V12_of m (outs m) c main_v9 (by decide)).trans <| (V11_of m (outs m) c main_v9 (by decide)).trans <| (V10_of m (outs m) c main_v9 (by decide)).trans <| (V9_of m (outs m) c main_v9 (by decide)).trans <| (V8_of m (outs m) c main_v9 (by decide)).trans <| (V7_of m (outs m) c main_v9 (by decide)).trans <| (V6_of m (outs m) c main_v9 (by decide)).trans <| (V5_of m (outs m) c main_v9 (by decide)).trans <| (V4_of m (outs m) c main_v9 (by decide)).trans <| (V3_of m (outs m) c main_v9 (by decide)).trans <| V2_of m (outs m) c main_v9 (by decide)
theorem W23_arg4_V0 : W23 m c main_arg4 = m ((c : Thread nD τ).loc main_arg4) :=
  ((congrFun (V23_eq m c) _).symm).trans <| (V23_of m (outs m) c main_arg4 (by decide)).trans <| (V22_of m (outs m) c main_arg4 (by decide)).trans <| (V21_of m (outs m) c main_arg4 (by decide)).trans <| (V20_of m (outs m) c main_arg4 (by decide)).trans <| (V19_of m (outs m) c main_arg4 (by decide)).trans <| (V18_of m (outs m) c main_arg4 (by decide)).trans <| (V17_of m (outs m) c main_arg4 (by decide)).trans <| (V16_of m (outs m) c main_arg4 (by decide)).trans <| (V15_of m (outs m) c main_arg4 (by decide)).trans <| (V14_of m (outs m) c main_arg4 (by decide)).trans <| (V13_of m (outs m) c main_arg4 (by decide)).trans <| (V12_of m (outs m) c main_arg4 (by decide)).trans <| (V11_of m (outs m) c main_arg4 (by decide)).trans <| (V10_of m (outs m) c main_arg4 (by decide)).trans <| (V9_of m (outs m) c main_arg4 (by decide)).trans <| (V8_of m (outs m) c main_arg4 (by decide)).trans <| (V7_of m (outs m) c main_arg4 (by decide)).trans <| (V6_of m (outs m) c main_arg4 (by decide)).trans <| (V5_of m (outs m) c main_arg4 (by decide)).trans <| (V4_of m (outs m) c main_arg4 (by decide)).trans <| (V3_of m (outs m) c main_arg4 (by decide)).trans <| (V2_of m (outs m) c main_arg4 (by decide)).trans <| V1_of m c main_arg4 (by decide)
theorem W27_v9_V1 : W27 m c main_v9 = V1 m c main_v9 :=
  ((congrFun (V27_eq m c) _).symm).trans <| (V27_of m (outs m) c main_v9 (by decide)).trans <| (V26_of m (outs m) c main_v9 (by decide)).trans <| (V25_of m (outs m) c main_v9 (by decide)).trans <| (V24_of m (outs m) c main_v9 (by decide)).trans <| (V23_of m (outs m) c main_v9 (by decide)).trans <| (V22_of m (outs m) c main_v9 (by decide)).trans <| (V21_of m (outs m) c main_v9 (by decide)).trans <| (V20_of m (outs m) c main_v9 (by decide)).trans <| (V19_of m (outs m) c main_v9 (by decide)).trans <| (V18_of m (outs m) c main_v9 (by decide)).trans <| (V17_of m (outs m) c main_v9 (by decide)).trans <| (V16_of m (outs m) c main_v9 (by decide)).trans <| (V15_of m (outs m) c main_v9 (by decide)).trans <| (V14_of m (outs m) c main_v9 (by decide)).trans <| (V13_of m (outs m) c main_v9 (by decide)).trans <| (V12_of m (outs m) c main_v9 (by decide)).trans <| (V11_of m (outs m) c main_v9 (by decide)).trans <| (V10_of m (outs m) c main_v9 (by decide)).trans <| (V9_of m (outs m) c main_v9 (by decide)).trans <| (V8_of m (outs m) c main_v9 (by decide)).trans <| (V7_of m (outs m) c main_v9 (by decide)).trans <| (V6_of m (outs m) c main_v9 (by decide)).trans <| (V5_of m (outs m) c main_v9 (by decide)).trans <| (V4_of m (outs m) c main_v9 (by decide)).trans <| (V3_of m (outs m) c main_v9 (by decide)).trans <| V2_of m (outs m) c main_v9 (by decide)
theorem W27_arg5_V0 : W27 m c main_arg5 = m ((c : Thread nD τ).loc main_arg5) :=
  ((congrFun (V27_eq m c) _).symm).trans <| (V27_of m (outs m) c main_arg5 (by decide)).trans <| (V26_of m (outs m) c main_arg5 (by decide)).trans <| (V25_of m (outs m) c main_arg5 (by decide)).trans <| (V24_of m (outs m) c main_arg5 (by decide)).trans <| (V23_of m (outs m) c main_arg5 (by decide)).trans <| (V22_of m (outs m) c main_arg5 (by decide)).trans <| (V21_of m (outs m) c main_arg5 (by decide)).trans <| (V20_of m (outs m) c main_arg5 (by decide)).trans <| (V19_of m (outs m) c main_arg5 (by decide)).trans <| (V18_of m (outs m) c main_arg5 (by decide)).trans <| (V17_of m (outs m) c main_arg5 (by decide)).trans <| (V16_of m (outs m) c main_arg5 (by decide)).trans <| (V15_of m (outs m) c main_arg5 (by decide)).trans <| (V14_of m (outs m) c main_arg5 (by decide)).trans <| (V13_of m (outs m) c main_arg5 (by decide)).trans <| (V12_of m (outs m) c main_arg5 (by decide)).trans <| (V11_of m (outs m) c main_arg5 (by decide)).trans <| (V10_of m (outs m) c main_arg5 (by decide)).trans <| (V9_of m (outs m) c main_arg5 (by decide)).trans <| (V8_of m (outs m) c main_arg5 (by decide)).trans <| (V7_of m (outs m) c main_arg5 (by decide)).trans <| (V6_of m (outs m) c main_arg5 (by decide)).trans <| (V5_of m (outs m) c main_arg5 (by decide)).trans <| (V4_of m (outs m) c main_arg5 (by decide)).trans <| (V3_of m (outs m) c main_arg5 (by decide)).trans <| (V2_of m (outs m) c main_arg5 (by decide)).trans <| V1_of m c main_arg5 (by decide)
theorem W29_v9_V1 : W29 m c main_v9 = V1 m c main_v9 :=
  ((congrFun (V29_eq m c) _).symm).trans <| (V29_of m (outs m) c main_v9 (by decide)).trans <| (V28_of m (outs m) c main_v9 (by decide)).trans <| (V27_of m (outs m) c main_v9 (by decide)).trans <| (V26_of m (outs m) c main_v9 (by decide)).trans <| (V25_of m (outs m) c main_v9 (by decide)).trans <| (V24_of m (outs m) c main_v9 (by decide)).trans <| (V23_of m (outs m) c main_v9 (by decide)).trans <| (V22_of m (outs m) c main_v9 (by decide)).trans <| (V21_of m (outs m) c main_v9 (by decide)).trans <| (V20_of m (outs m) c main_v9 (by decide)).trans <| (V19_of m (outs m) c main_v9 (by decide)).trans <| (V18_of m (outs m) c main_v9 (by decide)).trans <| (V17_of m (outs m) c main_v9 (by decide)).trans <| (V16_of m (outs m) c main_v9 (by decide)).trans <| (V15_of m (outs m) c main_v9 (by decide)).trans <| (V14_of m (outs m) c main_v9 (by decide)).trans <| (V13_of m (outs m) c main_v9 (by decide)).trans <| (V12_of m (outs m) c main_v9 (by decide)).trans <| (V11_of m (outs m) c main_v9 (by decide)).trans <| (V10_of m (outs m) c main_v9 (by decide)).trans <| (V9_of m (outs m) c main_v9 (by decide)).trans <| (V8_of m (outs m) c main_v9 (by decide)).trans <| (V7_of m (outs m) c main_v9 (by decide)).trans <| (V6_of m (outs m) c main_v9 (by decide)).trans <| (V5_of m (outs m) c main_v9 (by decide)).trans <| (V4_of m (outs m) c main_v9 (by decide)).trans <| (V3_of m (outs m) c main_v9 (by decide)).trans <| V2_of m (outs m) c main_v9 (by decide)
theorem W29_arg6_V0 : W29 m c main_arg6 = m ((c : Thread nD τ).loc main_arg6) :=
  ((congrFun (V29_eq m c) _).symm).trans <| (V29_of m (outs m) c main_arg6 (by decide)).trans <| (V28_of m (outs m) c main_arg6 (by decide)).trans <| (V27_of m (outs m) c main_arg6 (by decide)).trans <| (V26_of m (outs m) c main_arg6 (by decide)).trans <| (V25_of m (outs m) c main_arg6 (by decide)).trans <| (V24_of m (outs m) c main_arg6 (by decide)).trans <| (V23_of m (outs m) c main_arg6 (by decide)).trans <| (V22_of m (outs m) c main_arg6 (by decide)).trans <| (V21_of m (outs m) c main_arg6 (by decide)).trans <| (V20_of m (outs m) c main_arg6 (by decide)).trans <| (V19_of m (outs m) c main_arg6 (by decide)).trans <| (V18_of m (outs m) c main_arg6 (by decide)).trans <| (V17_of m (outs m) c main_arg6 (by decide)).trans <| (V16_of m (outs m) c main_arg6 (by decide)).trans <| (V15_of m (outs m) c main_arg6 (by decide)).trans <| (V14_of m (outs m) c main_arg6 (by decide)).trans <| (V13_of m (outs m) c main_arg6 (by decide)).trans <| (V12_of m (outs m) c main_arg6 (by decide)).trans <| (V11_of m (outs m) c main_arg6 (by decide)).trans <| (V10_of m (outs m) c main_arg6 (by decide)).trans <| (V9_of m (outs m) c main_arg6 (by decide)).trans <| (V8_of m (outs m) c main_arg6 (by decide)).trans <| (V7_of m (outs m) c main_arg6 (by decide)).trans <| (V6_of m (outs m) c main_arg6 (by decide)).trans <| (V5_of m (outs m) c main_arg6 (by decide)).trans <| (V4_of m (outs m) c main_arg6 (by decide)).trans <| (V3_of m (outs m) c main_arg6 (by decide)).trans <| (V2_of m (outs m) c main_arg6 (by decide)).trans <| V1_of m c main_arg6 (by decide)
theorem R6_v106_R4 : R6 m c main_v106 = R4 m c main_v106 :=
  ((congrFun (V30_eq m c) _).symm).trans <| (V30_of m (outs m) c main_v106 (by decide)).trans <| (V29_of m (outs m) c main_v106 (by decide)).trans <| (V28_of m (outs m) c main_v106 (by decide)).trans <| (V27_of m (outs m) c main_v106 (by decide)).trans <| (V26_of m (outs m) c main_v106 (by decide)).trans <| (V25_of m (outs m) c main_v106 (by decide)).trans <| congrFun (V24_eq m c) _
theorem R6_v97_R2 : R6 m c main_v97 = R2 m c main_v97 :=
  ((congrFun (V30_eq m c) _).symm).trans <| (V30_of m (outs m) c main_v97 (by decide)).trans <| (V29_of m (outs m) c main_v97 (by decide)).trans <| (V28_of m (outs m) c main_v97 (by decide)).trans <| (V27_of m (outs m) c main_v97 (by decide)).trans <| (V26_of m (outs m) c main_v97 (by decide)).trans <| (V25_of m (outs m) c main_v97 (by decide)).trans <| (V24_of m (outs m) c main_v97 (by decide)).trans <| (V23_of m (outs m) c main_v97 (by decide)).trans <| (V22_of m (outs m) c main_v97 (by decide)).trans <| (V21_of m (outs m) c main_v97 (by decide)).trans <| (V20_of m (outs m) c main_v97 (by decide)).trans <| (V19_of m (outs m) c main_v97 (by decide)).trans <| congrFun (V18_eq m c) _
theorem R6_v100_R3 : R6 m c main_v100 = R3 m c main_v100 :=
  ((congrFun (V30_eq m c) _).symm).trans <| (V30_of m (outs m) c main_v100 (by decide)).trans <| (V29_of m (outs m) c main_v100 (by decide)).trans <| (V28_of m (outs m) c main_v100 (by decide)).trans <| (V27_of m (outs m) c main_v100 (by decide)).trans <| (V26_of m (outs m) c main_v100 (by decide)).trans <| (V25_of m (outs m) c main_v100 (by decide)).trans <| (V24_of m (outs m) c main_v100 (by decide)).trans <| (V23_of m (outs m) c main_v100 (by decide)).trans <| (V22_of m (outs m) c main_v100 (by decide)).trans <| (V21_of m (outs m) c main_v100 (by decide)).trans <| congrFun (V20_eq m c) _
theorem R6_v112_R5 : R6 m c main_v112 = R5 m c main_v112 :=
  ((congrFun (V30_eq m c) _).symm).trans <| (V30_of m (outs m) c main_v112 (by decide)).trans <| (V29_of m (outs m) c main_v112 (by decide)).trans <| congrFun (V28_eq m c) _
theorem W33_arg7_V0 : W33 m c main_arg7 = m ((c : Thread nD τ).loc main_arg7) :=
  ((congrFun (V33_eq m c) _).symm).trans <| (V33_of m (outs m) c main_arg7 (by decide)).trans <| (V32_of m (outs m) c main_arg7 (by decide)).trans <| (V31_of m (outs m) c main_arg7 (by decide)).trans <| (V30_of m (outs m) c main_arg7 (by decide)).trans <| (V29_of m (outs m) c main_arg7 (by decide)).trans <| (V28_of m (outs m) c main_arg7 (by decide)).trans <| (V27_of m (outs m) c main_arg7 (by decide)).trans <| (V26_of m (outs m) c main_arg7 (by decide)).trans <| (V25_of m (outs m) c main_arg7 (by decide)).trans <| (V24_of m (outs m) c main_arg7 (by decide)).trans <| (V23_of m (outs m) c main_arg7 (by decide)).trans <| (V22_of m (outs m) c main_arg7 (by decide)).trans <| (V21_of m (outs m) c main_arg7 (by decide)).trans <| (V20_of m (outs m) c main_arg7 (by decide)).trans <| (V19_of m (outs m) c main_arg7 (by decide)).trans <| (V18_of m (outs m) c main_arg7 (by decide)).trans <| (V17_of m (outs m) c main_arg7 (by decide)).trans <| (V16_of m (outs m) c main_arg7 (by decide)).trans <| (V15_of m (outs m) c main_arg7 (by decide)).trans <| (V14_of m (outs m) c main_arg7 (by decide)).trans <| (V13_of m (outs m) c main_arg7 (by decide)).trans <| (V12_of m (outs m) c main_arg7 (by decide)).trans <| (V11_of m (outs m) c main_arg7 (by decide)).trans <| (V10_of m (outs m) c main_arg7 (by decide)).trans <| (V9_of m (outs m) c main_arg7 (by decide)).trans <| (V8_of m (outs m) c main_arg7 (by decide)).trans <| (V7_of m (outs m) c main_arg7 (by decide)).trans <| (V6_of m (outs m) c main_arg7 (by decide)).trans <| (V5_of m (outs m) c main_arg7 (by decide)).trans <| (V4_of m (outs m) c main_arg7 (by decide)).trans <| (V3_of m (outs m) c main_arg7 (by decide)).trans <| (V2_of m (outs m) c main_arg7 (by decide)).trans <| V1_of m c main_arg7 (by decide)

theorem R0_v12_own : R0 m c main_v12 = (call0 m c c).arrAt (2 : Fin 3) (cfg0 (F := Ideal) adm0).N := Function.update_self ..
theorem R2_v97_own : R2 m c main_v97 = (call2 m c c).arrAt (2 : Fin 3) (cfg2 (F := Ideal) adm2).N := Function.update_self ..
theorem R3_v100_own : R3 m c main_v100 = (call3 m c c).arrAt (2 : Fin 3) (cfg3 (F := Ideal) adm3).N := Function.update_self ..
theorem R4_v106_own : R4 m c main_v106 = (call4 m c c).arrAt (2 : Fin 3) (cfg4 (F := Ideal) (adm4 c)).N := Function.update_self ..
theorem R5_v112_own : R5 m c main_v112 = (call5 m c c).arrAt (2 : Fin 3) (cfg5 (F := Ideal) (adm5 c)).N := Function.update_self ..
theorem R6_v115_own : R6 m c main_v115 = (call6 m c c).arrAt (2 : Fin 3) (cfg6 (F := Ideal) adm6).N := Function.update_self ..
theorem R7_v116_own : R7 m c main_v116 = (call7 m c c).arrAt (5 : Fin 6) cfg7.N := Function.update_self ..

end

/-! ## The latent and the exchange -/

variable {m} {a : Operands} (L : Laid m a)
include L

theorem v9_val (c : Dev nD) (r : Fin 1024) (k : Fin 4096) : V1 m c main_v9 (ValueIdx.ix2 r k)
    = a.x (ValueIdx.ix3 (⟨r.val / 256, by omega⟩ : Fin 4) (⟨r.val % 256, Nat.mod_lt _ (by decide)⟩ : Fin 256) k) := by
  have e : V1 m c main_v9 = shapeCast S1024x4096 (m ((c : Thread nD τ).loc main_arg0)) Facts₀.shapeCasts_S4x256x4096_S1024x4096 := by
    show StableHlo.after (hostOps0 c) (V0 m c) (Proc.devRef .tc main_v9) = _
    after_results
    rfl
  rw [e, shapeCast_apply _ _ _ (ValueIdx.ix3 (⟨r.val / 256, by omega⟩ : Fin 4) (⟨r.val % 256, Nat.mod_lt _ (by decide)⟩ : Fin 256) k)
    (by rw [Shape.rowMajor_val_three, Shape.rowMajor_val_two]; show (r.val / 256 * 256 + r.val % 256) * 4096 + k.val = r.val * 4096 + k.val; omega), L.x c]

theorem R0_v12_val (c : Dev nD) (r : Fin 1024) (n : Fin 128) : R0 m c main_v12 (ValueIdx.ix2 r n)
    = a.proj a.down (⟨r.val / 256, by omega⟩ : Fin 4) (⟨r.val % 256, Nat.mod_lt _ (by decide)⟩ : Fin 256) (⟨c.val % 4 * 128 + n.val, by omega⟩ : Fin 512) := by
  rw [R0_v12_own, prod0_val]
  unfold Operands.proj
  refine congrArg₂ mulSum (funext fun k => ?_) (funext fun k => ?_)
  · exact v9_val L c r k
  · rw [V1_arg1_V0]; exact L.down c k n

theorem sent0_val (e : Fin 4) (c : Dev nD) (r : Fin 1024) (n : Fin 128) : xblocks m 0 e c (ValueIdx.ix2 r n)
    = a.proj a.down (⟨r.val / 256, by omega⟩ : Fin 4) (⟨r.val % 256, Nat.mod_lt _ (by decide)⟩ : Fin 256) (⟨c.val % 4 * 128 + n.val, by omega⟩ : Fin 512) := by
  refine Eq.trans ?_ (R0_v12_val L c r n)
  show W15 m c main_v89 _ = _
  unfold W15
  rw [host1_v89]
  rfl

theorem sent1_val (e : Fin 4) (c : Dev nD) (r : Fin 128) (n : Fin 256) : xblocks m 1 e c (ValueIdx.ix2 r n)
    = a.upK (ValueIdx.ix2 (⟨c.val % 4 * 128 + r.val, by omega⟩ : Fin 512) (⟨(c.val % 4 + e.val) % 4 * 1024 + c.val / 4 % 4 * 256 + n.val, by omega⟩ : Fin 4096)) := by
  have h8 := (R0_v8_V1 m c).trans (v8_eq m c)
  have h4 := (R0_v4_V1 m c).trans (v4_eq m c)
  match e with
  | ⟨0, _⟩ =>
    refine (congrFun (slice_v20 (R0 m c) ⟨c.val % 4, Nat.mod_lt _ (by decide)⟩ ⟨c.val / 4 % 4, Nat.mod_lt _ (by decide)⟩ h8 h4) (ValueIdx.ix2 r n)).trans ?_
    rw [R0_arg2_V0]
    exact L.upK c r _
  | ⟨1, _⟩ =>
    refine (congrFun (slice_v38 (R0 m c) ⟨c.val % 4, Nat.mod_lt _ (by decide)⟩ ⟨c.val / 4 % 4, Nat.mod_lt _ (by decide)⟩ h8 h4) (ValueIdx.ix2 r n)).trans ?_
    rw [R0_arg2_V0]
    exact L.upK c r _
  | ⟨2, _⟩ =>
    refine (congrFun (slice_v48 (R0 m c) ⟨c.val % 4, Nat.mod_lt _ (by decide)⟩ ⟨c.val / 4 % 4, Nat.mod_lt _ (by decide)⟩ h8 h4) (ValueIdx.ix2 r n)).trans ?_
    rw [R0_arg2_V0]
    exact L.upK c r _
  | ⟨3, _⟩ =>
    refine (congrFun (slice_v58 (R0 m c) ⟨c.val % 4, Nat.mod_lt _ (by decide)⟩ ⟨c.val / 4 % 4, Nat.mod_lt _ (by decide)⟩ h8 h4) (ValueIdx.ix2 r n)).trans ?_
    rw [R0_arg2_V0]
    exact L.upK c r _

theorem sent2_val (e : Fin 4) (c : Dev nD) (r : Fin 128) (n : Fin 256) : xblocks m 2 e c (ValueIdx.ix2 r n)
    = a.upV (ValueIdx.ix2 (⟨c.val % 4 * 128 + r.val, by omega⟩ : Fin 512) (⟨(c.val % 4 + e.val) % 4 * 1024 + c.val / 4 % 4 * 256 + n.val, by omega⟩ : Fin 4096)) := by
  have h8 := (R0_v8_V1 m c).trans (v8_eq m c)
  have h4 := (R0_v4_V1 m c).trans (v4_eq m c)
  match e with
  | ⟨0, _⟩ =>
    refine (congrFun (slice_v28 (R0 m c) ⟨c.val % 4, Nat.mod_lt _ (by decide)⟩ ⟨c.val / 4 % 4, Nat.mod_lt _ (by decide)⟩ h8 h4) (ValueIdx.ix2 r n)).trans ?_
    rw [R0_arg3_V0]
    exact L.upV c r _
  | ⟨1, _⟩ =>
    refine (congrFun (slice_v68 (R0 m c) ⟨c.val % 4, Nat.mod_lt _ (by decide)⟩ ⟨c.val / 4 % 4, Nat.mod_lt _ (by decide)⟩ h8 h4) (ValueIdx.ix2 r n)).trans ?_
    rw [R0_arg3_V0]
    exact L.upV c r _
  | ⟨2, _⟩ =>
    refine (congrFun (slice_v78 (R0 m c) ⟨c.val % 4, Nat.mod_lt _ (by decide)⟩ ⟨c.val / 4 % 4, Nat.mod_lt _ (by decide)⟩ h8 h4) (ValueIdx.ix2 r n)).trans ?_
    rw [R0_arg3_V0]
    exact L.upV c r _
  | ⟨3, _⟩ =>
    refine (congrFun (slice_v88 (R0 m c) ⟨c.val % 4, Nat.mod_lt _ (by decide)⟩ ⟨c.val / 4 % 4, Nat.mod_lt _ (by decide)⟩ h8 h4) (ValueIdx.ix2 r n)).trans ?_
    rw [R0_arg3_V0]
    exact L.upV c r _

omit L in
theorem back_z (c : Dev nD) (j : Fin 4) : (back true j.val c).val % 4 = (c.val % 4 + 4 - j.val) % 4 := by revert c j; decide
omit L in
theorem back_y (c : Dev nD) (j : Fin 4) : (back true j.val c).val / 4 % 4 = c.val / 4 % 4 := by revert c j; decide

/-- The latent's column which column `p` of a device's gathered latent stands for. -/
def lat (c : Dev nD) (p : Fin 512) : Fin 512 := ⟨(c.val % 4 + 4 - p.val / 128) % 4 * 128 + p.val % 128, by omega⟩

omit L in
theorem lat_lat (c : Dev nD) : Function.Involutive (lat c) := by
  rintro ⟨p, hp⟩
  refine Fin.ext ?_
  show (c.val % 4 + 4 - ((c.val % 4 + 4 - p / 128) % 4 * 128 + p % 128) / 128) % 4 * 128 + ((c.val % 4 + 4 - p / 128) % 4 * 128 + p % 128) % 128 = p
  omega

omit L in
theorem mulSum_lat (c : Dev nD) (f g : Fin 512 → EReal) : mulSum (fun p => f (lat c p)) (fun p => g (lat c p)) = mulSum f g :=
  Equiv.sum_comp (lat_lat c).toPerm fun p => f p * g p

theorem v92_val (c : Dev nD) (r : Fin 1024) (p : Fin 512) : W17 m c main_v92 (ValueIdx.ix2 r p)
    = a.proj a.down (⟨r.val / 256, by omega⟩ : Fin 4) (⟨r.val % 256, Nat.mod_lt _ (by decide)⟩ : Fin 256) (lat c p) := by
  have e : W17 m c main_v92 = shapeCast S1024x512 (transpose S1024x4x128 [1, 0, 2] (xgathered (xblocks m) 0 0 c)
      Facts₀.transposes_S4x1024x128_S1024x4x128_1_0_2) Facts₀.shapeCasts_S1024x4x128_S1024x512 := by
    have e1 : R1 m c main_v90_0 = xgathered (xblocks m) 0 0 c := by
      unfold R1
      rw [Function.update_of_ne (by decide), Function.update_of_ne (by decide)]; exact Function.update_self ..
    rw [← e1]
    show StableHlo.after hostOps2 (R1 m c) (Proc.devRef .tc main_v92) = _
    after_results
    rfl
  rw [e, shapeCast_apply _ _ _ (ValueIdx.ix3 r (⟨p.val / 128, by omega⟩ : Fin 4) (⟨p.val % 128, Nat.mod_lt _ (by decide)⟩ : Fin 128))
      (by rw [Shape.rowMajor_val_three, Shape.rowMajor_val_two]; show (r.val * 4 + p.val / 128) * 128 + p.val % 128 = r.val * 512 + p.val; omega),
    transpose_apply _ _ _ _ (ValueIdx.ix3 (⟨p.val / 128, by omega⟩ : Fin 4) r (⟨p.val % 128, Nat.mod_lt _ (by decide)⟩ : Fin 128))
      (by intro b; fin_cases b <;> rfl)]
  refine (sent0_val L (⟨p.val / 128, by omega⟩ : Fin 4) (back true (p.val / 128) c) r ⟨p.val % 128, Nat.mod_lt _ (by decide)⟩).trans ?_
  refine congrArg (a.proj a.down _ _) (Fin.ext ?_)
  show (back true (p.val / 128) c).val % 4 * 128 + p.val % 128 = (c.val % 4 + 4 - p.val / 128) % 4 * 128 + p.val % 128
  rw [back_z c ⟨p.val / 128, by omega⟩]

theorem v93_val (c : Dev nD) (p : Fin 512) (n : Fin 256) : W17 m c main_v93 (ValueIdx.ix2 p n)
    = a.upK (ValueIdx.ix2 (lat c p) (⟨place c * 256 + n.val, by have := place_lt c; omega⟩ : Fin 4096)) := by
  have e : W17 m c main_v93 = shapeCast S512x256 (xgathered (xblocks m) 1 0 c) Facts₀.shapeCasts_S4x128x256_S512x256 := by
    have e1 : R1 m c main_v90_1 = xgathered (xblocks m) 1 0 c := by
      unfold R1
      rw [Function.update_of_ne (by decide)]; exact Function.update_self ..
    rw [← e1]
    show StableHlo.after hostOps2 (R1 m c) (Proc.devRef .tc main_v93) = _
    after_results
    rfl
  rw [e, shapeCast_apply _ _ _ (ValueIdx.ix3 (⟨p.val / 128, by omega⟩ : Fin 4) (⟨p.val % 128, Nat.mod_lt _ (by decide)⟩ : Fin 128) n)
      (by rw [Shape.rowMajor_val_three, Shape.rowMajor_val_two]; show (p.val / 128 * 128 + p.val % 128) * 256 + n.val = p.val * 256 + n.val; omega)]
  refine (sent1_val L (⟨p.val / 128, by omega⟩ : Fin 4) (back true (p.val / 128) c) ⟨p.val % 128, Nat.mod_lt _ (by decide)⟩ n).trans ?_
  have ez := back_z c ⟨p.val / 128, by omega⟩
  have ey := back_y c ⟨p.val / 128, by omega⟩
  have hp : p.val / 128 < 4 := by omega
  refine congrArg a.upK (congrArg₂ ValueIdx.ix2 (Fin.ext ?_) (Fin.ext ?_))
  · show (back true (p.val / 128) c).val % 4 * 128 + p.val % 128 = (c.val % 4 + 4 - p.val / 128) % 4 * 128 + p.val % 128
    exact congrArg (· * 128 + p.val % 128) ez
  · show ((back true (p.val / 128) c).val % 4 + p.val / 128) % 4 * 1024 + (back true (p.val / 128) c).val / 4 % 4 * 256 + n.val = place c * 256 + n.val
    have ez' : (back true (p.val / 128) c).val % 4 = (c.val % 4 + 4 - p.val / 128) % 4 := ez
    have ey' : (back true (p.val / 128) c).val / 4 % 4 = c.val / 4 % 4 := ey
    rw [ez', ey']
    unfold place
    omega

theorem v94_val (c : Dev nD) (p : Fin 512) (n : Fin 256) : W17 m c main_v94 (ValueIdx.ix2 p n)
    = a.upV (ValueIdx.ix2 (lat c p) (⟨place c * 256 + n.val, by have := place_lt c; omega⟩ : Fin 4096)) := by
  have e : W17 m c main_v94 = shapeCast S512x256 (xgathered (xblocks m) 2 0 c) Facts₀.shapeCasts_S4x128x256_S512x256 := by
    have e1 : R1 m c main_v90_2 = xgathered (xblocks m) 2 0 c := by
      unfold R1
      exact Function.update_self ..
    rw [← e1]
    show StableHlo.after hostOps2 (R1 m c) (Proc.devRef .tc main_v94) = _
    after_results
    rfl
  rw [e, shapeCast_apply _ _ _ (ValueIdx.ix3 (⟨p.val / 128, by omega⟩ : Fin 4) (⟨p.val % 128, Nat.mod_lt _ (by decide)⟩ : Fin 128) n)
      (by rw [Shape.rowMajor_val_three, Shape.rowMajor_val_two]; show (p.val / 128 * 128 + p.val % 128) * 256 + n.val = p.val * 256 + n.val; omega)]
  refine (sent2_val L (⟨p.val / 128, by omega⟩ : Fin 4) (back true (p.val / 128) c) ⟨p.val % 128, Nat.mod_lt _ (by decide)⟩ n).trans ?_
  have ez := back_z c ⟨p.val / 128, by omega⟩
  have ey := back_y c ⟨p.val / 128, by omega⟩
  have hp : p.val / 128 < 4 := by omega
  refine congrArg a.upV (congrArg₂ ValueIdx.ix2 (Fin.ext ?_) (Fin.ext ?_))
  · show (back true (p.val / 128) c).val % 4 * 128 + p.val % 128 = (c.val % 4 + 4 - p.val / 128) % 4 * 128 + p.val % 128
    exact congrArg (· * 128 + p.val % 128) ez
  · show ((back true (p.val / 128) c).val % 4 + p.val / 128) % 4 * 1024 + (back true (p.val / 128) c).val / 4 % 4 * 256 + n.val = place c * 256 + n.val
    have ez' : (back true (p.val / 128) c).val % 4 = (c.val % 4 + 4 - p.val / 128) % 4 := ez
    have ey' : (back true (p.val / 128) c).val / 4 % 4 = c.val / 4 % 4 := ey
    rw [ez', ey']
    unfold place
    omega

theorem v97_val (c : Dev nD) (r : Fin 1024) (n : Fin 256) : R2 m c main_v97 (ValueIdx.ix2 r n)
    = a.up a.upK (⟨r.val / 256, by omega⟩ : Fin 4) (⟨r.val % 256, Nat.mod_lt _ (by decide)⟩ : Fin 256) (⟨place c * 256 + n.val, by have := place_lt c; omega⟩ : Fin 4096) := by
  rw [R2_v97_own, prod2_val]
  unfold Operands.up
  refine Eq.trans ?_ (mulSum_lat c _ _)
  refine congrArg₂ mulSum (funext fun k => ?_) (funext fun k => ?_)
  · exact v92_val L c r k
  · exact v93_val L c k n

theorem v100_val (c : Dev nD) (r : Fin 1024) (n : Fin 256) : R3 m c main_v100 (ValueIdx.ix2 r n)
    = a.up a.upV (⟨r.val / 256, by omega⟩ : Fin 4) (⟨r.val % 256, Nat.mod_lt _ (by decide)⟩ : Fin 256) (⟨place c * 256 + n.val, by have := place_lt c; omega⟩ : Fin 4096) := by
  rw [R3_v100_own, prod3_val]
  unfold Operands.up
  refine Eq.trans ?_ (mulSum_lat c _ _)
  refine congrArg₂ mulSum (funext fun k => ?_) (funext fun k => ?_)
  · rw [W19_v92_W17]; exact v92_val L c r k
  · rw [W19_v94_W17]; exact v94_val L c k n

theorem v106_val (c : Dev nD) (r : Fin 1024) (n : Fin 256) : R4 m c main_v106 (ValueIdx.ix2 r n)
    = a.proj a.q (⟨r.val / 256, by omega⟩ : Fin 4) (⟨r.val % 256, Nat.mod_lt _ (by decide)⟩ : Fin 256) (⟨place c * 256 + n.val, by have := place_lt c; omega⟩ : Fin 4096) := by
  rw [R4_v106_own, prod4_val]
  unfold Operands.proj
  refine congrArg₂ mulSum (funext fun k => ?_) (funext fun k => ?_)
  · rw [W23_v9_V1]; exact v9_val L c r k
  · rw [W23_arg4_V0, L.q c]

theorem v112_val (c : Dev nD) (r : Fin 1024) (n : Fin 128) : R5 m c main_v112 (ValueIdx.ix2 r n)
    = a.proj a.qr (⟨r.val / 256, by omega⟩ : Fin 4) (⟨r.val % 256, Nat.mod_lt _ (by decide)⟩ : Fin 256) (⟨place c * 128 + n.val, by have := place_lt c; omega⟩ : Fin 2048) := by
  rw [R5_v112_own, prod5_val]
  unfold Operands.proj
  refine congrArg₂ mulSum (funext fun k => ?_) (funext fun k => ?_)
  · rw [W27_v9_V1]; exact v9_val L c r k
  · rw [W27_arg5_V0, L.qr c]

theorem v115_val (c : Dev nD) (r : Fin 1024) (n : Fin 64) : R6 m c main_v115 (ValueIdx.ix2 r n)
    = a.proj a.kr (⟨r.val / 256, by omega⟩ : Fin 4) (⟨r.val % 256, Nat.mod_lt _ (by decide)⟩ : Fin 256) n := by
  rw [R6_v115_own, prod6_val]
  unfold Operands.proj
  refine congrArg₂ mulSum (funext fun k => ?_) (funext fun k => ?_)
  · rw [W29_v9_V1]; exact v9_val L c r k
  · rw [W29_arg6_V0, L.kr c]

/-- A device's two heads. -/
theorem heads_own (c : Dev nD) (r : Fin 1024) (n : Fin 256) : R7 m c main_v116 (ValueIdx.ix2 r n)
    = a.heads (⟨r.val / 256, by omega⟩ : Fin 4) (⟨r.val % 256, Nat.mod_lt _ (by decide)⟩ : Fin 256) (⟨place c * 256 + n.val, by have := place_lt c; omega⟩ : Fin 4096) := by
  have hp := place_lt c
  have row (t : Fin 256) (h) (h2) : (⟨(⟨r.val / 256 * 256 + t.val, h⟩ : Fin 1024).val / 256, h2⟩ : Fin 4) = ⟨r.val / 256, by omega⟩ := Fin.ext (by show (r.val / 256 * 256 + t.val) / 256 = r.val / 256; omega)
  have pos (t : Fin 256) (h) (h2) : (⟨(⟨r.val / 256 * 256 + t.val, h⟩ : Fin 1024).val % 256, h2⟩ : Fin 256) = t := Fin.ext (by show (r.val / 256 * 256 + t.val) % 256 = t.val; omega)
  refine (congrFun ((R7_v116_own m c).trans (attn_val c (R6 m c) _ _)) (ValueIdx.ix2 r n)).trans ?_
  unfold Operands.heads
  refine att_congr (fun t x => ?_) (fun t x => ?_) (fun t x => ?_) (fun t x => ?_) (fun t x => ?_) rfl
    (Fin.ext (by show n.val % 128 = (place c * 256 + n.val) % 128; omega))
  · rw [R6_v106_R4]
    refine (v106_val L c _ _).trans ?_
    rw [row, pos]
    exact congrArg (a.proj a.q _ _) (Fin.ext (by show place c * 256 + (n.val / 128 * 128 + x.val) = (place c * 256 + n.val) / 128 * 128 + x.val; omega))
  · rw [R6_v97_R2]
    refine (v97_val L c _ _).trans ?_
    rw [row, pos]
    exact congrArg (a.up a.upK _ _) (Fin.ext (by show place c * 256 + (n.val / 128 * 128 + x.val) = (place c * 256 + n.val) / 128 * 128 + x.val; omega))
  · rw [R6_v100_R3]
    refine (v100_val L c _ _).trans ?_
    rw [row, pos]
    exact congrArg (a.up a.upV _ _) (Fin.ext (by show place c * 256 + (n.val / 128 * 128 + x.val) = (place c * 256 + n.val) / 128 * 128 + x.val; omega))
  · rw [R6_v112_R5]
    refine (v112_val L c _ _).trans ?_
    rw [row, pos]
    exact congrArg (a.proj a.qr _ _) (Fin.ext (by show place c * 128 + (n.val / 128 * 64 + x.val) = (place c * 256 + n.val) / 128 * 64 + x.val; omega))
  · refine (v115_val L c _ _).trans ?_
    rw [row, pos]

end Cert.KernelIdeal.Gen

end
-- ==== Proof.Value.lean ====
module

public import proofs.«01_k».proof.Proof.Ideal.ValHost
public import Idealize.ShloMosaic.Lib.Layout

/-!
# What the program computes over the reals

A device's sum over the second ring, four products of 1024 columns each, is the whole product of 4096 columns: the columns
which the four slots stand for are all the columns, each once.
-/

@[expose] public section

noncomputable section

open Idealize.ShloMosaic Idealize.ShloMosaic.TcCoe
open Cert.Maths

namespace Cert.KernelIdeal.Gen

/-! ## Columns -/

/-- The column of the whole array which column `q` of the slot read at hop `h` stands for. -/
def col (c : Dev nD) (h : Fin 4) (q : Fin 1024) : Fin 4096 :=
  ⟨woStart c h.val (q.val / 256) + q.val % 256, by have := woStart_le c h.val (q.val / 256); omega⟩

/-- Hops and columns of a slot, taken together, are the columns of the whole array. -/
def colEquiv (c : Dev nD) : Fin 4 × Fin 1024 ≃ Fin 4096 where
  toFun p := col c p.1 p.2
  invFun k := (⟨(c.val % 4 + 4 - k.val / 1024) % 4, Nat.mod_lt _ (by decide)⟩,
    ⟨(c.val / 4 % 4 + 4 - k.val / 256 % 4) % 4 * 256 + k.val % 256, by omega⟩)
  left_inv := by
    rintro ⟨⟨h, hh⟩, ⟨q, hq⟩⟩
    have hz : c.val % 4 < 4 := Nat.mod_lt _ (by decide)
    have hy : c.val / 4 % 4 < 4 := Nat.mod_lt _ (by decide)
    refine Prod.ext (Fin.ext ?_) (Fin.ext ?_)
    · show (c.val % 4 + 4 - (woStart c h (q / 256) + q % 256) / 1024) % 4 = h
      unfold woStart; omega
    · show (c.val / 4 % 4 + 4 - (woStart c h (q / 256) + q % 256) / 256 % 4) % 4 * 256 + (woStart c h (q / 256) + q % 256) % 256 = q
      unfold woStart; omega
  right_inv := by
    rintro ⟨k, hk⟩
    have hz : c.val % 4 < 4 := Nat.mod_lt _ (by decide)
    have hy : c.val / 4 % 4 < 4 := Nat.mod_lt _ (by decide)
    refine Fin.ext ?_
    show woStart c ((c.val % 4 + 4 - k / 1024) % 4) (((c.val / 4 % 4 + 4 - k / 256 % 4) % 4 * 256 + k % 256) / 256)
        + ((c.val / 4 % 4 + 4 - k / 256 % 4) % 4 * 256 + k % 256) % 256 = k
    unfold woStart; omega

theorem sum_cols (c : Dev nD) (f : Fin 4096 → EReal) :
    ((∑ q, f (col c 0 q)) + (∑ q, f (col c 1 q)) + (∑ q, f (col c 2 q))) + (∑ q, f (col c 3 q)) = ∑ k, f k := by
  rw [← Equiv.sum_comp (colEquiv c) f, Fintype.sum_prod_type, Fin.sum_univ_four]
  rfl

/-! ## What the slots hold -/

section
variable {m : (ℓ : Loc nD τ sig) → Buf (Elt Ideal) ℓ} {a : Operands} (L : Laid m a)

/-- What is put into the second ring, at an index. -/
theorem blocks_true (c : Dev nD) (r q : Fin 1024) :
    blocks m true c (ValueIdx.ix2 r q) = R7 m (back false (q.val / 256) c) main_v116
      (ValueIdx.ix2 r (⟨q.val % 256, Nat.mod_lt _ (by decide)⟩ : Fin 256)) := by
  have e : blocks m true c = shapeCast S1024x1024 (transpose S1024x4x256 [1, 0, 2] (gatherY (fun d => R7 m d main_v116) c)
      Facts₀.transposes_S4x1024x256_S1024x4x256_1_0_2) Facts₀.shapeCasts_S1024x4x256_S1024x1024 := by
    have e1 : R8 m c main_v117 = gatherY (fun d => R7 m d main_v116) c := Function.update_self ..
    rw [← e1]
    show StableHlo.after hostOps9 (R8 m c) (Proc.devRef .tc main_v119) = _
    after_results
    rfl
  rw [e, shapeCast_apply _ _ _ (ValueIdx.ix3 r (⟨q.val / 256, by omega⟩ : Fin 4) (⟨q.val % 256, Nat.mod_lt _ (by decide)⟩ : Fin 256))
      (by rw [Shape.rowMajor_val_three, Shape.rowMajor_val_two]; show (r.val * 4 + q.val / 256) * 256 + q.val % 256 = r.val * 1024 + q.val; omega),
    transpose_apply _ _ _ _ (ValueIdx.ix3 (⟨q.val / 256, by omega⟩ : Fin 4) r (⟨q.val % 256, Nat.mod_lt _ (by decide)⟩ : Fin 256))
      (by intro b; fin_cases b <;> rfl)]
  rfl

theorem back_col (c : Dev nD) (h j : Fin 4) : place (back false j.val (back true h.val c)) * 256 = woStart c h.val j.val := by
  revert c h j; decide

include L

/-- What a slot read at hop `h` holds: columns of the heads' outputs. -/
theorem slot_col (c : Dev nD) (h : Fin 4) (r q : Fin 1024) : blocks m true (back true h.val c) (ValueIdx.ix2 r q)
    = a.heads (⟨r.val / 256, by omega⟩ : Fin 4) (⟨r.val % 256, Nat.mod_lt _ (by decide)⟩ : Fin 256) (col c h q) := by
  have e : place (back false (q.val / 256) (back true h.val c)) * 256 = woStart c h.val (q.val / 256) := back_col c h ⟨q.val / 256, by omega⟩
  rw [blocks_true, heads_own L]
  exact congrArg (a.heads _ _) (Fin.ext (congrArg (· + q.val % 256) e))

theorem prodB_apply (c : Dev nD) (w : Vec Ideal S4096x4096 .f32) (h : Fin 4) (i : S1024x4096.Idx) :
    prodB (blocks m) c w h.val i = mulSum (fun q : Fin 1024 => a.heads (⟨(i 0).val / 256, by have h : (i 0).val < 1024 := (i 0).isLt; omega⟩ : Fin 4)
      (⟨(i 0).val % 256, Nat.mod_lt _ (by decide)⟩ : Fin 256) (col c h q)) (fun q => w (ValueIdx.ix2 (col c h q) (i 1))) := by
  unfold prodB mulSum
  pointwise
  refine Finset.sum_congr rfl fun q _ => ?_
  exact congrArg₂ (· * ·) (slot_col L c h (i 0) q) rfl

theorem accB_eq (c : Dev nD) (w : Vec Ideal S4096x4096 .f32) (i : S1024x4096.Idx) : accB (blocks m) c w 3 i
    = mulSum (fun k => a.heads (⟨(i 0).val / 256, by have h : (i 0).val < 1024 := (i 0).isLt; omega⟩ : Fin 4)
      (⟨(i 0).val % 256, Nat.mod_lt _ (by decide)⟩ : Fin 256) k) (fun k => w (ValueIdx.ix2 k (i 1))) := by
  refine Eq.trans ?_ (sum_cols c fun k => a.heads (⟨(i 0).val / 256, by have h : (i 0).val < 1024 := (i 0).isLt; omega⟩ : Fin 4)
      (⟨(i 0).val % 256, Nat.mod_lt _ (by decide)⟩ : Fin 256) k * w (ValueIdx.ix2 k (i 1)))
  have e0 := prodB_apply L c w 0 i
  have e1 := prodB_apply L c w 1 i
  have e2 := prodB_apply L c w 2 i
  have e3 := prodB_apply L c w 3 i
  unfold mulSum at e0 e1 e2 e3
  rw [← e0, ← e1, ← e2, ← e3]
  rfl

/-- The program's result. -/
theorem result_val (c : Dev nD) (b : Fin 4) (s : Fin 256) (n : Fin 4096) : V35 m (outs m) c main_v121 (ValueIdx.ix3 b s n) = a.out b s n := by
  have e : V35 m (outs m) c main_v121 = shapeCast S4x256x4096 (accB (blocks m) c (wo m c) 3) Facts₀.shapeCasts_S1024x4096_S4x256x4096 := by
    have e1 : V34 m (outs m) c main_v120 = accB (blocks m) c (wo m c) 3 := (congrFun (V34_eq m c) _).trans (Function.update_self ..)
    rw [← e1]
    show StableHlo.after hostOps10 (V34 m (outs m) c) (Proc.devRef .tc main_v121) = _
    after_results
    rfl
  rw [e, shapeCast_apply _ _ _ (ValueIdx.ix2 (⟨b.val * 256 + s.val, by omega⟩ : Fin 1024) n)
    (by rw [Shape.rowMajor_val_three, Shape.rowMajor_val_two]; rfl), accB_eq L]
  have hw : wo m c = a.o := (W33_arg7_V0 m c).trans (L.o c)
  rw [hw]
  unfold Operands.out
  have eb : (b.val * 256 + s.val) / 256 = b.val := by omega
  have es : (b.val * 256 + s.val) % 256 = s.val := by omega
  refine congrArg (mulSum · _) (funext fun k => ?_)
  exact congrArg₂ (fun x y => a.heads x y k) (Fin.ext eb) (Fin.ext es)

end

/-! ## The arguments' blocks -/

theorem mesh_z (c : Dev nD) : Layout.meshLin [2, 4, 4] c.val [2] = c.val % 4 := by revert c; decide

theorem block_cols (hpos : ∀ b, ∀ i ∈ (![[], [2]] : Fin 2 → List ℕ) b, 0 < [2, 4, 4].getD i 0)
    (htile : Layout.TilesN ⟨2, ![4096, 128]⟩ ⟨2, ![4096, 512]⟩ fun b => Layout.cutSize [2, 4, 4] ((![[], [2]] : Fin 2 → List ℕ) b))
    (A : (⟨2, ![4096, 512]⟩ : Shape).Idx → EReal) (c : Dev nD) (r : Fin 4096) (n : Fin 128) :
    Layout.blockN ⟨2, ![4096, 128]⟩ ⟨2, ![4096, 512]⟩ (Layout.meshBlock [2, 4, 4] ![[], [2]] c hpos) A htile (ValueIdx.ix2 r n)
      = A (ValueIdx.ix2 r (⟨c.val % 4 * 128 + n.val, by omega⟩ : Fin 512)) := by
  rw [Layout.blockN_apply]
  refine congrArg A (funext fun b => Fin.ext ?_)
  rw [Layout.TilesN.idx_val]
  match b with
  | ⟨0, _⟩ => exact (congrArg (· + r.val) (Nat.zero_mul 4096)).trans (Nat.zero_add _)
  | ⟨1, _⟩ => exact congrArg (· * 128 + n.val) (mesh_z c)

theorem block_rows (hpos : ∀ b, ∀ i ∈ (![[2], []] : Fin 2 → List ℕ) b, 0 < [2, 4, 4].getD i 0)
    (htile : Layout.TilesN ⟨2, ![128, 4096]⟩ ⟨2, ![512, 4096]⟩ fun b => Layout.cutSize [2, 4, 4] ((![[2], []] : Fin 2 → List ℕ) b))
    (A : (⟨2, ![512, 4096]⟩ : Shape).Idx → EReal) (c : Dev nD) (r : Fin 128) (n : Fin 4096) :
    Layout.blockN ⟨2, ![128, 4096]⟩ ⟨2, ![512, 4096]⟩ (Layout.meshBlock [2, 4, 4] ![[2], []] c hpos) A htile (ValueIdx.ix2 r n)
      = A (ValueIdx.ix2 (⟨c.val % 4 * 128 + r.val, by omega⟩ : Fin 512) n) := by
  rw [Layout.blockN_apply]
  refine congrArg A (funext fun b => Fin.ext ?_)
  rw [Layout.TilesN.idx_val]
  match b with
  | ⟨0, _⟩ => exact congrArg (· * 128 + r.val) (mesh_z c)
  | ⟨1, _⟩ => exact (congrArg (· + n.val) (Nat.zero_mul 4096)).trans (Nat.zero_add _)

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Ideal.Launch
public import proofs.«01_k».proof.Proof.Same
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem kernel_frame : quiescent_Kernel := fun m g _ =>
  Cert.Same.run_of _ _ ((θ_run _ _ _).mono (fun _ h => ⟨fun c =>
      ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1⟩, h.2⟩)
    (Cert.KernelIdeal.Gen.run_main (F := Bits) m g))

theorem ideal_frame : quiescent_KernelIdeal := fun m g _ =>
  (θ_run _ _ _).mono (fun _ h => ⟨fun c =>
      ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1⟩, h.2⟩)
    (Cert.KernelIdeal.Gen.run_main m g)

theorem reference_frame : quiescent_ReferenceIdeal := fun m g _ =>
  (θ_run _ _ _).mono (fun r h => ⟨fun c => (h c).2, sem_eq_zero_of_no_sems rfl r.2⟩) (Cert.ReferenceIdeal.Value.run m g)

theorem values : algebraic_KernelIdeal_ReferenceIdeal := fun m g m' g' _ hm =>
  have L : Cert.KernelIdeal.Gen.Laid m (Cert.ReferenceIdeal.Value.operands m' 0) :=
    { x := fun c => (hm c).1
      down := fun c r n => (congrFun (hm c).2.1 _).trans (Cert.KernelIdeal.Gen.block_cols _ _ _ c r n)
      upK := fun c r n => (congrFun (hm c).2.2.1 _).trans (Cert.KernelIdeal.Gen.block_rows _ _ _ c r n)
      upV := fun c r n => (congrFun (hm c).2.2.2.1 _).trans (Cert.KernelIdeal.Gen.block_rows _ _ _ c r n)
      q := fun c => (hm c).2.2.2.2.1
      qr := fun c => (hm c).2.2.2.2.2.1
      kr := fun c => (hm c).2.2.2.2.2.2.1
      o := fun c => (hm c).2.2.2.2.2.2.2 }
  have e (c) : Cert.KernelIdeal.Gen.V35 m (Cert.KernelIdeal.Gen.outs m) c (Proc.devRef .tc Cert.KernelIdeal.main_v121) = Cert.ReferenceIdeal.Value.res_main_v29 m' 0 := by
    funext i
    rw [ValueIdx.eq_ix3 i]
    exact (Cert.KernelIdeal.Gen.result_val L c _ _ _).trans (Cert.ReferenceIdeal.Value.res_val m' 0 _ _ _).symm
  ⟨_, (θ_run _ _ _).mono (fun _ h c => ⟨(h.1 c).2.2.2.2.2.2.2.2.trans (e c),
      (h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1⟩)
      (Cert.KernelIdeal.Gen.run_main m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  kernel_frame, ideal_frame, reference_frame, trivial, values⟩

end Cert.Proof

end
